-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Reference15 (m : (ℓ : Loc Cert.Reference15.nD Cert.Reference15.τ Cert.Reference15.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13))
      ∧ r.2.sem = fun _ => 0)

def quiescent_Reference15 [hReference15 : Cert.Reference15.Facts] : Prop :=
  ∀ (m : (ℓ : Loc Cert.Reference15.nD Cert.Reference15.τ Cert.Reference15.sig) → Buf (Elt Bits) ℓ) (g : Dev Cert.Reference15.nD → PrngReg), Pre_Reference15 m →
    θ_run (Cert.Reference15.defs (F := Bits)) (onTc (τ := Cert.Reference15.τ) (Cert.Reference15.main (F := Bits))) ⟨m, fun _ => 0, g⟩ (fun r => (∀ c : Dev Cert.Reference15.nD,
      r.2.mem ((c.tc : Thread Cert.Reference15.nD Cert.Reference15.τ).loc Cert.Reference15.main_arg0) = m ((c.tc : Thread Cert.Reference15.nD Cert.Reference15.τ).loc Cert.Reference15.main_arg0)
      ∧ r.2.mem ((c.tc : Thread Cert.Reference15.nD Cert.Reference15.τ).loc Cert.Reference15.main_arg1) = m ((c.tc : Thread Cert.Reference15.nD Cert.Reference15.τ).loc Cert.Reference15.main_arg1)
      ∧ r.2.mem ((c.tc : Thread Cert.Reference15.nD Cert.Reference15.τ).loc Cert.Reference15.main_arg2) = m ((c.tc : Thread Cert.Reference15.nD Cert.Reference15.τ).loc Cert.Reference15.main_arg2)
      ∧ r.2.mem ((c.tc : Thread Cert.Reference15.nD Cert.Reference15.τ).loc Cert.Reference15.main_arg3) = m ((c.tc : Thread Cert.Reference15.nD Cert.Reference15.τ).loc Cert.Reference15.main_arg3)
      ∧ r.2.mem ((c.tc : Thread Cert.Reference15.nD Cert.Reference15.τ).loc Cert.Reference15.main_arg4) = m ((c.tc : Thread Cert.Reference15.nD Cert.Reference15.τ).loc Cert.Reference15.main_arg4)
      ∧ r.2.mem ((c.tc : Thread Cert.Reference15.nD Cert.Reference15.τ).loc Cert.Reference15.main_arg5) = m ((c.tc : Thread Cert.Reference15.nD Cert.Reference15.τ).loc Cert.Reference15.main_arg5)
      ∧ r.2.mem ((c.tc : Thread Cert.Reference15.nD Cert.Reference15.τ).loc Cert.Reference15.main_arg6) = m ((c.tc : Thread Cert.Reference15.nD Cert.Reference15.τ).loc Cert.Reference15.main_arg6)
      ∧ r.2.mem ((c.tc : Thread Cert.Reference15.nD Cert.Reference15.τ).loc Cert.Reference15.main_arg7) = m ((c.tc : Thread Cert.Reference15.nD Cert.Reference15.τ).loc Cert.Reference15.main_arg7)
      ∧ r.2.mem ((c.tc : Thread Cert.Reference15.nD Cert.Reference15.τ).loc Cert.Reference15.main_arg8) = m ((c.tc : Thread Cert.Reference15.nD Cert.Reference15.τ).loc Cert.Reference15.main_arg8)
      ∧ r.2.mem ((c.tc : Thread Cert.Reference15.nD Cert.Reference15.τ).loc Cert.Reference15.main_arg9) = m ((c.tc : Thread Cert.Reference15.nD Cert.Reference15.τ).loc Cert.Reference15.main_arg9)
      ∧ r.2.mem ((c.tc : Thread Cert.Reference15.nD Cert.Reference15.τ).loc Cert.Reference15.main_arg10) = m ((c.tc : Thread Cert.Reference15.nD Cert.Reference15.τ).loc Cert.Reference15.main_arg10)
      ∧ r.2.mem ((c.tc : Thread Cert.Reference15.nD Cert.Reference15.τ).loc Cert.Reference15.main_arg11) = m ((c.tc : Thread Cert.Reference15.nD Cert.Reference15.τ).loc Cert.Reference15.main_arg11)
      ∧ r.2.mem ((c.tc : Thread Cert.Reference15.nD Cert.Reference15.τ).loc Cert.Reference15.main_arg12) = m ((c.tc : Thread Cert.Reference15.nD Cert.Reference15.τ).loc Cert.Reference15.main_arg12)
      ∧ r.2.mem ((c.tc : Thread Cert.Reference15.nD Cert.Reference15.τ).loc Cert.Reference15.main_arg13) = m ((c.tc : Thread Cert.Reference15.nD Cert.Reference15.τ).loc Cert.Reference15.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v122) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_v137) = v3 c
          ∧ r.2.mem ((c.tc : Thread Cert.Reference4Ideal.nD Cert.Reference4Ideal.τ).loc Cert.Reference4Ideal.main_v138) = v4 c
          ∧ r.2.mem ((c.tc : Thread Cert.Reference4Ideal.nD Cert.Reference4Ideal.τ).loc Cert.Reference4Ideal.main_v55) = v5 c
          ∧ r.2.mem ((c.tc : Thread Cert.Reference4Ideal.nD Cert.Reference4Ideal.τ).loc Cert.Reference4Ideal.main_v124) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v7) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_v19) = v4 c
          ∧ r.2.mem ((c.tc : Thread Cert.Reference15Ideal.nD Cert.Reference15Ideal.τ).loc Cert.Reference15Ideal.main_v23) = v5 c
          ∧ r.2.mem ((c.tc : Thread Cert.Reference15Ideal.nD Cert.Reference15Ideal.τ).loc Cert.Reference15Ideal.main_v27) = v6 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13))

def bitexact_Kernel15_Reference15 [hKernel15 : Cert.Kernel15.Facts] [hReference15 : Cert.Reference15.Facts] : Prop :=
  ∀ (m : (ℓ : Loc Cert.Kernel15.nD Cert.Kernel15.τ Cert.Kernel15.sig) → Buf (Elt Bits) ℓ) (g : Dev Cert.Kernel15.nD → PrngReg)
    (m' : (ℓ : Loc Cert.Reference15.nD Cert.Reference15.τ Cert.Reference15.sig) → Buf (Elt Bits) ℓ) (g' : Dev Cert.Reference15.nD → PrngReg), Pre_Kernel15 m →
    (∀ c : Dev Cert.Kernel15.nD,
      m' ((c.tc : Thread Cert.Reference15.nD Cert.Reference15.τ).loc Cert.Reference15.main_arg0) = m ((c.tc : Thread Cert.Kernel15.nD Cert.Kernel15.τ).loc Cert.Kernel15.main_arg0)
      ∧ m' ((c.tc : Thread Cert.Reference15.nD Cert.Reference15.τ).loc Cert.Reference15.main_arg1) = m ((c.tc : Thread Cert.Kernel15.nD Cert.Kernel15.τ).loc Cert.Kernel15.main_arg1)
      ∧ m' ((c.tc : Thread Cert.Reference15.nD Cert.Reference15.τ).loc Cert.Reference15.main_arg2) = m ((c.tc : Thread Cert.Kernel15.nD Cert.Kernel15.τ).loc Cert.Kernel15.main_arg2)
      ∧ m' ((c.tc : Thread Cert.Reference15.nD Cert.Reference15.τ).loc Cert.Reference15.main_arg3) = m ((c.tc : Thread Cert.Kernel15.nD Cert.Kernel15.τ).loc Cert.Kernel15.main_arg3)
      ∧ m' ((c.tc : Thread Cert.Reference15.nD Cert.Reference15.τ).loc Cert.Reference15.main_arg4) = m ((c.tc : Thread Cert.Kernel15.nD Cert.Kernel15.τ).loc Cert.Kernel15.main_arg4)
      ∧ m' ((c.tc : Thread Cert.Reference15.nD Cert.Reference15.τ).loc Cert.Reference15.main_arg5) = m ((c.tc : Thread Cert.Kernel15.nD Cert.Kernel15.τ).loc Cert.Kernel15.main_arg5)
      ∧ m' ((c.tc : Thread Cert.Reference15.nD Cert.Reference15.τ).loc Cert.Reference15.main_arg6) = m ((c.tc : Thread Cert.Kernel15.nD Cert.Kernel15.τ).loc Cert.Kernel15.main_arg6)
      ∧ m' ((c.tc : Thread Cert.Reference15.nD Cert.Reference15.τ).loc Cert.Reference15.main_arg7) = m ((c.tc : Thread Cert.Kernel15.nD Cert.Kernel15.τ).loc Cert.Kernel15.main_arg7)
      ∧ m' ((c.tc : Thread Cert.Reference15.nD Cert.Reference15.τ).loc Cert.Reference15.main_arg8) = m ((c.tc : Thread Cert.Kernel15.nD Cert.Kernel15.τ).loc Cert.Kernel15.main_arg8)
      ∧ m' ((c.tc : Thread Cert.Reference15.nD Cert.Reference15.τ).loc Cert.Reference15.main_arg9) = m ((c.tc : Thread Cert.Kernel15.nD Cert.Kernel15.τ).loc Cert.Kernel15.main_arg9)
      ∧ m' ((c.tc : Thread Cert.Reference15.nD Cert.Reference15.τ).loc Cert.Reference15.main_arg10) = m ((c.tc : Thread Cert.Kernel15.nD Cert.Kernel15.τ).loc Cert.Kernel15.main_arg10)
      ∧ m' ((c.tc : Thread Cert.Reference15.nD Cert.Reference15.τ).loc Cert.Reference15.main_arg11) = m ((c.tc : Thread Cert.Kernel15.nD Cert.Kernel15.τ).loc Cert.Kernel15.main_arg11)
      ∧ m' ((c.tc : Thread Cert.Reference15.nD Cert.Reference15.τ).loc Cert.Reference15.main_arg12) = m ((c.tc : Thread Cert.Kernel15.nD Cert.Kernel15.τ).loc Cert.Kernel15.main_arg12)
      ∧ m' ((c.tc : Thread Cert.Reference15.nD Cert.Reference15.τ).loc Cert.Reference15.main_arg13) = m ((c.tc : Thread Cert.Kernel15.nD Cert.Kernel15.τ).loc Cert.Kernel15.main_arg13)) →
    ∃ (v0 : (c : Dev Cert.Kernel15.nD) → Buf (Elt Bits) ((c.tc : Thread Cert.Kernel15.nD Cert.Kernel15.τ).loc Cert.Kernel15.main_v0_0)) (v1 : (c : Dev Cert.Kernel15.nD) → Buf (Elt Bits) ((c.tc : Thread Cert.Kernel15.nD Cert.Kernel15.τ).loc Cert.Kernel15.main_v0_1)) (v2 : (c : Dev Cert.Kernel15.nD) → Buf (Elt Bits) ((c.tc : Thread Cert.Kernel15.nD Cert.Kernel15.τ).loc Cert.Kernel15.main_v0_2)) (v3 : (c : Dev Cert.Kernel15.nD) → Buf (Elt Bits) ((c.tc : Thread Cert.Kernel15.nD Cert.Kernel15.τ).loc Cert.Kernel15.main_v0_3)) (v4 : (c : Dev Cert.Kernel15.nD) → Buf (Elt Bits) ((c.tc : Thread Cert.Kernel15.nD Cert.Kernel15.τ).loc Cert.Kernel15.main_v0_4)) (v5 : (c : Dev Cert.Kernel15.nD) → Buf (Elt Bits) ((c.tc : Thread Cert.Kernel15.nD Cert.Kernel15.τ).loc Cert.Kernel15.main_v0_5)) (v6 : (c : Dev Cert.Kernel15.nD) → Buf (Elt Bits) ((c.tc : Thread Cert.Kernel15.nD Cert.Kernel15.τ).loc Cert.Kernel15.main_v0_6)),
      θ_run (Cert.Kernel15.defs (F := Bits)) (onTc (τ := Cert.Kernel15.τ) (Cert.Kernel15.main (F := Bits))) ⟨m, fun _ => 0, g⟩ (fun r => ∀ c : Dev Cert.Kernel15.nD,
          r.2.mem ((c.tc : Thread Cert.Kernel15.nD Cert.Kernel15.τ).loc Cert.Kernel15.main_v0_0) = v0 c
          ∧ r.2.mem ((c.tc : Thread Cert.Kernel15.nD Cert.Kernel15.τ).loc Cert.Kernel15.main_v0_1) = v1 c
          ∧ r.2.mem ((c.tc : Thread Cert.Kernel15.nD Cert.Kernel15.τ).loc Cert.Kernel15.main_v0_2) = v2 c
          ∧ r.2.mem ((c.tc : Thread Cert.Kernel15.nD Cert.Kernel15.τ).loc Cert.Kernel15.main_v0_3) = v3 c
          ∧ r.2.mem ((c.tc : Thread Cert.Kernel15.nD Cert.Kernel15.τ).loc Cert.Kernel15.main_v0_4) = v4 c
          ∧ r.2.mem ((c.tc : Thread Cert.Kernel15.nD Cert.Kernel15.τ).loc Cert.Kernel15.main_v0_5) = v5 c
          ∧ r.2.mem ((c.tc : Thread Cert.Kernel15.nD Cert.Kernel15.τ).loc Cert.Kernel15.main_v0_6) = v6 c
          ∧ r.2.mem ((c.tc : Thread Cert.Kernel15.nD Cert.Kernel15.τ).loc Cert.Kernel15.main_arg0) = m ((c.tc : Thread Cert.Kernel15.nD Cert.Kernel15.τ).loc Cert.Kernel15.main_arg0)
          ∧ r.2.mem ((c.tc : Thread Cert.Kernel15.nD Cert.Kernel15.τ).loc Cert.Kernel15.main_arg1) = m ((c.tc : Thread Cert.Kernel15.nD Cert.Kernel15.τ).loc Cert.Kernel15.main_arg1)
          ∧ r.2.mem ((c.tc : Thread Cert.Kernel15.nD Cert.Kernel15.τ).loc Cert.Kernel15.main_arg2) = m ((c.tc : Thread Cert.Kernel15.nD Cert.Kernel15.τ).loc Cert.Kernel15.main_arg2)
          ∧ r.2.mem ((c.tc : Thread Cert.Kernel15.nD Cert.Kernel15.τ).loc Cert.Kernel15.main_arg3) = m ((c.tc : Thread Cert.Kernel15.nD Cert.Kernel15.τ).loc Cert.Kernel15.main_arg3)
          ∧ r.2.mem ((c.tc : Thread Cert.Kernel15.nD Cert.Kernel15.τ).loc Cert.Kernel15.main_arg4) = m ((c.tc : Thread Cert.Kernel15.nD Cert.Kernel15.τ).loc Cert.Kernel15.main_arg4)
          ∧ r.2.mem ((c.tc : Thread Cert.Kernel15.nD Cert.Kernel15.τ).loc Cert.Kernel15.main_arg5) = m ((c.tc : Thread Cert.Kernel15.nD Cert.Kernel15.τ).loc Cert.Kernel15.main_arg5)
          ∧ r.2.mem ((c.tc : Thread Cert.Kernel15.nD Cert.Kernel15.τ).loc Cert.Kernel15.main_arg6) = m ((c.tc : Thread Cert.Kernel15.nD Cert.Kernel15.τ).loc Cert.Kernel15.main_arg6)
          ∧ r.2.mem ((c.tc : Thread Cert.Kernel15.nD Cert.Kernel15.τ).loc Cert.Kernel15.main_arg7) = m ((c.tc : Thread Cert.Kernel15.nD Cert.Kernel15.τ).loc Cert.Kernel15.main_arg7)
          ∧ r.2.mem ((c.tc : Thread Cert.Kernel15.nD Cert.Kernel15.τ).loc Cert.Kernel15.main_arg8) = m ((c.tc : Thread Cert.Kernel15.nD Cert.Kernel15.τ).loc Cert.Kernel15.main_arg8)
          ∧ r.2.mem ((c.tc : Thread Cert.Kernel15.nD Cert.Kernel15.τ).loc Cert.Kernel15.main_arg9) = m ((c.tc : Thread Cert.Kernel15.nD Cert.Kernel15.τ).loc Cert.Kernel15.main_arg9)
          ∧ r.2.mem ((c.tc : Thread Cert.Kernel15.nD Cert.Kernel15.τ).loc Cert.Kernel15.main_arg10) = m ((c.tc : Thread Cert.Kernel15.nD Cert.Kernel15.τ).loc Cert.Kernel15.main_arg10)
          ∧ r.2.mem ((c.tc : Thread Cert.Kernel15.nD Cert.Kernel15.τ).loc Cert.Kernel15.main_arg11) = m ((c.tc : Thread Cert.Kernel15.nD Cert.Kernel15.τ).loc Cert.Kernel15.main_arg11)
          ∧ r.2.mem ((c.tc : Thread Cert.Kernel15.nD Cert.Kernel15.τ).loc Cert.Kernel15.main_arg12) = m ((c.tc : Thread Cert.Kernel15.nD Cert.Kernel15.τ).loc Cert.Kernel15.main_arg12)
          ∧ r.2.mem ((c.tc : Thread Cert.Kernel15.nD Cert.Kernel15.τ).loc Cert.Kernel15.main_arg13) = m ((c.tc : Thread Cert.Kernel15.nD Cert.Kernel15.τ).loc Cert.Kernel15.main_arg13))
      ∧ θ_run (Cert.Reference15.defs (F := Bits)) (onTc (τ := Cert.Reference15.τ) (Cert.Reference15.main (F := Bits))) ⟨m', fun _ => 0, g'⟩ (fun r => ∀ c : Dev Cert.Reference15.nD,
          r.2.mem ((c.tc : Thread Cert.Reference15.nD Cert.Reference15.τ).loc Cert.Reference15.main_v3) = v0 c
          ∧ r.2.mem ((c.tc : Thread Cert.Reference15.nD Cert.Reference15.τ).loc Cert.Reference15.main_v7) = v1 c
          ∧ r.2.mem ((c.tc : Thread Cert.Reference15.nD Cert.Reference15.τ).loc Cert.Reference15.main_v11) = v2 c
          ∧ r.2.mem ((c.tc : Thread Cert.Reference15.nD Cert.Reference15.τ).loc Cert.Reference15.main_v15) = v3 c
          ∧ r.2.mem ((c.tc : Thread Cert.Reference15.nD Cert.Reference15.τ).loc Cert.Reference15.main_v19) = v4 c
          ∧ r.2.mem ((c.tc : Thread Cert.Reference15.nD Cert.Reference15.τ).loc Cert.Reference15.main_v23) = v5 c
          ∧ r.2.mem ((c.tc : Thread Cert.Reference15.nD Cert.Reference15.τ).loc Cert.Reference15.main_v27) = v6 c
          ∧ r.2.mem ((c.tc : Thread Cert.Reference15.nD Cert.Reference15.τ).loc Cert.Reference15.main_arg0) = m' ((c.tc : Thread Cert.Reference15.nD Cert.Reference15.τ).loc Cert.Reference15.main_arg0)
          ∧ r.2.mem ((c.tc : Thread Cert.Reference15.nD Cert.Reference15.τ).loc Cert.Reference15.main_arg1) = m' ((c.tc : Thread Cert.Reference15.nD Cert.Reference15.τ).loc Cert.Reference15.main_arg1)
          ∧ r.2.mem ((c.tc : Thread Cert.Reference15.nD Cert.Reference15.τ).loc Cert.Reference15.main_arg2) = m' ((c.tc : Thread Cert.Reference15.nD Cert.Reference15.τ).loc Cert.Reference15.main_arg2)
          ∧ r.2.mem ((c.tc : Thread Cert.Reference15.nD Cert.Reference15.τ).loc Cert.Reference15.main_arg3) = m' ((c.tc : Thread Cert.Reference15.nD Cert.Reference15.τ).loc Cert.Reference15.main_arg3)
          ∧ r.2.mem ((c.tc : Thread Cert.Reference15.nD Cert.Reference15.τ).loc Cert.Reference15.main_arg4) = m' ((c.tc : Thread Cert.Reference15.nD Cert.Reference15.τ).loc Cert.Reference15.main_arg4)
          ∧ r.2.mem ((c.tc : Thread Cert.Reference15.nD Cert.Reference15.τ).loc Cert.Reference15.main_arg5) = m' ((c.tc : Thread Cert.Reference15.nD Cert.Reference15.τ).loc Cert.Reference15.main_arg5)
          ∧ r.2.mem ((c.tc : Thread Cert.Reference15.nD Cert.Reference15.τ).loc Cert.Reference15.main_arg6) = m' ((c.tc : Thread Cert.Reference15.nD Cert.Reference15.τ).loc Cert.Reference15.main_arg6)
          ∧ r.2.mem ((c.tc : Thread Cert.Reference15.nD Cert.Reference15.τ).loc Cert.Reference15.main_arg7) = m' ((c.tc : Thread Cert.Reference15.nD Cert.Reference15.τ).loc Cert.Reference15.main_arg7)
          ∧ r.2.mem ((c.tc : Thread Cert.Reference15.nD Cert.Reference15.τ).loc Cert.Reference15.main_arg8) = m' ((c.tc : Thread Cert.Reference15.nD Cert.Reference15.τ).loc Cert.Reference15.main_arg8)
          ∧ r.2.mem ((c.tc : Thread Cert.Reference15.nD Cert.Reference15.τ).loc Cert.Reference15.main_arg9) = m' ((c.tc : Thread Cert.Reference15.nD Cert.Reference15.τ).loc Cert.Reference15.main_arg9)
          ∧ r.2.mem ((c.tc : Thread Cert.Reference15.nD Cert.Reference15.τ).loc Cert.Reference15.main_arg10) = m' ((c.tc : Thread Cert.Reference15.nD Cert.Reference15.τ).loc Cert.Reference15.main_arg10)
          ∧ r.2.mem ((c.tc : Thread Cert.Reference15.nD Cert.Reference15.τ).loc Cert.Reference15.main_arg11) = m' ((c.tc : Thread Cert.Reference15.nD Cert.Reference15.τ).loc Cert.Reference15.main_arg11)
          ∧ r.2.mem ((c.tc : Thread Cert.Reference15.nD Cert.Reference15.τ).loc Cert.Reference15.main_arg12) = m' ((c.tc : Thread Cert.Reference15.nD Cert.Reference15.τ).loc Cert.Reference15.main_arg12)
          ∧ r.2.mem ((c.tc : Thread Cert.Reference15.nD Cert.Reference15.τ).loc Cert.Reference15.main_arg13) = m' ((c.tc : Thread Cert.Reference15.nD Cert.Reference15.τ).loc Cert.Reference15.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hReference15 : Cert.Reference15.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Reference15 (hReference15 := hReference15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ bitexact_Kernel15_Reference15 (hKernel15 := hKernel15) (hReference15 := hReference15)
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x1024 .bf16) (main_arg2 : FVec F S8192x512 .bf16) (main_arg3 : FVec F S8192x512 .bf16) : IVec S8192x1024 1 × IVec S8192x1024 1 × IVec S8192x512 1 × IVec S8192x512 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  (main_v3, main_v7, main_v11, main_v15)
-- ==== Pre_finite4.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x256 .f32) (main_arg2 : FVec F S8192x512 .f32) (main_arg3 : FVec F S8192x512 .f32) (main_arg4 : FVec F S8192x3200 .f32) (main_arg5 : FVec F S8192x256 .f32) (main_arg6 : FVec F S1x1024 .f32) (main_arg7 : FVec F S1024x1024 .bf16) : IVec S8192x1024 1 × IVec S1x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg6
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := (extf .f32 · bitsLt_bf16_f32) main_arg7
  let main_v7 : FVec F S1024x1024 .f32 := Host.absf main_v6
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  (main_v2, main_v5, main_v9)
-- ==== Kernel.lean ====
abbrev S8192x1024 : Shape := ⟨2, ![8192, 1024]⟩
abbrev S8192x512 : Shape := ⟨2, ![8192, 512]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8192x8x64 : Shape := ⟨3, ![8192, 8, 64]⟩
abbrev S8x64x8192 : Shape := ⟨3, ![8, 64, 8192]⟩
abbrev S8192x8 : Shape := ⟨2, ![8192, 8]⟩
abbrev S64 : Shape := ⟨1, ![64]⟩
abbrev S1x1x64 : Shape := ⟨3, ![1, 1, 64]⟩
abbrev S8192x8x1 : Shape := ⟨3, ![8192, 8, 1]⟩
abbrev S8192x256 : Shape := ⟨2, ![8192, 256]⟩
abbrev S512x256 : Shape := ⟨2, ![512, 256]⟩
abbrev S512x128 : Shape := ⟨2, ![512, 128]⟩
abbrev S8192x128 : Shape := ⟨2, ![8192, 128]⟩
abbrev S512x512 : Shape := ⟨2, ![512, 512]⟩
abbrev S512x1 : Shape := ⟨2, ![512, 1]⟩

abbrev nBuf : Space → Nat
  | .hbm => 95
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8x8192x8192, .f32⟩
  | .hbm, ⟨9, _⟩ => ⟨S8x8192x8192, .bf16⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192, .f32⟩
  | .hbm, ⟨32, _⟩ => ⟨S8192x1024, .f32⟩
  | .hbm, ⟨33, _⟩ => ⟨S8192x8x128, .f32⟩
  | .hbm, ⟨34, _⟩ => ⟨S8192x1024, .f32⟩
  | .hbm, ⟨35, _⟩ => ⟨S8192x8x128, .f32⟩
  | .hbm, ⟨36, _⟩ => ⟨S8x8192x8192, .f32⟩
  | .hbm, ⟨37, _⟩ => ⟨S8x8192x8192, .bf16⟩
  | .hbm, ⟨38, _⟩ => ⟨S8x8192x8192, .f32⟩
  | .hbm, ⟨39, _⟩ => ⟨S8192, .i32⟩
  | .hbm, ⟨40, _⟩ => ⟨S1x8192, .i32⟩
  | .hbm, ⟨41, _⟩ => ⟨S8192x1, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S_, .f32⟩
  | .hbm, ⟨46, _⟩ => ⟨S_, .f32⟩
  | .hbm, ⟨47, _⟩ => ⟨S8x8192x8192, .i1⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .bf16⟩
  | .hbm, ⟨65, _⟩ => ⟨S8x8192x8192, .f32⟩
  | .hbm, ⟨66, _⟩ => ⟨S8192x512, .f32⟩
  | .hbm, ⟨67, _⟩ => ⟨S8192x8x64, .f32⟩
  | .hbm, ⟨68, _⟩ => ⟨S8x64x8192, .f32⟩
  | .hbm, ⟨69, _⟩ => ⟨S8192x8x64, .f32⟩
  | .hbm, ⟨70, _⟩ => ⟨S8192x8x64, .bf16⟩
  | .hbm, ⟨71, _⟩ => ⟨S8192x512, .bf16⟩
  | .hbm, ⟨72, _⟩ => ⟨S8192x512, .f32⟩
  | .hbm, ⟨73, _⟩ => ⟨S8192x8x64, .f32⟩
  | .hbm, ⟨74, _⟩ => ⟨S8192x512, .f32⟩
  | .hbm, ⟨75, _⟩ => ⟨S8192x8x64, .f32⟩
  | .hbm, ⟨76, _⟩ => ⟨S8192x8x64, .f32⟩
  | .hbm, ⟨77, _⟩ => ⟨S_, .f32⟩
  | .hbm, ⟨78, _⟩ => ⟨S8192x8, .f32⟩
  | .hbm, ⟨79, _⟩ => ⟨S64, .i32⟩
  | .hbm, ⟨80, _⟩ => ⟨S1x1x64, .i32⟩
  | .hbm, ⟨81, _⟩ => ⟨S_, .i32⟩
  | .hbm, ⟨82, _⟩ => ⟨S1x1x64, .i32⟩
  | .hbm, ⟨83, _⟩ => ⟨S1x1x64, .i1⟩
  | .hbm, ⟨84, _⟩ => ⟨S8192x8, .f32⟩
  | .hbm, ⟨85, _⟩ => ⟨S8192x8x1, .f32⟩
  | .hbm, ⟨86, _⟩ => ⟨S8192x8x1, .f32⟩
  | .hbm, ⟨87, _⟩ => ⟨S8192x8x64, .i1⟩
  | .hbm, ⟨88, _⟩ => ⟨S8192x8x64, .f32⟩
  | .hbm, ⟨89, _⟩ => ⟨S8192x8x64, .f32⟩
  | .hbm, ⟨90, _⟩ => ⟨S8192x8x64, .f32⟩
  | .hbm, ⟨91, _⟩ => ⟨S8192x512, .f32⟩
  | .hbm, ⟨92, _⟩ => ⟨S8192x1024, .f32⟩
  | .hbm, ⟨93, _⟩ => ⟨S8192x1024, .f32⟩
  | .hbm, ⟨94, _⟩ => ⟨S8192x512, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x256, .f32⟩
  | .local _ .vmem, ⟨11, _⟩ => ⟨S8192x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v68 : Ref sig .tc := ⟨.hbm, 90, rfl⟩
abbrev main_v69 : Ref sig .tc := ⟨.hbm, 91, rfl⟩
abbrev main_v70_0 : Ref sig .tc := ⟨.hbm, 92, rfl⟩
abbrev main_v70_1 : Ref sig .tc := ⟨.hbm, 93, rfl⟩
abbrev main_v70_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_5 : Index := 0#32
  ![v12.toNat, 0]
def k0_off2 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v19 : Index := Scalar.indexCast v11
  let c0_7 : Index := 0#32
  ![v19.toNat, 0]
def k0_off3 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v56 : Index := Scalar.indexCast v11
  let c128 : Index := 128#32
  ![v56.toNat, 128]
@[reducible] def k0_t1_loop (i : grid0.Coords) : Scf.Loop 32 :=
  let c0_i32_57 : BitVec 32 := 0#32
  let c15_i32 : BitVec 32 := 15#32
  let arg1 : BitVec 32 := BitVec.ofNat 32 (i 1).val
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_59 : BitVec 32 := 1#32
  ⟨c0_i32_57, v118, c1_i32_59⟩
def k0_mult2 (i : grid0.Coords) (k0_t1 : Fin (k0_t1_loop i).trips) : BitVec 32 :=
  let arg1 : BitVec 32 := BitVec.ofNat 32 (i 1).val
  let c1_i32_69 : BitVec 32 := 1#32
  let v132 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v133 : BitVec 32 := Scalar.muli c2_i32_70 arg10
  let v134 : BitVec 32 := Scalar.addi v132 v133
  let c512_i32_71 : BitVec 32 := 512#32
  let v135 : BitVec 32 := Scalar.muli v134 c512_i32_71
  v135
def k0_off4 (i : grid0.Coords) (k0_t1 : Fin (k0_t1_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v137 : Index := Scalar.indexCast v136
  let c0_72 : Index := 0#32
  ![v137.toNat, 0]
def k0_off5 (i : grid0.Coords) (k0_t1 : Fin (k0_t1_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v144 : Index := Scalar.indexCast v136
  let c0_75 : Index := 0#32
  ![v144.toNat, 0]
def k0_off6 (i : grid0.Coords) (k0_t1 : Fin (k0_t1_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v178 : Index := Scalar.indexCast v136
  let c128_95 : Index := 128#32
  ![v178.toNat, 128]
def k0_mult3 (i : grid0.Coords) (k0_t1 : Fin (k0_t1_loop i).trips) : BitVec 32 :=
  let arg1 : BitVec 32 := BitVec.ofNat 32 (i 1).val
  let c2_i32_118 : BitVec 32 := 2#32
  let v215 : BitVec 32 := Scalar.addi arg1 c2_i32_118
  let c2_i32_119 : BitVec 32 := 2#32
  let c0_i32_57 : BitVec 32 := 0#32
  let c1_i32_59 : BitVec 32 := 1#32
  let arg10 : BitVec 32 := Scf.iv c0_i32_57 c1_i32_59 k0_t1
  let v216 : BitVec 32 := Scalar.muli c2_i32_119 arg10
  let v217 : BitVec 32 := Scalar.addi v215 v216
  let c512_i32_120 : BitVec 32 := 512#32
  let v218 : BitVec 32 := Scalar.muli v217 c512_i32_120
  v218
@[reducible] def k0_t2_loop (i : grid0.Coords) : Scf.Loop 32 :=
  let c0_i32_57 : BitVec 32 := 0#32
  let c15_i32 : BitVec 32 := 15#32
  let arg1 : BitVec 32 := BitVec.ofNat 32 (i 1).val
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let v115 : BitVec 32 := Scalar.addi c0_i32_57 v114
  let c1_i32_60 : BitVec 32 := 1#32
  ⟨v118, v115, c1_i32_60⟩
def k0_mult4 (i : grid0.Coords) (k0_t2 : Fin (k0_t2_loop i).trips) : BitVec 32 :=
  let arg1 : BitVec 32 := BitVec.ofNat 32 (i 1).val
  let c1_i32_69 : BitVec 32 := 1#32
  let v132 : BitVec 32 := Scalar.addi arg1 c1_i32_69
  let c2_i32_70 : BitVec 32 := 2#32
  let c0_i32_57 : BitVec 32 := 0#32
  let c15_i32 : BitVec 32 := 15#32
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg10 : BitVec 32 := Scf.iv v118 c1_i32_60 k0_t2
  let v133 : BitVec 32 := Scalar.muli c2_i32_70 arg10
  let v134 : BitVec 32 := Scalar.addi v132 v133
  let c512_i32_71 : BitVec 32 := 512#32
  let v135 : BitVec 32 := Scalar.muli v134 c512_i32_71
  v135
def k0_off7 (i : grid0.Coords) (k0_t2 : Fin (k0_t2_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c15_i32 : BitVec 32 := 15#32
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg10 : BitVec 32 := Scf.iv v118 c1_i32_60 k0_t2
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v137 : Index := Scalar.indexCast v136
  let c0_72 : Index := 0#32
  ![v137.toNat, 0]
def k0_off8 (i : grid0.Coords) (k0_t2 : Fin (k0_t2_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c15_i32 : BitVec 32 := 15#32
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg10 : BitVec 32 := Scf.iv v118 c1_i32_60 k0_t2
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v144 : Index := Scalar.indexCast v136
  let c0_75 : Index := 0#32
  ![v144.toNat, 0]
def k0_off9 (i : grid0.Coords) (k0_t2 : Fin (k0_t2_loop i).trips) (c1_i32_69 : BitVec 32) : Fin 2 → Nat :=
  let arg1 : BitVec 32 := BitVec.ofNat 32 (i 1).val
  let v132 : BitVec 32 := Scalar.addi arg1 c1_i32_69
  let c2_i32_70 : BitVec 32 := 2#32
  let c0_i32_57 : BitVec 32 := 0#32
  let c15_i32 : BitVec 32 := 15#32
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg10 : BitVec 32 := Scf.iv v118 c1_i32_60 k0_t2
  let v133 : BitVec 32 := Scalar.muli c2_i32_70 arg10
  let v134 : BitVec 32 := Scalar.addi v132 v133
  let c512_i32_71 : BitVec 32 := 512#32
  let v135 : BitVec 32 := Scalar.muli v134 c512_i32_71
  let v136 : BitVec 32 := v135
  let v178 : Index := Scalar.indexCast v136
  let c128_95 : Index := 128#32
  ![v178.toNat, 128]
def k0_mult5 (i : grid0.Coords) (k0_t2 : Fin (k0_t2_loop i).trips) : BitVec 32 :=
  let arg1 : BitVec 32 := BitVec.ofNat 32 (i 1).val
  let c2_i32_118 : BitVec 32 := 2#32
  let v215 : BitVec 32 := Scalar.addi arg1 c2_i32_118
  let c2_i32_119 : BitVec 32 := 2#32
  let c0_i32_57 : BitVec 32 := 0#32
  let c15_i32 : BitVec 32 := 15#32
  let v96 : BitVec 32 := Scalar.subi c15_i32 arg1
  let c0_i32_51 : BitVec 32 := 0#32
  let v98 : BitVec 1 := Scalar.cmpi .sgt v96 c0_i32_51
  let v99 : BitVec 32 := Scalar.extui v98
  let c0_i32_52 : BitVec 32 := 0#32
  let v100 : BitVec 1 := Scalar.cmpi .slt v96 c0_i32_52
  let v101 : BitVec 32 := Scalar.extui v100
  let v102 : BitVec 32 := Scalar.subi v99 v101
  let c2_i32 : BitVec 32 := 2#32
  let c0_i32_53 : BitVec 32 := 0#32
  let v103 : BitVec 1 := Scalar.cmpi .sgt c2_i32 c0_i32_53
  let v104 : BitVec 32 := Scalar.extui v103
  let c0_i32_54 : BitVec 32 := 0#32
  let v105 : BitVec 1 := Scalar.cmpi .slt c2_i32 c0_i32_54
  let v106 : BitVec 32 := Scalar.extui v105
  let v107 : BitVec 32 := Scalar.subi v104 v106
  let v108 : BitVec 1 := Scalar.cmpi .ne v102 v107
  let v109 : BitVec 32 := Scalar.remsi v96 c2_i32
  let c0_i32_55 : BitVec 32 := 0#32
  let v110 : BitVec 1 := Scalar.cmpi .ne v109 c0_i32_55
  let v111 : BitVec 1 := Scalar.andi v108 v110
  let v97 : BitVec 32 := Scalar.divsi v96 c2_i32
  let c1_i32 : BitVec 32 := 1#32
  let v112 : BitVec 32 := Scalar.subi v97 c1_i32
  let v113 : BitVec 32 := Scalar.select v111 v112 v97
  let v114 : BitVec 32 := Scalar.subi v113 c0_i32_57
  let c1_i32_58 : BitVec 32 := 1#32
  let v116 : BitVec 32 := Scalar.divsi v114 c1_i32_58
  let v117 : BitVec 32 := Scalar.muli v116 c1_i32_58
  let v118 : BitVec 32 := Scalar.addi c0_i32_57 v117
  let c1_i32_60 : BitVec 32 := 1#32
  let arg10 : BitVec 32 := Scf.iv v118 c1_i32_60 k0_t2
  let v216 : BitVec 32 := Scalar.muli c2_i32_119 arg10
  let v217 : BitVec 32 := Scalar.addi v215 v216
  let c512_i32_120 : BitVec 32 := 512#32
  let v218 : BitVec 32 := Scalar.muli v217 c512_i32_120
  v218
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x1024 : Shape := ⟨2, ![8192, 1024]⟩
abbrev S8192x512 : Shape := ⟨2, ![8192, 512]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8192x8x64 : Shape := ⟨3, ![8192, 8, 64]⟩
abbrev S8x64x8192 : Shape := ⟨3, ![8, 64, 8192]⟩
abbrev S8x8192x128 : Shape := ⟨3, ![8, 8192, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8x8192x8192, .f32⟩
  | .hbm, ⟨9, _⟩ => ⟨S8x8192x8192, .bf16⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x8192x8192, .bf16⟩
  | .hbm, ⟨63, _⟩ => ⟨S8x8192x8192, .f32⟩
  | .hbm, ⟨64, _⟩ => ⟨S8192x512, .f32⟩
  | .hbm, ⟨65, _⟩ => ⟨S8192x8x64, .f32⟩
  | .hbm, ⟨66, _⟩ => ⟨S8x64x8192, .f32⟩
  | .hbm, ⟨67, _⟩ => ⟨S8192x8x64, .f32⟩
  | .hbm, ⟨68, _⟩ => ⟨S8192x8x64, .bf16⟩
  | .hbm, ⟨69, _⟩ => ⟨S8192x512, .bf16⟩
  | .hbm, ⟨70, _⟩ => ⟨S8192x8x64, .bf16⟩
  | .hbm, ⟨71, _⟩ => ⟨S8192x8x64, .f32⟩
  | .hbm, ⟨72, _⟩ => ⟨S8x64x8192, .f32⟩
  | .hbm, ⟨73, _⟩ => ⟨S8x8192x8192, .f32⟩
  | .hbm, ⟨74, _⟩ => ⟨S8x64x8192, .f32⟩
  | .hbm, ⟨75, _⟩ => ⟨S8192x8x64, .f32⟩
  | .hbm, ⟨76, _⟩ => ⟨S8192x512, .f32⟩
  | .hbm, ⟨77, _⟩ => ⟨S8192x512, .bf16⟩
  | .hbm, ⟨78, _⟩ => ⟨S8x8192x8192, .bf16⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x1, .f32⟩
  | .hbm, ⟨86, _⟩ => ⟨S8x8192x1, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192x8192, .f32⟩
  | .hbm, ⟨96, _⟩ => ⟨S8x8192x8192, .f32⟩
  | .hbm, ⟨97, _⟩ => ⟨S8x8192x8192, .bf16⟩
  | .hbm, ⟨98, _⟩ => ⟨S8x8192x8192, .f32⟩
  | .hbm, ⟨99, _⟩ => ⟨S8x8192x128, .f32⟩
  | .hbm, ⟨100, _⟩ => ⟨S8192x8x128, .f32⟩
  | .hbm, ⟨101, _⟩ => ⟨S8x8192x128, .f32⟩
  | .hbm, ⟨102, _⟩ => ⟨S8192x8x128, .f32⟩
  | .hbm, ⟨103, _⟩ => ⟨S8192x1024, .f32⟩
  | .hbm, ⟨104, _⟩ => ⟨S8192x1024, .bf16⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .f32⟩
  | .hbm, ⟨109, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_v13_1 : Ref sig .tc := ⟨.hbm, 19, rfl⟩
abbrev main_call0_v2 : Ref sig .tc := ⟨.hbm, 20, rfl⟩
abbrev main_v13_0 : Ref sig .tc := ⟨.hbm, 21, rfl⟩
abbrev main_call0_cst : Ref sig .tc := ⟨.hbm, 22, rfl⟩
abbrev main_v13_2 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x3200 : Shape := ⟨2, ![1024, 3200]⟩
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S1024x8192 : Shape := ⟨2, ![1024, 8192]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S1024x512 : Shape := ⟨2, ![1024, 512]⟩
abbrev S512 : Shape := ⟨1, ![512]⟩
abbrev S512x1 : Shape := ⟨2, ![512, 1]⟩
abbrev S1024x768 : Shape := ⟨2, ![1024, 768]⟩
abbrev S1024x256 : Shape := ⟨2, ![1024, 256]⟩
abbrev S1024x128 : Shape := ⟨2, ![1024, 128]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x1024, .f32⟩
  | .hbm, ⟨4, _⟩ => ⟨S8192x768, .bf16⟩
  | .hbm, ⟨5, _⟩ => ⟨S8192x768, .bf16⟩
  | .hbm, ⟨6, _⟩ => ⟨S8192x512, .bf16⟩
  | .hbm, ⟨7, _⟩ => ⟨S8192x256, .bf16⟩
  | .hbm, ⟨8, _⟩ => ⟨S8192x768, .bf16⟩
  | .hbm, ⟨9, _⟩ => ⟨S8192x128, .bf16⟩
  | .hbm, ⟨10, _⟩ => ⟨S8192x1024, .f32⟩
  | .hbm, ⟨11, _⟩ => ⟨S1024x8192, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S512x768, .bf16⟩
  | .local _ .vmem, ⟨15, _⟩ => ⟨S512x768, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1x1024 : Shape := ⟨2, ![1, 1024]⟩
abbrev S1024x3200 : Shape := ⟨2, ![1024, 3200]⟩
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x3200 : Shape := ⟨2, ![8192, 3200]⟩
abbrev S1024 : Shape := ⟨1, ![1024]⟩
abbrev S1024x8192 : Shape := ⟨2, ![1024, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x1024, .f32⟩
  | .hbm, ⟨4, _⟩ => ⟨S8192x768, .bf16⟩
  | .hbm, ⟨5, _⟩ => ⟨S8192x768, .bf16⟩
  | .hbm, ⟨6, _⟩ => ⟨S8192x512, .bf16⟩
  | .hbm, ⟨7, _⟩ => ⟨S8192x256, .bf16⟩
  | .hbm, ⟨8, _⟩ => ⟨S8192x768, .bf16⟩
  | .hbm, ⟨9, _⟩ => ⟨S8192x128, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x3200, .f32⟩
  | .hbm, ⟨30, _⟩ => ⟨S8192x3200, .f32⟩
  | .hbm, ⟨31, _⟩ => ⟨S8192x768, .f32⟩
  | .hbm, ⟨32, _⟩ => ⟨S8192x768, .f32⟩
  | .hbm, ⟨33, _⟩ => ⟨S8192x512, .f32⟩
  | .hbm, ⟨34, _⟩ => ⟨S8192x256, .f32⟩
  | .hbm, ⟨35, _⟩ => ⟨S8192x768, .f32⟩
  | .hbm, ⟨36, _⟩ => ⟨S8192x128, .f32⟩
  | .hbm, ⟨37, _⟩ => ⟨S8192x3200, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1024x8192, .f32⟩
  | .hbm, ⟨79, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel3.lean ====
abbrev S1024x8192 : Shape := ⟨2, ![1024, 8192]⟩
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S1024x3200 : Shape := ⟨2, ![1024, 3200]⟩
abbrev S1024x256 : Shape := ⟨2, ![1024, 256]⟩
abbrev S256x768 : Shape := ⟨2, ![256, 768]⟩
abbrev S256x512 : Shape := ⟨2, ![256, 512]⟩
abbrev S256x256 : Shape := ⟨2, ![256, 256]⟩
abbrev S256x128 : Shape := ⟨2, ![256, 128]⟩
abbrev S1024x768 : Shape := ⟨2, ![1024, 768]⟩
abbrev S1024x512 : Shape := ⟨2, ![1024, 512]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S1024x8192, .bf16⟩
  | .hbm, ⟨1, _⟩ => ⟨S8192x768, .bf16⟩
  | .hbm, ⟨2, _⟩ => ⟨S8192x768, .bf16⟩
  | .hbm, ⟨3, _⟩ => ⟨S8192x512, .bf16⟩
  | .hbm, ⟨4, _⟩ => ⟨S8192x256, .bf16⟩
  | .hbm, ⟨5, _⟩ => ⟨S8192x768, .bf16⟩
  | .hbm, ⟨6, _⟩ => ⟨S8192x128, .bf16⟩
  | .hbm, ⟨7, _⟩ => ⟨S1024x3200, .f32⟩
  | .local _ .vmem, ⟨0, _⟩ => ⟨S1024x256, .bf16⟩
  | .local _ .vmem, ⟨1, _⟩ => ⟨S1024x256, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x512, .bf16⟩
  | .local _ .vmem, ⟨7, _⟩ => ⟨S256x512, .bf16⟩
  | .local _ .vmem, ⟨8, _⟩ => ⟨S256x256, .bf16⟩
  | .local _ .vmem, ⟨9, _⟩ => ⟨S256x256, .bf16⟩
  | .local _ .vmem, ⟨10, _⟩ => ⟨S256x768, .bf16⟩
  | .local _ .vmem, ⟨11, _⟩ => ⟨S256x768, .bf16⟩
  | .local _ .vmem, ⟨12, _⟩ => ⟨S256x128, .bf16⟩
  | .local _ .vmem, ⟨13, _⟩ => ⟨S256x128, .bf16⟩
  | .local _ .vmem, ⟨14, _⟩ => ⟨S1024x3200, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S1024x8192 : Shape := ⟨2, ![1024, 8192]⟩
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S1024x3200 : Shape := ⟨2, ![1024, 3200]⟩
abbrev S8192x1024 : Shape := ⟨2, ![8192, 1024]⟩
abbrev S8192x3200 : Shape := ⟨2, ![8192, 3200]⟩
abbrev S3200x1024 : Shape := ⟨2, ![3200, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x768, .bf16⟩
  | .hbm, ⟨2, _⟩ => ⟨S8192x768, .bf16⟩
  | .hbm, ⟨3, _⟩ => ⟨S8192x512, .bf16⟩
  | .hbm, ⟨4, _⟩ => ⟨S8192x256, .bf16⟩
  | .hbm, ⟨5, _⟩ => ⟨S8192x768, .bf16⟩
  | .hbm, ⟨6, _⟩ => ⟨S8192x128, .bf16⟩
  | .hbm, ⟨7, _⟩ => ⟨S_, .f32⟩
  | .hbm, ⟨8, _⟩ => ⟨S1024x3200, .f32⟩
  | .hbm, ⟨9, _⟩ => ⟨S1024x8192, .f32⟩
  | .hbm, ⟨10, _⟩ => ⟨S8192x1024, .f32⟩
  | .hbm, ⟨11, _⟩ => ⟨S8192x3200, .f32⟩
  | .hbm, ⟨12, _⟩ => ⟨S8192x768, .f32⟩
  | .hbm, ⟨13, _⟩ => ⟨S8192x768, .f32⟩
  | .hbm, ⟨14, _⟩ => ⟨S8192x512, .f32⟩
  | .hbm, ⟨15, _⟩ => ⟨S8192x256, .f32⟩
  | .hbm, ⟨16, _⟩ => ⟨S8192x768, .f32⟩
  | .hbm, ⟨17, _⟩ => ⟨S8192x128, .f32⟩
  | .hbm, ⟨18, _⟩ => ⟨S8192x3200, .f32⟩
  | .hbm, ⟨19, _⟩ => ⟨S3200x1024, .f32⟩
  | .hbm, ⟨20, _⟩ => ⟨S1024x3200, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel4.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S256 : Shape := ⟨1, ![256]⟩
abbrev S1x512 : Shape := ⟨2, ![1, 512]⟩

abbrev nBuf : Space → Nat
  | .hbm => 15
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S8192x3200, .f32⟩
  | .hbm, ⟨5, _⟩ => ⟨S8192x256, .f32⟩
  | .hbm, ⟨6, _⟩ => ⟨S1x1024, .f32⟩
  | .hbm, ⟨7, _⟩ => ⟨S1024x1024, .bf16⟩
  | .hbm, ⟨8, _⟩ => ⟨S8192x256, .f32⟩
  | .hbm, ⟨9, _⟩ => ⟨S8192x256, .f32⟩
  | .hbm, ⟨10, _⟩ => ⟨S8192x512, .bf16⟩
  | .hbm, ⟨11, _⟩ => ⟨S8192x512, .bf16⟩
  | .hbm, ⟨12, _⟩ => ⟨S8192x512, .f32⟩
  | .hbm, ⟨13, _⟩ => ⟨S1024x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S1x1024, .f32⟩
  | .local _ .vmem, ⟨13, _⟩ => ⟨S1024x1024, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S1024x1024, .f32⟩
  | .local _ .vmem, ⟨25, _⟩ => ⟨S1x1024, .f32⟩
  | .local _ .vmem, ⟨26, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S256 : Shape := ⟨1, ![256]⟩
abbrev S512 : Shape := ⟨1, ![512]⟩
abbrev S8192x8x64 : Shape := ⟨3, ![8192, 8, 64]⟩
abbrev S8192x8 : Shape := ⟨2, ![8192, 8]⟩
abbrev S64 : Shape := ⟨1, ![64]⟩
abbrev S1x1x64 : Shape := ⟨3, ![1, 1, 64]⟩
abbrev S8192x8x1 : Shape := ⟨3, ![8192, 8, 1]⟩

abbrev nBuf : Space → Nat
  | .hbm => 193
  | .vmem => 0
  | .smem => 0
  | _ => 0

abbrev hbmTy0_0 (i : Nat) : BufTy := match i % 128 with
  | 0 => ⟨S8192x1024, .f32⟩
  | 1 => ⟨S8192x256, .f32⟩
  | 2 => ⟨S8192x512, .f32⟩
  | 3 => ⟨S8192x512, .f32⟩
  | 4 => ⟨S8192x3200, .f32⟩
  | 5 => ⟨S8192x256, .f32⟩
  | 6 => ⟨S1x1024, .f32⟩
  | 7 => ⟨S1024x1024, .bf16⟩
  | 8 => ⟨S8192x512, .f32⟩
  | 9 => ⟨S1024x1024, .f32⟩
  | 10 => ⟨S1x256, .f32⟩
  | 11 => ⟨S8192x256, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x256, .f32⟩
  | 27 => ⟨S8192x256, .f32⟩
  | 28 => ⟨S8192x256, .f32⟩
  | 29 => ⟨S8192x256, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S8192x512, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x512, .f32⟩
  | 61 => ⟨S8192x512, .f32⟩
  | 62 => ⟨S8192x512, .f32⟩
  | 63 => ⟨S8192x512, .f32⟩
  | 64 => ⟨S1x256, .f32⟩
  | 65 => ⟨S8192x256, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x256, .f32⟩
  | 81 => ⟨S8192x256, .f32⟩
  | 82 => ⟨S8192x256, .f32⟩
  | 83 => ⟨S8192x256, .f32⟩
  | 84 => ⟨S8192x1024, .f32⟩
  | 85 => ⟨S8192x1024, .f32⟩
  | 86 => ⟨S1024x1024, .f32⟩
  | 87 => ⟨S1024x1024, .f32⟩
  | 88 => ⟨S8192x1024, .f32⟩
  | 89 => ⟨S8192x256, .f32⟩
  | 90 => ⟨S8192x512, .f32⟩
  | 91 => ⟨S8192x256, .f32⟩
  | 92 => ⟨S8192x256, .f32⟩
  | 93 => ⟨S_, .f32⟩
  | 94 => ⟨S256, .f32⟩
  | 95 => ⟨S1x256, .f32⟩
  | 96 => ⟨S8192x256, .f32⟩
  | 97 => ⟨S8192x256, .f32⟩
  | 98 => ⟨S8192x256, .f32⟩
  | 99 => ⟨S_, .f32⟩
  | 100 => ⟨S8192, .f32⟩
  | 101 => ⟨S8192x1, .f32⟩
  | 102 => ⟨S8192x256, .f32⟩
  | 103 => ⟨S8192x256, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S_, .f32⟩
  | 116 => ⟨S1x1024, .f32⟩
  | 117 => ⟨S8192x512, .f32⟩
  | 118 => ⟨S_, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S_, .f32⟩
  | 125 => ⟨S8192, .f32⟩
  | 126 => ⟨S8192x1, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S1x1024, .f32⟩
  | 14 => ⟨S1x1024, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x256, .f32⟩
  | 22 => ⟨S_, .f32⟩
  | 23 => ⟨S256, .f32⟩
  | 24 => ⟨S1x256, .f32⟩
  | 25 => ⟨S8192x256, .f32⟩
  | 26 => ⟨S8192x256, .f32⟩
  | 27 => ⟨S8192x256, .f32⟩
  | 28 => ⟨S_, .f32⟩
  | 29 => ⟨S8192, .f32⟩
  | 30 => ⟨S8192x1, .f32⟩
  | 31 => ⟨S8192x256, .f32⟩
  | 32 => ⟨S8192x256, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S1x1024, .f32⟩
  | 46 => ⟨S1x1024, .f32⟩
  | 47 => ⟨S8192x8x64, .f32⟩
  | 48 => ⟨S8192x8x64, .f32⟩
  | 49 => ⟨S8192x8x64, .f32⟩
  | 50 => ⟨S_, .f32⟩
  | 51 => ⟨S8192x8, .f32⟩
  | 52 => ⟨S64, .i32⟩
  | 53 => ⟨S1x1x64, .i32⟩
  | 54 => ⟨S_, .i32⟩
  | 55 => ⟨S1x1x64, .i32⟩
  | 56 => ⟨S1x1x64, .i1⟩
  | 57 => ⟨S8192x8x64, .f32⟩
  | 58 => ⟨S8192x8x1, .f32⟩
  | 59 => ⟨S8192x8x64, .i1⟩
  | 60 => ⟨S8192x8x64, .f32⟩
  | 61 => ⟨S8192x8x64, .f32⟩
  | 62 => ⟨S8192x512, .bf16⟩
  | 63 => ⟨S8192x512, .bf16⟩
  | 64 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v18_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v18_1 : Ref sig .tc := ⟨.hbm, 41, rfl⟩
abbrev main_v18_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v103 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_22 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_23 : Ref sig .tc := ⟨.hbm, 162, rfl⟩
abbrev main_v115 : Ref sig .tc := ⟨.hbm, 163, rfl⟩
abbrev main_v116 : Ref sig .tc := ⟨.hbm, 164, rfl⟩
abbrev main_cst_24 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_26 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_call2_v0 : Ref sig .tc := ⟨.hbm, 187, rfl⟩
abbrev main_call2_v1 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S1024x640 : Shape := ⟨2, ![1024, 640]⟩
abbrev S512x640 : Shape := ⟨2, ![512, 640]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1024 : Shape := ⟨2, ![8192, 1024]⟩
abbrev S1x1024 : Shape := ⟨2, ![1, 1024]⟩
abbrev S1024x3200 : Shape := ⟨2, ![1024, 3200]⟩
abbrev S_ : Shape := ⟨0, ![]⟩
abbrev S8192 : Shape := ⟨1, ![8192]⟩
abbrev S8192x1 : Shape := ⟨2, ![8192, 1]⟩
abbrev S8192x3200 : Shape := ⟨2, ![8192, 3200]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x3200, .f32⟩
  | .hbm, ⟨19, _⟩ => ⟨S8192x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x3200, .f32⟩
  | .hbm, ⟨4, _⟩ => ⟨S8192x256, .f32⟩
  | .hbm, ⟨5, _⟩ => ⟨S1x1024, .f32⟩
  | .hbm, ⟨6, _⟩ => ⟨S1024x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x3200, .f32⟩
  | .hbm, ⟨4, _⟩ => ⟨S8192x256, .f32⟩
  | .hbm, ⟨5, _⟩ => ⟨S1x1024, .f32⟩
  | .hbm, ⟨6, _⟩ => ⟨S1024x1024, .bf16⟩
  | .hbm, ⟨7, _⟩ => ⟨S8192x512, .f32⟩
  | .hbm, ⟨8, _⟩ => ⟨S1024x1024, .f32⟩
  | .hbm, ⟨9, _⟩ => ⟨S1x256, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S1x256, .f32⟩
  | .hbm, ⟨52, _⟩ => ⟨S8192x256, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel7.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S8x128 : Shape := ⟨2, ![8, 128]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1x512 : Shape := ⟨2, ![1, 512]⟩
abbrev S64x8x1024 : Shape := ⟨3, ![64, 8, 1024]⟩
abbrev S8x1024 : Shape := ⟨2, ![8, 1024]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x3200, .f32⟩
  | .hbm, ⟨4, _⟩ => ⟨S8192x256, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x128, .f32⟩
  | .local _ .vmem, ⟨17, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v96 : BitVec 1 := Scalar.cmpi .eq arg0 c15_i32
  let v97 : BitVec 32 := Scalar.extui v96
  let c0_i32_44 : BitVec 32 := 0#32
  let v98 : BitVec 1 := Scalar.cmpi .ne v97 c0_i32_44
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8192x1024 : Shape := ⟨2, ![8192, 1024]⟩
abbrev S8192x256 : Shape := ⟨2, ![8192, 256]⟩
abbrev S8192x512 : Shape := ⟨2, ![8192, 512]⟩
abbrev S8192x3200 : Shape := ⟨2, ![8192, 3200]⟩
abbrev S1x1024 : Shape := ⟨2, ![1, 1024]⟩
abbrev S1024x1024 : Shape := ⟨2, ![1024, 1024]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8x128 : Shape := ⟨2, ![8, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x3200, .f32⟩
  | .hbm, ⟨4, _⟩ => ⟨S8192x256, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x512, .f32⟩
  | .hbm, ⟨9, _⟩ => ⟨S1024x1024, .f32⟩
  | .hbm, ⟨10, _⟩ => ⟨S1x256, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S1x256, .f32⟩
  | .hbm, ⟨53, _⟩ => ⟨S8192x256, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_cst_13 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== Kernel8.lean ====
abbrev S4x2048x388 : Shape := ⟨3, ![4, 2048, 388]⟩
abbrev S2048x388 : Shape := ⟨2, ![2048, 388]⟩
abbrev S4x128x388 : Shape := ⟨3, ![4, 128, 388]⟩
abbrev S128x388 : Shape := ⟨2, ![128, 388]⟩
abbrev S1x128x388 : Shape := ⟨3, ![1, 128, 388]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x388, .bf16⟩
  | .hbm, ⟨1, _⟩ => ⟨S2048x388, .f32⟩
  | .hbm, ⟨2, _⟩ => ⟨S2048x388, .f32⟩
  | .hbm, ⟨3, _⟩ => ⟨S2048x388, .f32⟩
  | .hbm, ⟨4, _⟩ => ⟨S2048x388, .f32⟩
  | .hbm, ⟨5, _⟩ => ⟨S2048x388, .f32⟩
  | .hbm, ⟨6, _⟩ => ⟨S2048x388, .f32⟩
  | .hbm, ⟨7, _⟩ => ⟨S2048x388, .f32⟩
  | .local _ .vmem, ⟨0, _⟩ => ⟨S4x128x388, .bf16⟩
  | .local _ .vmem, ⟨1, _⟩ => ⟨S4x128x388, .bf16⟩
  | .local _ .vmem, ⟨2, _⟩ => ⟨S128x388, .f32⟩
  | .local _ .vmem, ⟨3, _⟩ => ⟨S128x388, .f32⟩
  | .local _ .vmem, ⟨4, _⟩ => ⟨S128x388, .f32⟩
  | .local _ .vmem, ⟨5, _⟩ => ⟨S128x388, .f32⟩
  | .local _ .vmem, ⟨6, _⟩ => ⟨S128x388, .f32⟩
  | .local _ .vmem, ⟨7, _⟩ => ⟨S128x388, .f32⟩
  | .local _ .vmem, ⟨8, _⟩ => ⟨S128x388, .f32⟩
  | .local _ .vmem, ⟨9, _⟩ => ⟨S128x388, .f32⟩
  | .local _ .vmem, ⟨10, _⟩ => ⟨S128x388, .f32⟩
  | .local _ .vmem, ⟨11, _⟩ => ⟨S128x388, .f32⟩
  | .local _ .vmem, ⟨12, _⟩ => ⟨S128x388, .f32⟩
  | .local _ .vmem, ⟨13, _⟩ => ⟨S128x388, .f32⟩
  | .local _ .vmem, ⟨14, _⟩ => ⟨S128x388, .f32⟩
  | .local _ .vmem, ⟨15, _⟩ => ⟨S128x388, .f32⟩
  | _, _ => ⟨S4x2048x388, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x388 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x388 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x388 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x388 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x388 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x388 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x388 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x388 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
abbrev S4x2048x388 : Shape := ⟨3, ![4, 2048, 388]⟩
abbrev S2048x388 : Shape := ⟨2, ![2048, 388]⟩
abbrev S4x128x388 : Shape := ⟨3, ![4, 128, 388]⟩
abbrev S128x388 : Shape := ⟨2, ![128, 388]⟩
abbrev S1x128x388 : Shape := ⟨3, ![1, 128, 388]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x388, .bf16⟩
  | .hbm, ⟨1, _⟩ => ⟨S2048x388, .f32⟩
  | .hbm, ⟨2, _⟩ => ⟨S2048x388, .f32⟩
  | .hbm, ⟨3, _⟩ => ⟨S2048x388, .f32⟩
  | .hbm, ⟨4, _⟩ => ⟨S2048x388, .f32⟩
  | .hbm, ⟨5, _⟩ => ⟨S2048x388, .f32⟩
  | .hbm, ⟨6, _⟩ => ⟨S2048x388, .f32⟩
  | .hbm, ⟨7, _⟩ => ⟨S2048x388, .f32⟩
  | .local _ .vmem, ⟨0, _⟩ => ⟨S4x128x388, .bf16⟩
  | .local _ .vmem, ⟨1, _⟩ => ⟨S4x128x388, .bf16⟩
  | .local _ .vmem, ⟨2, _⟩ => ⟨S128x388, .f32⟩
  | .local _ .vmem, ⟨3, _⟩ => ⟨S128x388, .f32⟩
  | .local _ .vmem, ⟨4, _⟩ => ⟨S128x388, .f32⟩
  | .local _ .vmem, ⟨5, _⟩ => ⟨S128x388, .f32⟩
  | .local _ .vmem, ⟨6, _⟩ => ⟨S128x388, .f32⟩
  | .local _ .vmem, ⟨7, _⟩ => ⟨S128x388, .f32⟩
  | .local _ .vmem, ⟨8, _⟩ => ⟨S128x388, .f32⟩
  | .local _ .vmem, ⟨9, _⟩ => ⟨S128x388, .f32⟩
  | .local _ .vmem, ⟨10, _⟩ => ⟨S128x388, .f32⟩
  | .local _ .vmem, ⟨11, _⟩ => ⟨S128x388, .f32⟩
  | .local _ .vmem, ⟨12, _⟩ => ⟨S128x388, .f32⟩
  | .local _ .vmem, ⟨13, _⟩ => ⟨S128x388, .f32⟩
  | .local _ .vmem, ⟨14, _⟩ => ⟨S128x388, .f32⟩
  | .local _ .vmem, ⟨15, _⟩ => ⟨S128x388, .f32⟩
  | _, _ => ⟨S4x2048x388, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x388 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x388 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x388 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x388 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x388 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x388 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x388 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x388 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x2048x388 : Shape := ⟨3, ![4, 2048, 388]⟩
abbrev S2048x388 : Shape := ⟨2, ![2048, 388]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x388, .bf16⟩
  | .hbm, ⟨1, _⟩ => ⟨S2048x388, .f32⟩
  | .hbm, ⟨2, _⟩ => ⟨S2048x388, .f32⟩
  | .hbm, ⟨3, _⟩ => ⟨S2048x388, .f32⟩
  | .hbm, ⟨4, _⟩ => ⟨S4x2048x388, .f32⟩
  | .hbm, ⟨5, _⟩ => ⟨S_, .f32⟩
  | .hbm, ⟨6, _⟩ => ⟨S2048x388, .f32⟩
  | .hbm, ⟨7, _⟩ => ⟨S_, .f32⟩
  | .hbm, ⟨8, _⟩ => ⟨S2048x388, .f32⟩
  | .hbm, ⟨9, _⟩ => ⟨S2048x388, .f32⟩
  | .hbm, ⟨10, _⟩ => ⟨S_, .f32⟩
  | .hbm, ⟨11, _⟩ => ⟨S2048x388, .f32⟩
  | .hbm, ⟨12, _⟩ => ⟨S2048x388, .f32⟩
  | .hbm, ⟨13, _⟩ => ⟨S2048x388, .f32⟩
  | .hbm, ⟨14, _⟩ => ⟨S_, .f32⟩
  | .hbm, ⟨15, _⟩ => ⟨S2048x388, .f32⟩
  | .hbm, ⟨16, _⟩ => ⟨S2048x388, .f32⟩
  | .hbm, ⟨17, _⟩ => ⟨S2048x388, .f32⟩
  | .hbm, ⟨18, _⟩ => ⟨S_, .f32⟩
  | .hbm, ⟨19, _⟩ => ⟨S2048x388, .f32⟩
  | .hbm, ⟨20, _⟩ => ⟨S2048x388, .f32⟩
  | .hbm, ⟨21, _⟩ => ⟨S2048x388, .f32⟩
  | .hbm, ⟨22, _⟩ => ⟨S_, .f32⟩
  | .hbm, ⟨23, _⟩ => ⟨S2048x388, .f32⟩
  | .hbm, ⟨24, _⟩ => ⟨S2048x388, .f32⟩
  | .hbm, ⟨25, _⟩ => ⟨S_, .f32⟩
  | .hbm, ⟨26, _⟩ => ⟨S2048x388, .f32⟩
  | .hbm, ⟨27, _⟩ => ⟨S2048x388, .f32⟩
  | .hbm, ⟨28, _⟩ => ⟨S2048x388, .f32⟩
  | .hbm, ⟨29, _⟩ => ⟨S_, .f32⟩
  | .hbm, ⟨30, _⟩ => ⟨S2048x388, .f32⟩
  | .hbm, ⟨31, _⟩ => ⟨S2048x388, .f32⟩
  | .hbm, ⟨32, _⟩ => ⟨S2048x388, .f32⟩
  | .hbm, ⟨33, _⟩ => ⟨S_, .f32⟩
  | .hbm, ⟨34, _⟩ => ⟨S2048x388, .f32⟩
  | .hbm, ⟨35, _⟩ => ⟨S2048x388, .f32⟩
  | .hbm, ⟨36, _⟩ => ⟨S2048x388, .f32⟩
  | .hbm, ⟨37, _⟩ => ⟨S_, .f32⟩
  | .hbm, ⟨38, _⟩ => ⟨S2048x388, .f32⟩
  | .hbm, ⟨39, _⟩ => ⟨S2048x388, .f32⟩
  | _, _ => ⟨S4x2048x388, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x144x1024 : Shape := ⟨3, ![4, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x144x1024, .bf16⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S4x144x1024, .bf16⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S4x144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x144x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel9Ideal.lean ====
abbrev S4x144x1024 : Shape := ⟨3, ![4, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x144x1024, .bf16⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S4x144x1024, .bf16⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S4x144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x144x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S4x144x1024 : Shape := ⟨3, ![4, 144, 1024]⟩
abbrev S144x1024 : Shape := ⟨2, ![144, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x144x1024, .bf16⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S4x144x1024, .f32⟩
  | .hbm, ⟨5, _⟩ => ⟨S_, .f32⟩
  | .hbm, ⟨6, _⟩ => ⟨S144x1024, .f32⟩
  | .hbm, ⟨7, _⟩ => ⟨S_, .f32⟩
  | .hbm, ⟨8, _⟩ => ⟨S144x1024, .f32⟩
  | .hbm, ⟨9, _⟩ => ⟨S144x1024, .f32⟩
  | .hbm, ⟨10, _⟩ => ⟨S_, .f32⟩
  | .hbm, ⟨11, _⟩ => ⟨S144x1024, .f32⟩
  | .hbm, ⟨12, _⟩ => ⟨S144x1024, .f32⟩
  | .hbm, ⟨13, _⟩ => ⟨S144x1024, .f32⟩
  | .hbm, ⟨14, _⟩ => ⟨S_, .f32⟩
  | .hbm, ⟨15, _⟩ => ⟨S144x1024, .f32⟩
  | .hbm, ⟨16, _⟩ => ⟨S144x1024, .f32⟩
  | .hbm, ⟨17, _⟩ => ⟨S144x1024, .f32⟩
  | .hbm, ⟨18, _⟩ => ⟨S_, .f32⟩
  | .hbm, ⟨19, _⟩ => ⟨S144x1024, .f32⟩
  | .hbm, ⟨20, _⟩ => ⟨S144x1024, .f32⟩
  | .hbm, ⟨21, _⟩ => ⟨S144x1024, .f32⟩
  | .hbm, ⟨22, _⟩ => ⟨S_, .f32⟩
  | .hbm, ⟨23, _⟩ => ⟨S144x1024, .f32⟩
  | .hbm, ⟨24, _⟩ => ⟨S144x1024, .f32⟩
  | .hbm, ⟨25, _⟩ => ⟨S_, .f32⟩
  | .hbm, ⟨26, _⟩ => ⟨S144x1024, .f32⟩
  | .hbm, ⟨27, _⟩ => ⟨S144x1024, .f32⟩
  | .hbm, ⟨28, _⟩ => ⟨S144x1024, .f32⟩
  | .hbm, ⟨29, _⟩ => ⟨S_, .f32⟩
  | .hbm, ⟨30, _⟩ => ⟨S144x1024, .f32⟩
  | .hbm, ⟨31, _⟩ => ⟨S144x1024, .f32⟩
  | .hbm, ⟨32, _⟩ => ⟨S144x1024, .f32⟩
  | .hbm, ⟨33, _⟩ => ⟨S_, .f32⟩
  | .hbm, ⟨34, _⟩ => ⟨S144x1024, .f32⟩
  | .hbm, ⟨35, _⟩ => ⟨S144x1024, .f32⟩
  | .hbm, ⟨36, _⟩ => ⟨S144x1024, .f32⟩
  | .hbm, ⟨37, _⟩ => ⟨S_, .f32⟩
  | .hbm, ⟨38, _⟩ => ⟨S144x1024, .f32⟩
  | .hbm, ⟨39, _⟩ => ⟨S144x1024, .f32⟩
  | _, _ => ⟨S4x144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S4x256x1024 : Shape := ⟨3, ![4, 256, 1024]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
abbrev S4x256x1024 : Shape := ⟨3, ![4, 256, 1024]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S4x192x768 : Shape := ⟨3, ![4, 192, 768]⟩
abbrev S192x768 : Shape := ⟨2, ![192, 768]⟩
abbrev S1x192x768 : Shape := ⟨3, ![1, 192, 768]⟩

abbrev nBuf : Space → Nat
  | .hbm => 8
  | .vmem => 8
  | .smem => 0
  | _ => 0

abbrev bufTy : (tb : Table) → Fin (tcTables nBuf tb) → BufTy
  | .hbm, ⟨0, _⟩ => ⟨S4x192x768, .bf16⟩
  | .hbm, ⟨1, _⟩ => ⟨S192x768, .f32⟩
  | .hbm, ⟨2, _⟩ => ⟨S192x768, .f32⟩
  | .hbm, ⟨3, _⟩ => ⟨S192x768, .f32⟩
  | .hbm, ⟨4, _⟩ => ⟨S192x768, .f32⟩
  | .hbm, ⟨5, _⟩ => ⟨S192x768, .f32⟩
  | .hbm, ⟨6, _⟩ => ⟨S192x768, .f32⟩
  | .hbm, ⟨7, _⟩ => ⟨S192x768, .f32⟩
  | .local _ .vmem, ⟨0, _⟩ => ⟨S4x192x768, .bf16⟩
  | .local _ .vmem, ⟨1, _⟩ => ⟨S192x768, .f32⟩
  | .local _ .vmem, ⟨2, _⟩ => ⟨S192x768, .f32⟩
  | .local _ .vmem, ⟨3, _⟩ => ⟨S192x768, .f32⟩
  | .local _ .vmem, ⟨4, _⟩ => ⟨S192x768, .f32⟩
  | .local _ .vmem, ⟨5, _⟩ => ⟨S192x768, .f32⟩
  | .local _ .vmem, ⟨6, _⟩ => ⟨S192x768, .f32⟩
  | .local _ .vmem, ⟨7, _⟩ => ⟨S192x768, .f32⟩
  | _, _ => ⟨S4x192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel11Ideal.lean ====
abbrev S4x192x768 : Shape := ⟨3, ![4, 192, 768]⟩
abbrev S192x768 : Shape := ⟨2, ![192, 768]⟩
abbrev S1x192x768 : Shape := ⟨3, ![1, 192, 768]⟩

abbrev nBuf : Space → Nat
  | .hbm => 8
  | .vmem => 8
  | .smem => 0
  | _ => 0

abbrev bufTy : (tb : Table) → Fin (tcTables nBuf tb) → BufTy
  | .hbm, ⟨0, _⟩ => ⟨S4x192x768, .bf16⟩
  | .hbm, ⟨1, _⟩ => ⟨S192x768, .f32⟩
  | .hbm, ⟨2, _⟩ => ⟨S192x768, .f32⟩
  | .hbm, ⟨3, _⟩ => ⟨S192x768, .f32⟩
  | .hbm, ⟨4, _⟩ => ⟨S192x768, .f32⟩
  | .hbm, ⟨5, _⟩ => ⟨S192x768, .f32⟩
  | .hbm, ⟨6, _⟩ => ⟨S192x768, .f32⟩
  | .hbm, ⟨7, _⟩ => ⟨S192x768, .f32⟩
  | .local _ .vmem, ⟨0, _⟩ => ⟨S4x192x768, .bf16⟩
  | .local _ .vmem, ⟨1, _⟩ => ⟨S192x768, .f32⟩
  | .local _ .vmem, ⟨2, _⟩ => ⟨S192x768, .f32⟩
  | .local _ .vmem, ⟨3, _⟩ => ⟨S192x768, .f32⟩
  | .local _ .vmem, ⟨4, _⟩ => ⟨S192x768, .f32⟩
  | .local _ .vmem, ⟨5, _⟩ => ⟨S192x768, .f32⟩
  | .local _ .vmem, ⟨6, _⟩ => ⟨S192x768, .f32⟩
  | .local _ .vmem, ⟨7, _⟩ => ⟨S192x768, .f32⟩
  | _, _ => ⟨S4x192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S4x192x768 : Shape := ⟨3, ![4, 192, 768]⟩
abbrev S192x768 : Shape := ⟨2, ![192, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x192x768, .bf16⟩
  | .hbm, ⟨1, _⟩ => ⟨S192x768, .f32⟩
  | .hbm, ⟨2, _⟩ => ⟨S192x768, .f32⟩
  | .hbm, ⟨3, _⟩ => ⟨S192x768, .f32⟩
  | .hbm, ⟨4, _⟩ => ⟨S4x192x768, .f32⟩
  | .hbm, ⟨5, _⟩ => ⟨S_, .f32⟩
  | .hbm, ⟨6, _⟩ => ⟨S192x768, .f32⟩
  | .hbm, ⟨7, _⟩ => ⟨S_, .f32⟩
  | .hbm, ⟨8, _⟩ => ⟨S192x768, .f32⟩
  | .hbm, ⟨9, _⟩ => ⟨S192x768, .f32⟩
  | .hbm, ⟨10, _⟩ => ⟨S_, .f32⟩
  | .hbm, ⟨11, _⟩ => ⟨S192x768, .f32⟩
  | .hbm, ⟨12, _⟩ => ⟨S192x768, .f32⟩
  | .hbm, ⟨13, _⟩ => ⟨S192x768, .f32⟩
  | .hbm, ⟨14, _⟩ => ⟨S_, .f32⟩
  | .hbm, ⟨15, _⟩ => ⟨S192x768, .f32⟩
  | .hbm, ⟨16, _⟩ => ⟨S192x768, .f32⟩
  | .hbm, ⟨17, _⟩ => ⟨S192x768, .f32⟩
  | .hbm, ⟨18, _⟩ => ⟨S_, .f32⟩
  | .hbm, ⟨19, _⟩ => ⟨S192x768, .f32⟩
  | .hbm, ⟨20, _⟩ => ⟨S192x768, .f32⟩
  | .hbm, ⟨21, _⟩ => ⟨S192x768, .f32⟩
  | .hbm, ⟨22, _⟩ => ⟨S_, .f32⟩
  | .hbm, ⟨23, _⟩ => ⟨S192x768, .f32⟩
  | .hbm, ⟨24, _⟩ => ⟨S192x768, .f32⟩
  | .hbm, ⟨25, _⟩ => ⟨S_, .f32⟩
  | .hbm, ⟨26, _⟩ => ⟨S192x768, .f32⟩
  | .hbm, ⟨27, _⟩ => ⟨S192x768, .f32⟩
  | .hbm, ⟨28, _⟩ => ⟨S192x768, .f32⟩
  | .hbm, ⟨29, _⟩ => ⟨S_, .f32⟩
  | .hbm, ⟨30, _⟩ => ⟨S192x768, .f32⟩
  | .hbm, ⟨31, _⟩ => ⟨S192x768, .f32⟩
  | .hbm, ⟨32, _⟩ => ⟨S192x768, .f32⟩
  | .hbm, ⟨33, _⟩ => ⟨S_, .f32⟩
  | .hbm, ⟨34, _⟩ => ⟨S192x768, .f32⟩
  | .hbm, ⟨35, _⟩ => ⟨S192x768, .f32⟩
  | .hbm, ⟨36, _⟩ => ⟨S192x768, .f32⟩
  | .hbm, ⟨37, _⟩ => ⟨S_, .f32⟩
  | .hbm, ⟨38, _⟩ => ⟨S192x768, .f32⟩
  | .hbm, ⟨39, _⟩ => ⟨S192x768, .f32⟩
  | _, _ => ⟨S4x192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x512x128 : Shape := ⟨3, ![4, 512, 128]⟩
abbrev S512x128 : Shape := ⟨2, ![512, 128]⟩
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x128x128, .bf16⟩
  | .local _ .vmem, ⟨1, _⟩ => ⟨S4x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
abbrev S4x512x128 : Shape := ⟨3, ![4, 512, 128]⟩
abbrev S512x128 : Shape := ⟨2, ![512, 128]⟩
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x128x128, .bf16⟩
  | .local _ .vmem, ⟨1, _⟩ => ⟨S4x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4x64x256 : Shape := ⟨3, ![4, 64, 256]⟩
abbrev S64x256 : Shape := ⟨2, ![64, 256]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .local _ .vmem, ⟨0, _⟩ => ⟨S4x64x256, .bf16⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S4x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel13Ideal.lean ====
abbrev S4x64x256 : Shape := ⟨3, ![4, 64, 256]⟩
abbrev S64x256 : Shape := ⟨2, ![64, 256]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .local _ .vmem, ⟨0, _⟩ => ⟨S4x64x256, .bf16⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S4x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S4x64x256 : Shape := ⟨3, ![4, 64, 256]⟩
abbrev S64x256 : Shape := ⟨2, ![64, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S4x64x256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S64x256, .f32⟩
  | .hbm, ⟨18, _⟩ => ⟨S_, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S_, .f32⟩
  | .hbm, ⟨23, _⟩ => ⟨S64x256, .f32⟩
  | .hbm, ⟨24, _⟩ => ⟨S64x256, .f32⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S64x256, .f32⟩
  | _, _ => ⟨S4x64x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S4x62x32 : Shape := ⟨3, ![4, 62, 32]⟩
abbrev S62x32 : Shape := ⟨2, ![62, 32]⟩
abbrev S1x62x32 : Shape := ⟨3, ![1, 62, 32]⟩

abbrev nBuf : Space → Nat
  | .hbm => 8
  | .vmem => 8
  | .smem => 0
  | _ => 0

abbrev bufTy : (tb : Table) → Fin (tcTables nBuf tb) → BufTy
  | .hbm, ⟨0, _⟩ => ⟨S4x62x32, .bf16⟩
  | .hbm, ⟨1, _⟩ => ⟨S62x32, .f32⟩
  | .hbm, ⟨2, _⟩ => ⟨S62x32, .f32⟩
  | .hbm, ⟨3, _⟩ => ⟨S62x32, .f32⟩
  | .hbm, ⟨4, _⟩ => ⟨S62x32, .f32⟩
  | .hbm, ⟨5, _⟩ => ⟨S62x32, .f32⟩
  | .hbm, ⟨6, _⟩ => ⟨S62x32, .f32⟩
  | .hbm, ⟨7, _⟩ => ⟨S62x32, .f32⟩
  | .local _ .vmem, ⟨0, _⟩ => ⟨S4x62x32, .bf16⟩
  | .local _ .vmem, ⟨1, _⟩ => ⟨S62x32, .f32⟩
  | .local _ .vmem, ⟨2, _⟩ => ⟨S62x32, .f32⟩
  | .local _ .vmem, ⟨3, _⟩ => ⟨S62x32, .f32⟩
  | .local _ .vmem, ⟨4, _⟩ => ⟨S62x32, .f32⟩
  | .local _ .vmem, ⟨5, _⟩ => ⟨S62x32, .f32⟩
  | .local _ .vmem, ⟨6, _⟩ => ⟨S62x32, .f32⟩
  | .local _ .vmem, ⟨7, _⟩ => ⟨S62x32, .f32⟩
  | _, _ => ⟨S4x62x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x62x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S4x62x32 : Shape := ⟨3, ![4, 62, 32]⟩
abbrev S62x32 : Shape := ⟨2, ![62, 32]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x62x32, .bf16⟩
  | .hbm, ⟨1, _⟩ => ⟨S62x32, .f32⟩
  | .hbm, ⟨2, _⟩ => ⟨S62x32, .f32⟩
  | .hbm, ⟨3, _⟩ => ⟨S62x32, .f32⟩
  | .hbm, ⟨4, _⟩ => ⟨S4x62x32, .f32⟩
  | .hbm, ⟨5, _⟩ => ⟨S_, .f32⟩
  | .hbm, ⟨6, _⟩ => ⟨S62x32, .f32⟩
  | .hbm, ⟨7, _⟩ => ⟨S_, .f32⟩
  | .hbm, ⟨8, _⟩ => ⟨S62x32, .f32⟩
  | .hbm, ⟨9, _⟩ => ⟨S62x32, .f32⟩
  | .hbm, ⟨10, _⟩ => ⟨S_, .f32⟩
  | .hbm, ⟨11, _⟩ => ⟨S62x32, .f32⟩
  | .hbm, ⟨12, _⟩ => ⟨S62x32, .f32⟩
  | .hbm, ⟨13, _⟩ => ⟨S62x32, .f32⟩
  | .hbm, ⟨14, _⟩ => ⟨S_, .f32⟩
  | .hbm, ⟨15, _⟩ => ⟨S62x32, .f32⟩
  | .hbm, ⟨16, _⟩ => ⟨S62x32, .f32⟩
  | .hbm, ⟨17, _⟩ => ⟨S62x32, .f32⟩
  | .hbm, ⟨18, _⟩ => ⟨S_, .f32⟩
  | .hbm, ⟨19, _⟩ => ⟨S62x32, .f32⟩
  | .hbm, ⟨20, _⟩ => ⟨S62x32, .f32⟩
  | .hbm, ⟨21, _⟩ => ⟨S62x32, .f32⟩
  | .hbm, ⟨22, _⟩ => ⟨S_, .f32⟩
  | .hbm, ⟨23, _⟩ => ⟨S62x32, .f32⟩
  | .hbm, ⟨24, _⟩ => ⟨S62x32, .f32⟩
  | .hbm, ⟨25, _⟩ => ⟨S_, .f32⟩
  | .hbm, ⟨26, _⟩ => ⟨S62x32, .f32⟩
  | .hbm, ⟨27, _⟩ => ⟨S62x32, .f32⟩
  | .hbm, ⟨28, _⟩ => ⟨S62x32, .f32⟩
  | .hbm, ⟨29, _⟩ => ⟨S_, .f32⟩
  | .hbm, ⟨30, _⟩ => ⟨S62x32, .f32⟩
  | .hbm, ⟨31, _⟩ => ⟨S62x32, .f32⟩
  | .hbm, ⟨32, _⟩ => ⟨S62x32, .f32⟩
  | .hbm, ⟨33, _⟩ => ⟨S_, .f32⟩
  | .hbm, ⟨34, _⟩ => ⟨S62x32, .f32⟩
  | .hbm, ⟨35, _⟩ => ⟨S62x32, .f32⟩
  | .hbm, ⟨36, _⟩ => ⟨S62x32, .f32⟩
  | .hbm, ⟨37, _⟩ => ⟨S_, .f32⟩
  | .hbm, ⟨38, _⟩ => ⟨S62x32, .f32⟩
  | .hbm, ⟨39, _⟩ => ⟨S62x32, .f32⟩
  | _, _ => ⟨S4x62x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S4x2048x388 : Shape := ⟨3, ![4, 2048, 388]⟩
abbrev S4x62x32 : Shape := ⟨3, ![4, 62, 32]⟩
abbrev S4x64x256 : Shape := ⟨3, ![4, 64, 256]⟩
abbrev S4x192x768 : Shape := ⟨3, ![4, 192, 768]⟩
abbrev S4x512x128 : Shape := ⟨3, ![4, 512, 128]⟩
abbrev S4x256x1024 : Shape := ⟨3, ![4, 256, 1024]⟩
abbrev S144x1024 : Shape := ⟨2, ![144, 1024]⟩
abbrev S1x2048x388 : Shape := ⟨3, ![1, 2048, 388]⟩
abbrev S1x62x32 : Shape := ⟨3, ![1, 62, 32]⟩
abbrev S1x64x256 : Shape := ⟨3, ![1, 64, 256]⟩
abbrev S1x192x768 : Shape := ⟨3, ![1, 192, 768]⟩
abbrev S1x512x128 : Shape := ⟨3, ![1, 512, 128]⟩
abbrev S1x256x1024 : Shape := ⟨3, ![1, 256, 1024]⟩

abbrev nBuf : Space → Nat
  | .hbm => 21
  | .vmem => 39
  | .smem => 0
  | _ => 0

abbrev bufTy : (tb : Table) → Fin (tcTables nBuf tb) → BufTy
  | .hbm, ⟨0, _⟩ => ⟨S4x2048x388, .bf16⟩
  | .hbm, ⟨1, _⟩ => ⟨S4x62x32, .bf16⟩
  | .hbm, ⟨2, _⟩ => ⟨S4x64x256, .bf16⟩
  | .hbm, ⟨3, _⟩ => ⟨S4x192x768, .bf16⟩
  | .hbm, ⟨4, _⟩ => ⟨S4x512x128, .bf16⟩
  | .hbm, ⟨5, _⟩ => ⟨S4x256x1024, .bf16⟩
  | .hbm, ⟨6, _⟩ => ⟨S144x1024, .bf16⟩
  | .hbm, ⟨7, _⟩ => ⟨S4x2048x388, .bf16⟩
  | .hbm, ⟨8, _⟩ => ⟨S4x62x32, .bf16⟩
  | .hbm, ⟨9, _⟩ => ⟨S4x64x256, .bf16⟩
  | .hbm, ⟨10, _⟩ => ⟨S4x192x768, .bf16⟩
  | .hbm, ⟨11, _⟩ => ⟨S4x512x128, .bf16⟩
  | .hbm, ⟨12, _⟩ => ⟨S4x256x1024, .bf16⟩
  | .hbm, ⟨13, _⟩ => ⟨S144x1024, .bf16⟩
  | .hbm, ⟨14, _⟩ => ⟨S4x2048x388, .bf16⟩
  | .hbm, ⟨15, _⟩ => ⟨S4x62x32, .bf16⟩
  | .hbm, ⟨16, _⟩ => ⟨S4x64x256, .bf16⟩
  | .hbm, ⟨17, _⟩ => ⟨S4x192x768, .bf16⟩
  | .hbm, ⟨18, _⟩ => ⟨S4x512x128, .bf16⟩
  | .hbm, ⟨19, _⟩ => ⟨S4x256x1024, .bf16⟩
  | .hbm, ⟨20, _⟩ => ⟨S144x1024, .bf16⟩
  | .local _ .vmem, ⟨0, _⟩ => ⟨S1x2048x388, .bf16⟩
  | .local _ .vmem, ⟨1, _⟩ => ⟨S1x2048x388, .bf16⟩
  | .local _ .vmem, ⟨2, _⟩ => ⟨S1x62x32, .bf16⟩
  | .local _ .vmem, ⟨3, _⟩ => ⟨S1x62x32, .bf16⟩
  | .local _ .vmem, ⟨4, _⟩ => ⟨S1x64x256, .bf16⟩
  | .local _ .vmem, ⟨5, _⟩ => ⟨S1x64x256, .bf16⟩
  | .local _ .vmem, ⟨6, _⟩ => ⟨S1x192x768, .bf16⟩
  | .local _ .vmem, ⟨7, _⟩ => ⟨S1x192x768, .bf16⟩
  | .local _ .vmem, ⟨8, _⟩ => ⟨S1x512x128, .bf16⟩
  | .local _ .vmem, ⟨9, _⟩ => ⟨S1x512x128, .bf16⟩
  | .local _ .vmem, ⟨10, _⟩ => ⟨S1x256x1024, .bf16⟩
  | .local _ .vmem, ⟨11, _⟩ => ⟨S1x256x1024, .bf16⟩
  | .local _ .vmem, ⟨12, _⟩ => ⟨S144x1024, .bf16⟩
  | .local _ .vmem, ⟨13, _⟩ => ⟨S1x2048x388, .bf16⟩
  | .local _ .vmem, ⟨14, _⟩ => ⟨S1x2048x388, .bf16⟩
  | .local _ .vmem, ⟨15, _⟩ => ⟨S1x62x32, .bf16⟩
  | .local _ .vmem, ⟨16, _⟩ => ⟨S1x62x32, .bf16⟩
  | .local _ .vmem, ⟨17, _⟩ => ⟨S1x64x256, .bf16⟩
  | .local _ .vmem, ⟨18, _⟩ => ⟨S1x64x256, .bf16⟩
  | .local _ .vmem, ⟨19, _⟩ => ⟨S1x192x768, .bf16⟩
  | .local _ .vmem, ⟨20, _⟩ => ⟨S1x192x768, .bf16⟩
  | .local _ .vmem, ⟨21, _⟩ => ⟨S1x512x128, .bf16⟩
  | .local _ .vmem, ⟨22, _⟩ => ⟨S1x512x128, .bf16⟩
  | .local _ .vmem, ⟨23, _⟩ => ⟨S1x256x1024, .bf16⟩
  | .local _ .vmem, ⟨24, _⟩ => ⟨S1x256x1024, .bf16⟩
  | .local _ .vmem, ⟨25, _⟩ => ⟨S144x1024, .bf16⟩
  | .local _ .vmem, ⟨26, _⟩ => ⟨S1x2048x388, .bf16⟩
  | .local _ .vmem, ⟨27, _⟩ => ⟨S1x2048x388, .bf16⟩
  | .local _ .vmem, ⟨28, _⟩ => ⟨S1x62x32, .bf16⟩
  | .local _ .vmem, ⟨29, _⟩ => ⟨S1x62x32, .bf16⟩
  | .local _ .vmem, ⟨30, _⟩ => ⟨S1x64x256, .bf16⟩
  | .local _ .vmem, ⟨31, _⟩ => ⟨S1x64x256, .bf16⟩
  | .local _ .vmem, ⟨32, _⟩ => ⟨S1x192x768, .bf16⟩
  | .local _ .vmem, ⟨33, _⟩ => ⟨S1x192x768, .bf16⟩
  | .local _ .vmem, ⟨34, _⟩ => ⟨S1x512x128, .bf16⟩
  | .local _ .vmem, ⟨35, _⟩ => ⟨S1x512x128, .bf16⟩
  | .local _ .vmem, ⟨36, _⟩ => ⟨S1x256x1024, .bf16⟩
  | .local _ .vmem, ⟨37, _⟩ => ⟨S1x256x1024, .bf16⟩
  | .local _ .vmem, ⟨38, _⟩ => ⟨S144x1024, .bf16⟩
  | _, _ => ⟨S4x2048x388, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x388 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x62x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S144x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x388 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x62x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x192x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S144x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2048x388 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x62x32 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x192x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S144x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference15.lean ====
abbrev S4x2048x388 : Shape := ⟨3, ![4, 2048, 388]⟩
abbrev S4x62x32 : Shape := ⟨3, ![4, 62, 32]⟩
abbrev S4x64x256 : Shape := ⟨3, ![4, 64, 256]⟩
abbrev S4x192x768 : Shape := ⟨3, ![4, 192, 768]⟩
abbrev S4x512x128 : Shape := ⟨3, ![4, 512, 128]⟩
abbrev S4x256x1024 : Shape := ⟨3, ![4, 256, 1024]⟩
abbrev S144x1024 : Shape := ⟨2, ![144, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x388, .bf16⟩
  | .hbm, ⟨1, _⟩ => ⟨S4x62x32, .bf16⟩
  | .hbm, ⟨2, _⟩ => ⟨S4x64x256, .bf16⟩
  | .hbm, ⟨3, _⟩ => ⟨S4x192x768, .bf16⟩
  | .hbm, ⟨4, _⟩ => ⟨S4x512x128, .bf16⟩
  | .hbm, ⟨5, _⟩ => ⟨S4x256x1024, .bf16⟩
  | .hbm, ⟨6, _⟩ => ⟨S144x1024, .bf16⟩
  | .hbm, ⟨7, _⟩ => ⟨S4x2048x388, .bf16⟩
  | .hbm, ⟨8, _⟩ => ⟨S4x62x32, .bf16⟩
  | .hbm, ⟨9, _⟩ => ⟨S4x64x256, .bf16⟩
  | .hbm, ⟨10, _⟩ => ⟨S4x192x768, .bf16⟩
  | .hbm, ⟨11, _⟩ => ⟨S4x512x128, .bf16⟩
  | .hbm, ⟨12, _⟩ => ⟨S4x256x1024, .bf16⟩
  | .hbm, ⟨13, _⟩ => ⟨S144x1024, .bf16⟩
  | .hbm, ⟨14, _⟩ => ⟨S4x2048x388, .f32⟩
  | .hbm, ⟨15, _⟩ => ⟨S4x2048x388, .f32⟩
  | .hbm, ⟨16, _⟩ => ⟨S4x2048x388, .f32⟩
  | .hbm, ⟨17, _⟩ => ⟨S4x2048x388, .bf16⟩
  | .hbm, ⟨18, _⟩ => ⟨S4x62x32, .f32⟩
  | .hbm, ⟨19, _⟩ => ⟨S4x62x32, .f32⟩
  | .hbm, ⟨20, _⟩ => ⟨S4x62x32, .f32⟩
  | .hbm, ⟨21, _⟩ => ⟨S4x62x32, .bf16⟩
  | .hbm, ⟨22, _⟩ => ⟨S4x64x256, .f32⟩
  | .hbm, ⟨23, _⟩ => ⟨S4x64x256, .f32⟩
  | .hbm, ⟨24, _⟩ => ⟨S4x64x256, .f32⟩
  | .hbm, ⟨25, _⟩ => ⟨S4x64x256, .bf16⟩
  | .hbm, ⟨26, _⟩ => ⟨S4x192x768, .f32⟩
  | .hbm, ⟨27, _⟩ => ⟨S4x192x768, .f32⟩
  | .hbm, ⟨28, _⟩ => ⟨S4x192x768, .f32⟩
  | .hbm, ⟨29, _⟩ => ⟨S4x192x768, .bf16⟩
  | .hbm, ⟨30, _⟩ => ⟨S4x512x128, .f32⟩
  | .hbm, ⟨31, _⟩ => ⟨S4x512x128, .f32⟩
  | .hbm, ⟨32, _⟩ => ⟨S4x512x128, .f32⟩
  | .hbm, ⟨33, _⟩ => ⟨S4x512x128, .bf16⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x256x1024, .bf16⟩
  | .hbm, ⟨38, _⟩ => ⟨S144x1024, .f32⟩
  | .hbm, ⟨39, _⟩ => ⟨S144x1024, .f32⟩
  | .hbm, ⟨40, _⟩ => ⟨S144x1024, .f32⟩
  | .hbm, ⟨41, _⟩ => ⟨S144x1024, .bf16⟩
  | _, _ => ⟨S4x2048x388, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Offs.lean ====
/-
  The row offsets of the loop's blocks in closed form: trip `k` of key block `j` takes the row blocks `j + 1 + 2k` and
  `j + 2 + 2k`, so that its rectangles begin at row 512 times that.
-/
module

public import proofs.«01_k».proof.Proof.Gen.KernelIdeal.Skeleton
public import Idealize.ShloMosaic.Lib.Exec
public import Idealize.ShloMosaic.Lib.Tactic

@[expose] public section

noncomputable section

namespace Cert.Proof.Attn

open Cert.KernelIdeal Cert.KernelIdeal.Gen
open Idealize.ShloMosaic

theorem off4_1 : ∀ (i : grid0.Coords) (k : Fin (k0_t1_loop i).trips), k0_off4 i k 1#32 = ![512 * ((i 1).val + 1 + 2 * k.val), 0] := by decide +kernel
theorem off4_2 : ∀ (i : grid0.Coords) (k : Fin (k0_t1_loop i).trips), k0_off4 i k 2#32 = ![512 * ((i 1).val + 2 + 2 * k.val), 0] := by decide +kernel
theorem off5_1 : ∀ (i : grid0.Coords) (k : Fin (k0_t1_loop i).trips), k0_off5 i k 1#32 = ![512 * ((i 1).val + 1 + 2 * k.val), 0] := by decide +kernel
theorem off5_2 : ∀ (i : grid0.Coords) (k : Fin (k0_t1_loop i).trips), k0_off5 i k 2#32 = ![512 * ((i 1).val + 2 + 2 * k.val), 0] := by decide +kernel
theorem off6_1 : ∀ (i : grid0.Coords) (k : Fin (k0_t1_loop i).trips), k0_off6 i k 1#32 = ![512 * ((i 1).val + 1 + 2 * k.val), 128] := by decide +kernel
theorem off6_2 : ∀ (i : grid0.Coords) (k : Fin (k0_t1_loop i).trips), k0_off6 i k 2#32 = ![512 * ((i 1).val + 2 + 2 * k.val), 128] := by decide +kernel
theorem trips_eq : ∀ i : grid0.Coords, (k0_t1_loop i).trips = (15 - (i 1).val) / 2 := by decide +kernel

instance closedOff4_1 (i : grid0.Coords) (k : Fin (k0_t1_loop i).trips) : ClosedOff (k0_off4 i k 1#32) := ⟨_, off4_1 i k⟩
instance closedOff4_2 (i : grid0.Coords) (k : Fin (k0_t1_loop i).trips) : ClosedOff (k0_off4 i k 2#32) := ⟨_, off4_2 i k⟩
instance closedOff5_1 (i : grid0.Coords) (k : Fin (k0_t1_loop i).trips) : ClosedOff (k0_off5 i k 1#32) := ⟨_, off5_1 i k⟩
instance closedOff5_2 (i : grid0.Coords) (k : Fin (k0_t1_loop i).trips) : ClosedOff (k0_off5 i k 2#32) := ⟨_, off5_2 i k⟩
instance closedOff6_1 (i : grid0.Coords) (k : Fin (k0_t1_loop i).trips) : ClosedOff (k0_off6 i k 1#32) := ⟨_, off6_1 i k⟩
instance closedOff6_2 (i : grid0.Coords) (k : Fin (k0_t1_loop i).trips) : ClosedOff (k0_off6 i k 2#32) := ⟨_, off6_2 i k⟩

end Cert.Proof.Attn

end
-- ==== Proof.Block.lean ====
module

public import proofs.«01_k».proof.Proof.Offs
public import proofs.«01_k».proof.Proof.Gen.KernelIdeal.Loops
public import Idealize.ShloMosaic.Lib.VecWindow

/-! What one block of queries adds, as a function of the values of the kernel's buffers.

A point of the grid holds one block of 512 keys of a pair of heads. For each block of 512 queries from its own
on it recomputes the probabilities and adds its share into the three gradients. `blk` is that step on values. -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- The gradients a point holds: those of the queries, of its keys, of its values. -/
abbrev St (F : FTy → Type) := Vec F S8192x256 .f32 × Vec F S512x256 .f32 × Vec F S512x128 .f32

/-- The lane of an element. -/
def lanes : IVec S512x128 32 := iota .tc S512x128 32 [1] iota_S512x128_d1_w32

theorem inb_128 (r : Fin 16) : ∀ a, (![512 * r.val, 0] : Fin 2 → ℕ) a + S512x128.size a ≤ S8192x128.size a := by
  have := r.isLt
  intro a; fin_cases a
  · show 512 * r.val + 512 ≤ 8192; omega
  · show 0 + 128 ≤ 128; omega

theorem inb_256 (r : Fin 16) (o : ℕ) (ho : o + 128 ≤ 256) : ∀ a, (![512 * r.val, o] : Fin 2 → ℕ) a + S512x128.size a ≤ S8192x256.size a := by
  have := r.isLt
  intro a; fin_cases a
  · show 512 * r.val + 512 ≤ 8192; omega
  · show o + 128 ≤ 256; omega

theorem inb_512 (o : ℕ) (ho : o + 128 ≤ 256) : ∀ a, (![0, o] : Fin 2 → ℕ) a + S512x128.size a ≤ S512x256.size a := by
  intro a; fin_cases a
  · show 0 + 512 ≤ 512; omega
  · show o + 128 ≤ 256; omega

section
variable {e : EltTy}

/-- Block `r` of the rows of a buffer of 128 lanes. -/
def rows (x : Vec F S8192x128 e) (r : Fin 16) : Vec F S512x128 e := VecWindow.window x ![512 * r.val, 0] S512x128.size (inb_128 r)
/-- Block `r` of the rows, the first head's lanes. -/
def rows0 (x : Vec F S8192x256 e) (r : Fin 16) : Vec F S512x128 e := VecWindow.window x ![512 * r.val, 0] S512x128.size (inb_256 r 0 (by omega))
/-- Block `r` of the rows, the second head's lanes. -/
def rows1 (x : Vec F S8192x256 e) (r : Fin 16) : Vec F S512x128 e := VecWindow.window x ![512 * r.val, 128] S512x128.size (inb_256 r 128 (by omega))
/-- The first head's lanes of a block. -/
def half0 (x : Vec F S512x256 e) : Vec F S512x128 e := VecWindow.window x ![0, 0] S512x128.size (inb_512 0 (by omega))
/-- The second head's lanes of a block. -/
def half1 (x : Vec F S512x256 e) : Vec F S512x128 e := VecWindow.window x ![0, 128] S512x128.size (inb_512 128 (by omega))

/-- The cast of a block to its own shape. -/
def sc (x : Vec F S512x128 e) : Vec F S512x128 e := shapeCast S512x128 x shapeCasts_S512x128_S512x128
end

/-- The upstream gradient on the first head's lanes, zero on the others. -/
def doA (ln : IVec S512x128 32) (d : Vec F S512x128 .bf16) : Vec F S512x128 .bf16 :=
  select (cmpi .slt ln (broadcast S512x128 64#32)) d (broadcast S512x128 (Scalar.ofBits .bf16 0x0000#16 : F .bf16))
/-- The upstream gradient on the second head's lanes, zero on the others. -/
def doB (ln : IVec S512x128 32) (d : Vec F S512x128 .bf16) : Vec F S512x128 .bf16 :=
  select (cmpi .sge ln (broadcast S512x128 64#32)) d (broadcast S512x128 (Scalar.ofBits .bf16 0x0000#16 : F .bf16))

/-- Rows by rows: every row of the one with every row of the other. -/
def nt (a b : Vec F S512x128 .bf16) : FVec F S512x512 .f32 :=
  matmul dot_S512x128_S512x128_S512x512_1_1_0_0_n_n none a b (constant S512x512 .f32 0x00000000#32)
/-- The transpose of a square times a block. -/
def tn (a : FVec F S512x512 .bf16) (b : Vec F S512x128 .bf16) : FVec F S512x128 .f32 :=
  matmul dot_S512x512_S512x128_S512x128_0_0_1_1_n_n none a b (constant S512x128 .f32 0x00000000#32)
/-- A square times a block. -/
def nn (a : FVec F S512x512 .bf16) (b : Vec F S512x128 .bf16) : FVec F S512x128 .f32 :=
  matmul dot_S512x512_S512x128_S512x128_1_0_0_1_n_n none a b (constant S512x128 .f32 0x00000000#32)

/-- A column spread over a square. -/
def spread (x : FVec F S512x1 .f32) : FVec F S512x512 .f32 := broadcastTo S512x512 x broadcasts_S512x1_S512x512

/-- Zero above the diagonal. -/
def low (p : FVec F S512x512 .f32) : FVec F S512x512 .f32 :=
  select (cmpi .sle (iota .tc S512x512 32 [1] iota_S512x512_d1_w32) (iota .tc S512x512 32 [0] iota_S512x512_d0_w32)) p
    (broadcast S512x512 (Scalar.ofBits .f32 0x00000000#32 : F .f32))

/-- The probabilities of the first head: `st` carries the logarithm of the sum at lane 0. -/
def prA (msk : FVec F S512x512 .f32 → FVec F S512x512 .f32) (st : Vec F S512x128 .f32) (q k : Vec F S512x128 .bf16) : FVec F S512x512 .f32 :=
  msk (exp (subf (nt q k) (spread (extractStridedSlice S512x1 ![0, 0] st slices_S512x128_o0_0_S512x1))))
/-- The probabilities of the second head: the logarithm of its sum stands at lane 64. -/
def prB (msk : FVec F S512x512 .f32 → FVec F S512x512 .f32) (st : Vec F S512x128 .f32) (q k : Vec F S512x128 .bf16) : FVec F S512x512 .f32 :=
  msk (exp (subf (nt q k) (spread (extractStridedSlice S512x1 ![0, 64] st slices_S512x128_o0_64_S512x1))))

/-- The scores' gradient of the first head: lane 32 carries the sum of output times upstream. -/
def dsA (st : Vec F S512x128 .f32) (p : FVec F S512x512 .f32) (d v : Vec F S512x128 .bf16) : FVec F S512x512 .bf16 :=
  truncf .bf16 (mulf p (subf (nt d v) (spread (extractStridedSlice S512x1 ![0, 32] st slices_S512x128_o0_32_S512x1)))) bitsLt_bf16_f32
/-- The scores' gradient of the second head: its sum stands at lane 96. -/
def dsB (st : Vec F S512x128 .f32) (p : FVec F S512x512 .f32) (d v : Vec F S512x128 .bf16) : FVec F S512x512 .bf16 :=
  truncf .bf16 (mulf p (subf (nt d v) (spread (extractStridedSlice S512x1 ![0, 96] st slices_S512x128_o0_96_S512x1)))) bitsLt_bf16_f32

section
variable (msk : FVec F S512x512 .f32 → FVec F S512x512 .f32) (ln : IVec S512x128 32)
  (x2 : Vec F S8192x256 .bf16) (x3 : Vec F S512x256 .bf16) (x4 : Vec F S512x128 .bf16) (x5 : Vec F S8192x128 .bf16) (x6 : Vec F S8192x128 .f32)

/-- Block `r`'s probabilities, first head. -/
def bpA (r : Fin 16) : FVec F S512x512 .f32 := prA msk (sc (rows x6 r)) (rows0 x2 r) (half0 x3)
/-- Block `r`'s probabilities, second head. -/
def bpB (r : Fin 16) : FVec F S512x512 .f32 := prB msk (sc (rows x6 r)) (rows1 x2 r) (half1 x3)
/-- Block `r`'s scores' gradient, first head. -/
def bdA (r : Fin 16) : FVec F S512x512 .bf16 := dsA (sc (rows x6 r)) (bpA msk x2 x3 x6 r) (doA ln (rows x5 r)) x4
/-- Block `r`'s scores' gradient, second head. -/
def bdB (r : Fin 16) : FVec F S512x512 .bf16 := dsB (sc (rows x6 r)) (bpB msk x2 x3 x6 r) (doB ln (rows x5 r)) x4

/-- What block `r` adds to the values' gradient. -/
def bdv (r : Fin 16) : FVec F S512x128 .f32 :=
  addf (tn (truncf .bf16 (bpA msk x2 x3 x6 r) bitsLt_bf16_f32) (doA ln (rows x5 r)))
    (tn (truncf .bf16 (bpB msk x2 x3 x6 r) bitsLt_bf16_f32) (doB ln (rows x5 r)))

/-- One block of queries: its share added into the three gradients. -/
def blk (r : Fin 16) (s : St F) : St F :=
  (VecWindow.put (VecWindow.put s.1 ![512 * r.val, 0] S512x128.size (addf (sc (rows0 s.1 r)) (nn (bdA msk ln x2 x3 x4 x5 x6 r) (half0 x3))))
      ![512 * r.val, 128] S512x128.size (addf (sc (rows1 s.1 r)) (nn (bdB msk ln x2 x3 x4 x5 x6 r) (half1 x3))),
    VecWindow.put (VecWindow.put s.2.1 ![0, 0] S512x128.size (addf (sc (half0 s.2.1)) (tn (bdA msk ln x2 x3 x4 x5 x6 r) (rows0 x2 r))))
      ![0, 128] S512x128.size (addf (sc (half1 s.2.1)) (tn (bdB msk ln x2 x3 x4 x5 x6 r) (rows1 x2 r))),
    addf (sc s.2.2) (bdv msk ln x2 x3 x5 x6 r))

/-- The row block a trip of the loop takes first (`d = 1`) or second (`d = 2`). -/
def rowOf (i : grid0.Coords) (d k : ℕ) : Fin 16 := ⟨((i 1).val + d + 2 * k) % 16, Nat.mod_lt _ (by omega)⟩

/-- One trip of the loop: two blocks of queries, all of them past the diagonal. -/
def trip2 (i : grid0.Coords) (k : ℕ) (s : St F) : St F :=
  blk id ln x2 x3 x4 x5 x6 (rowOf i 2 k) (blk id ln x2 x3 x4 x5 x6 (rowOf i 1 k) s)

/-- The gradients before trip `k` of the loop. -/
def before (i : grid0.Coords) (s : St F) : ℕ → St F
  | 0 => s
  | k + 1 => trip2 ln x2 x3 x4 x5 x6 i k (before i s k)
end

theorem rowOf_val (i : grid0.Coords) (d k : ℕ) (hd : d ≤ 2) (hk : k < (k0_t1_loop i).trips) : (rowOf i d k).val = (i 1).val + d + 2 * k := by
  rw [trips_eq] at hk
  have : (i 1).val < 16 := (i 1).isLt
  show ((i 1).val + d + 2 * k) % 16 = _
  exact Nat.mod_eq_of_lt (by omega)

section
variable {e : EltTy}

/-- Of the two halves put one after the other, the first is read back. -/
theorem half0_put (x : Vec F S512x256 e) (a b : Vec F S512x128 e) :
    half0 (VecWindow.put (VecWindow.put x ![0, 0] S512x128.size a) ![0, 128] S512x128.size b : Vec F S512x256 e) = a := by
  unfold half0
  rw [VecWindow.window_put_of_disjoint _ _ _ _ _ _ _ (1 : Fin 2) (Or.inl (le_refl 128))]
  exact VecWindow.window_put_same _ _ _ _ _
/-- Of the two halves put one after the other, the second is read back. -/
theorem half1_put (x : Vec F S512x256 e) (b : Vec F S512x128 e) :
    half1 (VecWindow.put x ![0, 128] S512x128.size b : Vec F S512x256 e) = b := VecWindow.window_put_same _ _ _ _ _
/-- The first half put leaves the second. -/
theorem half1_put0 (x : Vec F S512x256 e) (a : Vec F S512x128 e) :
    half1 (VecWindow.put x ![0, 0] S512x128.size a : Vec F S512x256 e) = half1 x :=
  VecWindow.window_put_of_disjoint _ _ _ _ _ _ _ (1 : Fin 2) (Or.inr (le_refl 128))

/-- A row block is not changed by what another one is given. -/
theorem rows0_put (x : Vec F S8192x256 e) (r r' : Fin 16) (h : r ≠ r') (o : ℕ) (b : Vec F S512x128 e) :
    rows0 (VecWindow.put x ![512 * r'.val, o] S512x128.size b : Vec F S8192x256 e) r = rows0 x r := by
  have h' : r.val ≠ r'.val := fun hh => h (Fin.ext hh)
  refine VecWindow.window_put_of_disjoint _ _ _ _ _ _ _ (0 : Fin 2) ?_
  show 512 * r.val + 512 ≤ 512 * r'.val ∨ 512 * r'.val + 512 ≤ 512 * r.val
  omega
theorem rows1_put (x : Vec F S8192x256 e) (r r' : Fin 16) (h : r ≠ r') (o : ℕ) (b : Vec F S512x128 e) :
    rows1 (VecWindow.put x ![512 * r'.val, o] S512x128.size b : Vec F S8192x256 e) r = rows1 x r := by
  have h' : r.val ≠ r'.val := fun hh => h (Fin.ext hh)
  refine VecWindow.window_put_of_disjoint _ _ _ _ _ _ _ (0 : Fin 2) ?_
  show 512 * r.val + 512 ≤ 512 * r'.val ∨ 512 * r'.val + 512 ≤ 512 * r.val
  omega
end

theorem rowOf_ne (i : grid0.Coords) (k : ℕ) (hk : k < (k0_t1_loop i).trips) : rowOf i 2 k ≠ rowOf i 1 k := fun h => by
  have := congrArg Fin.val h
  rw [rowOf_val i 2 k (by omega) hk, rowOf_val i 1 k (by omega) hk] at this
  omega

end Cert.Proof.Attn
end
-- ==== Proof.Trip.lean ====
module

public import proofs.«01_k».proof.Proof.Block
public import Idealize.ShloMosaic.Lib.Exec

/-! One trip of the kernel's loop, from the buffers' values to the buffers' values. -/

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The whole of a buffer, held at value `X`. -/
abbrev hold (c : Dev nD) {S : Shape} {e : EltTy} (M : Memref sig .tc .vmem S e) (X : S.Idx → Elt F e) : sProp 𝕄 :=
  M.view.loc (c : Thread nD τ) ↦[M.view.set]{fullShare} M.view.rep X

section
variable (c : Dev nD) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .f32) (harg6 : arg6.IsWhole) (arg7 : Memref sig .tc .vmem S8192x256 .f32) (harg7 : arg7.IsWhole)
  (arg8 : Memref sig .tc .vmem S512x256 .f32) (harg8 : arg8.IsWhole) (arg9 : Memref sig .tc .vmem S512x128 .f32) (harg9 : arg9.IsWhole)
  (arg1 : BitVec 32) (v9 : IVec S512x128 32)
  (x2 : Vec F S8192x256 .bf16) (x3 : Vec F S512x256 .bf16) (x4 : Vec F S512x128 .bf16) (x5 : Vec F S8192x128 .bf16) (x6 : Vec F S8192x128 .f32)

/-- The eight buffers of a point, the inputs at their values and the outputs at `s`. -/
def held (s : St F) : sProp 𝕄 :=
  iprop(hold c arg2 x2 ∗ hold c arg3 x3 ∗ hold c arg4 x4 ∗ hold c arg5 x5 ∗ hold c arg6 x6 ∗ hold c arg7 s.1 ∗ hold c arg8 s.2.1 ∗ hold c arg9 s.2.2)

section reads
variable {e : EltTy}

theorem offRow (d k : ℕ) (hd : d ≤ 2) (hk : k < (k0_t1_loop i).trips) : 512 * ((i 1).val + d + 2 * k) = 512 * (rowOf i d k).val := by
  rw [rowOf_val i d k hd hk]

theorem off4r_1 (k : Fin (k0_t1_loop i).trips) : k0_off4 i k 1#32 = ![512 * (rowOf i 1 k.val).val, 0] := by rw [off4_1, offRow i 1 k.val (by omega) k.isLt]
theorem off4r_2 (k : Fin (k0_t1_loop i).trips) : k0_off4 i k 2#32 = ![512 * (rowOf i 2 k.val).val, 0] := by rw [off4_2, offRow i 2 k.val (by omega) k.isLt]
theorem off5r_1 (k : Fin (k0_t1_loop i).trips) : k0_off5 i k 1#32 = ![512 * (rowOf i 1 k.val).val, 0] := by rw [off5_1, offRow i 1 k.val (by omega) k.isLt]
theorem off5r_2 (k : Fin (k0_t1_loop i).trips) : k0_off5 i k 2#32 = ![512 * (rowOf i 2 k.val).val, 0] := by rw [off5_2, offRow i 2 k.val (by omega) k.isLt]
theorem off6r_1 (k : Fin (k0_t1_loop i).trips) : k0_off6 i k 1#32 = ![512 * (rowOf i 1 k.val).val, 128] := by rw [off6_1, offRow i 1 k.val (by omega) k.isLt]
theorem off6r_2 (k : Fin (k0_t1_loop i).trips) : k0_off6 i k 2#32 = ![512 * (rowOf i 2 k.val).val, 128] := by rw [off6_2, offRow i 2 k.val (by omega) k.isLt]

/-- A block of rows read through a printed offset. -/
theorem read_rows (M : Memref sig .tc .vmem S8192x128 e) (x : Vec F S8192x128 e) (r : Fin 16) {off : Fin 2 → ℕ} (h : off = ![512 * r.val, 0])
    (inb : ∀ a, off a + S512x128.size a ≤ S8192x128.size a) :
    M.view.readAt (Elt F) (Rect.unit (s := S8192x128) off S512x128.size inb).toLoadRect (M.view.rep x) = rows x r := View.readAt_rep_unit M.view x inb h _
theorem read_rows0 (M : Memref sig .tc .vmem S8192x256 e) (x : Vec F S8192x256 e) (r : Fin 16) {off : Fin 2 → ℕ} (h : off = ![512 * r.val, 0])
    (inb : ∀ a, off a + S512x128.size a ≤ S8192x256.size a) :
    M.view.readAt (Elt F) (Rect.unit (s := S8192x256) off S512x128.size inb).toLoadRect (M.view.rep x) = rows0 x r := View.readAt_rep_unit M.view x inb h _
theorem read_rows1 (M : Memref sig .tc .vmem S8192x256 e) (x : Vec F S8192x256 e) (r : Fin 16) {off : Fin 2 → ℕ} (h : off = ![512 * r.val, 128])
    (inb : ∀ a, off a + S512x128.size a ≤ S8192x256.size a) :
    M.view.readAt (Elt F) (Rect.unit (s := S8192x256) off S512x128.size inb).toLoadRect (M.view.rep x) = rows1 x r := View.readAt_rep_unit M.view x inb h _
theorem read_half0 (M : Memref sig .tc .vmem S512x256 e) (x : Vec F S512x256 e) (inb : ∀ a, (![0, 0] : Fin 2 → ℕ) a + S512x128.size a ≤ S512x256.size a) :
    M.view.readAt (Elt F) (Rect.unit (s := S512x256) ![0, 0] S512x128.size inb).toLoadRect (M.view.rep x) = half0 x := View.readAt_rep_unit M.view x inb rfl _
theorem read_half1 (M : Memref sig .tc .vmem S512x256 e) (x : Vec F S512x256 e) (inb : ∀ a, (![0, 128] : Fin 2 → ℕ) a + S512x128.size a ≤ S512x256.size a) :
    M.view.readAt (Elt F) (Rect.unit (s := S512x256) ![0, 128] S512x128.size inb).toLoadRect (M.view.rep x) = half1 x := View.readAt_rep_unit M.view x inb rfl _
theorem read_all (M : Memref sig .tc .vmem S512x128 e) (x : Vec F S512x128 e) (inb : ∀ a, (![0, 0] : Fin 2 → ℕ) a + S512x128.size a ≤ S512x128.size a) :
    M.view.readAt (Elt F) (Rect.unit (s := S512x128) ![0, 0] S512x128.size inb).toLoadRect (M.view.rep x) = x := View.readAt_rep_full M.view x inb

/-- A read of a buffer some of whose pieces were stored, as a window of its value. -/
theorem readCov_window {S : Shape} (M : Memref sig .tc .vmem S e) (L : List (View.Piece (Elt F) S e)) {off size : Fin S.rank → ℕ} (inb : ∀ a, off a + size a ≤ S.size a) :
    M.view.readCov L (Rect.unit off size inb).toLoadRect = VecWindow.window (M.view.read (Elt F) (M.view.writes (Elt F) M.view.junk L)) off size inb := rfl
end reads

theorem trip (k : Fin (k0_t1_loop i).trips) (s : St F) :
    held c arg2 arg3 arg4 arg5 arg6 arg7 arg8 arg9 x2 x3 x4 x5 x6 s
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg1 v9 k ())
          (fun _ => held c arg2 arg3 arg4 arg5 arg6 arg7 arg8 arg9 x2 x3 x4 x5 x6 (trip2 v9 x2 x3 x4 x5 x6 i k.val s)) := by
  unfold held
  obtain ⟨x7, x8, x9⟩ := s
  iintro ⟨H2, H3, H4, H5, H6, H7, H8, H9⟩
  sl_unfold [k0_t1_body]
  sl_exec_parts
  sl_step
  isplitl [H2]; · iexact H2
  isplitl [H3]; · iexact H3
  isplitl [H4]; · iexact H4
  isplitl [H5]; · iexact H5
  isplitl [H6]; · iexact H6
  isplitl [H7]
  · iapply (pointsTo_rep_of_read (c : Thread nD τ) arg7 _ _ _ ?_) $$ H7
    sl_unfold_run_names
    rw [View.read_writes_cons_put _ _ _ _ _ (off6r_2 i k), View.read_writes_cons_put _ _ _ _ _ (off5r_2 i k), View.read_writes_cons_put _ _ _ _ _ (off6r_1 i k),
      View.read_writes_rep_unit _ _ _ _ (off5r_1 i k)]
    simp only [read_rows _ _ _ (off4r_1 i k), read_rows _ _ _ (off4r_2 i k), read_rows0 _ _ _ (off5r_1 i k), read_rows0 _ _ _ (off5r_2 i k),
      read_rows1 _ _ _ (off6r_1 i k), read_rows1 _ _ _ (off6r_2 i k), read_half0 arg3 x3, read_half1 arg3 x3, read_all arg4 x4, read_half0 arg8 x8, read_half1 arg8 x8, read_all arg9 x9]
    unfold trip2 blk
    simp only [rows0_put _ _ _ (rowOf_ne i k.val k.isLt), rows1_put _ _ _ (rowOf_ne i k.val k.isLt)]
    rfl
  isplitl [H8]
  · iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_rep_unit _ _ _ _ rfl]
    simp only [readCov_window, View.read_writes_cons_put _ _ _ _ _ rfl, read_rows _ _ _ (off4r_1 i k), read_rows _ _ _ (off4r_2 i k), read_rows0 _ _ _ (off5r_1 i k), read_rows0 _ _ _ (off5r_2 i k),
      read_rows1 _ _ _ (off6r_1 i k), read_rows1 _ _ _ (off6r_2 i k), read_half0 arg3 x3, read_half1 arg3 x3, read_all arg4 x4, read_half0 arg8 x8, read_half1 arg8 x8, read_all arg9 x9]
    unfold trip2 blk
    have f0 := fun x a b => half0_put (F := F) (e := .f32) x a b
    have f1 := fun x b => half1_put (F := F) (e := .f32) x b
    simp only [f0, f1]
    have e0 := fun x a b => half0_put (F := F) (e := .f32) x a b
    have e1 := fun x b => half1_put (F := F) (e := .f32) x b
    have e2 := fun x b => half1_put0 (F := F) (e := .f32) x b
    unfold half0 at e0
    unfold half1 at e1 e2
    simp only [e0, e1, e2]
    rfl
  · iapply (pointsTo_rep_of_read (c : Thread nD τ) arg9 _ _ _ ?_) $$ H9
    sl_unfold_run_names
    rw [View.read_writes_full]
    simp only [View.readCov_full arg9.view, read_rows _ _ _ (off4r_1 i k), read_rows _ _ _ (off4r_2 i k), read_rows0 _ _ _ (off5r_1 i k), read_rows0 _ _ _ (off5r_2 i k),
      read_rows1 _ _ _ (off6r_1 i k), read_rows1 _ _ _ (off6r_2 i k), read_half0 arg3 x3, read_half1 arg3 x3, read_all arg4 x4, read_half0 arg8 x8, read_half1 arg8 x8, read_all arg9 x9]
    rfl
end

end Cert.Proof.Attn
end
-- ==== Proof.Point.lean ====
module

public import proofs.«01_k».proof.Proof.Trip
public import Idealize.ShloMosaic.Lib.Exec

/-! One grid point of the kernel: the gradients it leaves, as a function of the blocks it reads and the gradients it finds. -/

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

section
variable (c : Dev nD) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .f32) (harg6 : arg6.IsWhole) (arg7 : Memref sig .tc .vmem S8192x256 .f32) (harg7 : arg7.IsWhole)
  (arg8 : Memref sig .tc .vmem S512x256 .f32) (harg8 : arg8.IsWhole) (arg9 : Memref sig .tc .vmem S512x128 .f32) (harg9 : arg9.IsWhole)
  (x2 : Vec F S8192x256 .bf16) (x3 : Vec F S512x256 .bf16) (x4 : Vec F S512x128 .bf16) (x5 : Vec F S8192x128 .bf16) (x6 : Vec F S8192x128 .f32)

/-- The row block on the diagonal of a point. -/
def diagRow (i : grid0.Coords) : Fin 16 := ⟨(i 1).val, (i 1).isLt⟩

/-- The gradients a point starts from: its keys' and values' at zero, the queries' at zero at the first block of keys. -/
def start (i : grid0.Coords) (s : St F) : St F := (if (i 1).val = 0 then k0_pay75 else s.1, k0_pay76, k0_pay77)

/-- The gradients after the loop. -/
def looped (i : grid0.Coords) (s : St F) : St F :=
  before lanes x2 x3 x4 x5 x6 i (blk low lanes x2 x3 x4 x5 x6 (diagRow i) (start i s)) (k0_t1_loop i).trips

/-- The gradients a point leaves, from those it finds: the block on the diagonal, the pairs of blocks past it, and the
    last one where their number is odd. -/
def pt (i : grid0.Coords) (s : St F) : St F :=
  if (15 - (i 1).val) % 2 = 1 then blk id lanes x2 x3 x4 x5 x6 15 (looped x2 x3 x4 x5 x6 i s) else looped x2 x3 x4 x5 x6 i s

/-- The kernel's test that a last block remains. -/
def lastTest (j : ℕ) : BitVec 1 :=
  have v96 : BitVec 32 := Scalar.subi 15#32 (BitVec.ofNat 32 j)
  have v119 : BitVec 1 := Scalar.cmpi CmpIPredicate.eq 2#32 0#32
  have v120 : BitVec 32 := Scalar.select v119 1#32 2#32
  have v121 : BitVec 32 := Scalar.remsi v96 v120
  have v122 : BitVec 1 := Scalar.cmpi CmpIPredicate.ne v121 0#32
  have v123 : BitVec 1 := Scalar.cmpi CmpIPredicate.slt v121 0#32
  have v124 : BitVec 1 := Scalar.cmpi CmpIPredicate.slt v120 0#32
  have v125 : BitVec 1 := Scalar.xori v123 v124
  have v126 : BitVec 1 := Scalar.andi v125 v122
  have v127 : BitVec 32 := Scalar.addi v121 v120
  have v128 : BitVec 32 := Scalar.select v126 v127 v121
  have v129 : BitVec 1 := Scalar.cmpi CmpIPredicate.eq v128 1#32
  have v130 : BitVec 32 := Scalar.extui v129
  Scalar.cmpi CmpIPredicate.ne v130 0#32

theorem cond2 : ∀ j : Fin 16, (lastTest j.val = 1#1) ↔ (15 - j.val) % 2 = 1 := by decide +kernel

theorem cond1 : ∀ j : Fin 16, (Scalar.cmpi .ne (Scalar.extui (Scalar.cmpi .eq (BitVec.ofNat 32 j.val) 0#32) : BitVec 32) 0#32 = 1#1) ↔ j.val = 0 := by
  decide +kernel

/-- A whole block put is the block. -/
theorem put_all (x w : Vec F S512x256 .f32) : (VecWindow.put x ![0, 0] S512x256.size w : Vec F S512x256 .f32) = w := by
  funext y
  have h : ∀ a, (![0, 0] : Fin 2 → ℕ) a ≤ (y a).val ∧ (y a).val < (![0, 0] : Fin 2 → ℕ) a + S512x256.size a := fun a => by
    have := (y a).isLt
    fin_cases a
    · exact ⟨Nat.zero_le _, (Nat.zero_add _).symm ▸ (y 0).isLt⟩
    · exact ⟨Nat.zero_le _, (Nat.zero_add _).symm ▸ (y 1).isLt⟩
  unfold VecWindow.put
  rw [dif_pos h]
  congr 1
  funext a
  fin_cases a <;> exact Fin.ext (Nat.sub_zero _)

/-- The queries' buffer after the kernel's first test. -/
theorem read_start (x7 : Vec F S8192x256 .f32) (x8 : Vec F S512x256 .f32) (x9 : Vec F S512x128 .f32) (inb : ∀ a, (![0, 0] : Fin 2 → ℕ) a + S8192x256.size a ≤ S8192x256.size a) :
    arg7.view.read (Elt F) (if hc : Scalar.cmpi .ne (Scalar.extui (Scalar.cmpi .eq (BitVec.ofNat 32 (i 1).val) 0#32) : BitVec 32) 0#32 = 1#1 then
        arg7.view.writes (Elt F) (arg7.view.rep x7) [⟨Rect.unit (s := S8192x256) ![0, 0] S8192x256.size inb, k0_pay75 (F := F)⟩] else arg7.view.rep x7)
      = (start i (x7, x8, x9)).1 := by
  have h := cond1 ⟨(i 1).val, (i 1).isLt⟩
  unfold start
  by_cases h0 : (i 1).val = 0
  · rw [dif_pos (h.mpr h0), if_pos h0, View.read_writes_full]
  · rw [dif_neg (fun hh => h0 (h.mp hh)), if_neg h0, View.read_rep]

theorem point (s : St F) :
    held c arg2 arg3 arg4 arg5 arg6 arg7 arg8 arg9 x2 x3 x4 x5 x6 s
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9)
          (fun _ => held c arg2 arg3 arg4 arg5 arg6 arg7 arg8 arg9 x2 x3 x4 x5 x6 (pt x2 x3 x4 x5 x6 i s)) := by
  unfold held
  obtain ⟨x7, x8, x9⟩ := s
  iintro ⟨H2, H3, H4, H5, H6, H7, H8, H9⟩
  sl_unfold [cc0_attn_bwd]
  sl_exec_parts
  iapply (Scf.wp_for_bind _ _ _ _ _ _ (k0_t1_ok i) PUnit.unit _
    (fun k _ => held c arg2 arg3 arg4 arg5 arg6 arg7 arg8 arg9 x2 x3 x4 x5 x6 (before lanes x2 x3 x4 x5 x6 i (blk low lanes x2 x3 x4 x5 x6 (diagRow i) (start i (x7, x8, x9))) k))
    (fun k _ => trip c i arg2 harg2 arg3 harg3 arg4 harg4 arg5 harg5 arg6 harg6 arg7 harg7 arg8 harg8 arg9 harg9 (BitVec.ofNat 32 (i 1).val) lanes x2 x3 x4 x5 x6 k _)) $$ [H2 H3 H4 H5 H6 H7 H8 H9]
  · unfold held
    isplitl [H2]; · iexact H2
    isplitl [H3]; · iexact H3
    isplitl [H4]; · iexact H4
    isplitl [H5]; · iexact H5
    isplitl [H6]; · iexact H6
    isplitl [H7]
    · iapply (pointsTo_rep_of_read (c : Thread nD τ) arg7 _ _ _ ?_) $$ H7
      sl_unfold_run_names
      have hr := read_start i arg7 x7 x8 x9 inb_S8192x256_S8192x256_0_0
      generalize hf : (if hc : Scalar.cmpi .ne (Scalar.extui (Scalar.cmpi .eq (BitVec.ofNat 32 (i 1).val) 0#32) : BitVec 32) 0#32 = 1#1 then
        arg7.view.writes (Elt F) (arg7.view.rep x7) [⟨Rect.unit (s := S8192x256) ![0, 0] S8192x256.size inb_S8192x256_S8192x256_0_0, k0_pay75 (F := F)⟩] else arg7.view.rep x7) = f0
      rw [hf] at hr
      simp only [hf]
      rw [View.read_writes_cons_put _ _ _ _ _ (k0_off3_eq i), View.read_writes_cons_put _ _ _ _ _ (k0_off2_eq i), View.writes_nil, hr]
      have g0 := fun inb => (View.readAt_unit (Val := Elt F) arg7.view f0 inb (k0_off2_eq i) (inb_256 (diagRow i) 0 (by omega)))
      have g1 := fun inb => (View.readAt_unit (Val := Elt F) arg7.view f0 inb (k0_off3_eq i) (inb_256 (diagRow i) 128 (by omega)))
      simp only [read_rows arg5 x5 (diagRow i) (k0_off1_eq i), read_rows arg6 x6 (diagRow i) (k0_off1_eq i), read_rows0 arg2 x2 (diagRow i) (k0_off2_eq i),
        read_rows1 arg2 x2 (diagRow i) (k0_off3_eq i), read_half0 arg3 x3, read_half1 arg3 x3, read_all arg4 x4, g0, g1, hr]
      rfl
    isplitl [H8]
    · iapply (pointsTo_rep_of_read (c : Thread nD τ) arg8 _ _ _ ?_) $$ H8
      sl_unfold_run_names
      rw [View.read_writes_cons_put _ _ _ _ _ rfl, View.read_writes_cons_put _ _ _ _ _ rfl, View.read_writes_full]
      simp only [readCov_window, View.read_writes_cons_put _ _ _ _ _ rfl, read_rows arg5 x5 (diagRow i) (k0_off1_eq i), read_rows arg6 x6 (diagRow i) (k0_off1_eq i), read_rows0 arg2 x2 (diagRow i) (k0_off2_eq i),
        read_rows1 arg2 x2 (diagRow i) (k0_off3_eq i), read_half0 arg3 x3, read_half1 arg3 x3, read_all arg4 x4]
      have e2 := fun x b => half1_put0 (F := F) (e := .f32) x b
      unfold half1 at e2
      have e3 := fun x w => put_all (F := F) x w
      simp only [e3, e2]
      rfl
    · iapply (pointsTo_rep_of_read (c : Thread nD τ) arg9 _ _ _ ?_) $$ H9
      sl_unfold_run_names
      rw [View.read_writes_full]
      simp only [View.readCov_full arg9.view, read_rows arg5 x5 (diagRow i) (k0_off1_eq i), read_rows arg6 x6 (diagRow i) (k0_off1_eq i), read_rows0 arg2 x2 (diagRow i) (k0_off2_eq i),
        read_rows1 arg2 x2 (diagRow i) (k0_off3_eq i), read_half0 arg3 x3, read_half1 arg3 x3, read_all arg4 x4]
      rfl
  iintro %acc HH
  iapply (Scf.wp_for_bind _ _ _ _ _ _ (k0_t2_ok i) PUnit.unit _
    (fun _ _ => held c arg2 arg3 arg4 arg5 arg6 arg7 arg8 arg9 x2 x3 x4 x5 x6 (looped x2 x3 x4 x5 x6 i (x7, x8, x9)))
    (fun k _ => absurd (lt_of_lt_of_le k.isLt (k0_t2_abs i).2.1) (by omega))) $$ [HH]
  · iexact HH
  iintro %acc HH
  unfold held
  icases HH with ⟨H2, H3, H4, H5, H6, H7, H8, H9⟩
  sl_exec_parts
  sl_step
  isplitl [H2]; · iexact H2
  isplitl [H3]; · iexact H3
  isplitl [H4]; · iexact H4
  isplitl [H5]; · iexact H5
  isplitl [H6]; · iexact H6
  isplitl [H7]
  · iapply (pointsTo_rep_of_read (c : Thread nD τ) arg7 _ _ _ ?_) $$ H7
    sl_unfold_run_names
    split
    next hc =>
      rw [pt, if_pos ((cond2 ⟨(i 1).val, (i 1).isLt⟩).mp hc)]
      rw [View.read_writes_cons_put _ _ _ _ _ rfl, View.read_writes_rep_unit _ _ _ _ rfl]
      simp only [read_rows arg5 x5 15 (rfl : ![7680, 0] = ![512 * (15 : Fin 16).val, 0]), read_rows arg6 x6 15 (rfl : ![7680, 0] = ![512 * (15 : Fin 16).val, 0]), read_rows0 arg2 x2 15 (rfl : ![7680, 0] = ![512 * (15 : Fin 16).val, 0]),
      read_rows1 arg2 x2 15 (rfl : ![7680, 128] = ![512 * (15 : Fin 16).val, 128]), read_half0 arg3 x3, read_half1 arg3 x3, read_all arg4 x4, read_all arg9,
      read_rows0 arg7 _ 15 (rfl : ![7680, 0] = ![512 * (15 : Fin 16).val, 0]), read_rows1 arg7 _ 15 (rfl : ![7680, 128] = ![512 * (15 : Fin 16).val, 128]), read_half0 arg8, read_half1 arg8]
      rfl
    next hc => rw [View.read_rep, pt, if_neg fun h => hc ((cond2 ⟨(i 1).val, (i 1).isLt⟩).mpr h)]
  isplitl [H8]
  · iapply (pointsTo_rep_of_read (c : Thread nD τ) arg8 _ _ _ ?_) $$ H8
    sl_unfold_run_names
    split
    next hc =>
      rw [pt, if_pos ((cond2 ⟨(i 1).val, (i 1).isLt⟩).mp hc)]
      rw [View.read_writes_cons_put _ _ _ _ _ rfl, View.read_writes_rep_unit _ _ _ _ rfl]
      simp only [read_rows arg5 x5 15 (rfl : ![7680, 0] = ![512 * (15 : Fin 16).val, 0]), read_rows arg6 x6 15 (rfl : ![7680, 0] = ![512 * (15 : Fin 16).val, 0]), read_rows0 arg2 x2 15 (rfl : ![7680, 0] = ![512 * (15 : Fin 16).val, 0]),
      read_rows1 arg2 x2 15 (rfl : ![7680, 128] = ![512 * (15 : Fin 16).val, 128]), read_half0 arg3 x3, read_half1 arg3 x3, read_all arg4 x4, read_all arg9,
      read_rows0 arg7 _ 15 (rfl : ![7680, 0] = ![512 * (15 : Fin 16).val, 0]), read_rows1 arg7 _ 15 (rfl : ![7680, 128] = ![512 * (15 : Fin 16).val, 128]), read_half0 arg8, read_half1 arg8]
      rfl
    next hc => rw [View.read_rep, pt, if_neg fun h => hc ((cond2 ⟨(i 1).val, (i 1).isLt⟩).mpr h)]
  · iapply (pointsTo_rep_of_read (c : Thread nD τ) arg9 _ _ _ ?_) $$ H9
    sl_unfold_run_names
    split
    next hc =>
      rw [pt, if_pos ((cond2 ⟨(i 1).val, (i 1).isLt⟩).mp hc)]
      rw [View.read_writes_full]
      simp only [read_rows arg5 x5 15 (rfl : ![7680, 0] = ![512 * (15 : Fin 16).val, 0]), read_rows arg6 x6 15 (rfl : ![7680, 0] = ![512 * (15 : Fin 16).val, 0]), read_rows0 arg2 x2 15 (rfl : ![7680, 0] = ![512 * (15 : Fin 16).val, 0]),
      read_rows1 arg2 x2 15 (rfl : ![7680, 128] = ![512 * (15 : Fin 16).val, 128]), read_half0 arg3 x3, read_half1 arg3 x3, read_all arg4 x4, read_all arg9,
      read_rows0 arg7 _ 15 (rfl : ![7680, 0] = ![512 * (15 : Fin 16).val, 0]), read_rows1 arg7 _ 15 (rfl : ![7680, 128] = ![512 * (15 : Fin 16).val, 128]), read_half0 arg8, read_half1 arg8]
      rfl
    next hc => rw [View.read_rep, pt, if_neg fun h => hc ((cond2 ⟨(i 1).val, (i 1).isLt⟩).mpr h)]
end
end Cert.Proof.Attn
end
-- ==== Proof.Run.lean ====
module

public import proofs.«01_k».proof.Proof.Point
public import proofs.«01_k».proof.Proof.Gen.KernelIdeal.Frame
public import Idealize.ShloMosaic.Lib.Pipeline.TableIdle

/-! The kernel's run: what every grid point leaves in the staged blocks, and the run of the whole grid from it. -/

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The blocks a point reads: the pair's queries, the block of keys, the block of values, the pair's output gradient
    and the pair's statistics. -/
def qB (c : Dev nD) (t : Fin cfg0.N) : Vec F S8192x256 .bf16 := iblk m c 0 t
def kB (c : Dev nD) (t : Fin cfg0.N) : Vec F S512x256 .bf16 := iblk m c 1 t
def vB (c : Dev nD) (t : Fin cfg0.N) : Vec F S512x128 .bf16 := iblk m c 2 t
def doB' (c : Dev nD) (t : Fin cfg0.N) : Vec F S8192x128 .bf16 := iblk m c 3 t
def stB (c : Dev nD) (t : Fin cfg0.N) : Vec F S8192x128 .f32 := iblk m c 4 t

/-- What point `t` makes of the gradients `s` it finds. -/
def stepAt (c : Dev nD) (t : Fin cfg0.N) (s : St F) : St F :=
  pt (qB m c t) (kB m c t) (vB m c t) (doB' m c t) (stB m c t) (grid0.coords t) s

/-- The gradients in the staged blocks after point `n`. -/
def outs (c : Dev nD) : ℕ → St F
  | 0 => stepAt m c ⟨0, by decide⟩ (k0_pay75, k0_pay76, k0_pay77)
  | n + 1 => if h : n + 1 < cfg0.N then stepAt m c ⟨n + 1, h⟩ (outs c n) else (k0_pay75, k0_pay76, k0_pay77)

theorem coord_one : ∀ t : Fin cfg0.N, (grid0.coords t 1).val = t.val % 16 := by decide +kernel

theorem pt_congr (x2 : Vec F S8192x256 .bf16) (x3 : Vec F S512x256 .bf16) (x4 : Vec F S512x128 .bf16) (x5 : Vec F S8192x128 .bf16) (x6 : Vec F S8192x128 .f32)
    (i : grid0.Coords) (s s' : St F) (h : start i s = start i s') : pt x2 x3 x4 x5 x6 i s = pt x2 x3 x4 x5 x6 i s' := by
  unfold pt looped
  rw [h]

/-- A point finds the queries' gradient of the point before, or overwrites what it finds. -/
theorem stepAt_outs (c : Dev nD) (t : Fin cfg0.N) (s : St F) (h : t.val % 16 ≠ 0 → s.1 = (outs m c (t.val - 1)).1) :
    stepAt m c t s = outs m c t.val := by
  obtain ⟨n, hn⟩ := t
  cases n with
  | zero =>
    show stepAt m c ⟨0, hn⟩ s = outs m c 0
    rw [outs]
    refine pt_congr (F := F) _ _ _ _ _ _ _ _ ?_
    unfold start
    have e : (grid0.coords ⟨0, hn⟩ 1).val = 0 := coord_one ⟨0, hn⟩
    rw [if_pos e, if_pos e]
  | succ n =>
    rw [outs, dif_pos hn]
    refine pt_congr (F := F) _ _ _ _ _ _ _ _ ?_
    unfold start
    by_cases h0 : (grid0.coords ⟨n + 1, hn⟩ 1).val = 0
    · rw [if_pos h0, if_pos h0]
    · rw [if_neg h0, if_neg h0, h (by rw [← coord_one]; exact h0)]
      rfl

/-- The run's data: every input block stays, every output block is what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val).1
    | ⟨6, _⟩ => (outs m c t.val).2.1
    | ⟨7, _⟩ => (outs m c t.val).2.2
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outs m c t.val).1 := by dsimp only [dats]
theorem after0_6 (c : Dev nD) (t : Fin cfg0.N) : (dats m 0 c).after 6 t = (outs m c t.val).2.1 := by dsimp only [dats]
theorem after0_7 (c : Dev nD) (t : Fin cfg0.N) : (dats m 0 c).after 7 t = (outs m c t.val).2.2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- Past a pair's first block of keys the queries' gradient is found as the point before left it. -/
theorem before0_5 (c : Dev nD) (t : Fin cfg0.N) (h : t.val % 16 ≠ 0) (d) : (dats m 0 c).before 5 t d = (outs m c (t.val - 1)).1 := by
  have ht : t.val ≠ 0 := fun h0 => h (by rw [h0])
  have hfl : (cfg0.win 5).flush ⟨t.val - 1, Nat.lt_of_le_of_lt (Nat.sub_le _ _) t.isLt⟩ = false := by
    rw [Bool.eq_false_iff, ne_eq, flush0_5]
    have := t.isLt
    show ¬ (t.val - 1) % 16 = 15
    omega
  rw [(dats m 0 c).before_out_kept 5 rfl t ht hfl (fun _ => rfl) (fun _ _ => rfl) d, after0_5]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem hold_owns (c : Dev nD) {S : Shape} {e : EltTy} (M : Memref sig .tc .vmem S e) (X : S.Idx → Elt F e) : hold c M X = owns (c : Thread nD τ) M fullShare X :=
  (owns_eq_rep (c : Thread nD τ) M fullShare X).symm

/-- A point run on whole buffers owned at their values. -/
theorem point_owns (c : Dev nD) (i : grid0.Coords)
    (arg2 : Memref sig .tc .vmem S8192x256 .bf16) (harg2 : arg2.IsWhole) (arg3 : Memref sig .tc .vmem S512x256 .bf16) (harg3 : arg3.IsWhole)
    (arg4 : Memref sig .tc .vmem S512x128 .bf16) (harg4 : arg4.IsWhole) (arg5 : Memref sig .tc .vmem S8192x128 .bf16) (harg5 : arg5.IsWhole)
    (arg6 : Memref sig .tc .vmem S8192x128 .f32) (harg6 : arg6.IsWhole) (arg7 : Memref sig .tc .vmem S8192x256 .f32) (harg7 : arg7.IsWhole)
    (arg8 : Memref sig .tc .vmem S512x256 .f32) (harg8 : arg8.IsWhole) (arg9 : Memref sig .tc .vmem S512x128 .f32) (harg9 : arg9.IsWhole)
    (x2 : Vec F S8192x256 .bf16) (x3 : Vec F S512x256 .bf16) (x4 : Vec F S512x128 .bf16) (x5 : Vec F S8192x128 .bf16) (x6 : Vec F S8192x128 .f32) (s : St F) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare s.1
      ∗ owns (c : Thread nD τ) arg8 fullShare s.2.1 ∗ owns (c : Thread nD τ) arg9 fullShare s.2.2 : sProp 𝕄)
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9)
          (fun _ => iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare (pt x2 x3 x4 x5 x6 i s).1
            ∗ owns (c : Thread nD τ) arg8 fullShare (pt x2 x3 x4 x5 x6 i s).2.1 ∗ owns (c : Thread nD τ) arg9 fullShare (pt x2 x3 x4 x5 x6 i s).2.2)) := by
  have h := point c i arg2 harg2 arg3 harg3 arg4 harg4 arg5 harg5 arg6 harg6 arg7 harg7 arg8 harg8 arg9 harg9 x2 x3 x4 x5 x6 s
  unfold held at h
  simp only [hold_owns] at h
  exact h

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have hs := stepAt_outs m c t ((dats m 0 c).before 5 t d5, (dats m 0 c).before 6 t d6, (dats m 0 c).before 7 t d7) (fun h => before0_5 m c t h d5)
  have hp := point_owns c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t)
    ((dats m 0 c).before 5 t d5, (dats m 0 c).before 6 t d6, (dats m 0 c).before 7 t d7)
  rw [show pt (iblk m c 0 t) (iblk m c 1 t) (iblk m c 2 t) (iblk m c 3 t) (iblk m c 4 t) (grid0.coords t)
    ((dats m 0 c).before 5 t d5, (dats m 0 c).before 6 t d6, (dats m 0 c).before 7 t d7) = outs m c t.val from hs] at hp
  iapply (wp_wand _ _ _) $$ [H0 H1 H2 H3 H4 H5 H6 H7]
  · iapply hp $$ [H0 H1 H2 H3 H4 H5 H6 H7]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %r ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Every run ends, with every window's array as the points leave it, every other buffer as the region finds it and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 (defs₀ (F := F)) Variants.none m ρ (main (F := F))
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends with the four arguments as launched and every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩, h.2⟩) (run_main m ρ)

end Cert.Proof.Attn
end
-- ==== Proof.Same.lean ====
module
public import proofs.«01_k».proof.Defs
public import proofs.«01_k».proof.Proof.Gen.KernelIdeal.Launch
public import proofs.«01_k».proof.Proof.Gen.Kernel
public import proofs.«01_k».proof.Proof.Gen.Kernel.Launch

/-! The kernel as printed and the kernel read at the extended reals are one text. -/

@[expose] public section

set_option maxRecDepth 16384
noncomputable section
namespace Cert.Proof
open Idealize.ShloMosaic Idealize.SL.Sem
variable {F : FTy → Type} [FloatOps F]
set_option maxHeartbeats 1000000

theorem body_same : (Cert.Kernel.cc0_attn_bwd (F := F)) = Cert.KernelIdeal.cc0_attn_bwd := rfl
theorem defs0_same : (Cert.Kernel.defs₀ (F := F)) = Cert.KernelIdeal.defs₀ := by
  unfold Cert.Kernel.defs₀ Cert.KernelIdeal.defs₀
  refine congrArg Defs.onTc ?_
  funext l a
  obtain ⟨l, hl⟩ := l
  cases l with
  | zero => exact congrFun (congrFun (congrFun (congrFun (congrFun (congrFun (congrFun (congrFun (congrFun (congrFun (congrFun (congrFun (congrFun (congrFun (congrFun (congrFun (congrFun body_same _) _) _) _) _) _) _) _) _) _) _) _) _) _) _) _) _
  | succ l => exact absurd hl (Nat.not_lt.2 (Nat.le_add_left _ _))
theorem defs_same : (Cert.Kernel.defs (F := F)) = Cert.KernelIdeal.defs := congrArg (Pipeline.defs Cert.KernelIdeal.pcfgs) defs0_same
theorem ops0 : (Cert.Kernel.Gen.hostOps0 (F := F)) = Cert.KernelIdeal.Gen.hostOps0 := rfl
theorem ops1 : (Cert.Kernel.Gen.hostOps0_1 (F := F)) = Cert.KernelIdeal.Gen.hostOps0_1 := rfl
theorem ops2 : (Cert.Kernel.Gen.hostOps0_2 (F := F)) = Cert.KernelIdeal.Gen.hostOps0_2 := rfl
theorem ops3 : (Cert.Kernel.Gen.hostOps0_3 (F := F)) = Cert.KernelIdeal.Gen.hostOps0_3 := rfl
theorem ops4 : (Cert.Kernel.Gen.hostOps0_4 (F := F)) = Cert.KernelIdeal.Gen.hostOps0_4 := rfl
theorem ops5 : (Cert.Kernel.Gen.hostOps0_5 (F := F)) = Cert.KernelIdeal.Gen.hostOps0_5 := rfl
theorem ops6 : (Cert.Kernel.Gen.hostOps0_6 (F := F)) = Cert.KernelIdeal.Gen.hostOps0_6 := rfl

theorem main_same (c : Dev Cert.KernelIdeal.nD) : Cert.Kernel.main (F := F) c = Cert.KernelIdeal.main (F := F) c := by
  refine (Cert.Kernel.Gen.main_chain (F := F) c).trans (Eq.trans ?_ (Cert.KernelIdeal.Gen.main_chain (F := F) c).symm)
  rw [ops0, ops1, ops2, ops3, ops4, ops5, ops6]
  rfl

end Cert.Proof
end
-- ==== Proof.Claims.lean ====
module

public import proofs.«01_k».proof.Defs
public import proofs.«01_k».proof.Proof.Run
public import proofs.«01_k».proof.Proof.Same
public import proofs.«01_k».proof.Proof.Gen.ReferenceIdeal.Run

/-! The frames: the kernel's at both readings of its floats by one run, and the reference's. -/

@[expose] public section

set_option maxRecDepth 16384

noncomputable section

namespace Cert.Proof

open Idealize.ShloMosaic Idealize.SL.Sem

/-- The printed facts of the precondition. -/
theorem preFacts : Cert.Pre_finite.Facts where
  bitsLt_bf16_f32 := by decide
  bcast_S_S8192x1024 := by decide
  bcast_S_S8192x512 := by decide

theorem frame_kernel : Cert.quiescent_Kernel := fun m ρ _ => by
  have h := Attn.run_frame (F := Bits) m ρ
  rw [show (Cert.KernelIdeal.main (F := Bits)) = Cert.Kernel.main from funext fun c => (main_same c).symm, ← defs_same] at h
  exact h

theorem frame_ideal : Cert.quiescent_KernelIdeal := fun m ρ _ => Attn.run_frame (F := Ideal) m ρ

theorem frame_ideal_pre : Cert.quiescent_KernelIdeal_pre_finite (hPre_finite := preFacts) := fun m ρ _ => Attn.run_frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_pre : Cert.quiescent_ReferenceIdeal_pre_finite (hPre_finite := preFacts) := fun m ρ _ => frame_reference m ρ trivial

end Cert.Proof
end
-- ==== Proof.Reals.lean ====
module

public import proofs.«01_k».proof.Proof.Point
public import Idealize.ShloMosaic.Lib.MatmulPlain
public import Idealize.ShloMosaic.Lib.WordCmp
public import Idealize.ShloMosaic.Lib.IdealHost
public import Idealize.ShloMosaic.Lib.ValueIdx
public import Idealize.ShloMosaic.Lib.Pipeline.Value
public import Idealize.ShloMosaic.Lib.Pointwise.Contract
public import Mathlib.Data.EReal.Operations

/-! The operations of a block on arrays of real numbers.

`Re2 x f` says that the array `x` holds the reals `f row lane`. Each lemma reads one operation of the block step so. -/

@[expose] public section

set_option maxRecDepth 16384

noncomputable section

namespace Cert.Proof.Attn

open Cert.KernelIdeal Cert.KernelIdeal.Gen
open Idealize.ShloMosaic Idealize.ShloMosaic.TcCoe
open Idealize.ShloMosaic.ValueIdx hiding ix2
open Finset

/-- The array holds these reals. -/
def Re2 {n0 n1 : ℕ} (x : (⟨2, ![n0, n1]⟩ : Shape).Idx → EReal) (f : ℕ → ℕ → ℝ) : Prop :=
  ∀ (a : Fin n0) (b : Fin n1), x (ValueIdx.ix2 a b) = ((f a.val b.val : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Re2.congr {n0 n1 : ℕ} {x : (⟨2, ![n0, n1]⟩ : Shape).Idx → EReal} {f g : ℕ → ℕ → ℝ} (h : Re2 x f)
    (e : ∀ a < n0, ∀ b < n1, f a b = g a b) : Re2 x g := fun a b => by rw [h a b, e _ a.isLt _ b.isLt]

/-- A product's sum over its one contracted coordinate, on reals. -/
theorem sum_real {K : ℕ} (f g : ℕ → ℝ) : (∑ k : Fin K, ((f k.val : ℝ) : EReal) * ((g k.val : ℝ) : EReal)) = ((∑ k ∈ range K, f k * g k : ℝ) : EReal) := by
  rw [Finset.sum_range, coe_sum]
  exact Finset.sum_congr rfl fun k _ => (EReal.coe_mul _ _).symm

theorem re_nt {a b : Vec Ideal S512x128 .bf16} {f g : ℕ → ℕ → ℝ} (ha : Re2 a f) (hb : Re2 b g) :
    Re2 (nt (F := Ideal) a b) (fun x y => ∑ d ∈ range 128, f x d * g y d) := fun x y => by
  show FloatOps.matmul (F := Ideal) (φ₁ := .bf16) (φ₂ := .bf16) (DotDims.transposedRhs 512 128 512) none a b (constant S512x512 .f32 0x00000000#32) (ValueIdx.ix2 x y) = _
  rw [Ideal.matmul_transposedRhs_apply, constant_apply, Ideal.ofBits_zero_f32, zero_add, ← sum_real]
  exact Finset.sum_congr rfl fun k _ => by rw [ha, hb]

theorem re_nn {a : FVec Ideal S512x512 .bf16} {b : Vec Ideal S512x128 .bf16} {f g : ℕ → ℕ → ℝ} (ha : Re2 a f) (hb : Re2 b g) :
    Re2 (nn (F := Ideal) a b) (fun x l => ∑ y ∈ range 512, f x y * g y l) := fun x y => by
  show FloatOps.matmul (F := Ideal) (φ₁ := .bf16) (φ₂ := .bf16) (DotDims.plain 512 512 128) none a b (constant S512x128 .f32 0x00000000#32) (ValueIdx.ix2 x y) = _
  rw [Ideal.matmul_plain_apply, constant_apply, Ideal.ofBits_zero_f32, zero_add, ← sum_real]
  exact Finset.sum_congr rfl fun k _ => by rw [ha, hb]

theorem re_tn {a : FVec Ideal S512x512 .bf16} {b : Vec Ideal S512x128 .bf16} {f g : ℕ → ℕ → ℝ} (ha : Re2 a f) (hb : Re2 b g) :
    Re2 (tn (F := Ideal) a b) (fun y l => ∑ x ∈ range 512, f x y * g x l) := fun y l => by
  unfold tn
  show Ideal.matmul dot_S512x512_S512x128_S512x128_0_0_1_1_n_n a b (constant (F := Ideal) S512x128 .f32 0x00000000#32) (ValueIdx.ix2 y l) = _
  rw [Ideal.matmul_apply₁ _ rfl rfl, constant_apply, Ideal.ofBits_zero_f32, zero_add, ← sum_real (K := 512) (fun x => f x y.val) (fun x => g x l.val)]
  refine Finset.sum_congr rfl fun k _ => ?_
  rw [← ha k y, ← hb k l]
  congr 2 <;> (funext d; fin_cases d <;> rfl)

theorem re_add {n0 n1 : ℕ} {x y : FVec Ideal ⟨2, ![n0, n1]⟩ .f32} {f g : ℕ → ℕ → ℝ} (hx : Re2 x f) (hy : Re2 y g) :
    Re2 (addf x y) (fun a b => f a b + g a b) := fun a b => by
  show x _ + y _ = _
  rw [hx, hy, EReal.coe_add]
theorem re_sub {n0 n1 : ℕ} {x y : FVec Ideal ⟨2, ![n0, n1]⟩ .f32} {f g : ℕ → ℕ → ℝ} (hx : Re2 x f) (hy : Re2 y g) :
    Re2 (subf x y) (fun a b => f a b - g a b) := fun a b => by
  show x _ - y _ = _
  rw [hx, hy, EReal.coe_sub]
theorem re_mul {n0 n1 : ℕ} {x y : FVec Ideal ⟨2, ![n0, n1]⟩ .f32} {f g : ℕ → ℕ → ℝ} (hx : Re2 x f) (hy : Re2 y g) :
    Re2 (mulf x y) (fun a b => f a b * g a b) := fun a b => by
  show x _ * y _ = _
  rw [hx, hy, EReal.coe_mul]
theorem re_exp {n0 n1 : ℕ} {x : FVec Ideal ⟨2, ![n0, n1]⟩ .f32} {f : ℕ → ℕ → ℝ} (hx : Re2 x f) :
    Re2 (exp x) (fun a b => Real.exp (f a b)) := fun a b => by
  show Ideal.exp (x _) = _
  rw [hx, Ideal.exp_coe]

/-- A lane of the row statistics, spread over a square. -/
theorem re_spread {st : Vec Ideal S512x128 .f32} {f : ℕ → ℕ → ℝ} (h : Re2 st f) (o : ℕ) (hs : S512x128.Slices ![0, o] S512x1) :
    Re2 (spread (F := Ideal) (extractStridedSlice S512x1 ![0, o] st hs)) (fun x _ => f x o) := fun x y => by
  have ho : o < 128 := by have := hs.2 (1 : Fin 2); simpa [S512x1, S512x128] using this
  show spread (F := Ideal) (extractStridedSlice S512x1 ![0, o] st hs) (ValueIdx.ix2 x y) = ((f x.val (⟨o, ho⟩ : Fin 128).val : ℝ) : EReal)
  rw [← h x ⟨o, ho⟩]
  unfold spread
  rw [broadcastTo_apply _ _ _ (ValueIdx.ix2 x (0 : Fin 1)) (fun a => by fin_cases a <;> rfl)]
  exact extractStridedSlice_apply _ _ _ _ _ fun a => by fin_cases a <;> [exact (Nat.zero_add _).symm; rfl]

theorem re_low {p : FVec Ideal S512x512 .f32} {f : ℕ → ℕ → ℝ} (h : Re2 p f) : Re2 (low p) (fun x y => if y ≤ x then f x y else 0) := fun x y => by
  unfold low
  rw [select_apply]
  have hc : cmpi .sle (iota .tc S512x512 32 [1] iota_S512x512_d1_w32) (iota .tc S512x512 32 [0] iota_S512x512_d0_w32) (ValueIdx.ix2 x y)
      = IntOp.cmpi .sle (BitVec.ofNat 32 y.val) (BitVec.ofNat 32 x.val) := by
    show IntOp.cmpi .sle (BitVec.ofNat 32 (0 * 512 + y.val)) (BitVec.ofNat 32 (0 * 512 + x.val)) = _
    rw [Nat.zero_mul, Nat.zero_add, Nat.zero_add]
  have hx : x.val < 2 ^ 31 := lt_trans x.isLt (by norm_num)
  have hy : y.val < 2 ^ 31 := lt_trans y.isLt (by norm_num)
  rw [hc]
  by_cases hle : y.val ≤ x.val
  · rw [(Idealize.ShloMosaic.WordCmp.cmpi_sle_ofNat_eq_one_iff hy hx).mpr hle, select_one, h]; simp only [if_pos hle]
  · rw [(Idealize.ShloMosaic.WordCmp.cmpi_sle_ofNat_eq_zero_iff hy hx).mpr hle, select_zero, broadcast_apply]; simp only [if_neg hle]
    exact Ideal.ofBits_zero_f32

/-- A comparison of the lane with 64 keeps the lanes where it holds. -/
theorem re_keep {d : Vec Ideal S512x128 .bf16} {f : ℕ → ℕ → ℝ} (h : Re2 d f) :
    Re2 (doA lanes d) (fun y l => if l < 64 then f y l else 0) ∧ Re2 (doB lanes d) (fun y l => if 64 ≤ l then f y l else 0) := by
  have hl : ∀ (y : Fin 512) (l : Fin 128), lanes (ValueIdx.ix2 y l) = BitVec.ofNat 32 l.val := fun y l => by
    show BitVec.ofNat 32 (0 * 128 + l.val) = _
    rw [Nat.zero_mul, Nat.zero_add]
  refine ⟨fun y l => ?_, fun y l => ?_⟩
  all_goals
    have hy : l.val < 2 ^ 31 := lt_trans l.isLt (by norm_num)
    have h64 : 64 < 2 ^ 31 := by norm_num
  · unfold doA
    rw [select_apply]
    have hc : cmpi .slt lanes (broadcast S512x128 64#32) (ValueIdx.ix2 y l) = IntOp.cmpi .slt (BitVec.ofNat 32 l.val) (BitVec.ofNat 32 64) := by
      show IntOp.cmpi .slt (lanes _) _ = _
      rw [hl]; rfl
    rw [hc]
    by_cases hle : l.val < 64
    · rw [(Idealize.ShloMosaic.WordCmp.cmpi_slt_ofNat_eq_one_iff hy h64).mpr hle, select_one, h]; simp only [if_pos hle]
    · rw [(Idealize.ShloMosaic.WordCmp.cmpi_slt_ofNat_eq_zero_iff hy h64).mpr hle, select_zero, broadcast_apply]; simp only [if_neg hle]
      exact Ideal.ofBits_zero_bf16
  · unfold doB
    rw [select_apply]
    have hc : cmpi .sge lanes (broadcast S512x128 64#32) (ValueIdx.ix2 y l) = IntOp.cmpi .sge (BitVec.ofNat 32 l.val) (BitVec.ofNat 32 64) := by
      show IntOp.cmpi .sge (lanes _) _ = _
      rw [hl]; rfl
    rw [hc]
    by_cases hle : 64 ≤ l.val
    · rw [(Idealize.ShloMosaic.WordCmp.cmpi_sge_ofNat_eq_one_iff hy h64).mpr hle, select_one, h]; simp only [if_pos hle]
    · rw [(Idealize.ShloMosaic.WordCmp.cmpi_sge_ofNat_eq_zero_iff hy h64).mpr hle, select_zero, broadcast_apply]; simp only [if_neg hle]
      exact Ideal.ofBits_zero_bf16

theorem re_sc {x : S512x128.Idx → EReal} {f : ℕ → ℕ → ℝ} (h : Re2 x f) : Re2 (shapeCast S512x128 x shapeCasts_S512x128_S512x128) f := by
  rw [shapeCast_self]
  exact h

theorem re_window {m n : ℕ} {x : (⟨2, ![m, n]⟩ : Shape).Idx → EReal} {f : ℕ → ℕ → ℝ} (h : Re2 x f) (a b : ℕ) (hb : b + 128 ≤ n)
    (inb : ∀ d, (![a, b] : Fin 2 → ℕ) d + S512x128.size d ≤ (⟨2, ![m, n]⟩ : Shape).size d) :
    Re2 (n0 := 512) (n1 := 128) (VecWindow.window x ![a, b] S512x128.size inb) (fun y l => f (a + y) (b + l)) := fun y l => by
  have ha : a + 512 ≤ m := inb (0 : Fin 2)
  have := y.isLt
  have := l.isLt
  show x _ = ((f (⟨a + y.val, by omega⟩ : Fin m).val (⟨b + l.val, by omega⟩ : Fin n).val : ℝ) : EReal)
  rw [← h]
  show x _ = x _
  congr 1
  funext d
  fin_cases d
  · exact Fin.ext (congrArg (a + ·) (Nat.one_mul _))
  · exact Fin.ext (congrArg (b + ·) (Nat.one_mul _))

theorem re_put {m n : ℕ} {x : (⟨2, ![m, n]⟩ : Shape).Idx → EReal} {f g : ℕ → ℕ → ℝ} (h : Re2 x f) {w : S512x128.Idx → EReal} (hw : Re2 w g) (a b : ℕ) :
    Re2 (VecWindow.put x ![a, b] S512x128.size w : (⟨2, ![m, n]⟩ : Shape).Idx → EReal)
      (fun y l => if (a ≤ y ∧ y < a + 512) ∧ (b ≤ l ∧ l < b + 128) then g (y - a) (l - b) else f y l) := fun y l => by
  unfold VecWindow.put
  by_cases hc : (a ≤ y.val ∧ y.val < a + 512) ∧ (b ≤ l.val ∧ l.val < b + 128)
  · have hd : ∀ d : Fin 2, (![a, b] : Fin 2 → ℕ) d ≤ (ValueIdx.ix2 y l d).val ∧ (ValueIdx.ix2 y l d).val < (![a, b] : Fin 2 → ℕ) d + S512x128.size d := fun d => by
      fin_cases d
      · exact hc.1
      · exact hc.2
    rw [dif_pos hd]
    simp only [if_pos hc]
    have := hw ⟨y.val - a, by omega⟩ ⟨l.val - b, by omega⟩
    rw [← this]
    congr 1
    funext d
    fin_cases d <;> rfl
  · have hd : ¬∀ d : Fin 2, (![a, b] : Fin 2 → ℕ) d ≤ (ValueIdx.ix2 y l d).val ∧ (ValueIdx.ix2 y l d).val < (![a, b] : Fin 2 → ℕ) d + S512x128.size d :=
      fun hh => hc ⟨hh 0, hh 1⟩
    rw [dif_neg hd]
    simp only [if_neg hc]
    exact h y l

theorem re_rows {x : S8192x128.Idx → EReal} {f : ℕ → ℕ → ℝ} (h : Re2 x f) (r : Fin 16) :
    Re2 (n0 := 512) (n1 := 128) (VecWindow.window x ![512 * r.val, 0] S512x128.size (inb_128 r)) (fun y l => f (512 * r.val + y) l) :=
  (re_window h (512 * r.val) 0 (by omega) _).congr fun a _ b _ => by simp only [Nat.zero_add]
theorem re_rows0 {x : S8192x256.Idx → EReal} {f : ℕ → ℕ → ℝ} (h : Re2 x f) (r : Fin 16) :
    Re2 (n0 := 512) (n1 := 128) (VecWindow.window x ![512 * r.val, 0] S512x128.size (inb_256 r 0 (by omega))) (fun y l => f (512 * r.val + y) l) :=
  (re_window h (512 * r.val) 0 (by omega) _).congr fun a _ b _ => by simp only [Nat.zero_add]
theorem re_rows1 {x : S8192x256.Idx → EReal} {f : ℕ → ℕ → ℝ} (h : Re2 x f) (r : Fin 16) :
    Re2 (n0 := 512) (n1 := 128) (VecWindow.window x ![512 * r.val, 128] S512x128.size (inb_256 r 128 (by omega))) (fun y l => f (512 * r.val + y) (128 + l)) :=
  re_window h (512 * r.val) 128 (by omega) _
theorem re_half0 {x : S512x256.Idx → EReal} {f : ℕ → ℕ → ℝ} (h : Re2 x f) :
    Re2 (n0 := 512) (n1 := 128) (VecWindow.window x ![0, 0] S512x128.size (inb_512 0 (by omega))) f :=
  (re_window h 0 0 (by omega) _).congr fun a _ b _ => by simp only [Nat.zero_add]
theorem re_half1 {x : S512x256.Idx → EReal} {f : ℕ → ℕ → ℝ} (h : Re2 x f) :
    Re2 (n0 := 512) (n1 := 128) (VecWindow.window x ![0, 128] S512x128.size (inb_512 128 (by omega))) (fun y l => f y (128 + l)) :=
  (re_window h 0 128 (by omega) _).congr fun a _ b _ => by simp only [Nat.zero_add]

end Cert.Proof.Attn
end
-- ==== Proof.RealBlock.lean ====
module

public import proofs.«01_k».proof.Proof.Reals

/-! One block of queries on real numbers: what it adds to the three gradients. -/

@[expose] public section

set_option maxRecDepth 16384

noncomputable section

namespace Cert.Proof.Attn

open Cert.KernelIdeal Cert.KernelIdeal.Gen
open Idealize.ShloMosaic Idealize.ShloMosaic.TcCoe
open Finset

section
variable (q k v d st : ℕ → ℕ → ℝ) (j : ℕ)

/-- The probability of query `R` at the point's key `y`, head `a` of the pair; `j` is the point's block of keys. -/
def pr (a R y : ℕ) : ℝ :=
  if 512 * j + y ≤ R then Real.exp ((∑ l ∈ range 128, q R (128 * a + l) * k y (128 * a + l)) - st R (64 * a)) else 0

/-- The gradient of the score of query `R` at the point's key `y`, head `a` of the pair. -/
def dsc (a R y : ℕ) : ℝ :=
  pr q k st j a R y * ((∑ l ∈ range 128, (if l / 64 = a then d R l else 0) * v y l) - st R (64 * a + 32))

variable {q k v d st j}
  {x2 : Vec Ideal S8192x256 .bf16} {x3 : Vec Ideal S512x256 .bf16} {x4 : Vec Ideal S512x128 .bf16} {x5 : Vec Ideal S8192x128 .bf16} {x6 : Vec Ideal S8192x128 .f32}
  (h2 : Re2 x2 q) (h3 : Re2 x3 k) (h4 : Re2 x4 v) (h5 : Re2 x5 d) (h6 : Re2 x6 st)
  {msk : FVec Ideal S512x512 .f32 → FVec Ideal S512x512 .f32} {r : Fin 16}
  (hm : ∀ (p : FVec Ideal S512x512 .f32) (f : ℕ → ℕ → ℝ), Re2 p f → Re2 (msk p) (fun x y => if 512 * j + y ≤ 512 * r.val + x then f x y else 0))

include h2 h3 h6 hm in
theorem re_bpA : Re2 (bpA msk x2 x3 x6 r) (fun x y => pr q k st j 0 (512 * r.val + x) y) :=
  (hm _ _ (re_exp (re_sub (re_nt (re_rows0 h2 r) (re_half0 h3)) (re_spread (re_sc (re_rows h6 r)) 0 _)))).congr fun x _ y _ => by
    simp only [pr, Nat.mul_zero, Nat.zero_add]

include h2 h3 h6 hm in
theorem re_bpB : Re2 (bpB msk x2 x3 x6 r) (fun x y => pr q k st j 1 (512 * r.val + x) y) :=
  (hm _ _ (re_exp (re_sub (re_nt (re_rows1 h2 r) (re_half1 h3)) (re_spread (re_sc (re_rows h6 r)) 64 _)))).congr fun x _ y _ => by
    simp only [pr, Nat.mul_one]

include h5 in
theorem re_doA : Re2 (doA lanes (rows x5 r)) (fun x l => if l / 64 = 0 then d (512 * r.val + x) l else 0) :=
  (re_keep (re_rows h5 r)).1.congr fun x _ l hl => by
    have : l < 64 ↔ l / 64 = 0 := by omega
    simp only [this]
include h5 in
theorem re_doB : Re2 (doB lanes (rows x5 r)) (fun x l => if l / 64 = 1 then d (512 * r.val + x) l else 0) :=
  (re_keep (re_rows h5 r)).2.congr fun x _ l hl => by
    have : 64 ≤ l ↔ l / 64 = 1 := by omega
    simp only [this]

include h2 h3 h4 h5 h6 hm in
theorem re_bdA : Re2 (bdA msk lanes x2 x3 x4 x5 x6 r) (fun x y => dsc q k v d st j 0 (512 * r.val + x) y) :=
  (re_mul (re_bpA h2 h3 h6 hm) (re_sub (re_nt (re_doA h5) h4) (re_spread (re_sc (re_rows h6 r)) 32 _))).congr fun x _ y _ => by
    simp only [dsc, Nat.mul_zero, Nat.zero_add]

include h2 h3 h4 h5 h6 hm in
theorem re_bdB : Re2 (bdB msk lanes x2 x3 x4 x5 x6 r) (fun x y => dsc q k v d st j 1 (512 * r.val + x) y) :=
  (re_mul (re_bpB h2 h3 h6 hm) (re_sub (re_nt (re_doB h5) h4) (re_spread (re_sc (re_rows h6 r)) 96 _))).congr fun x _ y _ => by
    simp only [dsc, Nat.mul_one]

include h2 h3 h4 h5 h6 hm in
/-- The step on reals. -/
theorem re_blk {s : St Ideal} {f1 f2 f3 : ℕ → ℕ → ℝ} (g1 : Re2 s.1 f1) (g2 : Re2 s.2.1 f2) (g3 : Re2 s.2.2 f3) :
    Re2 (blk msk lanes x2 x3 x4 x5 x6 r s).1 (fun R l => f1 R l + if R / 512 = r.val then ∑ y ∈ range 512, dsc q k v d st j (l / 128) R y * k y l else 0)
    ∧ Re2 (blk msk lanes x2 x3 x4 x5 x6 r s).2.1 (fun y l => f2 y l + ∑ x ∈ range 512, dsc q k v d st j (l / 128) (512 * r.val + x) y * q (512 * r.val + x) l)
    ∧ Re2 (blk msk lanes x2 x3 x4 x5 x6 r s).2.2 (fun y l => f3 y l + ∑ x ∈ range 512, pr q k st j (l / 64) (512 * r.val + x) y * d (512 * r.val + x) l) := by
  have A := re_bdA h2 h3 h4 h5 h6 hm
  have B := re_bdB h2 h3 h4 h5 h6 hm
  refine ⟨?_, ?_, ?_⟩
  · refine (re_put (re_put g1 (re_add (re_sc (re_rows0 g1 r)) (re_nn A (re_half0 h3))) (512 * r.val) 0)
      (re_add (re_sc (re_rows1 g1 r)) (re_nn B (re_half1 h3))) (512 * r.val) 128).congr fun R hR l hl => ?_
    by_cases hr : R / 512 = r.val
    · have c0 : 512 * r.val ≤ R ∧ R < 512 * r.val + 512 := by omega
      have e0 : 512 * r.val + (R - 512 * r.val) = R := by omega
      by_cases h : 128 ≤ l
      · have e1 : l / 128 = 1 := by omega
        have e2 : 128 + (l - 128) = l := by omega
        rw [if_pos ⟨c0, h, by omega⟩, if_pos hr, e0, e1, e2]
      · have e1 : l / 128 = 0 := by omega
        rw [if_neg (by omega), if_pos ⟨c0, by omega, by omega⟩, if_pos hr, e0, e1, Nat.sub_zero]
    · rw [if_neg (by omega), if_neg (by omega), if_neg hr, add_zero]
  · refine (re_put (re_put g2 (re_add (re_sc (re_half0 g2)) (re_tn A (re_rows0 h2 r))) 0 0)
      (re_add (re_sc (re_half1 g2)) (re_tn B (re_rows1 h2 r))) 0 128).congr fun y hy l hl => ?_
    by_cases h : 128 ≤ l
    · have e1 : l / 128 = 1 := by omega
      have e2 : 128 + (l - 128) = l := by omega
      rw [if_pos ⟨by omega, h, by omega⟩, e1, e2, Nat.sub_zero]
    · have e1 : l / 128 = 0 := by omega
      rw [if_neg (by omega), if_pos ⟨by omega, by omega, by omega⟩, e1, Nat.sub_zero, Nat.sub_zero]
  · refine (re_add (re_sc g3) (re_add (re_tn (re_bpA h2 h3 h6 hm) (re_doA h5)) (re_tn (re_bpB h2 h3 h6 hm) (re_doB h5)))).congr fun y hy l hl => ?_
    by_cases h : l / 64 = 0
    · simp only [h, if_true, Nat.zero_ne_one, if_false, mul_zero, Finset.sum_const_zero, add_zero]
    · have h1 : l / 64 = 1 := by omega
      simp only [h1, if_true, Nat.one_ne_zero, if_false, mul_zero, Finset.sum_const_zero, zero_add]

end

/-- On the block of the diagonal the mask is the lower triangle. -/
theorem mask_low {j : ℕ} {r : Fin 16} (h : r.val = j) (p : FVec Ideal S512x512 .f32) (f : ℕ → ℕ → ℝ) (hp : Re2 p f) :
    Re2 (low p) (fun x y => if 512 * j + y ≤ 512 * r.val + x then f x y else 0) :=
  (re_low hp).congr fun x _ y _ => by
    have : y ≤ x ↔ 512 * j + y ≤ 512 * r.val + x := by omega
    simp only [this]
/-- Past the diagonal nothing is masked. -/
theorem mask_id {j : ℕ} {r : Fin 16} (h : j < r.val) (p : FVec Ideal S512x512 .f32) (f : ℕ → ℕ → ℝ) (hp : Re2 p f) :
    Re2 (id p) (fun x y => if 512 * j + y ≤ 512 * r.val + x then f x y else 0) :=
  hp.congr fun x _ y _ => by rw [if_pos (by omega)]

end Cert.Proof.Attn
end
-- ==== Proof.Fold.lean ====
module

public import proofs.«01_k».proof.Proof.RealBlock

/-! A grid point on real numbers: the sums over the blocks of queries from the diagonal on. -/

@[expose] public section

set_option maxRecDepth 16384

noncomputable section

namespace Cert.Proof.Attn

open Cert.KernelIdeal Cert.KernelIdeal.Gen
open Idealize.ShloMosaic Idealize.ShloMosaic.TcCoe
open Finset

section
variable (q k v d st : ℕ → ℕ → ℝ) (j : ℕ) (D : ℕ → ℕ → ℝ)

/-- The gradients after the blocks of queries `j` to `n - 1`, over a queries' gradient `D` found. -/
def Holds (n : ℕ) (s : St Ideal) : Prop :=
  Re2 s.1 (fun R l => D R l + if j ≤ R / 512 ∧ R / 512 < n then ∑ y ∈ range 512, dsc q k v d st j (l / 128) R y * k y l else 0)
  ∧ Re2 s.2.1 (fun y l => ∑ x ∈ Ico (512 * j) (512 * n), dsc q k v d st j (l / 128) x y * q x l)
  ∧ Re2 s.2.2 (fun y l => ∑ x ∈ Ico (512 * j) (512 * n), pr q k st j (l / 64) x y * d x l)

variable {q k v d st j D}

theorem sum_block (f : ℕ → ℝ) {j r : ℕ} (h : j ≤ r) :
    (∑ x ∈ Ico (512 * j) (512 * r), f x) + ∑ x ∈ range 512, f (512 * r + x) = ∑ x ∈ Ico (512 * j) (512 * (r + 1)), f x := by
  rw [← Finset.sum_Ico_consecutive f (Nat.mul_le_mul_left 512 h) (show 512 * r ≤ 512 * (r + 1) by omega)]
  rw [Finset.sum_Ico_eq_sum_range f (512 * r) (512 * (r + 1)), show 512 * (r + 1) - 512 * r = 512 by omega]

variable {x2 : Vec Ideal S8192x256 .bf16} {x3 : Vec Ideal S512x256 .bf16} {x4 : Vec Ideal S512x128 .bf16} {x5 : Vec Ideal S8192x128 .bf16} {x6 : Vec Ideal S8192x128 .f32}
  (h2 : Re2 x2 q) (h3 : Re2 x3 k) (h4 : Re2 x4 v) (h5 : Re2 x5 d) (h6 : Re2 x6 st)

include h2 h3 h4 h5 h6 in
theorem holds_blk {msk : FVec Ideal S512x512 .f32 → FVec Ideal S512x512 .f32} {r : Fin 16} (hr : j ≤ r.val)
    (hm : ∀ (p : FVec Ideal S512x512 .f32) (f : ℕ → ℕ → ℝ), Re2 p f → Re2 (msk p) (fun x y => if 512 * j + y ≤ 512 * r.val + x then f x y else 0))
    {s : St Ideal} (h : Holds q k v d st j D r.val s) : Holds q k v d st j D (r.val + 1) (blk msk lanes x2 x3 x4 x5 x6 r s) := by
  obtain ⟨a, b, c⟩ := re_blk h2 h3 h4 h5 h6 hm h.1 h.2.1 h.2.2
  refine ⟨a.congr fun R _ l _ => ?_, b.congr fun y _ l _ => ?_, c.congr fun y _ l _ => ?_⟩
  · by_cases hR : R / 512 = r.val
    · rw [if_neg (by omega), if_pos hR, if_pos (by omega), add_zero]
    · rw [if_neg hR, add_zero]
      congr 1
      have : (j ≤ R / 512 ∧ R / 512 < r.val) ↔ (j ≤ R / 512 ∧ R / 512 < r.val + 1) := by omega
      simp only [this]
  · exact sum_block (fun x => dsc q k v d st j (l / 128) x y * q x l) hr
  · exact sum_block (fun x => pr q k st j (l / 64) x y * d x l) hr

include h2 h3 h4 h5 h6 in
theorem holds_before (i : grid0.Coords) (hi : (i 1).val = j) {s : St Ideal} (h : Holds q k v d st j D (j + 1) s) :
    ∀ n ≤ (k0_t1_loop i).trips, Holds q k v d st j D (j + 1 + 2 * n) (before lanes x2 x3 x4 x5 x6 i s n)
  | 0, _ => h
  | n + 1, hn => by
    have ih := holds_before i hi h n (Nat.le_of_succ_le hn)
    have e1 := rowOf_val i 1 n (by omega) hn
    have e2 := rowOf_val i 2 n (by omega) hn
    rw [hi] at e1 e2
    have s1 := holds_blk h2 h3 h4 h5 h6 (msk := id) (r := rowOf i 1 n) (by omega) (mask_id (j := j) (by omega)) (by rw [e1]; exact ih)
    have s2 := holds_blk h2 h3 h4 h5 h6 (msk := id) (r := rowOf i 2 n) (by omega) (mask_id (j := j) (by omega)) (by rw [e2, show j + 2 + 2 * n = (j + 1 + 2 * n) + 1 by omega, ← e1]; exact s1)
    rw [e2, show j + 2 + 2 * n + 1 = j + 1 + 2 * (n + 1) by omega] at s2
    exact s2

theorem pr_zero {a R y : ℕ} (h : R < 512 * j) : pr q k st j a R y = 0 := if_neg (by omega)
theorem dsc_zero {a R y : ℕ} (h : R < 512 * j) : dsc q k v d st j a R y = 0 := by rw [dsc, pr_zero h, zero_mul]

theorem sum_full (f : ℕ → ℝ) (hj : j ≤ 16) (h : ∀ x, x < 512 * j → f x = 0) : ∑ x ∈ Ico (512 * j) (512 * 16), f x = ∑ x ∈ range 8192, f x := by
  rw [Finset.range_eq_Ico, ← Finset.sum_Ico_consecutive f (Nat.zero_le (512 * j)) (show 512 * j ≤ 8192 by omega)]
  rw [Finset.sum_eq_zero (s := Ico 0 (512 * j)) (fun x hx => h x (Finset.mem_Ico.mp hx).2), zero_add]

theorem re_pay75 : Re2 (n0 := 8192) (n1 := 256) (k0_pay75 (F := Ideal)) (fun _ _ => 0) := fun _ _ => Ideal.ofBits_zero_f32
theorem re_pay76 : Re2 (n0 := 512) (n1 := 256) (k0_pay76 (F := Ideal)) (fun _ _ => 0) := fun _ _ => Ideal.ofBits_zero_f32
theorem re_pay77 : Re2 (n0 := 512) (n1 := 128) (k0_pay77 (F := Ideal)) (fun _ _ => 0) := fun _ _ => Ideal.ofBits_zero_f32

include h2 h3 h4 h5 h6 in
/-- What a point leaves: the queries' gradient found (or zero) plus the point's share, and the whole sums for its keys and values. -/
theorem re_pt (i : grid0.Coords) (hi : (i 1).val = j) {s : St Ideal} (h0 : j = 0 → ∀ R l, D R l = 0) (h1 : j ≠ 0 → Re2 s.1 D) :
    Re2 (pt x2 x3 x4 x5 x6 i s).1 (fun R l => D R l + ∑ y ∈ range 512, dsc q k v d st j (l / 128) R y * k y l)
    ∧ Re2 (pt x2 x3 x4 x5 x6 i s).2.1 (fun y l => ∑ x ∈ range 8192, dsc q k v d st j (l / 128) x y * q x l)
    ∧ Re2 (pt x2 x3 x4 x5 x6 i s).2.2 (fun y l => ∑ x ∈ range 8192, pr q k st j (l / 64) x y * d x l) := by
  have hj : j < 16 := hi ▸ (i 1).isLt
  have start0 : Holds q k v d st j D j (start i s) := by
    refine ⟨?_, re_pay76.congr fun y _ l _ => by rw [Finset.Ico_self, Finset.sum_empty], re_pay77.congr fun y _ l _ => by rw [Finset.Ico_self, Finset.sum_empty]⟩
    unfold start
    by_cases hz : j = 0
    · rw [if_pos (hi.trans hz)]
      exact re_pay75.congr fun R _ l _ => by rw [h0 hz, if_neg (by omega), add_zero]
    · rw [if_neg (fun h => hz (hi.symm.trans h))]
      exact (h1 hz).congr fun R _ l _ => by rw [if_neg (by omega), add_zero]
  have e0 : (diagRow i).val = j := hi
  have d0 := holds_blk h2 h3 h4 h5 h6 (msk := low) (r := diagRow i) (by omega) (mask_low e0) (by rw [e0]; exact start0)
  rw [e0] at d0
  have lp : Holds q k v d st j D (j + 1 + 2 * ((15 - j) / 2)) (looped x2 x3 x4 x5 x6 i s) := by
    have := holds_before h2 h3 h4 h5 h6 i hi d0 _ le_rfl
    rw [show (k0_t1_loop i).trips = (15 - j) / 2 by rw [trips_eq, hi]] at this
    unfold looped
    rw [show (k0_t1_loop i).trips = (15 - j) / 2 by rw [trips_eq, hi]]
    exact this
  have fin : Holds q k v d st j D 16 (pt x2 x3 x4 x5 x6 i s) := by
    unfold pt
    rw [hi]
    by_cases ho : (15 - j) % 2 = 1
    · rw [if_pos ho]
      rw [show j + 1 + 2 * ((15 - j) / 2) = (15 : Fin 16).val by show _ = 15; omega] at lp
      exact holds_blk h2 h3 h4 h5 h6 (msk := id) (r := 15) (by show j ≤ 15; omega) (mask_id (by show j < 15; omega)) lp
    · rw [if_neg ho]
      rw [show j + 1 + 2 * ((15 - j) / 2) = 16 by omega] at lp
      exact lp
  refine ⟨fin.1.congr fun R hR l _ => ?_, fin.2.1.congr fun y _ l _ => ?_, fin.2.2.congr fun y _ l _ => ?_⟩
  · by_cases hc : j ≤ R / 512
    · rw [if_pos ⟨hc, by omega⟩]
    · rw [if_neg (by omega)]
      rw [Finset.sum_eq_zero fun y _ => by rw [dsc_zero (by omega), zero_mul]]
  · exact sum_full (fun x => dsc q k v d st j (l / 128) x y * q x l) (by omega) fun x hx => by rw [dsc_zero hx, zero_mul]
  · exact sum_full (fun x => pr q k st j (l / 64) x y * d x l) (by omega) fun x hx => by rw [pr_zero hx, zero_mul]

end

end Cert.Proof.Attn
end
-- ==== Proof.Arrays.lean ====
module

public import proofs.«01_k».proof.Proof.Fold
public import proofs.«01_k».proof.Proof.Run

/-! The kernel's three results on real numbers: from the points to the whole arrays. -/

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)
open Finset

section
variable (Q K U W : ℕ → ℕ → ℝ) (E Δ : ℕ → ℕ → ℝ)

/-- The probability of query `R` at key `C`, head `h`; `E` is the logarithm of the row's sum of exponentials. -/
def prob (h R C : ℕ) : ℝ := if C ≤ R then Real.exp ((∑ l ∈ range 128, Q R (128 * h + l) * K C (128 * h + l)) - E h R) else 0

/-- The gradient of the score of query `R` at key `C`, head `h`, where `U` are the values, `W` the output's gradient and
    `Δ` the row's sum of output times its gradient. -/
def dscore (h R C : ℕ) : ℝ := prob Q K E h R C * ((∑ l ∈ range 64, W R (64 * h + l) * U C (64 * h + l)) - Δ h R)

/-- The statistics' array: of each head 32 lanes of the one and 32 of the other. -/
def stats (R l : ℕ) : ℝ := if l % 64 < 32 then E (l / 64) R else Δ (l / 64) R

variable {Q K U W E Δ}

theorem pr_eq (p j a R y : ℕ) (ha : a < 2) :
    pr (fun R l => Q R (256 * p + l)) (fun y l => K (512 * j + y) (256 * p + l)) (fun R l => stats E Δ R (128 * p + l)) j a R y = prob Q K E (2 * p + a) R (512 * j + y) := by
  unfold pr prob stats
  have e1 : ∀ l, 256 * p + (128 * a + l) = 128 * (2 * p + a) + l := fun l => by omega
  have e2 : (128 * p + 64 * a) % 64 < 32 := by omega
  have e3 : (128 * p + 64 * a) / 64 = 2 * p + a := by omega
  simp only [e1, e2, e3, if_true]

theorem sum_half (f : ℕ → ℝ) (a : ℕ) (ha : a < 2) : (∑ l ∈ range 128, if l / 64 = a then f l else 0) = ∑ l ∈ range 64, f (64 * a + l) := by
  rw [show 128 = 64 + 64 from rfl, Finset.sum_range_add]
  interval_cases a
  · rw [Finset.sum_congr rfl (g := fun l => f l) fun l hl => if_pos (by have := Finset.mem_range.mp hl; omega)]
    rw [Finset.sum_eq_zero (s := range 64) (f := fun x => if (64 + x) / 64 = 0 then f (64 + x) else 0) fun l hl => if_neg (by omega), add_zero]
    simp only [Nat.mul_zero, Nat.zero_add]
  · rw [Finset.sum_eq_zero (s := range 64) (f := fun x => if x / 64 = 1 then f x else 0) fun l hl => if_neg (by have := Finset.mem_range.mp hl; omega), zero_add]
    exact Finset.sum_congr rfl fun l hl => if_pos (by have := Finset.mem_range.mp hl; omega)

theorem dsc_eq (p j a R y : ℕ) (ha : a < 2) :
    dsc (fun R l => Q R (256 * p + l)) (fun y l => K (512 * j + y) (256 * p + l)) (fun y l => U (512 * j + y) (128 * p + l)) (fun R l => W R (128 * p + l))
      (fun R l => stats E Δ R (128 * p + l)) j a R y = dscore Q K U W E Δ (2 * p + a) R (512 * j + y) := by
  unfold dsc dscore
  rw [pr_eq p j a R y ha]
  have e2 : ¬(128 * p + (64 * a + 32)) % 64 < 32 := by omega
  have e3 : (128 * p + (64 * a + 32)) / 64 = 2 * p + a := by omega
  simp only [stats, e2, e3, if_false, ite_mul, zero_mul]
  rw [sum_half (fun l => W R (128 * p + l) * U (512 * j + y) (128 * p + l)) a ha]
  have e1 : ∀ l, 128 * p + (64 * a + l) = 64 * (2 * p + a) + l := fun l => by omega
  simp only [e1]

variable (m : (ℓ : Loc nD τ sig) → Buf (Elt Ideal) ℓ) (c : Dev nD)
  (hq : ∀ t : Fin cfg0.N, Re2 (qB m c t) (fun R l => Q R (256 * (t.val / 16) + l)))
  (hk : ∀ t : Fin cfg0.N, Re2 (kB m c t) (fun y l => K (512 * (t.val % 16) + y) (256 * (t.val / 16) + l)))
  (hv : ∀ t : Fin cfg0.N, Re2 (vB m c t) (fun y l => U (512 * (t.val % 16) + y) (128 * (t.val / 16) + l)))
  (hd : ∀ t : Fin cfg0.N, Re2 (doB' m c t) (fun R l => W R (128 * (t.val / 16) + l)))
  (hs : ∀ t : Fin cfg0.N, Re2 (stB m c t) (fun R l => stats E Δ R (128 * (t.val / 16) + l)))

/-- The gradients after point `n`. -/
def After (Q K U W E Δ : ℕ → ℕ → ℝ) (n : ℕ) (s : St Ideal) : Prop :=
  Re2 s.1 (fun R l => ∑ C ∈ range (512 * (n % 16 + 1)), dscore Q K U W E Δ ((256 * (n / 16) + l) / 128) R C * K C (256 * (n / 16) + l))
  ∧ Re2 s.2.1 (fun y l => ∑ R ∈ range 8192, dscore Q K U W E Δ ((256 * (n / 16) + l) / 128) R (512 * (n % 16) + y) * Q R (256 * (n / 16) + l))
  ∧ Re2 s.2.2 (fun y l => ∑ R ∈ range 8192, prob Q K E ((128 * (n / 16) + l) / 64) R (512 * (n % 16) + y) * W R (128 * (n / 16) + l))

include hq hk hv hd hs in
theorem after_step (t : Fin cfg0.N) (s : St Ideal)
    (h : t.val % 16 ≠ 0 → Re2 s.1 (fun R l => ∑ C ∈ range (512 * (t.val % 16)), dscore Q K U W E Δ ((256 * (t.val / 16) + l) / 128) R C * K C (256 * (t.val / 16) + l))) :
    After Q K U W E Δ t.val (stepAt m c t s) := by
  obtain ⟨a, b, d⟩ := re_pt (hq t) (hk t) (hv t) (hd t) (hs t) (grid0.coords t) (coord_one t) (s := s)
    (D := fun R l => ∑ C ∈ range (512 * (t.val % 16)), dscore Q K U W E Δ ((256 * (t.val / 16) + l) / 128) R C * K C (256 * (t.val / 16) + l))
    (fun h0 R l => by rw [h0]; rfl) h
  refine ⟨a.congr fun R _ l hl => ?_, b.congr fun y _ l hl => ?_, d.congr fun y _ l hl => ?_⟩
  · have e : (256 * (t.val / 16) + l) / 128 = 2 * (t.val / 16) + l / 128 := by omega
    rw [show 512 * (t.val % 16 + 1) = 512 * (t.val % 16) + 512 by omega, Finset.sum_range_add, e]
    congr 1
    exact Finset.sum_congr rfl fun y _ => by rw [dsc_eq _ _ _ _ _ (by omega)]
  · have e : (256 * (t.val / 16) + l) / 128 = 2 * (t.val / 16) + l / 128 := by omega
    rw [e]
    exact Finset.sum_congr rfl fun y _ => by rw [dsc_eq _ _ _ _ _ (by omega)]
  · have e : (128 * (t.val / 16) + l) / 64 = 2 * (t.val / 16) + l / 64 := by omega
    rw [e]
    exact Finset.sum_congr rfl fun y _ => by rw [pr_eq _ _ _ _ _ (by omega)]

include hq hk hv hd hs in
theorem after_outs : ∀ n < cfg0.N, After Q K U W E Δ n (outs m c n)
  | 0, h => by
    rw [outs]
    exact after_step m c hq hk hv hd hs ⟨0, h⟩ _ fun h0 => absurd rfl h0
  | n + 1, h => by
    rw [outs, dif_pos h]
    refine after_step m c hq hk hv hd hs ⟨n + 1, h⟩ _ fun h0 => ?_
    have ih := (after_outs n (Nat.lt_of_succ_lt h)).1
    have h0' : (n + 1) % 16 ≠ 0 := h0
    show Re2 _ (fun R l => ∑ C ∈ range (512 * ((n + 1) % 16)), dscore Q K U W E Δ ((256 * ((n + 1) / 16) + l) / 128) R C * K C (256 * ((n + 1) / 16) + l))
    rw [show (n + 1) % 16 = n % 16 + 1 by omega, show (n + 1) / 16 = n / 16 by omega]
    exact ih

end
end Cert.Proof.Attn
end
-- ==== Proof.Softmax.lean ====
module

public import proofs.«01_k».proof.Proof.Arrays

/-! The softmax of a masked row on reals: the shift by a row's maximum cancels. -/

@[expose] public section

noncomputable section

namespace Cert.Proof.Attn

open Idealize.ShloMosaic
open Finset

section
variable (Q K U W : ℕ → ℕ → ℝ) (M : ℕ → ℕ → ℝ)

/-- The score of query `R` at key `C`, head `h`. -/
def score (h R C : ℕ) : ℝ := ∑ l ∈ range 128, Q R (128 * h + l) * K C (128 * h + l)

/-- The gradient of the probability of query `R` at key `C`, head `h`. -/
def dprob (h R C : ℕ) : ℝ := ∑ l ∈ range 64, W R (64 * h + l) * U C (64 * h + l)

/-- The logarithm of a row's sum of exponentials. -/
def lse (h R : ℕ) : ℝ := Real.log (∑ C ∈ range 8192, if C ≤ R then Real.exp (score Q K h R C) else 0)

/-- A row's sum of probability times its gradient. -/
def delta (h R : ℕ) : ℝ := ∑ C ∈ range 8192, prob Q K (lse Q K) h R C * dprob U W h R C

/-- The exponential of a score less the row's shift `M`, zero above the diagonal. -/
def expo (h R C : ℕ) : ℝ := if C ≤ R then Real.exp (score Q K h R C - M h R) else 0

/-- The row's sum of these. -/
def mass (h R : ℕ) : ℝ := ∑ C ∈ range 8192, expo Q K M h R C

theorem expo_nonneg (h R C : ℕ) : 0 ≤ expo Q K M h R C := by
  unfold expo
  split
  · exact (Real.exp_pos _).le
  · exact le_rfl

theorem mass_pos (h R : ℕ) : 0 < mass Q K M h R :=
  Finset.sum_pos' (fun C _ => expo_nonneg Q K M h R C) ⟨0, by simp, by unfold expo; rw [if_pos (Nat.zero_le _)]; exact Real.exp_pos _⟩

theorem mass_eq (h R : ℕ) : mass Q K M h R = Real.exp (lse Q K h R - M h R) := by
  have hz : mass Q K (fun _ _ => 0) h R = ∑ C ∈ range 8192, if C ≤ R then Real.exp (score Q K h R C) else 0 :=
    Finset.sum_congr rfl fun C _ => by unfold expo; rw [sub_zero]
  have hm : mass Q K M h R = mass Q K (fun _ _ => 0) h R * Real.exp (-M h R) := by
    unfold mass
    rw [Finset.sum_mul]
    refine Finset.sum_congr rfl fun C _ => ?_
    unfold expo
    split
    · rw [sub_zero, ← Real.exp_add, sub_eq_add_neg]
    · rw [zero_mul]
  rw [hm, sub_eq_add_neg, Real.exp_add]
  unfold lse
  rw [← hz, Real.exp_log (mass_pos Q K _ h R)]

theorem lse_eq (h R : ℕ) : M h R + Real.log (mass Q K M h R) = lse Q K h R := by
  rw [mass_eq, Real.log_exp, add_sub_cancel]

theorem prob_eq (h R C : ℕ) : expo Q K M h R C * (1 / mass Q K M h R) = prob Q K (lse Q K) h R C := by
  rw [mass_eq]
  unfold expo prob
  split
  · rw [one_div, ← Real.exp_neg, ← Real.exp_add]
    congr 1
    unfold score
    ring
  · rw [zero_mul]

/-- The gradient through the quotient of an exponential by its row's sum is the probability times the
    gradient less the row's mean. -/
theorem quotient_eq (h R C : ℕ) (D : ℕ → ℝ) :
    (D C * (1 / mass Q K M h R) + -(∑ y ∈ range 8192, D y * (1 * (1 / (mass Q K M h R * mass Q K M h R))) * expo Q K M h R y)) * expo Q K M h R C
      = prob Q K (lse Q K) h R C * (D C - ∑ y ∈ range 8192, prob Q K (lse Q K) h R y * D y) := by
  have hl := (mass_pos Q K M h R).ne'
  simp only [← prob_eq Q K M]
  have : (∑ y ∈ range 8192, D y * (1 * (1 / (mass Q K M h R * mass Q K M h R))) * expo Q K M h R y)
      = (1 / mass Q K M h R) * ∑ y ∈ range 8192, expo Q K M h R y * (1 / mass Q K M h R) * D y := by
    rw [Finset.mul_sum]
    refine Finset.sum_congr rfl fun y _ => ?_
    rw [one_mul, one_div, one_div, mul_inv]
    ring
  rw [this]
  ring

end

/-- A maximum over reals, from minus infinity and with entries of minus infinity allowed: it is a real as soon as one entry is. -/
theorem fold_max_real {n : ℕ} (f : Fin n → EReal) (k : Fin n) (hk : f k ≠ ⊥) (ht : ∀ i, f i ≠ ⊤) :
    ∃ r : ℝ, (Finset.univ : Finset (Fin n)).fold max ⊥ f = (r : EReal) := by
  have h1 : (Finset.univ : Finset (Fin n)).fold max ⊥ f ≠ ⊥ := fun e => hk (le_bot_iff.mp (by
    rw [← e, Finset.le_fold_max]; exact Or.inr ⟨k, Finset.mem_univ k, le_rfl⟩))
  have h2 : (Finset.univ : Finset (Fin n)).fold max ⊥ f ≠ ⊤ := fun e => by
    have : (Finset.univ : Finset (Fin n)).fold max ⊥ f < ⊤ := by
      rw [Finset.fold_max_lt]
      exact ⟨bot_lt_top, fun i _ => lt_top_iff_ne_top.mpr (ht i)⟩
    exact this.ne e
  exact ⟨_, (EReal.coe_toReal h2 h1).symm⟩

theorem ofBits_ninf : Ideal.ofBits .f32 0xFF800000#32 = ⊥ := by simp [Ideal.ofBits, Ideal.ieee]

end Cert.Proof.Attn

end
-- ==== Proof.Results.lean ====
module

public import proofs.«01_k».proof.Proof.Arrays
public import Idealize.ShloMosaic.Lib.Pipeline.ValueKit.Geometry

/-! The kernel's input blocks read off the arrays, and its three result arrays put together from the points' blocks. -/

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)
open Finset

theorem ix_0 : ∀ t : Fin cfg0.N, win0_0.index t = ![0, t.val / 16] := (by decide +kernel : ∀ t : Fin grid0.N, _)
theorem ix_1 : ∀ t : Fin cfg0.N, win0_1.index t = ![t.val % 16, t.val / 16] := (by decide +kernel : ∀ t : Fin grid0.N, _)
theorem ix_2 : ∀ t : Fin cfg0.N, win0_2.index t = ![t.val % 16, t.val / 16] := (by decide +kernel : ∀ t : Fin grid0.N, _)
theorem ix_3 : ∀ t : Fin cfg0.N, win0_3.index t = ![0, t.val / 16] := (by decide +kernel : ∀ t : Fin grid0.N, _)
theorem ix_4 : ∀ t : Fin cfg0.N, win0_4.index t = ![0, t.val / 16] := (by decide +kernel : ∀ t : Fin grid0.N, _)
theorem ix_5 : ∀ t : Fin cfg0.N, win0_5.index t = ![0, t.val / 16] := (by decide +kernel : ∀ t : Fin grid0.N, _)
theorem ix_6 : ∀ t : Fin cfg0.N, win0_6.index t = ![t.val % 16, t.val / 16] := (by decide +kernel : ∀ t : Fin grid0.N, _)
theorem ix_7 : ∀ t : Fin cfg0.N, win0_7.index t = ![t.val % 16, t.val / 16] := (by decide +kernel : ∀ t : Fin grid0.N, _)

section
variable {Q K U W E Δ : ℕ → ℕ → ℝ} (m : (ℓ : Loc nD τ sig) → Buf (Elt Ideal) ℓ) (c : Dev nD)

/-- An array that holds reals, at any index. -/
theorem Re2.at {n0 n1 : ℕ} {x : (⟨2, ![n0, n1]⟩ : Shape).Idx → EReal} {f : ℕ → ℕ → ℝ} (h : Re2 x f) (i : (⟨2, ![n0, n1]⟩ : Shape).Idx) (a b : ℕ)
    (ha : (i 0).val = a) (hb : (i 1).val = b) : x i = ((f a b : ℝ) : EReal) := by
  subst ha hb
  exact (congrArg x (ValueIdx.eq_ix2 i)).trans (h (i 0) (i 1))

theorem re_qB (h : Re2 (n0 := 8192) (n1 := 1024) (V m c main_arg0) Q) (t : Fin cfg0.N) : Re2 (qB m c t) (fun R l => Q R (256 * (t.val / 16) + l)) := fun a b => by
  unfold qB
  blk_simp [iblk]
  refine h.at _ _ _ ?_ ?_
  · blk_simp [ix_0]
  · blk_simp [ix_0]
    simp [Nat.mul_comm]

theorem re_kB (h : Re2 (n0 := 8192) (n1 := 1024) (V m c main_arg1) K) (t : Fin cfg0.N) : Re2 (kB m c t) (fun y l => K (512 * (t.val % 16) + y) (256 * (t.val / 16) + l)) := fun a b => by
  unfold kB
  blk_simp [iblk]
  refine h.at _ _ _ ?_ ?_
  · blk_simp [ix_1]
    simp [Nat.mul_comm]
  · blk_simp [ix_1]
    simp [Nat.mul_comm]

theorem re_vB (h : Re2 (n0 := 8192) (n1 := 512) (V m c main_arg2) U) (t : Fin cfg0.N) : Re2 (vB m c t) (fun y l => U (512 * (t.val % 16) + y) (128 * (t.val / 16) + l)) := fun a b => by
  unfold vB
  blk_simp [iblk]
  refine h.at _ _ _ ?_ ?_
  · blk_simp [ix_2]
    simp [Nat.mul_comm]
  · blk_simp [ix_2]
    simp [Nat.mul_comm]

theorem re_doB' (h : Re2 (n0 := 8192) (n1 := 512) (V m c main_arg3) W) (t : Fin cfg0.N) : Re2 (doB' m c t) (fun R l => W R (128 * (t.val / 16) + l)) := fun a b => by
  unfold doB'
  blk_simp [iblk]
  refine h.at _ _ _ ?_ ?_
  · blk_simp [ix_3]
  · blk_simp [ix_3]
    simp [Nat.mul_comm]

theorem re_stB (h : Re2 (n0 := 8192) (n1 := 512) (V m c main_v69) (stats E Δ)) (t : Fin cfg0.N) : Re2 (stB m c t) (fun R l => (stats E Δ) R (128 * (t.val / 16) + l)) := fun a b => by
  unfold stB
  blk_simp [iblk]
  refine h.at _ _ _ ?_ ?_
  · blk_simp [ix_4]
  · blk_simp [ix_4]
    simp [Nat.mul_comm]

/-- The queries' gradient. -/
def gradQ (Q K U W E Δ : ℕ → ℕ → ℝ) (R l : ℕ) : ℝ := ∑ C ∈ range 8192, dscore Q K U W E Δ (l / 128) R C * K C l
/-- The keys' gradient. -/
def gradK (Q K U W E Δ : ℕ → ℕ → ℝ) (C l : ℕ) : ℝ := ∑ R ∈ range 8192, dscore Q K U W E Δ (l / 128) R C * Q R l
/-- The values' gradient. -/
def gradV (Q K W E : ℕ → ℕ → ℝ) (C l : ℕ) : ℝ := ∑ R ∈ range 8192, prob Q K E (l / 64) R C * W R l

/-- An array of reals. -/
def arr2 {n0 n1 : ℕ} (f : ℕ → ℕ → ℝ) : (⟨2, ![n0, n1]⟩ : Shape).Idx → EReal := fun i => ((f (i 0).val (i 1).val : ℝ) : EReal)

section
variable (h0 : Re2 (n0 := 8192) (n1 := 1024) (V m c main_arg0) Q) (h1 : Re2 (n0 := 8192) (n1 := 1024) (V m c main_arg1) K)
  (h2 : Re2 (n0 := 8192) (n1 := 512) (V m c main_arg2) U) (h3 : Re2 (n0 := 8192) (n1 := 512) (V m c main_arg3) W)
  (h4 : Re2 (n0 := 8192) (n1 := 512) (V m c main_v69) (stats E Δ))

include h0 h1 h2 h3 h4 in
theorem outs_real (t : Fin cfg0.N) : After Q K U W E Δ t.val (outs m c t.val) :=
  after_outs m c (re_qB m c h0) (re_kB m c h1) (re_vB m c h2) (re_doB' m c h3) (re_stB m c h4) t.val t.isLt

include h0 h1 h2 h3 h4 in
theorem final_q : (dats m 0 c).arrAt 5 cfg0.N = arr2 (n0 := 8192) (n1 := 1024) (gradQ Q K U W E Δ) := by
  refine (dats m 0 c).arrAt_eq_of_covers 5 _ (by decide +kernel) fun t hf y => ?_
  have ht := (flush0_5 t).mp hf
  blk_simp
  rw [after0_5]
  refine ((outs_real m c h0 h1 h2 h3 h4 t).1.at _ _ _ rfl rfl).trans ?_
  unfold arr2 gradQ
  blk_simp [ix_5]
  rw [ht, Nat.mul_comm 256]

include h0 h1 h2 h3 h4 in
theorem final_k : (dats m 0 c).arrAt 6 cfg0.N = arr2 (n0 := 8192) (n1 := 1024) (gradK Q K U W E Δ) := by
  refine (dats m 0 c).arrAt_eq_of_covers 6 _ (by decide +kernel) fun t hf y => ?_
  blk_simp
  rw [after0_6]
  refine ((outs_real m c h0 h1 h2 h3 h4 t).2.1.at _ _ _ rfl rfl).trans ?_
  unfold arr2 gradK
  blk_simp [ix_6]
  rw [Nat.mul_comm 256, Nat.mul_comm 512]

include h0 h1 h2 h3 h4 in
theorem final_v : (dats m 0 c).arrAt 7 cfg0.N = arr2 (n0 := 8192) (n1 := 512) (gradV Q K W E) := by
  refine (dats m 0 c).arrAt_eq_of_covers 7 _ (by decide +kernel) fun t hf y => ?_
  blk_simp
  rw [after0_7]
  refine ((outs_real m c h0 h1 h2 h3 h4 t).2.2.at _ _ _ rfl rfl).trans ?_
  unfold arr2 gradV
  blk_simp [ix_7]
  rw [Nat.mul_comm 128, Nat.mul_comm 512]

end
end
end Cert.Proof.Attn
end
-- ==== Proof.RefValue.lean ====
module

public import proofs.«01_k».proof.Proof.Softmax
public import proofs.«01_k».proof.Proof.Results
public import proofs.«01_k».proof.Proof.Gen.ReferenceIdeal.Read

/-! The reference's three results on reals, one operation after another. -/

@[expose] public section

set_option maxRecDepth 16384

noncomputable section

namespace Cert.Proof.Attn

open Cert.ReferenceIdeal Cert.ReferenceIdeal.Read
open Idealize.ShloMosaic
open Finset

variable (Q K U W : ℕ → ℕ → ℝ)
  (x0 x1 : S8192x1024.Idx → EReal) (x2 x3 : S8192x512.Idx → EReal)
  (h0 : ∀ i, x0 i = ((Q (i 0).val (i 1).val : ℝ) : EReal)) (h1 : ∀ i, x1 i = ((K (i 0).val (i 1).val : ℝ) : EReal))
  (h2 : ∀ i, x2 i = ((U (i 0).val (i 1).val : ℝ) : EReal)) (h3 : ∀ i, x3 i = ((W (i 0).val (i 1).val : ℝ) : EReal))

include h0 in
theorem ref_q (i : S8192x8x128.Idx) : val_main_v1 (F := Ideal) x0 i = ((Q (i 0).val (128 * (i 1).val + (i 2).val) : ℝ) : EReal) := by
  rw [val_main_v1_apply, val_main_v0_apply]
  show x0 _ = _
  rw [h0]
  have a1 : (i 1).val < 8 := (i 1).isLt
  have a2 : (i 2).val < 128 := (i 2).isLt
  show ((Q ((((i 0).val * 8 + (i 1).val) * 128 + (i 2).val) / 1024) ((((i 0).val * 8 + (i 1).val) * 128 + (i 2).val) % 1024) : ℝ) : EReal) = _
  rw [show (((i 0).val * 8 + (i 1).val) * 128 + (i 2).val) / 1024 = (i 0).val by omega,
    show (((i 0).val * 8 + (i 1).val) * 128 + (i 2).val) % 1024 = 128 * (i 1).val + (i 2).val by omega]

include h1 in
theorem ref_k (i : S8192x8x128.Idx) : val_main_v3 (F := Ideal) x1 i = ((K (i 0).val (128 * (i 1).val + (i 2).val) : ℝ) : EReal) :=
  ref_q K x1 h1 i

include h2 in
theorem ref_v (i : S8192x8x64.Idx) : val_main_v45 (F := Ideal) x2 i = ((U (i 0).val (64 * (i 1).val + (i 2).val) : ℝ) : EReal) := by
  rw [val_main_v45_apply, val_main_v44_apply]
  show x2 _ = _
  rw [h2]
  have a1 : (i 1).val < 8 := (i 1).isLt
  have a2 : (i 2).val < 64 := (i 2).isLt
  show ((U ((((i 0).val * 8 + (i 1).val) * 64 + (i 2).val) / 512) ((((i 0).val * 8 + (i 1).val) * 64 + (i 2).val) % 512) : ℝ) : EReal) = _
  rw [show (((i 0).val * 8 + (i 1).val) * 64 + (i 2).val) / 512 = (i 0).val by omega,
    show (((i 0).val * 8 + (i 1).val) * 64 + (i 2).val) % 512 = 64 * (i 1).val + (i 2).val by omega]

include h3 in
theorem ref_do (i : S8192x8x64.Idx) : val_main_v51 (F := Ideal) x3 i = ((W (i 0).val (64 * (i 1).val + (i 2).val) : ℝ) : EReal) := by
  rw [val_main_v51_apply, val_main_v50_apply]
  show x3 _ = _
  rw [h3]
  have a1 : (i 1).val < 8 := (i 1).isLt
  have a2 : (i 2).val < 64 := (i 2).isLt
  show ((W ((((i 0).val * 8 + (i 1).val) * 64 + (i 2).val) / 512) ((((i 0).val * 8 + (i 1).val) * 64 + (i 2).val) % 512) : ℝ) : EReal) = _
  rw [show (((i 0).val * 8 + (i 1).val) * 64 + (i 2).val) / 512 = (i 0).val by omega,
    show (((i 0).val * 8 + (i 1).val) * 64 + (i 2).val) % 512 = 64 * (i 1).val + (i 2).val by omega]

include h3 in
theorem ref_dot (i : S8x64x8192.Idx) : val_main_v52 (F := Ideal) x3 i = ((W (i 2).val (64 * (i 0).val + (i 1).val) : ℝ) : EReal) := by
  rw [val_main_v52_apply, ref_do W x3 h3]

include h0 h1 in
theorem ref_score (i : S8x8192x8192.Idx) : val_main_v6 (F := Ideal) x0 x1 i = ((score Q K (i 0).val (i 1).val (i 2).val : ℝ) : EReal) := by
  rw [val_main_v6_apply, val_main_v5_apply]
  show val_main_v4 (F := Ideal) x0 x1 i = _
  rw [val_main_v4_apply]
  refine Eq.trans ?_ (sum_real (K := 128) (fun l => Q (i 1).val (128 * (i 0).val + l)) (fun l => K (i 2).val (128 * (i 0).val + l)))
  exact Finset.sum_congr rfl fun k _ => by rw [ref_q Q x0 h0, ref_k K x1 h1]

theorem ref_mask (i : S8x8192x8192.Idx) : val_main_v13_1 (F := Ideal) i = if (i 2).val ≤ (i 1).val then 1#1 else 0#1 := by
  rw [val_main_v13_1_apply, val_main_v12_apply, val_main_v10_apply, val_main_v11_apply, val_main_v8_apply, val_main_v9_apply, val_main_v7_apply, val_main_v7_apply]
  have a1 : (i 1).val < 2 ^ 31 := lt_of_lt_of_le (i 1).isLt (by decide)
  have a2 : (i 2).val < 2 ^ 31 := lt_of_lt_of_le (i 2).isLt (by decide)
  show IntOp.cmpi .sle (BitVec.ofNat 32 (i 2).val) (BitVec.ofNat 32 (i 1).val) = _
  split
  next h => exact (Idealize.ShloMosaic.WordCmp.cmpi_sle_ofNat_eq_one_iff a2 a1).mpr h
  next h => exact (Idealize.ShloMosaic.WordCmp.cmpi_sle_ofNat_eq_zero_iff a2 a1).mpr h

include h0 h1 in
theorem ref_masked (i : S8x8192x8192.Idx) :
    val_main_v13_0 (F := Ideal) x0 x1 i = if (i 2).val ≤ (i 1).val then ((score Q K (i 0).val (i 1).val (i 2).val : ℝ) : EReal) else ⊥ := by
  rw [val_main_v13_0_apply, ref_mask, ref_score Q K x0 x1 h0 h1, val_main_call0_v2_apply, val_main_call0_v0_apply, val_main_cst_apply]
  split
  · rfl
  · exact ofBits_ninf

include h0 h1 in
theorem ref_max : ∃ M : ℕ → ℕ → ℝ, ∀ i : S8x8192.Idx, val_main_v14 (F := Ideal) x0 x1 i = ((M (i 0).val (i 1).val : ℝ) : EReal) := by
  have key : ∀ i : S8x8192.Idx, ∃ r : ℝ, val_main_v14 (F := Ideal) x0 x1 i = (r : EReal) := fun i => by
    unfold val_main_v14
    have hb : (val_main_cst_0 (F := Ideal)) (Shape.Idx.first Gen.h_S_) = ⊥ := ofBits_ninf
    have hx := ref_masked Q K x0 x1 h0 h1
    revert hx hb
    generalize val_main_v13_0 (F := Ideal) x0 x1 = y
    generalize val_main_cst_0 (F := Ideal) = z
    intro hb hx
    have e := Host.reduce_eq_fold_single (α := EReal) max y z Gen.reducesTo_S8x8192x8192_S8x8192_d2 (by decide) Gen.h_S_ i
    rw [hb] at e
    have f := fold_max_real (fun k => y (Shape.Reduces.lift (s := S8x8192x8192) (a := 2) (t := S8x8192) (by decide) i k)) ⟨0, by decide⟩ ?_ ?_
    · obtain ⟨r, hr⟩ := f
      exact ⟨r, e.trans hr⟩
    · show y _ ≠ ⊥
      rw [hx, if_pos (by exact Nat.zero_le _)]
      exact EReal.coe_ne_bot _
    · intro k
      show y _ ≠ ⊤
      rw [hx]
      split
      · exact EReal.coe_ne_top _
      · exact bot_ne_top
  choose r hr using key
  refine ⟨fun h R => r (ValueIdx.ix2 ⟨h % 8, Nat.mod_lt _ (by decide)⟩ ⟨R % 8192, Nat.mod_lt _ (by decide)⟩), fun i => ?_⟩
  rw [hr i]
  congr 2
  funext d
  have a0 : (i 0).val < 8 := (i 0).isLt
  have a1 : (i 1).val < 8192 := (i 1).isLt
  fin_cases d
  · exact Fin.ext (Nat.mod_eq_of_lt a0).symm
  · exact Fin.ext (Nat.mod_eq_of_lt a1).symm

variable (M : ℕ → ℕ → ℝ) (hM : ∀ i : S8x8192.Idx, val_main_v14 (F := Ideal) x0 x1 i = ((M (i 0).val (i 1).val : ℝ) : EReal))

include hM in
theorem ref_shift (i : S8x8192x8192.Idx) : val_main_v32 (F := Ideal) x0 x1 i = ((M (i 0).val (i 1).val : ℝ) : EReal) := by
  rw [val_main_v32_apply, val_main_v31_apply, val_main_v21_apply, val_main_v20_apply, val_main_cst_2_apply, hM]
  show max (Ideal.ofBits .f32 0xFF800000#32) _ = _
  rw [ofBits_ninf, max_eq_right bot_le]

/-- A masked score less a real shift, exponentiated. -/
theorem exp_masked (h R C : ℕ) :
    Ideal.exp ((if C ≤ R then ((score Q K h R C : ℝ) : EReal) else ⊥) - ((M h R : ℝ) : EReal)) = ((expo Q K M h R C : ℝ) : EReal) := by
  unfold expo
  split
  · rw [← EReal.coe_sub, Ideal.exp_coe]
  · rw [EReal.bot_sub]
    rfl

include h0 h1 hM in
theorem ref_exp (i : S8x8192x8192.Idx) : val_main_v34 (F := Ideal) x0 x1 i = ((expo Q K M (i 0).val (i 1).val (i 2).val : ℝ) : EReal) := by
  rw [val_main_v34_apply, val_main_v33_apply, ref_masked Q K x0 x1 h0 h1, ref_shift x0 x1 M hM]
  exact exp_masked Q K M _ _ _

/-- A sum of reals from zero. -/
theorem sum_from_zero {n : ℕ} (f : ℕ → ℝ) (g : Fin n → EReal) (z : EReal) (hz : z = 0) (hg : ∀ k : Fin n, g k = ((f k.val : ℝ) : EReal)) :
    z + ∑ k : Fin n, g k = ((∑ k ∈ range n, f k : ℝ) : EReal) := by
  rw [hz, zero_add, Finset.sum_range, coe_sum]
  exact Finset.sum_congr rfl fun k _ => hg k

include h0 h1 hM in
theorem ref_mass (i : S8x8192.Idx) : val_main_v35 (F := Ideal) x0 x1 i = ((mass Q K M (i 0).val (i 1).val : ℝ) : EReal) := by
  rw [val_main_v35_apply]
  exact sum_from_zero (fun C => expo Q K M (i 0).val (i 1).val C) _ _ Ideal.ofBits_zero_f32 fun k => ref_exp Q K x0 x1 h0 h1 M hM _

include h0 h1 hM in
theorem ref_prob (i : S8x8192x8192.Idx) : val_main_v43 (F := Ideal) x0 x1 i = ((prob Q K (lse Q K) (i 0).val (i 1).val (i 2).val : ℝ) : EReal) := by
  rw [val_main_v43_apply, val_main_v42_apply]
  show val_main_v38 (F := Ideal) x0 x1 i = _
  rw [val_main_v38_apply, val_main_v37_apply, val_main_v36_apply, ref_exp Q K x0 x1 h0 h1 M hM, ref_mass Q K x0 x1 h0 h1 M hM, ← prob_eq Q K M]
  show Ideal.div _ _ = _
  rw [Ideal.div_coe (mass_pos Q K M _ _).ne', EReal.coe_mul]

include h2 h3 in
theorem ref_dprob (i : S8x8192x8192.Idx) : val_main_v59 (F := Ideal) x2 x3 i = ((dprob U W (i 0).val (i 1).val (i 2).val : ℝ) : EReal) := by
  rw [val_main_v59_apply, val_main_v58_apply]
  show val_main_v53 (F := Ideal) x2 x3 i = _
  rw [val_main_v53_apply]
  refine Eq.trans ?_ (sum_real (K := 64) (fun l => W (i 1).val (64 * (i 0).val + l)) (fun l => U (i 2).val (64 * (i 0).val + l)))
  exact Finset.sum_congr rfl fun k _ => by rw [ref_dot W x3 h3, ref_v U x2 h2]

include h0 h1 hM in
theorem ref_inv (i : S8x8192x8192.Idx) :
    val_main_v60 (F := Ideal) x0 x1 i = ((1 * (1 / (mass Q K M (i 0).val (i 1).val * mass Q K M (i 0).val (i 1).val)) : ℝ) : EReal) := by
  rw [val_main_v60_apply, val_main_v41_apply, val_main_v39_apply, val_main_v36_apply, val_main_v40_apply, val_main_cst_9_apply, ref_mass Q K x0 x1 h0 h1 M hM]
  show Ideal.div (Ideal.ofBits .f32 0x3F800000#32) (((mass Q K M (i 0).val (i 1).val : ℝ) : EReal) * ((mass Q K M (i 0).val (i 1).val : ℝ) : EReal)) = _
  have hl := (mass_pos Q K M (i 0).val (i 1).val).ne'
  rw [Ideal.ofBits_one_f32, ← EReal.coe_mul, Ideal.div_coe (mul_ne_zero hl hl), EReal.coe_mul 1, EReal.coe_one]

include h0 h1 h2 h3 hM in
theorem ref_row (i : S8x8192.Idx) : val_main_v63 (F := Ideal) x0 x1 x2 x3 i
    = ((∑ y ∈ range 8192, dprob U W (i 0).val (i 1).val y * (1 * (1 / (mass Q K M (i 0).val (i 1).val * mass Q K M (i 0).val (i 1).val))) * expo Q K M (i 0).val (i 1).val y : ℝ) : EReal) := by
  rw [val_main_v63_apply]
  refine sum_from_zero (fun y => dprob U W (i 0).val (i 1).val y * (1 * (1 / (mass Q K M (i 0).val (i 1).val * mass Q K M (i 0).val (i 1).val))) * expo Q K M (i 0).val (i 1).val y) _ _ Ideal.ofBits_zero_f32 fun k => ?_
  rw [val_main_v62_apply, val_main_v61_apply, ref_dprob U W x2 x3 h2 h3, ref_inv Q K x0 x1 h0 h1 M hM, ref_exp Q K x0 x1 h0 h1 M hM]
  show _ * _ * _ = _
  rw [← EReal.coe_mul, ← EReal.coe_mul]

include h0 h1 h2 h3 hM in
theorem ref_neg (i : S8x8192x8192.Idx) : val_main_v69 (F := Ideal) x0 x1 x2 x3 i
    = ((-(∑ y ∈ range 8192, dprob U W (i 0).val (i 1).val y * (1 * (1 / (mass Q K M (i 0).val (i 1).val * mass Q K M (i 0).val (i 1).val))) * expo Q K M (i 0).val (i 1).val y) : ℝ) : EReal) := by
  rw [val_main_v69_apply, val_main_v68_apply, Fin.sum_univ_one, val_main_v65_apply, val_main_v64_apply, ref_row Q K U W x0 x1 x2 x3 h0 h1 h2 h3 M hM]
  have a0 : (i 0).val < 8 := (i 0).isLt
  have a1 : (i 1).val < 8192 := (i 1).isLt
  show Ideal.ofBits .f32 0x00000000#32 + -((_ : ℝ) : EReal) = _
  rw [Ideal.ofBits_zero_f32, zero_add, ← EReal.coe_neg]
  have e0 : (idx_main_v64 (idx_main_v68 (idx_main_v69 i) 0) 0).val = (i 0).val := by
    show (((i 0).val * 8192 + (i 1).val) * 1 + 0) / 8192 = (i 0).val
    omega
  have e1 : (idx_main_v64 (idx_main_v68 (idx_main_v69 i) 0) 1).val = (i 1).val := by
    show (((i 0).val * 8192 + (i 1).val) * 1 + 0) % 8192 = (i 1).val
    omega
  rw [e0, e1]

include h0 h1 h2 h3 hM in
theorem ref_dscore (i : S8x8192x8192.Idx) :
    val_main_v74 (F := Ideal) x0 x1 x2 x3 i = ((dscore Q K U W (lse Q K) (delta Q K U W) (i 0).val (i 1).val (i 2).val : ℝ) : EReal) := by
  rw [val_main_v74_apply, val_main_v73_apply]
  show val_main_v72 (F := Ideal) x0 x1 x2 x3 i = _
  rw [val_main_v72_apply, ref_mask, val_main_v71_apply, val_main_v70_apply, val_main_v67_apply, val_main_v66_apply, val_main_v36_apply,
    ref_dprob U W x2 x3 h2 h3, ref_mass Q K x0 x1 h0 h1 M hM, ref_neg Q K U W x0 x1 x2 x3 h0 h1 h2 h3 M hM, ref_exp Q K x0 x1 h0 h1 M hM,
    val_main_call1_v0_apply, val_main_call1_cst_apply]
  unfold dscore delta
  show (Scalar.select _ ((Ideal.div _ _ + _) * _) (Ideal.ofBits .f32 0x00000000#32) : EReal) = _
  rw [Ideal.div_coe (mass_pos Q K M _ _).ne', ← EReal.coe_mul, ← EReal.coe_add, ← EReal.coe_mul]
  show Scalar.select _ (((dprob U W _ _ _ * (1 / mass Q K M _ _) + _) * expo Q K M _ _ _ : ℝ) : EReal) _ = ((_ * (dprob U W _ _ _ - _) : ℝ) : EReal)
  rw [← quotient_eq Q K M _ _ _ (dprob U W (i 0).val (i 1).val)]
  split
  · rfl
  next h =>
    have : expo Q K M (i 0).val (i 1).val (i 2).val = 0 := if_neg h
    rw [this, mul_zero]
    exact Ideal.ofBits_zero_f32

include h0 h1 h2 h3 hM in
theorem ref_dq (i : S8192x1024.Idx) :
    val_main_v83 (F := Ideal) x0 x1 x2 x3 i = ((gradQ Q K U W (lse Q K) (delta Q K U W) (i 0).val (i 1).val : ℝ) : EReal) := by
  rw [val_main_v83_apply, val_main_v82_apply]
  show val_main_v81 (F := Ideal) x0 x1 x2 x3 i = _
  rw [val_main_v81_apply, val_main_v78_apply, val_main_v77_apply]
  have a1 : (i 1).val < 1024 := (i 1).isLt
  refine Eq.trans ?_ (sum_real (K := 8192) (fun C => dscore Q K U W (lse Q K) (delta Q K U W) ((i 1).val / 128) (i 0).val C) (fun C => K C (i 1).val))
  refine Finset.sum_congr rfl fun k _ => ?_
  rw [ref_dscore Q K U W x0 x1 x2 x3 h0 h1 h2 h3 M hM, ref_k K x1 h1]
  show ((dscore Q K U W (lse Q K) (delta Q K U W) (((i 0).val * 1024 + (i 1).val) / 128 % 8) (((i 0).val * 1024 + (i 1).val) / 1024) k.val : ℝ) : EReal)
    * ((K k.val (128 * (((i 0).val * 1024 + (i 1).val) / 128 % 8) + ((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show 128 * ((i 1).val / 128) + ((i 0).val * 1024 + (i 1).val) % 128 = (i 1).val by omega]

include h0 h1 h2 h3 hM in
theorem ref_dk (i : S8192x1024.Idx) :
    val_main_v84 (F := Ideal) x0 x1 x2 x3 i = ((gradK Q K U W (lse Q K) (delta Q K U W) (i 0).val (i 1).val : ℝ) : EReal) := by
  rw [val_main_v84_apply, val_main_v80_apply]
  show val_main_v79 (F := Ideal) x0 x1 x2 x3 i = _
  rw [val_main_v79_apply, val_main_v76_apply, val_main_v75_apply]
  have a1 : (i 1).val < 1024 := (i 1).isLt
  refine Eq.trans ?_ (sum_real (K := 8192) (fun R => dscore Q K U W (lse Q K) (delta Q K U W) ((i 1).val / 128) R (i 0).val) (fun R => Q R (i 1).val))
  refine Finset.sum_congr rfl fun k _ => ?_
  rw [ref_dscore Q K U W x0 x1 x2 x3 h0 h1 h2 h3 M hM, ref_q Q x0 h0]
  show ((dscore Q K U W (lse Q K) (delta Q K U W) (((i 0).val * 1024 + (i 1).val) / 128 % 8) k.val (((i 0).val * 1024 + (i 1).val) / 1024) : ℝ) : EReal)
    * ((Q k.val (128 * (((i 0).val * 1024 + (i 1).val) / 128 % 8) + ((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show 128 * ((i 1).val / 128) + ((i 0).val * 1024 + (i 1).val) % 128 = (i 1).val by omega]

include h0 h1 h3 hM in
theorem ref_dv (i : S8192x512.Idx) :
    val_main_v85 (F := Ideal) x0 x1 x3 i = ((gradV Q K W (lse Q K) (i 0).val (i 1).val : ℝ) : EReal) := by
  rw [val_main_v85_apply, val_main_v57_apply]
  show val_main_v56 (F := Ideal) x0 x1 x3 i = _
  rw [val_main_v56_apply, val_main_v55_apply, val_main_v54_apply]
  have a1 : (i 1).val < 512 := (i 1).isLt
  refine Eq.trans ?_ (sum_real (K := 8192) (fun R => prob Q K (lse Q K) ((i 1).val / 64) R (i 0).val) (fun R => W R (i 1).val))
  refine Finset.sum_congr rfl fun k _ => ?_
  rw [ref_prob Q K x0 x1 h0 h1 M hM, ref_dot W x3 h3, mul_comm]
  show ((prob Q K (lse Q K) (((i 0).val * 512 + (i 1).val) / 64 % 8) k.val (((i 0).val * 512 + (i 1).val) / 512) : ℝ) : EReal)
    * ((W k.val (64 * (((i 0).val * 512 + (i 1).val) / 64 % 8) + ((i 0).val * 512 + (i 1).val) % 64) : ℝ) : EReal) = _
  rw [show ((i 0).val * 512 + (i 1).val) / 64 % 8 = (i 1).val / 64 by omega, show ((i 0).val * 512 + (i 1).val) / 512 = (i 0).val by omega,
    show 64 * ((i 1).val / 64) + ((i 0).val * 512 + (i 1).val) % 64 = (i 1).val by omega]

end Cert.Proof.Attn

end
-- ==== Proof.Stats.lean ====
module

public import proofs.«01_k».proof.Proof.RefValue

/-! The statistics' array the kernel is called with, read from the lines of the program before the call. -/

@[expose] public section

set_option maxRecDepth 16384

noncomputable section

namespace Cert.Proof.Attn

open Cert.KernelIdeal Cert.KernelIdeal.Gen
open Cert.ReferenceIdeal.Read (val_main_v13_0 val_main_v14 val_main_v49)
open Idealize.ShloMosaic Idealize.ShloMosaic.TcCoe
open Finset

/-- A row's logarithm of its sum of exponentials, as the program before the call computes it. -/
def lseArr (x0 x1 : S8192x1024.Idx → EReal) : S8x8192.Idx → EReal :=
  addf (F := Ideal) (φ := .f32) (val_main_v14 (F := Ideal) x0 x1) (Host.log (F := Ideal) (φ := .f32) (Host.reduceAdd (F := Ideal) (φ := .f32) (Host.exp (F := Ideal) (φ := .f32)
    (subf (F := Ideal) (φ := .f32) (val_main_v13_0 (F := Ideal) x0 x1)
      (broadcastInDim S8x8192x8192 ![0, 1, 2] bcast_S8x8192x1_S8x8192x8192_0_1_2 (broadcastInDim S8x8192x1 ![0, 1] bcast_S8x8192_S8x8192x1_0_1 (val_main_v14 (F := Ideal) x0 x1)))))
    (constant S_ .f32 0x00000000#32) reducesTo_S8x8192x8192_S8x8192_d2 h_S_))

/-- A row's sum of output times its gradient, as the program before the call computes it. -/
def deltaArr (x0 x1 : S8192x1024.Idx → EReal) (x2 x3 : S8192x512.Idx → EReal) : S8192x8.Idx → EReal :=
  Host.reduceAdd (F := Ideal) (φ := .f32) (mulf (F := Ideal) (φ := .f32)
    (shapeCast S8192x8x64 (extf (F := Ideal) (φ := .bf16) .f32 (val_main_v49 (F := Ideal) x0 x1 x2) bitsLt_bf16_f32) shapeCasts_S8192x512_S8192x8x64)
    (shapeCast S8192x8x64 (extf (F := Ideal) (φ := .bf16) .f32 x3 bitsLt_bf16_f32) shapeCasts_S8192x512_S8192x8x64))
    (constant S_ .f32 0x00000000#32) reducesTo_S8192x8x64_S8192x8_d2 h_S_

/-- The two, 32 lanes each per head. -/
def packArr (e : S8x8192.Idx → EReal) (d : S8192x8.Idx → EReal) : S8192x512.Idx → EReal :=
  shapeCast S8192x512 (select
    (broadcastInDim S8192x8x64 ![0, 1, 2] bcast_S1x1x64_S8192x8x64_0_1_2 (cmpi .slt (broadcastInDim S1x1x64 ![2] bcast_S64_S1x1x64_2 (iotaInDim S64 32 0))
      (broadcastInDim S1x1x64 ![] bcast_S_S1x1x64 (constantI S_ 32 32#32))))
    (broadcastInDim S8192x8x64 ![0, 1, 2] bcast_S8192x8x1_S8192x8x64_0_1_2 (broadcastInDim S8192x8x1 ![0, 1] bcast_S8192x8_S8192x8x1_0_1 (transpose S8192x8 [1, 0] e transposes_S8x8192_S8192x8_1_0)))
    (broadcastInDim S8192x8x64 ![0, 1, 2] bcast_S8192x8x1_S8192x8x64_0_1_2 (broadcastInDim S8192x8x1 ![0, 1] bcast_S8192x8_S8192x8x1_0_1 d))) shapeCasts_S8192x8x64_S8192x512

set_option maxHeartbeats 8000000 in
theorem V_stats (m : (ℓ : Loc nD τ sig) → Buf (Elt Ideal) ℓ) (c : Dev nD) :
    V m c main_v69 = packArr (lseArr (m ((c.tc : Thread nD τ).loc main_arg0)) (m ((c.tc : Thread nD τ).loc main_arg1)))
      (deltaArr (m ((c.tc : Thread nD τ).loc main_arg0)) (m ((c.tc : Thread nD τ).loc main_arg1)) (m ((c.tc : Thread nD τ).loc main_arg2)) (m ((c.tc : Thread nD τ).loc main_arg3))) := by
  unfold V
  simp only [hostOps0, hostOps0_1, hostOps0_2, hostOps0_3, hostOps0_4, hostOps0_5, hostOps0_6, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

variable (Q K U W : ℕ → ℕ → ℝ)
  (x0 x1 : S8192x1024.Idx → EReal) (x2 x3 : S8192x512.Idx → EReal)
  (h0 : ∀ i, x0 i = ((Q (i 0).val (i 1).val : ℝ) : EReal)) (h1 : ∀ i, x1 i = ((K (i 0).val (i 1).val : ℝ) : EReal))
  (h2 : ∀ i, x2 i = ((U (i 0).val (i 1).val : ℝ) : EReal)) (h3 : ∀ i, x3 i = ((W (i 0).val (i 1).val : ℝ) : EReal))

theorem spread_apply (y : S8x8192.Idx → EReal) (i : S8x8192x8192.Idx) (j : S8x8192.Idx) (e0 : (j 0).val = (i 0).val) (e1 : (j 1).val = (i 1).val) :
    broadcastInDim S8x8192x8192 ![0, 1, 2] bcast_S8x8192x1_S8x8192x8192_0_1_2 (broadcastInDim S8x8192x1 ![0, 1] bcast_S8x8192_S8x8192x1_0_1 y) i = y j := by
  rw [broadcastInDim_apply _ bcast_S8x8192x1_S8x8192x8192_0_1_2 _ i (ValueIdx.ix3 (i 0) (i 1) 0) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])]
  exact broadcastInDim_apply _ bcast_S8x8192_S8x8192x1_0_1 y _ j (fun a => match a with
    | ⟨0, _⟩ => by show (j 0).val = if (8 : Nat) = 1 then 0 else (i 0).val; rw [if_neg (by decide), e0]
    | ⟨1, _⟩ => by show (j 1).val = if (8192 : Nat) = 1 then 0 else (i 1).val; rw [if_neg (by decide), e1])

theorem row_sum (y : S8x8192x8192.Idx → EReal) (i : S8x8192.Idx) :
    Host.reduceAdd (F := Ideal) (φ := .f32) y (constant S_ .f32 0x00000000#32) reducesTo_S8x8192x8192_S8x8192_d2 h_S_ i
      = Ideal.ofBits .f32 0x00000000#32 + ∑ k : Fin 8192, y (ValueIdx.ix3 (i 0) (i 1) k) := by
  simp only [Host.reduceAdd, Ideal.hostReduceAdd_def]
  rw [Ideal.hostReduceAdd_single reducesTo_S8x8192x8192_S8x8192_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem lane_sum (y : S8192x8x64.Idx → EReal) (i : S8192x8.Idx) :
    Host.reduceAdd (F := Ideal) (φ := .f32) y (constant S_ .f32 0x00000000#32) reducesTo_S8192x8x64_S8192x8_d2 h_S_ i
      = Ideal.ofBits .f32 0x00000000#32 + ∑ k : Fin 64, y (ValueIdx.ix3 (i 0) (i 1) k) := by
  simp only [Host.reduceAdd, Ideal.hostReduceAdd_def]
  rw [Ideal.hostReduceAdd_single reducesTo_S8192x8x64_S8192x8_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem host_mass (M : ℕ → ℕ → ℝ) (y : S8x8192x8192.Idx → EReal) (z : S8x8192.Idx → EReal)
    (hs : ∀ i : S8x8192x8192.Idx, y i = if (i 2).val ≤ (i 1).val then ((score Q K (i 0).val (i 1).val (i 2).val : ℝ) : EReal) else ⊥)
    (hM : ∀ i, z i = ((M (i 0).val (i 1).val : ℝ) : EReal)) (i : S8x8192.Idx) :
    Host.reduceAdd (F := Ideal) (φ := .f32) (Host.exp (F := Ideal) (φ := .f32)
      (subf (F := Ideal) (φ := .f32) y
        (broadcastInDim S8x8192x8192 ![0, 1, 2] bcast_S8x8192x1_S8x8192x8192_0_1_2 (broadcastInDim S8x8192x1 ![0, 1] bcast_S8x8192_S8x8192x1_0_1 z))))
      (constant S_ .f32 0x00000000#32) reducesTo_S8x8192x8192_S8x8192_d2 h_S_ i = ((mass Q K M (i 0).val (i 1).val : ℝ) : EReal) := by
  rw [row_sum]
  refine sum_from_zero (n := 8192) (fun C => expo Q K M (i 0).val (i 1).val C) _ _ Ideal.ofBits_zero_f32 fun k => ?_
  have e := spread_apply z (ValueIdx.ix3 (i 0) (i 1) k) i rfl rfl
  refine Eq.trans ?_ (exp_masked Q K M (i 0).val (i 1).val k.val)
  rw [← hM i]
  exact congrArg Ideal.exp (congrArg₂ (· - ·) (hs (ValueIdx.ix3 (i 0) (i 1) k)) e)

theorem add_log (a b : S8x8192.Idx → EReal) (i : S8x8192.Idx) :
    addf (F := Ideal) (φ := .f32) a (Host.log (F := Ideal) (φ := .f32) b) i = a i + Ideal.log (b i) := rfl

include h0 h1 in
theorem lse_arr (i : S8x8192.Idx) : lseArr x0 x1 i = ((lse Q K (i 0).val (i 1).val : ℝ) : EReal) := by
  obtain ⟨M, hM⟩ := ref_max Q K x0 x1 h0 h1
  have e := host_mass Q K M _ _ (ref_masked Q K x0 x1 h0 h1) hM i
  unfold lseArr
  rw [add_log, e, hM]
  rw [Ideal.log_coe, if_neg (not_le.mpr (mass_pos Q K M _ _)), ← EReal.coe_add, lse_eq]

include h0 h1 h2 in
theorem ref_out (i : S8192x512.Idx) :
    Cert.ReferenceIdeal.Read.val_main_v49 (F := Ideal) x0 x1 x2 i = ((∑ C ∈ range 8192, U C (i 1).val * prob Q K (lse Q K) ((i 1).val / 64) (i 0).val C : ℝ) : EReal) := by
  obtain ⟨M, hM⟩ := ref_max Q K x0 x1 h0 h1
  rw [Cert.ReferenceIdeal.Read.val_main_v49_apply, Cert.ReferenceIdeal.Read.val_main_v48_apply]
  show Cert.ReferenceIdeal.Read.val_main_v47 (F := Ideal) x0 x1 x2 _ = _
  rw [Cert.ReferenceIdeal.Read.val_main_v47_apply, Cert.ReferenceIdeal.Read.val_main_v46_apply]
  have a1 : (i 1).val < 512 := (i 1).isLt
  refine Eq.trans ?_ (sum_real (K := 8192) (fun C => U C (i 1).val) (fun C => prob Q K (lse Q K) ((i 1).val / 64) (i 0).val C))
  refine Finset.sum_congr rfl fun k _ => ?_
  rw [ref_prob Q K x0 x1 h0 h1 M hM, ref_v U x2 h2]
  show ((U k.val (64 * (((i 0).val * 512 + (i 1).val) / 64 % 8) + ((i 0).val * 512 + (i 1).val) % 64) : ℝ) : EReal)
    * ((prob Q K (lse Q K) (((i 0).val * 512 + (i 1).val) / 64 % 8) (((i 0).val * 512 + (i 1).val) / 512) k.val : ℝ) : EReal) = _
  rw [show ((i 0).val * 512 + (i 1).val) / 64 % 8 = (i 1).val / 64 by omega, show ((i 0).val * 512 + (i 1).val) / 512 = (i 0).val by omega,
    show 64 * ((i 1).val / 64) + ((i 0).val * 512 + (i 1).val) % 64 = (i 1).val by omega]

include h0 h1 h2 h3 in
theorem delta_arr (i : S8192x8.Idx) : deltaArr x0 x1 x2 x3 i = ((delta Q K U W (i 1).val (i 0).val : ℝ) : EReal) := by
  have ho := ref_v (fun R l => ∑ C ∈ range 8192, U C l * prob Q K (lse Q K) (l / 64) R C) _ (ref_out Q K U x0 x1 x2 h0 h1 h2)
  have hw := ref_v W x3 h3
  have hd : delta Q K U W (i 1).val (i 0).val
      = ∑ d ∈ range 64, (∑ C ∈ range 8192, U C (64 * (i 1).val + d) * prob Q K (lse Q K) ((64 * (i 1).val + d) / 64) (i 0).val C) * W (i 0).val (64 * (i 1).val + d) := by
    unfold delta dprob
    simp only [Finset.sum_mul, Finset.mul_sum]
    rw [Finset.sum_comm]
    refine Finset.sum_congr rfl fun d hd => Finset.sum_congr rfl fun C _ => ?_
    rw [show (64 * (i 1).val + d) / 64 = (i 1).val by have := Finset.mem_range.mp hd; omega]
    ring
  rw [hd]
  refine (lane_sum _ i).trans ?_
  refine sum_from_zero (n := 64) (fun d => (∑ C ∈ range 8192, U C (64 * (i 1).val + d) * prob Q K (lse Q K) ((64 * (i 1).val + d) / 64) (i 0).val C) * W (i 0).val (64 * (i 1).val + d)) _ _ Ideal.ofBits_zero_f32 fun k => ?_
  exact (congrArg₂ (· * ·) (ho (ValueIdx.ix3 (i 0) (i 1) k)) (hw (ValueIdx.ix3 (i 0) (i 1) k))).trans (EReal.coe_mul _ _).symm

theorem half_mask (j : S8192x8x64.Idx) :
    broadcastInDim S8192x8x64 ![0, 1, 2] bcast_S1x1x64_S8192x8x64_0_1_2 (cmpi .slt (broadcastInDim S1x1x64 ![2] bcast_S64_S1x1x64_2 (iotaInDim S64 32 0))
      (broadcastInDim S1x1x64 ![] bcast_S_S1x1x64 (constantI S_ 32 32#32))) j = if (j 2).val < 32 then 1#1 else 0#1 := by
  rw [broadcastInDim_apply _ bcast_S1x1x64_S8192x8x64_0_1_2 _ j (ValueIdx.ix3 0 0 (j 2)) (fun a => match a with
    | ⟨0, _⟩ => by show 0 = if (1 : Nat) = 1 then 0 else (j 0).val; rw [if_pos rfl]
    | ⟨1, _⟩ => by show 0 = if (1 : Nat) = 1 then 0 else (j 1).val; rw [if_pos rfl]
    | ⟨2, _⟩ => by show (j 2).val = if (64 : Nat) = 1 then 0 else (j 2).val; rw [if_neg (by decide)])]
  have e1 := broadcastInDim_apply _ bcast_S64_S1x1x64_2 (iotaInDim S64 32 0) (ValueIdx.ix3 0 0 (j 2)) (fun a => match a with | ⟨0, _⟩ => ⟨(j 2).val, (j 2).isLt⟩) (fun a => match a with
    | ⟨0, _⟩ => by show (j 2).val = if (64 : Nat) = 1 then 0 else (j 2).val; rw [if_neg (by decide)])
  have e2 := broadcastInDim_apply _ bcast_S_S1x1x64 (constantI S_ 32 32#32) (ValueIdx.ix3 0 0 (j 2)) (fun a => a.elim0) (fun a => a.elim0)
  have a2 : (j 2).val < 2 ^ 31 := lt_of_lt_of_le (j 2).isLt (by decide)
  refine (congrArg₂ (IntOp.cmpi .slt) e1 e2).trans ?_
  show IntOp.cmpi .slt (BitVec.ofNat 32 (j 2).val) (BitVec.ofNat 32 32) = _
  split
  next h => exact (Idealize.ShloMosaic.WordCmp.cmpi_slt_ofNat_eq_one_iff a2 (by decide)).mpr h
  next h => exact (Idealize.ShloMosaic.WordCmp.cmpi_slt_ofNat_eq_zero_iff a2 (by decide)).mpr h

theorem head_apply (d : S8192x8.Idx → EReal) (j : S8192x8x64.Idx) :
    broadcastInDim S8192x8x64 ![0, 1, 2] bcast_S8192x8x1_S8192x8x64_0_1_2 (broadcastInDim S8192x8x1 ![0, 1] bcast_S8192x8_S8192x8x1_0_1 d) j = d (ValueIdx.ix2 (j 0) (j 1)) := by
  rw [broadcastInDim_apply _ bcast_S8192x8x1_S8192x8x64_0_1_2 _ j (ValueIdx.ix3 (j 0) (j 1) 0) (fun a => match a with
    | ⟨0, _⟩ => by show (j 0).val = if (8192 : Nat) = 1 then 0 else (j 0).val; rw [if_neg (by decide)]
    | ⟨1, _⟩ => by show (j 1).val = if (8 : Nat) = 1 then 0 else (j 1).val; rw [if_neg (by decide)]
    | ⟨2, _⟩ => by show 0 = if (1 : Nat) = 1 then 0 else (j 2).val; rw [if_pos rfl])]
  exact broadcastInDim_apply _ bcast_S8192x8_S8192x8x1_0_1 d _ (ValueIdx.ix2 (j 0) (j 1)) (fun a => match a with
    | ⟨0, _⟩ => by show (j 0).val = if (8192 : Nat) = 1 then 0 else (j 0).val; rw [if_neg (by decide)]
    | ⟨1, _⟩ => by show (j 1).val = if (8 : Nat) = 1 then 0 else (j 1).val; rw [if_neg (by decide)])

theorem pack_arr (e : S8x8192.Idx → EReal) (d : S8192x8.Idx → EReal) (E Δ : ℕ → ℕ → ℝ) (he : ∀ i, e i = ((E (i 0).val (i 1).val : ℝ) : EReal))
    (hd : ∀ i, d i = ((Δ (i 1).val (i 0).val : ℝ) : EReal)) : Re2 (n0 := 8192) (n1 := 512) (packArr e d) (stats E Δ) := fun a b => by
  have hb : b.val < 512 := b.isLt
  have ha : a.val < 8192 := a.isLt
  unfold packArr
  rw [shapeCast_apply _ shapeCasts_S8192x8x64_S8192x512 (ValueIdx.ix2 a b)
    (ValueIdx.ix3 (n0 := 8192) (n1 := 8) (n2 := 64) a ⟨b.val / 64, by omega⟩ ⟨b.val % 64, by omega⟩)
    (by rewrite [Shape.rowMajor_val_three, Shape.rowMajor_val_two]; show (a.val * 8 + b.val / 64) * 64 + b.val % 64 = a.val * 512 + b.val; omega)]
  generalize hj : (ValueIdx.ix3 (n0 := 8192) (n1 := 8) (n2 := 64) a ⟨b.val / 64, by omega⟩ ⟨b.val % 64, by omega⟩ : S8192x8x64.Idx) = j
  have j0 : (j 0).val = a.val := by rw [← hj]
  have j1 : (j 1).val = b.val / 64 := by rw [← hj]
  have j2 : (j 2).val = b.val % 64 := by rw [← hj]
  have t : transpose S8192x8 [1, 0] e transposes_S8x8192_S8192x8_1_0 (ValueIdx.ix2 (j 0) (j 1)) = e (ValueIdx.ix2 (j 1) (j 0)) :=
    transpose_apply [1, 0] e transposes_S8x8192_S8192x8_1_0 _ _ (fun b => match b with
      | ⟨0, _⟩ => rfl
      | ⟨1, _⟩ => rfl)
  rw [ValueIdx.select_apply, half_mask, head_apply, head_apply, t, he, hd, j2]
  show Scalar.select _ ((E (j 1).val (j 0).val : ℝ) : EReal) ((Δ (j 1).val (j 0).val : ℝ) : EReal) = _
  rw [j0, j1]
  unfold stats
  split <;> rfl

include h0 h1 h2 h3 in
theorem stats_arr : Re2 (n0 := 8192) (n1 := 512) (packArr (lseArr x0 x1) (deltaArr x0 x1 x2 x3)) (stats (lse Q K) (delta Q K U W)) :=
  pack_arr _ _ _ _ (lse_arr Q K x0 x1 h0 h1) (delta_arr Q K U W x0 x1 x2 x3 h0 h1 h2 h3)

end Cert.Proof.Attn

end
-- ==== Proof.Value.lean ====
module

public import proofs.«01_k».proof.Proof.Claims
public import proofs.«01_k».proof.Proof.Stats

/-! The value claim: on finite arguments the kernel's three gradients are the reference's. -/

@[expose] public section

set_option maxRecDepth 16384

noncomputable section

namespace Cert.Proof

open Cert.Proof.Attn
open Idealize.ShloMosaic Idealize.SL.Sem

/-- An extended real whose absolute value compares below infinity is a real. -/
theorem real_of_olt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have h' : max x (-x) < ⊤ := by
    by_contra hn
    simp [Ideal.cmp, hn] at h
  obtain ⟨h1, h2⟩ := max_lt_iff.mp h'
  refine EReal.coe_toReal h1.ne fun hb => ?_
  rw [hb, EReal.neg_bot] at h2
  exact lt_irrefl _ h2

/-- The reals of an array. -/
def realOf (n0 n1 : ℕ) (p0 : 0 < n0) (p1 : 0 < n1) (x : (⟨2, ![n0, n1]⟩ : Shape).Idx → EReal) (R l : ℕ) : ℝ :=
  (x (ValueIdx.ix2 ⟨R % n0, Nat.mod_lt _ p0⟩ ⟨l % n1, Nat.mod_lt _ p1⟩)).toReal

theorem realOf_eq {n0 n1 : ℕ} (p0 : 0 < n0) (p1 : 0 < n1) (x : (⟨2, ![n0, n1]⟩ : Shape).Idx → EReal) (h : ∀ i, ((x i).toReal : EReal) = x i)
    (i : (⟨2, ![n0, n1]⟩ : Shape).Idx) : x i = ((realOf n0 n1 p0 p1 x (i 0).val (i 1).val : ℝ) : EReal) := by
  have a0 : (i 0).val < n0 := (i 0).isLt
  have a1 : (i 1).val < n1 := (i 1).isLt
  have e : i = ValueIdx.ix2 ⟨(i 0).val % n0, Nat.mod_lt _ p0⟩ ⟨(i 1).val % n1, Nat.mod_lt _ p1⟩ := by
    funext d
    match d with
    | ⟨0, _⟩ => exact Fin.ext (Nat.mod_eq_of_lt a0).symm
    | ⟨1, _⟩ => exact Fin.ext (Nat.mod_eq_of_lt a1).symm
  unfold realOf
  rw [← e]
  exact (h i).symm

theorem re2_of {n0 n1 : ℕ} {x : (⟨2, ![n0, n1]⟩ : Shape).Idx → EReal} {f : ℕ → ℕ → ℝ} (h : ∀ i, x i = ((f (i 0).val (i 1).val : ℝ) : EReal)) : Re2 x f :=
  fun a b => h (ValueIdx.ix2 a b)

/-- Where `finite` holds, every entry of the four arguments is a real. -/
theorem args_real (m : (ℓ : Loc Cert.KernelIdeal.nD Cert.KernelIdeal.τ Cert.KernelIdeal.sig) → Buf (Elt Ideal) ℓ)
    (h : Pre_KernelIdeal_finite (hPre_finite := preFacts) m) (c : Dev Cert.KernelIdeal.nD) :
    ∃ Q K U W : ℕ → ℕ → ℝ,
      (∀ i : Cert.KernelIdeal.S8192x1024.Idx, m ((c.tc : Thread Cert.KernelIdeal.nD Cert.KernelIdeal.τ).loc Cert.KernelIdeal.main_arg0) i = ((Q (i 0).val (i 1).val : ℝ) : EReal))
      ∧ (∀ i : Cert.KernelIdeal.S8192x1024.Idx, m ((c.tc : Thread Cert.KernelIdeal.nD Cert.KernelIdeal.τ).loc Cert.KernelIdeal.main_arg1) i = ((K (i 0).val (i 1).val : ℝ) : EReal))
      ∧ (∀ i : Cert.KernelIdeal.S8192x512.Idx, m ((c.tc : Thread Cert.KernelIdeal.nD Cert.KernelIdeal.τ).loc Cert.KernelIdeal.main_arg2) i = ((U (i 0).val (i 1).val : ℝ) : EReal))
      ∧ (∀ i : Cert.KernelIdeal.S8192x512.Idx, m ((c.tc : Thread Cert.KernelIdeal.nD Cert.KernelIdeal.τ).loc Cert.KernelIdeal.main_arg3) i = ((W (i 0).val (i 1).val : ℝ) : EReal)) := by
  obtain ⟨e0, e1, e2, e3⟩ := h c
  refine ⟨realOf 8192 1024 (by decide) (by decide) (m ((c.tc : Thread Cert.KernelIdeal.nD Cert.KernelIdeal.τ).loc Cert.KernelIdeal.main_arg0)),
    realOf 8192 1024 (by decide) (by decide) (m ((c.tc : Thread Cert.KernelIdeal.nD Cert.KernelIdeal.τ).loc Cert.KernelIdeal.main_arg1)),
    realOf 8192 512 (by decide) (by decide) (m ((c.tc : Thread Cert.KernelIdeal.nD Cert.KernelIdeal.τ).loc Cert.KernelIdeal.main_arg2)),
    realOf 8192 512 (by decide) (by decide) (m ((c.tc : Thread Cert.KernelIdeal.nD Cert.KernelIdeal.τ).loc Cert.KernelIdeal.main_arg3)),
    realOf_eq _ _ _ fun i => ?_, realOf_eq _ _ _ fun i => ?_, realOf_eq _ _ _ fun i => ?_, realOf_eq _ _ _ fun i => ?_⟩
  · exact real_of_olt _ (congrFun e0 i)
  · exact real_of_olt _ (congrFun e1 i)
  · exact real_of_olt _ (congrFun e2 i)
  · exact real_of_olt _ (congrFun e3 i)

section
open Cert.KernelIdeal Cert.KernelIdeal.Gen

/-- What the kernel leaves in its three results, on reals. -/
theorem kernel_values (m : (ℓ : Loc nD τ sig) → Buf (Elt Ideal) ℓ) (c : Dev nD) (Q K U W : ℕ → ℕ → ℝ)
    (h0 : ∀ i : S8192x1024.Idx, m ((c.tc : Thread nD τ).loc main_arg0) i = ((Q (i 0).val (i 1).val : ℝ) : EReal))
    (h1 : ∀ i : S8192x1024.Idx, m ((c.tc : Thread nD τ).loc main_arg1) i = ((K (i 0).val (i 1).val : ℝ) : EReal))
    (h2 : ∀ i : S8192x512.Idx, m ((c.tc : Thread nD τ).loc main_arg2) i = ((U (i 0).val (i 1).val : ℝ) : EReal))
    (h3 : ∀ i : S8192x512.Idx, m ((c.tc : Thread nD τ).loc main_arg3) i = ((W (i 0).val (i 1).val : ℝ) : EReal)) :
    (dats m 0 c).arrAt 5 cfg0.N = arr2 (n0 := 8192) (n1 := 1024) (gradQ Q K U W (lse Q K) (delta Q K U W))
    ∧ (dats m 0 c).arrAt 6 cfg0.N = arr2 (n0 := 8192) (n1 := 1024) (gradK Q K U W (lse Q K) (delta Q K U W))
    ∧ (dats m 0 c).arrAt 7 cfg0.N = arr2 (n0 := 8192) (n1 := 512) (gradV Q K W (lse Q K)) := by
  have k0 : Re2 (n0 := 8192) (n1 := 1024) (V m c main_arg0) Q := by rw [V_main_arg0]; exact re2_of h0
  have k1 : Re2 (n0 := 8192) (n1 := 1024) (V m c main_arg1) K := by rw [V_main_arg1]; exact re2_of h1
  have k2 : Re2 (n0 := 8192) (n1 := 512) (V m c main_arg2) U := by rw [V_main_arg2]; exact re2_of h2
  have k3 : Re2 (n0 := 8192) (n1 := 512) (V m c main_arg3) W := by rw [V_main_arg3]; exact re2_of h3
  have k4 : Re2 (n0 := 8192) (n1 := 512) (V m c main_v69) (stats (lse Q K) (delta Q K U W)) := by
    rw [V_stats]
    exact stats_arr Q K U W _ _ _ _ h0 h1 h2 h3
  exact ⟨final_q m c k0 k1 k2 k3 k4, final_k m c k0 k1 k2 k3 k4, final_v m c k0 k1 k2 k3 k4⟩

/-- Every run of the kernel's program ends with these results, and its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70_0) = (dats m 0 c).arrAt 5 cfg0.N
      ∧ r.2.mem ((c.tc : Thread nD τ).loc main_v70_1) = (dats m 0 c).arrAt 6 cfg0.N
      ∧ r.2.mem ((c.tc : Thread nD τ).loc main_v70_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5, (h.1 c).1 6, (h.1 c).1 7,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c)))⟩) (run_main m ρ)

end

section
open Cert.ReferenceIdeal Cert.ReferenceIdeal.Read

/-- The reference's three results, on reals. -/
theorem reference_values (Q K U W : ℕ → ℕ → ℝ) (x0 x1 : S8192x1024.Idx → EReal) (x2 x3 : S8192x512.Idx → EReal)
    (h0 : ∀ i, x0 i = ((Q (i 0).val (i 1).val : ℝ) : EReal)) (h1 : ∀ i, x1 i = ((K (i 0).val (i 1).val : ℝ) : EReal))
    (h2 : ∀ i, x2 i = ((U (i 0).val (i 1).val : ℝ) : EReal)) (h3 : ∀ i, x3 i = ((W (i 0).val (i 1).val : ℝ) : EReal)) :
    val_main_v83 (F := Ideal) x0 x1 x2 x3 = arr2 (n0 := 8192) (n1 := 1024) (gradQ Q K U W (lse Q K) (delta Q K U W))
    ∧ val_main_v84 (F := Ideal) x0 x1 x2 x3 = arr2 (n0 := 8192) (n1 := 1024) (gradK Q K U W (lse Q K) (delta Q K U W))
    ∧ val_main_v85 (F := Ideal) x0 x1 x3 = arr2 (n0 := 8192) (n1 := 512) (gradV Q K W (lse Q K)) := by
  obtain ⟨M, hM⟩ := ref_max Q K x0 x1 h0 h1
  exact ⟨funext fun i => ref_dq Q K U W x0 x1 x2 x3 h0 h1 h2 h3 M hM i, funext fun i => ref_dk Q K U W x0 x1 x2 x3 h0 h1 h2 h3 M hM i,
    funext fun i => ref_dv Q K W x0 x1 x3 h0 h1 h3 M hM i⟩

end

set_option maxHeartbeats 2000000 in
/-- On finite arguments both programs end with equal gradients of q, k and v, their arguments as launched. -/
theorem algebraic : Cert.algebraic_KernelIdeal_ReferenceIdeal_pre_finite (hPre_finite := preFacts) := fun m ρ m' ρ' hpre hargs => by
  refine ⟨_, _, _, kernel_run m ρ, ?_⟩
  refine (θ_run Cert.ReferenceIdeal.defs _ _).mono (fun _ h c => ?_) (Cert.ReferenceIdeal.Value.run (F := Ideal) m' ρ')
  obtain ⟨Q, K, U, W, h0, h1, h2, h3⟩ := args_real m hpre c
  obtain ⟨k5, k6, k7⟩ := kernel_values m c Q K U W h0 h1 h2 h3
  obtain ⟨r5, r6, r7⟩ := reference_values Q K U W _ _ _ _ h0 h1 h2 h3
  obtain ⟨a0, a1, a2, a3⟩ := hargs c
  refine ⟨?_, ?_, ?_, (h c).2.2.2⟩
  · refine (h c).1.trans ?_
    rw [Cert.ReferenceIdeal.Read.val_main_v83_eq, a0, a1, a2, a3]
    exact r5.trans k5.symm
  · refine (h c).2.1.trans ?_
    rw [Cert.ReferenceIdeal.Read.val_main_v84_eq, a0, a1, a2, a3]
    exact r6.trans k6.symm
  · refine (h c).2.2.1.trans ?_
    rw [Cert.ReferenceIdeal.Read.val_main_v85_eq, a0, a1, a3]
    exact r7.trans k7.symm

end Cert.Proof
end
-- ==== Proof.Blocks.lean ====
module

public import Idealize.ShloMosaic.Lib.VecWindow
public import Idealize.ShloMosaic.Lib.ValueIdx
public import Idealize.ShloMosaic.Lib.MatmulPlain
public import Idealize.ShloMosaic.Lib.IdealHost
public import Idealize.ShloMosaic.Lib.Pointwise.Contract
public import Mathlib.Data.EReal.Operations
public import Idealize.ShloMosaic.Lib.Pipeline.Value
public import Idealize.ShloMosaic.Lib.Tactic
public import Idealize.ShloMosaic.PureOps.Ideal.Laws

/-! Arrays of two coordinates described by a function of the coordinates' values: windows, columns stored one after the other,
    products and arrays joined along the columns. -/

@[expose] public section

set_option maxRecDepth 16384

noncomputable section

namespace Cert.Proof.Blocks

open Idealize.ShloMosaic Idealize.ShloMosaic.TcCoe
open Finset

/-- The array's entry at row `a` and column `b` is `f a b`. -/
def Ex2 {n0 n1 : ℕ} (x : (⟨2, ![n0, n1]⟩ : Shape).Idx → EReal) (f : ℕ → ℕ → EReal) : Prop :=
  ∀ (a : Fin n0) (b : Fin n1), x (ValueIdx.ix2 a b) = f a.val b.val

theorem Ex2.congr {n0 n1 : ℕ} {x : (⟨2, ![n0, n1]⟩ : Shape).Idx → EReal} {f g : ℕ → ℕ → EReal} (h : Ex2 x f)
    (e : ∀ a < n0, ∀ b < n1, f a b = g a b) : Ex2 x g := fun a b => (h a b).trans (e _ a.isLt _ b.isLt)

theorem Ex2.at {n0 n1 : ℕ} {x : (⟨2, ![n0, n1]⟩ : Shape).Idx → EReal} {f : ℕ → ℕ → EReal} (h : Ex2 x f) (i : (⟨2, ![n0, n1]⟩ : Shape).Idx) (a b : ℕ)
    (ha : (i 0).val = a) (hb : (i 1).val = b) : x i = f a b := by
  subst ha hb
  exact (congrArg x (ValueIdx.eq_ix2 i)).trans (h (i 0) (i 1))

/-- Columns of a wider array, at an index. -/
theorem Ex2.part {n0 n1 off : ℕ} {x : (⟨2, ![n0, n1]⟩ : Shape).Idx → EReal} {D : ℕ → ℕ → EReal} (h : Ex2 x (fun l r => D l (off + r))) (i : (⟨2, ![n0, n1]⟩ : Shape).Idx) (a b : ℕ)
    (ha : (i 0).val = a) (hb : off + (i 1).val = b) : x i = D a b := by
  subst ha hb
  exact h.at i _ _ rfl rfl

/-- A function that describes a given array. -/
def natF {n0 n1 : ℕ} (x : (⟨2, ![n0, n1]⟩ : Shape).Idx → EReal) (a b : ℕ) : EReal :=
  if h : a < n0 ∧ b < n1 then x (ValueIdx.ix2 ⟨a, h.1⟩ ⟨b, h.2⟩) else 0

theorem ex_natF {n0 n1 : ℕ} (x : (⟨2, ![n0, n1]⟩ : Shape).Idx → EReal) : Ex2 x (natF x) := fun a b => by
  unfold natF
  rw [dif_pos ⟨a.isLt, b.isLt⟩]

theorem ex_mul {M K N : ℕ} {a : FVec Ideal ⟨2, ![M, K]⟩ .bf16} {b : FVec Ideal ⟨2, ![K, N]⟩ .bf16} {f g : ℕ → ℕ → EReal} (ha : Ex2 a f) (hb : Ex2 b g) :
    Ex2 (FloatOps.matmul (F := Ideal) (φ₁ := .bf16) (φ₂ := .bf16) (DotDims.plain M K N) none a b (constant ⟨2, ![M, N]⟩ .f32 0x00000000#32))
      (fun r c => ∑ l ∈ range K, f r l * g l c) := fun x y => by
  rw [Ideal.matmul_plain_apply, ValueIdx.constant_apply, Ideal.ofBits_zero_f32, zero_add]
  refine Eq.trans ?_ (Finset.sum_range _).symm
  exact Finset.sum_congr rfl fun k _ => by rw [ha, hb]

theorem ex_add {n0 n1 : ℕ} {x y : FVec Ideal ⟨2, ![n0, n1]⟩ .f32} {f g : ℕ → ℕ → EReal} (hx : Ex2 x f) (hy : Ex2 y g) :
    Ex2 (addf x y) (fun a b => f a b + g a b) := fun a b => by
  show x _ + y _ = _
  rw [hx, hy]

theorem ex_window {m n p w : ℕ} {x : (⟨2, ![m, n]⟩ : Shape).Idx → EReal} {f : ℕ → ℕ → EReal} (h : Ex2 x f) (a b : ℕ)
    (inb : ∀ d, (![a, b] : Fin 2 → ℕ) d + (![p, w] : Fin 2 → ℕ) d ≤ (⟨2, ![m, n]⟩ : Shape).size d) :
    Ex2 (n0 := p) (n1 := w) (VecWindow.window x ![a, b] ![p, w] inb) (fun y l => f (a + y) (b + l)) := fun y l => by
  refine h.at _ _ _ ?_ ?_
  · exact congrArg (a + ·) (Nat.one_mul _)
  · exact congrArg (b + ·) (Nat.one_mul _)

theorem ex_put {m n p w : ℕ} {x : (⟨2, ![m, n]⟩ : Shape).Idx → EReal} {f g : ℕ → ℕ → EReal} (h : Ex2 x f) {v : (⟨2, ![p, w]⟩ : Shape).Idx → EReal} (hv : Ex2 v g) (a b : ℕ) :
    Ex2 (VecWindow.put x ![a, b] ![p, w] v : (⟨2, ![m, n]⟩ : Shape).Idx → EReal)
      (fun y l => if (a ≤ y ∧ y < a + p) ∧ (b ≤ l ∧ l < b + w) then g (y - a) (l - b) else f y l) := fun y l => by
  unfold VecWindow.put
  by_cases hc : (a ≤ y.val ∧ y.val < a + p) ∧ (b ≤ l.val ∧ l.val < b + w)
  · have hd : ∀ d : Fin 2, (![a, b] : Fin 2 → ℕ) d ≤ (ValueIdx.ix2 y l d).val ∧ (ValueIdx.ix2 y l d).val < (![a, b] : Fin 2 → ℕ) d + (![p, w] : Fin 2 → ℕ) d := fun d => by
      fin_cases d
      · exact hc.1
      · exact hc.2
    rw [dif_pos hd]
    simp only [if_pos hc]
    have := hv ⟨y.val - a, by omega⟩ ⟨l.val - b, by omega⟩
    rw [← this]
    congr 1
    funext d
    fin_cases d <;> rfl
  · have hd : ¬∀ d : Fin 2, (![a, b] : Fin 2 → ℕ) d ≤ (ValueIdx.ix2 y l d).val ∧ (ValueIdx.ix2 y l d).val < (![a, b] : Fin 2 → ℕ) d + (![p, w] : Fin 2 → ℕ) d :=
      fun hh => hc ⟨hh 0, hh 1⟩
    rw [dif_neg hd]
    simp only [if_neg hc]
    exact h y l

section
variable {sig : RefSig} {κ : Kind} {sp : Space} {M N n w : ℕ} (v : View sig κ sp ⟨2, ![M, N]⟩ .f32) (f0 : v.ty.Contents (Elt Ideal)) (L : List (View.Piece (Elt Ideal) ⟨2, ![M, N]⟩ .f32))
  {P z : ℕ → ℕ → EReal}

/-- The next columns stored after the first `n`. -/
theorem ex_step (hL : Ex2 (v.read (Elt Ideal) (v.writes (Elt Ideal) f0 L)) (fun r c => if c < n then P r c else z r c))
    (inb : ∀ d, (![0, n] : Fin 2 → ℕ) d + (![M, w] : Fin 2 → ℕ) d ≤ (⟨2, ![M, N]⟩ : Shape).size d)
    (p : (⟨2, ![M, w]⟩ : Shape).Idx → EReal) (hp : Ex2 p (fun r c => P r (n + c))) :
    Ex2 (v.read (Elt Ideal) (v.writes (Elt Ideal) f0 (⟨Rect.unit ![0, n] ![M, w] inb, p⟩ :: L))) (fun r c => if c < n + w then P r c else z r c) := by
  have e := View.read_writes_cons_put (Val := Elt Ideal) v f0 inb p L rfl
  rw [e]
  refine (ex_put hL hp 0 n).congr fun a ha b hb => ?_
  by_cases h1 : b < n
  · rw [if_neg (by omega), if_pos h1, if_pos (by omega)]
  · by_cases h2 : b < n + w
    · rw [if_pos (by omega), if_pos h2, show n + (b - n) = b by omega, Nat.sub_zero]
    · rw [if_neg (by omega), if_neg h1, if_neg h2]

/-- A load of the columns after the first `n`. -/
theorem ex_load (hL : Ex2 (v.read (Elt Ideal) (v.writes (Elt Ideal) f0 L)) (fun r c => if c < n then P r c else z r c))
    (inb : ∀ d, (![0, n] : Fin 2 → ℕ) d + (![M, w] : Fin 2 → ℕ) d ≤ (⟨2, ![M, N]⟩ : Shape).size d) :
    Ex2 (n0 := M) (n1 := w) (v.readAt (Elt Ideal) (Rect.unit (s := ⟨2, ![M, N]⟩) ![0, n] ![M, w] inb).toLoadRect (v.writes (Elt Ideal) f0 L)) (fun r c => z r (n + c)) := by
  have e := View.readAt_unit (Val := Elt Ideal) v (v.writes (Elt Ideal) f0 L) inb rfl inb
  rw [e]
  refine (ex_window hL 0 n inb).congr fun a _ b _ => ?_
  rw [if_neg (by omega), Nat.zero_add]

end

/-- Whatever a buffer held before, after these stores it holds `P` in its first `n` columns and `z` in the others. -/
structure St {M N : ℕ} (P z : ℕ → ℕ → EReal) (L : List (View.Piece (Elt Ideal) ⟨2, ![M, N]⟩ .f32)) (n : ℕ) : Prop where
  out : ∀ {sig : RefSig} {κ : Kind} {sp : Space} (v : View sig κ sp ⟨2, ![M, N]⟩ .f32) (f0 : v.ty.Contents (Elt Ideal)),
    Ex2 (v.read (Elt Ideal) (v.writes (Elt Ideal) f0 L)) (fun r c => if c < n then P r c else z r c)

section
variable {M N n w : ℕ} {L : List (View.Piece (Elt Ideal) ⟨2, ![M, N]⟩ .f32)} {P z : ℕ → ℕ → EReal}

theorem St.step (h : St P z L n) (inb : ∀ d, (![0, n] : Fin 2 → ℕ) d + (![M, w] : Fin 2 → ℕ) d ≤ (⟨2, ![M, N]⟩ : Shape).size d)
    {p : (⟨2, ![M, w]⟩ : Shape).Idx → EReal} (hp : Ex2 p (fun r c => P r (n + c))) :
    St P z (⟨Rect.unit (s := ⟨2, ![M, N]⟩) ![0, n] ![M, w] inb, p⟩ :: L) (n + w) := ⟨fun v f0 => ex_step v f0 L (h.out v f0) inb p hp⟩

theorem St.load (h : St P z L n) {sig : RefSig} {κ : Kind} {sp : Space} (v : View sig κ sp ⟨2, ![M, N]⟩ .f32)
    (inb : ∀ d, (![0, n] : Fin 2 → ℕ) d + (![M, w] : Fin 2 → ℕ) d ≤ (⟨2, ![M, N]⟩ : Shape).size d) :
    Ex2 (n0 := M) (n1 := w) (v.readCov L (Rect.unit (s := ⟨2, ![M, N]⟩) ![0, n] ![M, w] inb).toLoadRect) (fun r c => z r (n + c)) :=
  ex_load v v.junk L (h.out v v.junk) inb

theorem St.start {x : (⟨2, ![M, N]⟩ : Shape).Idx → EReal} (h : Ex2 x z) (L : List (View.Piece (Elt Ideal) ⟨2, ![M, N]⟩ .f32))
    (inb : ∀ d, (![0, 0] : Fin 2 → ℕ) d + (![M, N] : Fin 2 → ℕ) d ≤ (⟨2, ![M, N]⟩ : Shape).size d) :
    St P z (⟨Rect.unit (s := ⟨2, ![M, N]⟩) ![0, 0] ![M, N] inb, x⟩ :: L) 0 := ⟨fun v f0 => by
  have e := View.read_writes_full (Val := Elt Ideal) v f0 inb x L
  rw [e]
  exact h.congr fun a _ b _ => by rw [if_neg (Nat.not_lt_zero _)]⟩

end

/-- Where a position falls: the extents before the piece and the position in it. -/
theorem locate_sum : ∀ (ns : List ℕ) (c : ℕ) (h : c < ns.sum), (ns.take (locate ns c h).1.val).sum + (locate ns c h).2.val = c
  | [], _, h => absurd h (by simp)
  | n :: ns, c, h => by
    by_cases hc : c < n
    · have e : locate (n :: ns) c h = ⟨⟨0, Nat.zero_lt_succ _⟩, ⟨c, hc⟩⟩ := by rw [locate, dif_pos hc]
      rw [e]
      simp
    · have h' : c - n < ns.sum := by rw [List.sum_cons] at h; omega
      have e : locate (n :: ns) c h = ⟨(locate ns (c - n) h').1.succ, (locate ns (c - n) h').2⟩ := by rw [locate, dif_neg hc]
      have := locate_sum ns (c - n) h'
      rw [e]
      show ((n :: ns).take ((locate ns (c - n) h').1.val + 1)).sum + (locate ns (c - n) h').2.val = c
      rw [List.take_succ_cons, List.sum_cons]
      omega

/-- Joined arrays at an index: the value every array has at its own part of it. -/
theorem concat_eq {α : Type} {t : Shape} (a : Fin t.rank) (xs : List ((s : Shape) × (s.Idx → α))) (h : Shape.Concatenates (xs.map (·.1)) t a) (j : t.Idx) (v : α)
    (H : ∀ (k : ℕ) (hk : k < xs.length) (hr : (xs[k]).1.rank = t.rank) (i : (xs[k]).1.Idx),
      (((xs.map (·.1)).map fun s => if h : s.rank = t.rank then s.size (a.cast h.symm) else 0).take k).sum + (i (a.cast hr.symm)).val = (j a).val →
      (∀ b, b.cast hr ≠ a → (i b).val = (j (b.cast hr)).val) → (xs[k]).2 i = v) :
    concatenate t a xs h j = v := by
  unfold concatenate
  dsimp only
  refine H _ _ (h.2.1 _ (List.mem_map.2 ⟨_, List.getElem_mem _, rfl⟩)).1 _ ?_ ?_
  · refine Eq.trans (congrArg (_ + ·) ?_) (locate_sum _ _ _)
    exact (congrArg Fin.val (dif_pos rfl)).trans rfl
  · intro b hb
    exact (congrArg Fin.val (dif_neg hb)).trans rfl

/-- The six pieces of the projection's columns, side by side. -/
def cols (x1 : (⟨2, ![8192, 768]⟩ : Shape).Idx → EReal) (x2 : (⟨2, ![8192, 768]⟩ : Shape).Idx → EReal) (x3 : (⟨2, ![8192, 512]⟩ : Shape).Idx → EReal) (x4 : (⟨2, ![8192, 256]⟩ : Shape).Idx → EReal) (x5 : (⟨2, ![8192, 768]⟩ : Shape).Idx → EReal) (x6 : (⟨2, ![8192, 128]⟩ : Shape).Idx → EReal) (l k : ℕ) : EReal :=
  if k < 768 then natF x1 l k else if k < 1536 then natF x2 l (k - 768) else if k < 2048 then natF x3 l (k - 1536)
  else if k < 2304 then natF x4 l (k - 2048) else if k < 3072 then natF x5 l (k - 2304) else natF x6 l (k - 3072)

section
variable (x1 : (⟨2, ![8192, 768]⟩ : Shape).Idx → EReal) (x2 : (⟨2, ![8192, 768]⟩ : Shape).Idx → EReal) (x3 : (⟨2, ![8192, 512]⟩ : Shape).Idx → EReal) (x4 : (⟨2, ![8192, 256]⟩ : Shape).Idx → EReal) (x5 : (⟨2, ![8192, 768]⟩ : Shape).Idx → EReal) (x6 : (⟨2, ![8192, 128]⟩ : Shape).Idx → EReal)
theorem ex_cols1 : Ex2 x1 (fun l r => cols x1 x2 x3 x4 x5 x6 l (0 + r)) := (ex_natF x1).congr fun a _ b hb => by
  unfold cols
  rw [if_pos (by omega), Nat.zero_add]
theorem ex_cols2 : Ex2 x2 (fun l r => cols x1 x2 x3 x4 x5 x6 l (768 + r)) := (ex_natF x2).congr fun a _ b hb => by
  unfold cols
  rw [if_neg (by omega), if_pos (by omega), show 768 + b - 768 = b by omega]
theorem ex_cols3 : Ex2 x3 (fun l r => cols x1 x2 x3 x4 x5 x6 l (1536 + r)) := (ex_natF x3).congr fun a _ b hb => by
  unfold cols
  rw [if_neg (by omega), if_neg (by omega), if_pos (by omega), show 1536 + b - 1536 = b by omega]
theorem ex_cols4 : Ex2 x4 (fun l r => cols x1 x2 x3 x4 x5 x6 l (2048 + r)) := (ex_natF x4).congr fun a _ b hb => by
  unfold cols
  rw [if_neg (by omega), if_neg (by omega), if_neg (by omega), if_pos (by omega), show 2048 + b - 2048 = b by omega]
theorem ex_cols5 : Ex2 x5 (fun l r => cols x1 x2 x3 x4 x5 x6 l (2304 + r)) := (ex_natF x5).congr fun a _ b hb => by
  unfold cols
  rw [if_neg (by omega), if_neg (by omega), if_neg (by omega), if_neg (by omega), if_pos (by omega), show 2304 + b - 2304 = b by omega]
theorem ex_cols6 : Ex2 x6 (fun l r => cols x1 x2 x3 x4 x5 x6 l (3072 + r)) := (ex_natF x6).congr fun a _ b hb => by
  unfold cols
  rw [if_neg (by omega), if_neg (by omega), if_neg (by omega), if_neg (by omega), if_neg (by omega), show 3072 + b - 3072 = b by omega]
end

end Cert.Proof.Blocks
end
-- ==== Proof.Rows.lean ====
module

public import proofs.«01_k».proof.Proof.Blocks

/-! Arrays with row sums, column sums, and a column or a row spread over a block; the literals of the root-mean-square norm. -/

@[expose] public section

set_option maxRecDepth 16384

noncomputable section

namespace Cert.Proof.Rows

open Idealize.ShloMosaic Idealize.ShloMosaic.TcCoe
open Cert.Proof.Blocks
open Finset

theorem sum_from_zero {n : ℕ} (f : ℕ → EReal) (g : Fin n → EReal) (z : EReal) (hz : z = 0) (hg : ∀ k : Fin n, g k = f k.val) :
    z + ∑ k : Fin n, g k = ∑ k ∈ range n, f k := by
  rw [hz, zero_add, Finset.sum_range]
  exact Finset.sum_congr rfl fun k _ => hg k

theorem ex_times {n0 n1 : ℕ} {x y : FVec Ideal ⟨2, ![n0, n1]⟩ .f32} {f g : ℕ → ℕ → EReal} (hx : Ex2 x f) (hy : Ex2 y g) :
    Ex2 (mulf x y) (fun a b => f a b * g a b) := fun a b => by
  show x _ * y _ = _
  rw [hx, hy]

theorem ex_sub {n0 n1 : ℕ} {x y : FVec Ideal ⟨2, ![n0, n1]⟩ .f32} {f g : ℕ → ℕ → EReal} (hx : Ex2 x f) (hy : Ex2 y g) :
    Ex2 (subf x y) (fun a b => f a b - g a b) := fun a b => by
  show x _ - y _ = _
  rw [hx, hy]

theorem ex_nt2 {M K N : ℕ} {a : FVec Ideal ⟨2, ![M, K]⟩ .bf16} {b : FVec Ideal ⟨2, ![N, K]⟩ .bf16} {f g : ℕ → ℕ → EReal} (ha : Ex2 a f) (hb : Ex2 b g) :
    Ex2 (FloatOps.matmul (F := Ideal) (φ₁ := .bf16) (φ₂ := .bf16) (DotDims.transposedRhs M K N) none a b (constant ⟨2, ![M, N]⟩ .f32 0x00000000#32))
      (fun r c => ∑ l ∈ range K, f r l * g c l) := fun x y => by
  rw [Ideal.matmul_transposedRhs_apply, ValueIdx.constant_apply, Ideal.ofBits_zero_f32, zero_add]
  refine Eq.trans ?_ (Finset.sum_range _).symm
  exact Finset.sum_congr rfl fun k _ => by rw [ha, hb]

theorem ex_const {n0 n1 : ℕ} (b : BitVec 32) (v : EReal) (h : Ideal.ofBits .f32 b = v) :
    Ex2 (n0 := n0) (n1 := n1) (broadcast ⟨2, ![n0, n1]⟩ (Scalar.ofBits .f32 b : Ideal .f32)) (fun _ _ => v) := fun _ _ => h

theorem ex_spreadCol {n m : ℕ} {x : (⟨2, ![n, 1]⟩ : Shape).Idx → EReal} {f : ℕ → ℕ → EReal} (h : Ex2 x f) (hn : n ≠ 1) (hb : Shape.Broadcasts ⟨2, ![n, 1]⟩ ⟨2, ![n, m]⟩) :
    Ex2 (broadcastTo ⟨2, ![n, m]⟩ x hb) (fun a _ => f a 0) := fun a b => by
  rw [broadcastTo_apply _ _ _ (ValueIdx.ix2 a (0 : Fin 1)) (fun d => by
    match d with
    | ⟨0, _⟩ => exact (if_neg hn).symm
    | ⟨1, _⟩ => exact (if_pos rfl).symm)]
  exact h a 0

theorem ex_spreadRow {n m : ℕ} {x : (⟨2, ![1, m]⟩ : Shape).Idx → EReal} {f : ℕ → ℕ → EReal} (h : Ex2 x f) (hm : m ≠ 1) (hb : Shape.Broadcasts ⟨2, ![1, m]⟩ ⟨2, ![n, m]⟩) :
    Ex2 (broadcastTo ⟨2, ![n, m]⟩ x hb) (fun _ b => f 0 b) := fun a b => by
  rw [broadcastTo_apply _ _ _ (ValueIdx.ix2 (0 : Fin 1) b) (fun d => by
    match d with
    | ⟨0, _⟩ => exact (if_pos rfl).symm
    | ⟨1, _⟩ => exact (if_neg hm).symm)]
  exact h 0 b

theorem ex_rowSum {n m : ℕ} {x : FVec Ideal ⟨2, ![n, m]⟩ .f32} {f : ℕ → ℕ → EReal} (h : Ex2 x f) (hr : Shape.Reduces ⟨2, ![n, m]⟩ [1] ⟨1, ![n]⟩) (hφ : FKind.Formats .f32)
    (hacc : (0x00000000#32 : BitVec 32) = FKind.add.neutral .f32 hφ) (hs : Shape.ShapeCasts ⟨1, ![n]⟩ ⟨2, ![n, 1]⟩) :
    Ex2 (n0 := n) (n1 := 1) (shapeCast ⟨2, ![n, 1]⟩ (multiReduction .add [1] ⟨1, ![n]⟩ x 0x00000000#32 hr hφ hacc) hs) (fun a _ => ∑ k ∈ range m, f a k) := fun a b => by
  rw [shapeCast_apply _ hs _ (ValueIdx.ix1 a) (by
    rw [Shape.rowMajor_val_one, Shape.rowMajor_val_two]
    have := b.isLt
    show a.val = a.val * 1 + b.val
    omega)]
  rw [Ideal.multiReduction_add_single]
  refine Eq.trans ?_ (Finset.sum_range _).symm
  refine Finset.sum_congr rfl fun k _ => ?_
  exact h.at _ _ _ rfl rfl

theorem ex_colSum {n m : ℕ} {x : FVec Ideal ⟨2, ![n, m]⟩ .f32} {f : ℕ → ℕ → EReal} (h : Ex2 x f) (hr : Shape.Reduces ⟨2, ![n, m]⟩ [0] ⟨1, ![m]⟩) (hφ : FKind.Formats .f32)
    (hacc : (0x00000000#32 : BitVec 32) = FKind.add.neutral .f32 hφ) (hs : Shape.ShapeCasts ⟨1, ![m]⟩ ⟨2, ![1, m]⟩) :
    Ex2 (n0 := 1) (n1 := m) (shapeCast ⟨2, ![1, m]⟩ (multiReduction .add [0] ⟨1, ![m]⟩ x 0x00000000#32 hr hφ hacc) hs) (fun _ b => ∑ k ∈ range n, f k b) := fun a b => by
  rw [shapeCast_apply _ hs _ (ValueIdx.ix1 b) (by
    rw [Shape.rowMajor_val_one, Shape.rowMajor_val_two]
    have := a.isLt
    show b.val = a.val * m + b.val
    rw [show a.val = 0 by omega]; omega)]
  rw [Ideal.multiReduction_add_single]
  refine Eq.trans ?_ (Finset.sum_range _).symm
  refine Finset.sum_congr rfl fun k _ => ?_
  exact h.at _ _ _ rfl rfl

theorem ex_flip {n m : ℕ} {x : (⟨2, ![n, m]⟩ : Shape).Idx → EReal} {f : ℕ → ℕ → EReal} (h : Ex2 x f) (ht : Shape.Transposes ⟨2, ![n, m]⟩ [1, 0] ⟨2, ![m, n]⟩) :
    Ex2 (transpose ⟨2, ![m, n]⟩ [1, 0] x ht) (fun a b => f b a) := fun a b => by
  rw [transpose_apply _ _ _ _ (ValueIdx.ix2 b a) (fun d => by
    match d with
    | ⟨0, _⟩ => rfl
    | ⟨1, _⟩ => rfl)]
  exact h b a

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem ex_rsqrt {n0 n1 : ℕ} {x : FVec Ideal ⟨2, ![n0, n1]⟩ .f32} {f : ℕ → ℕ → EReal} (hx : Ex2 x f) :
    Ex2 (rsqrt x) (fun a b => Ideal.rsqrt (f a b)) := fun a b => by
  show Ideal.rsqrt (x _) = _
  rw [hx]

/-- The number added under the root. -/
def eps : ℝ := 8796093 / 2 ^ 43
theorem eps_pos : 0 < eps := by unfold eps; positivity
theorem bits_eps : Ideal.ofBits .f32 0x358637BD#32 = ((eps : ℝ) : EReal) := by
  unfold eps
  simp [Ideal.ofBits, Ideal.ieee]
  norm_num
  rw [← EReal.coe_mul]
  norm_num
theorem bits_inv : Ideal.ofBits .f32 0x3A800000#32 = (((1 : ℝ) / 1024 : ℝ) : EReal) := by
  simp [Ideal.ofBits, Ideal.ieee]
  norm_num
  rw [← EReal.coe_mul]
  norm_num
theorem bits_1024 : Ideal.ofBits .f32 0x44800000#32 = ((1024 : ℝ) : EReal) := by
  simp [Ideal.ofBits, Ideal.ieee]
  norm_num
  rw [← EReal.coe_mul]
  norm_num
theorem bits_half : Ideal.ofBits .f32 0xBF000000#32 = ((-1 / 2 : ℝ) : EReal) := by
  simp [Ideal.ofBits, Ideal.ieee]
  norm_num
  rw [← EReal.coe_mul]
  norm_num

end Cert.Proof.Rows
end
-- ==== Proof.ProjGrad.lean ====
module

public import proofs.«01_k».proof.Proof.Rows
public import proofs.«01_k».proof.Proof.Gen.Kernel2Ideal.Value
public import proofs.«01_k».proof.Proof.Gen.Kernel2.Frame

/-! The gradient of a layer's input: what a point of the grid leaves in the results' buffers. -/

@[expose] public section

set_option maxRecDepth 16384

noncomputable section

namespace Cert.Proof.ProjGrad

open Cert.Kernel2Ideal Cert.Kernel2Ideal.Gen Cert.Proof.Blocks Cert.Proof.Rows
open Idealize.ShloMosaic Idealize.ShloMosaic.TcCoe Idealize.SL.Sem
open Finset

/-- The mean of a row's squares, with the small number added. -/
def ms (x : ℕ → ℕ → EReal) (r : ℕ) : EReal := (∑ k ∈ range 1024, x r k * x r k) * ((1 / 1024 : ℝ) : EReal) + ((eps : ℝ) : EReal)
/-- The reciprocal of a row's root mean square. -/
def rms (x : ℕ → ℕ → EReal) (r : ℕ) : EReal := Ideal.rsqrt (ms x r)
/-- The normed row. -/
def xn (x : ℕ → ℕ → EReal) (r d : ℕ) : EReal := x r d * rms x r
/-- The gradient of the normed and scaled row: the columns' gradients through the weights. -/
def dh (D w : ℕ → ℕ → EReal) (r d : ℕ) : EReal := ∑ l ∈ range 3200, D r l * w d l
/-- The gradient of the layer's input. -/
def gx (x g w O D : ℕ → ℕ → EReal) (r d : ℕ) : EReal :=
  rms x r * (dh D w r d * g 0 d - xn x r d * ((∑ k ∈ range 1024, dh D w r k * g 0 k * xn x r k) * ((1 / 1024 : ℝ) : EReal))) + O r d

section
variable {x g w O D : ℕ → ℕ → EReal}

theorem ex_pay2 {v0 : Vec Ideal S512x1024 .f32} (h : Ex2 v0 x) : Ex2 (k0_pay2 (F := Ideal) v0) (fun r _ => rms x r) := by
  unfold k0_pay2
  dsimp only
  exact ex_rsqrt (ex_add (ex_times (ex_rowSum (ex_times h h) _ _ _ _) (ex_const _ _ bits_inv)) (ex_const _ _ bits_eps))

theorem ex_pay3 {v0 : Vec Ideal S512x1024 .f32} (h : Ex2 v0 x) : Ex2 (k0_pay3 (F := Ideal) v0) (xn x) := by
  unfold k0_pay3
  dsimp only
  exact ex_times h (ex_spreadCol (ex_pay2 h) (by decide) _)

theorem ex_pay4 {v0 : Vec Ideal S512x1024 .f32} {v11 : Vec Ideal S1x1024 .f32} (h : Ex2 v0 x) (hg : Ex2 v11 g) :
    Ex2 (k0_pay4 (F := Ideal) v0 v11) (fun d r => xn x r d * g 0 d) := by
  unfold k0_pay4
  dsimp only
  exact ex_flip (ex_times (ex_pay3 h) (ex_spreadRow hg (by decide) _)) _

theorem ex_pay6 {v18 : Vec Ideal S512x768 .bf16} {v19 : Vec Ideal S1024x768 .bf16} {v22 : Vec Ideal S512x768 .bf16} {v23 : Vec Ideal S1024x768 .bf16} {v26 : Vec Ideal S512x512 .bf16} {v27 : Vec Ideal S1024x512 .bf16}
    {v30 : Vec Ideal S512x256 .bf16} {v31 : Vec Ideal S1024x256 .bf16} {v34 : Vec Ideal S512x768 .bf16} {v35 : Vec Ideal S1024x768 .bf16} {v38 : Vec Ideal S512x128 .bf16} {v39 : Vec Ideal S1024x128 .bf16}
    (a1 : Ex2 v18 (fun l r => D l (0 + r))) (b1 : Ex2 v19 (fun l r => w l (0 + r))) (a2 : Ex2 v22 (fun l r => D l (768 + r))) (b2 : Ex2 v23 (fun l r => w l (768 + r)))
    (a3 : Ex2 v26 (fun l r => D l (1536 + r))) (b3 : Ex2 v27 (fun l r => w l (1536 + r))) (a4 : Ex2 v30 (fun l r => D l (2048 + r))) (b4 : Ex2 v31 (fun l r => w l (2048 + r)))
    (a5 : Ex2 v34 (fun l r => D l (2304 + r))) (b5 : Ex2 v35 (fun l r => w l (2304 + r))) (a6 : Ex2 v38 (fun l r => D l (3072 + r))) (b6 : Ex2 v39 (fun l r => w l (3072 + r))) :
    Ex2 (k0_pay6 (F := Ideal) (k0_pay5 (F := Ideal) v18 v19 v22 v23 v26 v27) v30 v31 v34 v35 v38 v39) (dh D w) := by
  unfold k0_pay6 k0_pay5
  dsimp only
  refine Ex2.congr (ex_add (ex_add (ex_add (ex_add (ex_add (ex_add (ex_const _ 0 Ideal.ofBits_zero_f32) (ex_nt2 a1 b1)) (ex_nt2 a2 b2)) (ex_nt2 a3 b3)) (ex_nt2 a4 b4)) (ex_nt2 a5 b5)) (ex_nt2 a6 b6)) fun r _ d _ => ?_
  unfold dh
  rw [show 3200 = 0 + 768 + 768 + 512 + 256 + 768 + 128 by rfl]
  simp only [Finset.sum_range_add, Finset.range_zero, Finset.sum_empty]

section
variable {v29 : FVec Ideal S512x1024 .f32} {v30 : Vec Ideal S512x256 .bf16} {v31 : Vec Ideal S1024x256 .bf16} {v34 : Vec Ideal S512x768 .bf16} {v35 : Vec Ideal S1024x768 .bf16} {v38 : Vec Ideal S512x128 .bf16} {v39 : Vec Ideal S1024x128 .bf16}
  (h6 : Ex2 (k0_pay6 (F := Ideal) v29 v30 v31 v34 v35 v38 v39) (dh D w))
include h6

theorem ex_pay8 {v10 : FVec Ideal S512x1024 .f32} {v45 : Vec Ideal S1x1024 .f32} {z : ℕ → ℕ → EReal} (h3 : Ex2 v10 (xn x)) (hz : Ex2 v45 z) :
    Ex2 (k0_pay8 (F := Ideal) v10 v29 v30 v31 v34 v35 v38 v39 v45) (fun a d => z a d + ∑ r ∈ range 512, dh D w r d * xn x r d) := by
  unfold k0_pay8
  dsimp only
  rw [shapeCast_self]
  exact ex_add hz (ex_colSum (ex_times h6 h3) _ _ _ _)

theorem ex_pay1 {v8 : FVec Ideal S512x1 .f32} {v10 : FVec Ideal S512x1024 .f32} {v11 : Vec Ideal S1x1024 .f32} {v64 : Vec Ideal S512x1024 .f32} (h2 : Ex2 v8 (fun r _ => rms x r)) (h3 : Ex2 v10 (xn x)) (hg : Ex2 v11 g) (ho : Ex2 v64 O) :
    Ex2 (k0_pay1 (F := Ideal) (k0_pay9 (F := Ideal) v8 v10 v11 v29 v30 v31 v34 v35 v38 v39) v64) (gx x g w O D) := by
  unfold k0_pay1 k0_pay9
  dsimp only
  have e := ex_times h6 (ex_spreadRow (n := 512) hg (by decide) broadcasts_S1x1024_S512x1024)
  exact ex_add (ex_times (ex_spreadCol h2 (by decide) _) (ex_sub e (ex_times h3 (ex_spreadCol (ex_times (ex_rowSum (ex_times e h3) _ _ _ _) (ex_const _ _ bits_inv)) (by decide) _)))) ho

end
end

theorem ex_whole {n0 n1 : ℕ} (m : Memref sig .tc .vmem ⟨2, ![n0, n1]⟩ .bf16) (h : m.IsWhole) {x : Vec Ideal ⟨2, ![n0, n1]⟩ .bf16} {f : ℕ → ℕ → EReal} (hx : Ex2 x f)
    (inb : ∀ d, (![0, 0] : Fin 2 → ℕ) d + (![n0, n1] : Fin 2 → ℕ) d ≤ (⟨2, ![n0, n1]⟩ : Shape).size d) :
    Ex2 (n0 := n0) (n1 := n1) (View.readAt (Elt Ideal) m.view (Rect.unit (s := ⟨2, ![n0, n1]⟩) ![0, 0] ![n0, n1] inb).toLoadRect (h.unread x)) f := by
  have e := View.readAt_full (Val := Elt Ideal) m.view (h.unread x) inb
  rw [e, h.read_unread]
  exact hx

theorem ex_whole32 {n0 n1 : ℕ} (m : Memref sig .tc .vmem ⟨2, ![n0, n1]⟩ .f32) (h : m.IsWhole) {x : Vec Ideal ⟨2, ![n0, n1]⟩ .f32} {f : ℕ → ℕ → EReal} (hx : Ex2 x f)
    (inb : ∀ d, (![0, 0] : Fin 2 → ℕ) d + (![n0, n1] : Fin 2 → ℕ) d ≤ (⟨2, ![n0, n1]⟩ : Shape).size d) :
    Ex2 (n0 := n0) (n1 := n1) (View.readAt (Elt Ideal) m.view (Rect.unit (s := ⟨2, ![n0, n1]⟩) ![0, 0] ![n0, n1] inb).toLoadRect (h.unread x)) f := by
  have e := View.readAt_full (Val := Elt Ideal) m.view (h.unread x) inb
  rw [e, h.read_unread]
  exact hx

/-- A load of some of a buffer's columns. -/
theorem ex_win {M N n k : ℕ} (m : Memref sig .tc .vmem ⟨2, ![M, N]⟩ .bf16) (h : m.IsWhole) {x : Vec Ideal ⟨2, ![M, N]⟩ .bf16} {f : ℕ → ℕ → EReal} (hx : Ex2 x f)
    (inb : ∀ d, (![0, n] : Fin 2 → ℕ) d + (![M, k] : Fin 2 → ℕ) d ≤ (⟨2, ![M, N]⟩ : Shape).size d) :
    Ex2 (n0 := M) (n1 := k) (View.readAt (Elt Ideal) m.view (Rect.unit (s := ⟨2, ![M, N]⟩) ![0, n] ![M, k] inb).toLoadRect (h.unread x)) (fun a b => f a (n + b)) := by
  have e := View.readAt_unit (Val := Elt Ideal) m.view (h.unread x) inb rfl inb
  rw [e, h.read_unread]
  intro a b
  refine (ex_window hx 0 n inb a b).trans ?_
  dsimp only
  rw [Nat.zero_add]

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S512x1024 .f32) (harg4 : arg4.IsWhole) (arg5 : Memref sig .tc .vmem S512x768 .bf16) (harg5 : arg5.IsWhole) (arg6 : Memref sig .tc .vmem S512x768 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x768 .bf16) (harg9 : arg9.IsWhole) (arg10 : Memref sig .tc .vmem S512x128 .bf16) (harg10 : arg10.IsWhole) (arg11 : Memref sig .tc .vmem S512x1024 .f32) (harg11 : arg11.IsWhole) (arg12 : Memref sig .tc .vmem S1024x512 .bf16) (harg12 : arg12.IsWhole) (arg13 : Memref sig .tc .vmem S1x1024 .f32) (harg13 : arg13.IsWhole)
    (x0 : Vec Ideal S512x1024 .f32) (x1 : Vec Ideal S1x1024 .f32) (x2 : Vec Ideal S1024x3200 .bf16) (x3 : Vec Ideal S512x1024 .f32) (x4 : Vec Ideal S512x768 .bf16) (x5 : Vec Ideal S512x768 .bf16) (x6 : Vec Ideal S512x512 .bf16) (x7 : Vec Ideal S512x256 .bf16) (x8 : Vec Ideal S512x768 .bf16) (x9 : Vec Ideal S512x128 .bf16)
    {x g w O D z : ℕ → ℕ → EReal} (hx : Ex2 x0 x) (hg : Ex2 x1 g) (hw : Ex2 x2 w) (ho : Ex2 x3 O) (h1 : Ex2 x4 (fun l c => D l (0 + c))) (h2 : Ex2 x5 (fun l c => D l (768 + c))) (h3 : Ex2 x6 (fun l c => D l (1536 + c))) (h4 : Ex2 x7 (fun l c => D l (2048 + c))) (h5 : Ex2 x8 (fun l c => D l (2304 + c))) (h6 : Ex2 x9 (fun l c => D l (3072 + c)))
include hx hg hw ho h1 h2 h3 h4 h5 h6

theorem out_A_10 (hc0 : cond0_0 i) :
    Ex2 (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9) (gx x g w O D) := by
  unfold out0_A_10 kernelRun0_A
  dsimp only
  sl_unfold_words
  have k := (ex_pay1 (ex_pay6 (ex_whole arg5 harg5 h1 inb_S512x768_S512x768_0_0) (ex_win arg3 harg3 hw inb_S1024x3200_S1024x768_0_0) (ex_whole arg6 harg6 h2 inb_S512x768_S512x768_0_0) (ex_win arg3 harg3 hw inb_S1024x3200_S1024x768_0_768) (ex_whole arg7 harg7 h3 inb_S512x512_S512x512_0_0) (ex_win arg3 harg3 hw inb_S1024x3200_S1024x512_0_1536) (ex_whole arg8 harg8 h4 inb_S512x256_S512x256_0_0) (ex_win arg3 harg3 hw inb_S1024x3200_S1024x256_0_2048) (ex_whole arg9 harg9 h5 inb_S512x768_S512x768_0_0) (ex_win arg3 harg3 hw inb_S1024x3200_S1024x768_0_2304) (ex_whole arg10 harg10 h6 inb_S512x128_S512x128_0_0) (ex_win arg3 harg3 hw inb_S1024x3200_S1024x128_0_3072)) (ex_pay2 (ex_whole32 arg1 harg1 hx inb_S512x1024_S512x1024_0_0)) (ex_pay3 (ex_whole32 arg1 harg1 hx inb_S512x1024_S512x1024_0_0)) (ex_whole32 arg2 harg2 hg inb_S1x1024_S1x1024_0_0) (ex_whole32 arg4 harg4 ho inb_S512x1024_S512x1024_0_0))
  refine Eq.mp (congrArg (fun y => Ex2 y _) (View.read_writes_full (Val := Elt Ideal) VO0_10 VO0_10.junk _ _ _).symm) ?_
  exact k

theorem out_A_11 (hc0 : cond0_0 i) :
    Ex2 (out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9) (fun d r => xn x r d * g 0 d) := by
  unfold out0_A_11 kernelRun0_A
  dsimp only
  sl_unfold_words
  have k := (ex_pay4 (ex_whole32 arg1 harg1 hx inb_S512x1024_S512x1024_0_0) (ex_whole32 arg2 harg2 hg inb_S1x1024_S1x1024_0_0))
  refine Eq.mp (congrArg (fun y => Ex2 y _) (View.read_writes_full (Val := Elt Ideal) VO0_11 VO0_11.junk _ _ _).symm) ?_
  exact k

theorem out_A_12 (hc0 : cond0_0 i) :
    Ex2 (out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9) (fun a d => 0 + ∑ r ∈ range 512, dh D w r d * xn x r d) := by
  unfold out0_A_12 kernelRun0_A
  dsimp only
  sl_unfold_words
  have hz0 : Ex2 (n0 := 1) (n1 := 1024) (View.readCov (Val := Elt Ideal) arg13.view [⟨Rect.unit (s := S1x1024) ![0, 0] S1x1024.size inb_S1x1024_S1x1024_0_0, k0_pay7 (F := Ideal)⟩] (Rect.unit (s := S1x1024) ![0, 0] S1x1024.size inb_S1x1024_S1x1024_0_0).toLoadRect) (fun _ _ => 0) := by
    have e := View.readCov_full (Val := Elt Ideal) arg13.view inb_S1x1024_S1x1024_0_0 inb_S1x1024_S1x1024_0_0 (k0_pay7 (F := Ideal)) []
    rw [e]
    exact fun _ _ => Ideal.ofBits_zero_f32
  have k := (ex_pay8 (ex_pay6 (ex_whole arg5 harg5 h1 inb_S512x768_S512x768_0_0) (ex_win arg3 harg3 hw inb_S1024x3200_S1024x768_0_0) (ex_whole arg6 harg6 h2 inb_S512x768_S512x768_0_0) (ex_win arg3 harg3 hw inb_S1024x3200_S1024x768_0_768) (ex_whole arg7 harg7 h3 inb_S512x512_S512x512_0_0) (ex_win arg3 harg3 hw inb_S1024x3200_S1024x512_0_1536) (ex_whole arg8 harg8 h4 inb_S512x256_S512x256_0_0) (ex_win arg3 harg3 hw inb_S1024x3200_S1024x256_0_2048) (ex_whole arg9 harg9 h5 inb_S512x768_S512x768_0_0) (ex_win arg3 harg3 hw inb_S1024x3200_S1024x768_0_2304) (ex_whole arg10 harg10 h6 inb_S512x128_S512x128_0_0) (ex_win arg3 harg3 hw inb_S1024x3200_S1024x128_0_3072)) (ex_pay3 (ex_whole32 arg1 harg1 hx inb_S512x1024_S512x1024_0_0)) hz0)
  refine Eq.mp (congrArg (fun y => Ex2 y _) (View.read_writes_full (Val := Elt Ideal) VO0_12 VO0_12.junk _ _ _).symm) ?_
  exact k

theorem out_B_10 (hc0 : ¬cond0_0 i) (xo12 : Vec Ideal S1x1024 .f32) (hz : Ex2 xo12 z) :
    Ex2 (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12) (gx x g w O D) := by
  unfold out0_B_10 kernelRun0_B
  dsimp only
  sl_unfold_words
  have k := (ex_pay1 (ex_pay6 (ex_whole arg5 harg5 h1 inb_S512x768_S512x768_0_0) (ex_win arg3 harg3 hw inb_S1024x3200_S1024x768_0_0) (ex_whole arg6 harg6 h2 inb_S512x768_S512x768_0_0) (ex_win arg3 harg3 hw inb_S1024x3200_S1024x768_0_768) (ex_whole arg7 harg7 h3 inb_S512x512_S512x512_0_0) (ex_win arg3 harg3 hw inb_S1024x3200_S1024x512_0_1536) (ex_whole arg8 harg8 h4 inb_S512x256_S512x256_0_0) (ex_win arg3 harg3 hw inb_S1024x3200_S1024x256_0_2048) (ex_whole arg9 harg9 h5 inb_S512x768_S512x768_0_0) (ex_win arg3 harg3 hw inb_S1024x3200_S1024x768_0_2304) (ex_whole arg10 harg10 h6 inb_S512x128_S512x128_0_0) (ex_win arg3 harg3 hw inb_S1024x3200_S1024x128_0_3072)) (ex_pay2 (ex_whole32 arg1 harg1 hx inb_S512x1024_S512x1024_0_0)) (ex_pay3 (ex_whole32 arg1 harg1 hx inb_S512x1024_S512x1024_0_0)) (ex_whole32 arg2 harg2 hg inb_S1x1024_S1x1024_0_0) (ex_whole32 arg4 harg4 ho inb_S512x1024_S512x1024_0_0))
  refine Eq.mp (congrArg (fun y => Ex2 y _) (View.read_writes_full (Val := Elt Ideal) VO0_10 VO0_10.junk _ _ _).symm) ?_
  exact k

theorem out_B_11 (hc0 : ¬cond0_0 i) (xo12 : Vec Ideal S1x1024 .f32) (hz : Ex2 xo12 z) :
    Ex2 (out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12) (fun d r => xn x r d * g 0 d) := by
  unfold out0_B_11 kernelRun0_B
  dsimp only
  sl_unfold_words
  have k := (ex_pay4 (ex_whole32 arg1 harg1 hx inb_S512x1024_S512x1024_0_0) (ex_whole32 arg2 harg2 hg inb_S1x1024_S1x1024_0_0))
  refine Eq.mp (congrArg (fun y => Ex2 y _) (View.read_writes_full (Val := Elt Ideal) VO0_11 VO0_11.junk _ _ _).symm) ?_
  exact k

theorem out_B_12 (hc0 : ¬cond0_0 i) (xo12 : Vec Ideal S1x1024 .f32) (hz : Ex2 xo12 z) :
    Ex2 (out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo12) (fun a d => z a d + ∑ r ∈ range 512, dh D w r d * xn x r d) := by
  unfold out0_B_12 kernelRun0_B
  dsimp only
  sl_unfold_words
  have k := (ex_pay8 (ex_pay6 (ex_whole arg5 harg5 h1 inb_S512x768_S512x768_0_0) (ex_win arg3 harg3 hw inb_S1024x3200_S1024x768_0_0) (ex_whole arg6 harg6 h2 inb_S512x768_S512x768_0_0) (ex_win arg3 harg3 hw inb_S1024x3200_S1024x768_0_768) (ex_whole arg7 harg7 h3 inb_S512x512_S512x512_0_0) (ex_win arg3 harg3 hw inb_S1024x3200_S1024x512_0_1536) (ex_whole arg8 harg8 h4 inb_S512x256_S512x256_0_0) (ex_win arg3 harg3 hw inb_S1024x3200_S1024x256_0_2048) (ex_whole arg9 harg9 h5 inb_S512x768_S512x768_0_0) (ex_win arg3 harg3 hw inb_S1024x3200_S1024x768_0_2304) (ex_whole arg10 harg10 h6 inb_S512x128_S512x128_0_0) (ex_win arg3 harg3 hw inb_S1024x3200_S1024x128_0_3072)) (ex_pay3 (ex_whole32 arg1 harg1 hx inb_S512x1024_S512x1024_0_0)) (ex_whole32 arg13 harg13 hz inb_S1x1024_S1x1024_0_0))
  refine Eq.mp (congrArg (fun y => Ex2 y _) (View.read_writes_full (Val := Elt Ideal) VO0_12 VO0_12.junk _ _ _).symm) ?_
  exact k

end
end Cert.Proof.ProjGrad
end
-- ==== Proof.ProjGradValue.lean ====
module

public import proofs.«01_k».proof.Defs
public import proofs.«01_k».proof.Proof.ProjGrad
public import Idealize.ShloMosaic.Lib.Pipeline.ValueKit.Geometry

/-! The gradient of a layer's input: the call's result arrays. -/

@[expose] public section

set_option maxRecDepth 16384

noncomputable section

namespace Cert.Proof.ProjGrad

open Idealize.ShloMosaic Idealize.ShloMosaic.TcCoe Idealize.SL.Sem
open Cert.Proof.Blocks Cert.Proof.Rows
open Cert.Kernel2Ideal Cert.Kernel2Ideal.Gen
open Finset

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![0, t.val] := (by decide +kernel : ∀ t : Fin grid0.N, _)
theorem ix_12 : ∀ t : Fin cfg0.N, win0_12.index t = ![0, 0] := (by decide +kernel : ∀ t : Fin grid0.N, _)

variable (m : (ℓ : Loc nD τ sig) → Buf (Elt Ideal) ℓ) (c : Dev nD) {x g w O D : ℕ → ℕ → EReal}

theorem blk_0 {P : ℕ → ℕ → EReal} (h : Ex2 (n0 := 8192) (n1 := 1024) (V m c main_arg0) P) (t : Fin cfg0.N) : Ex2 (iblk m c 0 t : Vec Ideal S512x1024 .f32) (fun r l => P (512 * t.val + r) l) := fun a b => by
  blk_simp [iblk]
  refine h.at _ _ _ ?_ ?_
  · blk_simp [ix_0]
    simp [Nat.mul_comm]
  · blk_simp [ix_0]

theorem blk_3 {P : ℕ → ℕ → EReal} (h : Ex2 (n0 := 8192) (n1 := 1024) (V m c main_arg3) P) (t : Fin cfg0.N) : Ex2 (iblk m c 3 t : Vec Ideal S512x1024 .f32) (fun r l => P (512 * t.val + r) l) := fun a b => by
  blk_simp [iblk]
  refine h.at _ _ _ ?_ ?_
  · blk_simp [ix_3]
    simp [Nat.mul_comm]
  · blk_simp [ix_3]

theorem blk_4 {P : ℕ → ℕ → EReal} (h : Ex2 (n0 := 8192) (n1 := 768) (V m c main_arg4) P) (t : Fin cfg0.N) : Ex2 (iblk m c 4 t : Vec Ideal S512x768 .bf16) (fun r l => P (512 * t.val + r) l) := fun a b => by
  blk_simp [iblk]
  refine h.at _ _ _ ?_ ?_
  · blk_simp [ix_4]
    simp [Nat.mul_comm]
  · blk_simp [ix_4]

theorem blk_5 {P : ℕ → ℕ → EReal} (h : Ex2 (n0 := 8192) (n1 := 768) (V m c main_arg5) P) (t : Fin cfg0.N) : Ex2 (iblk m c 5 t : Vec Ideal S512x768 .bf16) (fun r l => P (512 * t.val + r) l) := fun a b => by
  blk_simp [iblk]
  refine h.at _ _ _ ?_ ?_
  · blk_simp [ix_5]
    simp [Nat.mul_comm]
  · blk_simp [ix_5]

theorem blk_6 {P : ℕ → ℕ → EReal} (h : Ex2 (n0 := 8192) (n1 := 512) (V m c main_arg6) P) (t : Fin cfg0.N) : Ex2 (iblk m c 6 t : Vec Ideal S512x512 .bf16) (fun r l => P (512 * t.val + r) l) := fun a b => by
  blk_simp [iblk]
  refine h.at _ _ _ ?_ ?_
  · blk_simp [ix_6]
    simp [Nat.mul_comm]
  · blk_simp [ix_6]

theorem blk_7 {P : ℕ → ℕ → EReal} (h : Ex2 (n0 := 8192) (n1 := 256) (V m c main_arg7) P) (t : Fin cfg0.N) : Ex2 (iblk m c 7 t : Vec Ideal S512x256 .bf16) (fun r l => P (512 * t.val + r) l) := fun a b => by
  blk_simp [iblk]
  refine h.at _ _ _ ?_ ?_
  · blk_simp [ix_7]
    simp [Nat.mul_comm]
  · blk_simp [ix_7]

theorem blk_8 {P : ℕ → ℕ → EReal} (h : Ex2 (n0 := 8192) (n1 := 768) (V m c main_arg8) P) (t : Fin cfg0.N) : Ex2 (iblk m c 8 t : Vec Ideal S512x768 .bf16) (fun r l => P (512 * t.val + r) l) := fun a b => by
  blk_simp [iblk]
  refine h.at _ _ _ ?_ ?_
  · blk_simp [ix_8]
    simp [Nat.mul_comm]
  · blk_simp [ix_8]

theorem blk_9 {P : ℕ → ℕ → EReal} (h : Ex2 (n0 := 8192) (n1 := 128) (V m c main_arg9) P) (t : Fin cfg0.N) : Ex2 (iblk m c 9 t : Vec Ideal S512x128 .bf16) (fun r l => P (512 * t.val + r) l) := fun a b => by
  blk_simp [iblk]
  refine h.at _ _ _ ?_ ?_
  · blk_simp [ix_9]
    simp [Nat.mul_comm]
  · blk_simp [ix_9]

theorem blk_1 {P : ℕ → ℕ → EReal} (h : Ex2 (n0 := 1) (n1 := 1024) (V m c main_arg1) P) (t : Fin cfg0.N) : Ex2 (iblk m c 1 t : Vec Ideal S1x1024 .f32) P := fun a b => by
  blk_simp [iblk]
  refine h.at _ _ _ ?_ ?_
  · blk_simp [ix_1]
  · blk_simp [ix_1]

theorem blk_2 {P : ℕ → ℕ → EReal} (h : Ex2 (n0 := 1024) (n1 := 3200) (V m c main_arg2) P) (t : Fin cfg0.N) : Ex2 (iblk m c 2 t : Vec Ideal S1024x3200 .bf16) P := fun a b => by
  blk_simp [iblk]
  refine h.at _ _ _ ?_ ?_
  · blk_simp [ix_2]
  · blk_simp [ix_2]

section
variable (p0 : Ex2 (n0 := 8192) (n1 := 1024) (V m c main_arg0) x) (p1 : Ex2 (n0 := 1) (n1 := 1024) (V m c main_arg1) g) (p2 : Ex2 (n0 := 1024) (n1 := 3200) (V m c main_arg2) w) (p3 : Ex2 (n0 := 8192) (n1 := 1024) (V m c main_arg3) O)
  (p4 : Ex2 (n0 := 8192) (n1 := 768) (V m c main_arg4) (fun l r => D l (0 + r)))
  (p5 : Ex2 (n0 := 8192) (n1 := 768) (V m c main_arg5) (fun l r => D l (768 + r)))
  (p6 : Ex2 (n0 := 8192) (n1 := 512) (V m c main_arg6) (fun l r => D l (1536 + r)))
  (p7 : Ex2 (n0 := 8192) (n1 := 256) (V m c main_arg7) (fun l r => D l (2048 + r)))
  (p8 : Ex2 (n0 := 8192) (n1 := 768) (V m c main_arg8) (fun l r => D l (2304 + r)))
  (p9 : Ex2 (n0 := 8192) (n1 := 128) (V m c main_arg9) (fun l r => D l (3072 + r)))
include p0 p1 p2 p3 p4 p5 p6 p7 p8 p9

/-- After point `n` the third buffer holds the sum over the first `512 (n + 1)` rows. -/
theorem outs_sum : ∀ (n : ℕ) (h : n < cfg0.N), Ex2 (n0 := 1) (n1 := 1024) (outsAt0 m c n h).2.2 (fun _ d => ∑ r ∈ range (512 * (n + 1)), dh D w r d * xn x r d)
  | 0, h => by
    rw [outsAt0_A m c ⟨0, h⟩ rfl]
    dsimp only
    refine Ex2.congr (out_A_12 _ _ _ _ _ _ _ _ _ _ _ _ _ _ _ _ _ _ _ _ _ _ _ _ _ _ _ _ _ _ _ _ _ _ _ _ _ _ (x := fun r l => x (512 * 0 + r) l) (g := g) (w := w) (O := fun r l => O (512 * 0 + r) l) (D := fun r l => D (512 * 0 + r) l) (blk_0 m c p0 ⟨0, h⟩) (blk_1 m c p1 ⟨0, h⟩) (blk_2 m c p2 ⟨0, h⟩) (blk_3 m c p3 ⟨0, h⟩) (blk_4 m c p4 ⟨0, h⟩) (blk_5 m c p5 ⟨0, h⟩) (blk_6 m c p6 ⟨0, h⟩) (blk_7 m c p7 ⟨0, h⟩) (blk_8 m c p8 ⟨0, h⟩) (blk_9 m c p9 ⟨0, h⟩) _) fun a _ b _ => ?_
    rw [zero_add]
    refine Finset.sum_congr rfl fun r _ => ?_
    simp only [dh, xn, rms, Nat.mul_zero, Nat.zero_add]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    refine Ex2.congr (out_B_12 _ _ _ _ _ _ _ _ _ _ _ _ _ _ _ _ _ _ _ _ _ _ _ _ _ _ _ _ _ _ _ _ _ _ _ _ _ _ (x := fun r l => x (512 * (n + 1) + r) l) (g := g) (w := w) (O := fun r l => O (512 * (n + 1) + r) l) (D := fun r l => D (512 * (n + 1) + r) l) (blk_0 m c p0 ⟨n + 1, h⟩) (blk_1 m c p1 ⟨n + 1, h⟩) (blk_2 m c p2 ⟨n + 1, h⟩) (blk_3 m c p3 ⟨n + 1, h⟩) (blk_4 m c p4 ⟨n + 1, h⟩) (blk_5 m c p5 ⟨n + 1, h⟩) (blk_6 m c p6 ⟨n + 1, h⟩) (blk_7 m c p7 ⟨n + 1, h⟩) (blk_8 m c p8 ⟨n + 1, h⟩) (blk_9 m c p9 ⟨n + 1, h⟩) _ _ (outs_sum n (Nat.lt_of_succ_lt h))) fun a _ b _ => ?_
    rw [show 512 * (n + 1 + 1) = 512 * (n + 1) + 512 by omega, Finset.sum_range_add]
    rfl

/-- What point `n` leaves in the two row-block results. -/
theorem outs_rows (t : Fin cfg0.N) :
    Ex2 (n0 := 512) (n1 := 1024) (outsAt0 m c t.val t.isLt).1 (fun r d => gx x g w O D (512 * t.val + r) d)
    ∧ Ex2 (n0 := 1024) (n1 := 512) (outsAt0 m c t.val t.isLt).2.1 (fun d r => xn x (512 * t.val + r) d * g 0 d) := by
  by_cases h0 : t.val % 16 = 0
  · rw [outsAt0_A m c t h0]
    dsimp only
    exact ⟨out_A_10 _ _ _ _ _ _ _ _ _ _ _ _ _ _ _ _ _ _ _ _ _ _ _ _ _ _ _ _ _ _ _ _ _ _ _ _ _ _ (x := fun r l => x (512 * t.val + r) l) (g := g) (w := w) (O := fun r l => O (512 * t.val + r) l) (D := fun r l => D (512 * t.val + r) l) (blk_0 m c p0 t) (blk_1 m c p1 t) (blk_2 m c p2 t) (blk_3 m c p3 t) (blk_4 m c p4 t) (blk_5 m c p5 t) (blk_6 m c p6 t) (blk_7 m c p7 t) (blk_8 m c p8 t) (blk_9 m c p9 t) _,
      out_A_11 _ _ _ _ _ _ _ _ _ _ _ _ _ _ _ _ _ _ _ _ _ _ _ _ _ _ _ _ _ _ _ _ _ _ _ _ _ _ (x := fun r l => x (512 * t.val + r) l) (g := g) (w := w) (O := fun r l => O (512 * t.val + r) l) (D := fun r l => D (512 * t.val + r) l) (blk_0 m c p0 t) (blk_1 m c p1 t) (blk_2 m c p2 t) (blk_3 m c p3 t) (blk_4 m c p4 t) (blk_5 m c p5 t) (blk_6 m c p6 t) (blk_7 m c p7 t) (blk_8 m c p8 t) (blk_9 m c p9 t) _⟩
  · rw [outsAt0_B m c t h0]
    dsimp only
    have hp : t.val - 1 < cfg0.N := Nat.lt_of_le_of_lt (Nat.sub_le _ _) t.isLt
    have hz := outs_sum m c p0 p1 p2 p3 p4 p5 p6 p7 p8 p9 (t.val - 1) hp
    exact ⟨out_B_10 _ _ _ _ _ _ _ _ _ _ _ _ _ _ _ _ _ _ _ _ _ _ _ _ _ _ _ _ _ _ _ _ _ _ _ _ _ _ (x := fun r l => x (512 * t.val + r) l) (g := g) (w := w) (O := fun r l => O (512 * t.val + r) l) (D := fun r l => D (512 * t.val + r) l) (blk_0 m c p0 t) (blk_1 m c p1 t) (blk_2 m c p2 t) (blk_3 m c p3 t) (blk_4 m c p4 t) (blk_5 m c p5 t) (blk_6 m c p6 t) (blk_7 m c p7 t) (blk_8 m c p8 t) (blk_9 m c p9 t) _ _ hz,
      out_B_11 _ _ _ _ _ _ _ _ _ _ _ _ _ _ _ _ _ _ _ _ _ _ _ _ _ _ _ _ _ _ _ _ _ _ _ _ _ _ (x := fun r l => x (512 * t.val + r) l) (g := g) (w := w) (O := fun r l => O (512 * t.val + r) l) (D := fun r l => D (512 * t.val + r) l) (blk_0 m c p0 t) (blk_1 m c p1 t) (blk_2 m c p2 t) (blk_3 m c p3 t) (blk_4 m c p4 t) (blk_5 m c p5 t) (blk_6 m c p6 t) (blk_7 m c p7 t) (blk_8 m c p8 t) (blk_9 m c p9 t) _ _ hz⟩

/-- The gradient of the input. -/
theorem final_10 : Ex2 (n0 := 8192) (n1 := 1024) ((dats m 0 c).arrAt 10 cfg0.N) (gx x g w O D) := by
  have e : (dats m 0 c).arrAt 10 cfg0.N = fun i : S8192x1024.Idx => ((gx x g w O D) : ℕ → ℕ → EReal) (i 0).val (i 1).val := by
    refine (dats m 0 c).arrAt_eq_of_covers 10 _ (by decide +kernel) fun t hf y => ?_
    blk_simp
    rw [after0_10]
    refine ((outs_rows m c p0 p1 p2 p3 p4 p5 p6 p7 p8 p9 t).1.at _ _ _ rfl rfl).trans ?_
    blk_simp [ix_10]
    simp [Nat.mul_comm]
  rw [e]
  exact fun a b => rfl

/-- The normed and scaled input, transposed. -/
theorem final_11 : Ex2 (n0 := 1024) (n1 := 8192) ((dats m 0 c).arrAt 11 cfg0.N) (fun d r => xn x r d * g 0 d) := by
  have e : (dats m 0 c).arrAt 11 cfg0.N = fun i : S1024x8192.Idx => ((fun d r => xn x r d * g 0 d) : ℕ → ℕ → EReal) (i 0).val (i 1).val := by
    refine (dats m 0 c).arrAt_eq_of_covers 11 _ (by decide +kernel) fun t hf y => ?_
    blk_simp
    rw [after0_11]
    refine ((outs_rows m c p0 p1 p2 p3 p4 p5 p6 p7 p8 p9 t).2.at _ _ _ rfl rfl).trans ?_
    blk_simp [ix_11]
    simp [Nat.mul_comm]
  rw [e]
  exact fun a b => rfl

/-- The gradient of the scale. -/
theorem final_12 : Ex2 (n0 := 1) (n1 := 1024) ((dats m 0 c).arrAt 12 cfg0.N) (fun _ d => ∑ r ∈ range 8192, dh D w r d * xn x r d) := by
  have e : (dats m 0 c).arrAt 12 cfg0.N = fun i : S1x1024.Idx => ((fun _ d => ∑ r ∈ range 8192, dh D w r d * xn x r d) : ℕ → ℕ → EReal) (i 0).val (i 1).val := by
    refine (dats m 0 c).arrAt_eq_of_covers 12 _ (by decide +kernel) fun t hf y => ?_
    blk_simp
    rw [after0_12]
    have ht : t.val = 15 := by have := (flush0_12 t).mp hf; have := t.isLt; have hN : cfg0.N = 16 := N_0; omega
    refine ((outs_sum m c p0 p1 p2 p3 p4 p5 p6 p7 p8 p9 t.val t.isLt).at _ _ _ rfl rfl).trans ?_
    blk_simp [ix_12]
    rw [ht]
  rw [e]
  exact fun a b => rfl

end
end Cert.Proof.ProjGrad
end
-- ==== Proof.Ext.lean ====
module

public import proofs.«01_k».proof.Proof.Rows

/-! Sums and products of extended reals: a positive real factor moves out of a sum; a row of squares sums to a positive real or to infinity. -/

@[expose] public section

noncomputable section

namespace Cert.Proof.Rows

open Idealize.ShloMosaic
open Finset

theorem sum_coe (n : ℕ) (f : ℕ → ℝ) : ∑ k ∈ range n, ((f k : ℝ) : EReal) = ((∑ k ∈ range n, f k : ℝ) : EReal) := by
  induction n with
  | zero => simp
  | succ n ih => rw [Finset.sum_range_succ, Finset.sum_range_succ, ih, EReal.coe_add]

theorem sum_mul_pos {r : ℝ} (h : 0 ≤ r) (s : Finset ℕ) (f : ℕ → EReal) : ∑ k ∈ s, f k * (r : EReal) = (∑ k ∈ s, f k) * (r : EReal) := by
  classical
  refine Finset.induction_on s (by simp) fun a t ha ih => ?_
  rw [Finset.sum_insert ha, Finset.sum_insert ha, ih,
    EReal.right_distrib_of_nonneg_of_ne_top (EReal.coe_nonneg.mpr h) (EReal.coe_ne_top r)]

theorem twice_mul (t : ℝ) (S : EReal) : (t : EReal) * S + (t : EReal) * S = ((t + t : ℝ) : EReal) * S := by
  induction S with
  | coe s => norm_cast; ring
  | bot =>
    rcases lt_trichotomy t 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy t 0 with h | h | h
    · rw [EReal.coe_mul_top_of_neg h, EReal.coe_mul_top_of_neg (by linarith)]; rfl
    · subst h; simp
    · rw [EReal.coe_mul_top_of_pos h, EReal.coe_mul_top_of_pos (by linarith)]; rfl

/-- The two ways of writing a row's gradient, the row's root and its entry being reals. -/
theorem parts_real (o A S : EReal) (x r s : ℝ) (hr : 0 < r) (hs : r * r = 1 / s) :
    o + A * (r : EReal) + (x : EReal) * (S * (((-1 / 2 : ℝ) : EReal) * ((r : EReal) * ((1 / s : ℝ) : EReal))) * ((1 / 1024 : ℝ) : EReal))
      + S * (((-1 / 2 : ℝ) : EReal) * ((r : EReal) * ((1 / s : ℝ) : EReal))) * ((1 / 1024 : ℝ) : EReal) * (x : EReal)
    = (r : EReal) * (A - (x : EReal) * (r : EReal) * (S * (r : EReal) * ((1 / 1024 : ℝ) : EReal))) + o := by
  have e1 : (x : EReal) * (S * (((-1 / 2 : ℝ) : EReal) * ((r : EReal) * ((1 / s : ℝ) : EReal))) * ((1 / 1024 : ℝ) : EReal))
      = ((x * (-1 / 2 * (r * (1 / s)) * (1 / 1024)) : ℝ) : EReal) * S := by
    simp only [EReal.coe_mul]
    ac_rfl
  have e2 : S * (((-1 / 2 : ℝ) : EReal) * ((r : EReal) * ((1 / s : ℝ) : EReal))) * ((1 / 1024 : ℝ) : EReal) * (x : EReal)
      = ((x * (-1 / 2 * (r * (1 / s)) * (1 / 1024)) : ℝ) : EReal) * S := by
    simp only [EReal.coe_mul]
    ac_rfl
  have e3 : (r : EReal) * -((x : EReal) * (r : EReal) * (S * (r : EReal) * ((1 / 1024 : ℝ) : EReal)))
      = ((-(x * r * r * r * (1 / 1024)) : ℝ) : EReal) * S := by
    rw [EReal.coe_neg, EReal.neg_mul, mul_neg]
    simp only [EReal.coe_mul]
    refine congrArg Neg.neg ?_
    ac_rfl
  rw [e1, e2, sub_eq_add_neg, EReal.left_distrib_of_nonneg_of_ne_top (EReal.coe_nonneg.mpr hr.le) (EReal.coe_ne_top r), e3, add_assoc, twice_mul,
    ← hs]
  rw [show x * (-1 / 2 * (r * (r * r)) * (1 / 1024)) + x * (-1 / 2 * (r * (r * r)) * (1 / 1024)) = -(x * r * r * r * (1 / 1024)) by ring,
    mul_comm A, add_assoc, add_comm o]

/-- A row of real entries, or one whose squares sum to infinity. -/
theorem row_cases (f : ℕ → EReal) (n : ℕ) : (∃ g : ℕ → ℝ, ∀ k ∈ range n, f k = ((g k : ℝ) : EReal)) ∨ ∑ k ∈ range n, f k * f k = ⊤ := by
  by_cases h : ∃ k ∈ range n, f k * f k = ⊤
  · right
    obtain ⟨k, hk, e⟩ := h
    refine top_le_iff.mp (e ▸ Finset.single_le_sum (f := fun k => f k * f k) (fun i _ => ?_) hk)
    induction f i with
    | coe s => norm_cast; exact mul_self_nonneg s
    | bot => simp
    | top => simp
  · left
    refine ⟨fun k => (f k).toReal, fun k hk => (EReal.coe_toReal (fun e => h ⟨k, hk, ?_⟩) (fun e => h ⟨k, hk, ?_⟩)).symm⟩
    · rw [e]; rfl
    · rw [e]; rfl

end Cert.Proof.Rows
end
-- ==== Proof.ProjGradRef.lean ====
module

public import proofs.«01_k».proof.Proof.ProjGradValue
public import proofs.«01_k».proof.Proof.Ext
public import proofs.«01_k».proof.Proof.Gen.Reference2Ideal.Read

/-! The gradient of a layer's input: the reference's results. -/

@[expose] public section

set_option maxRecDepth 16384

noncomputable section

namespace Cert.Proof.ProjGrad

open Idealize.ShloMosaic Idealize.ShloMosaic.TcCoe
open Cert.Proof.Blocks Cert.Proof.Rows
open Cert.Reference2Ideal Cert.Reference2Ideal.Gen Cert.Reference2Ideal.Read
open Finset

variable {x g w O D : ℕ → ℕ → EReal}

/-- The reference's sum of the gradient's parts is the kernel's. -/
theorem parts (x g w O D : ℕ → ℕ → EReal) (r d : ℕ) (hd : d < 1024) :
    O r d + dh D w r d * g 0 d * rms x r + x r d * ((∑ k ∈ range 1024, x r k * (dh D w r k * g 0 k)) * (((-1 / 2 : ℝ) : EReal) * Ideal.div (rms x r) (ms x r)) * ((1 / 1024 : ℝ) : EReal))
      + (∑ k ∈ range 1024, x r k * (dh D w r k * g 0 k)) * (((-1 / 2 : ℝ) : EReal) * Ideal.div (rms x r) (ms x r)) * ((1 / 1024 : ℝ) : EReal) * x r d = gx x g w O D r d := by
  rcases row_cases (x r) 1024 with ⟨y, hy⟩ | h
  · have hs : (∑ k ∈ range 1024, x r k * x r k) = ((∑ k ∈ range 1024, y k * y k : ℝ) : EReal) := by
      rw [← sum_coe]
      exact Finset.sum_congr rfl fun k hk => by rw [hy k hk, EReal.coe_mul]
    have hp : 0 < (∑ k ∈ range 1024, y k * y k) * (1 / 1024) + eps :=
      add_pos_of_nonneg_of_pos (mul_nonneg (Finset.sum_nonneg fun _ _ => mul_self_nonneg _) (by norm_num)) eps_pos
    generalize hS : (∑ k ∈ range 1024, y k * y k) * (1 / 1024) + eps = s at hp
    have em : ms x r = (s : EReal) := by
      unfold ms
      rw [hs, ← EReal.coe_mul, ← EReal.coe_add, hS]
    have er : rms x r = (((Real.sqrt s)⁻¹ : ℝ) : EReal) := by
      unfold rms
      rw [em, rsqrt_pos hp]
    have e : ∑ k ∈ range 1024, dh D w r k * g 0 k * xn x r k = (∑ k ∈ range 1024, x r k * (dh D w r k * g 0 k)) * (((Real.sqrt s)⁻¹ : ℝ) : EReal) := by
      rw [← sum_mul_pos (inv_nonneg.mpr (Real.sqrt_nonneg s))]
      refine Finset.sum_congr rfl fun k _ => ?_
      unfold xn
      rw [er]
      ac_rfl
    unfold gx
    rw [e, em, er, Ideal.div_coe hp.ne']
    unfold xn
    rw [er, hy d (Finset.mem_range.mpr hd)]
    exact parts_real _ _ _ _ _ _ (inv_pos.mpr (Real.sqrt_pos.mpr hp)) (by rw [← mul_inv, Real.mul_self_sqrt hp.le, one_div])
  · have em : ms x r = ⊤ := by
      unfold ms
      rw [h, EReal.top_mul_coe_of_pos (by norm_num)]
      rfl
    have er : rms x r = 0 := by
      unfold rms
      rw [em]
      simp
    unfold gx
    rw [em, er, show Ideal.div 0 ⊤ = 0 by simp [Ideal.div]]
    simp

/-- The pieces joined along the columns. -/
theorem ex_joined (x4 : (⟨S8192x768, .bf16⟩ : BufTy).Contents (Elt Ideal)) (x5 : (⟨S8192x768, .bf16⟩ : BufTy).Contents (Elt Ideal)) (x6 : (⟨S8192x512, .bf16⟩ : BufTy).Contents (Elt Ideal)) (x7 : (⟨S8192x256, .bf16⟩ : BufTy).Contents (Elt Ideal)) (x8 : (⟨S8192x768, .bf16⟩ : BufTy).Contents (Elt Ideal)) (x9 : (⟨S8192x128, .bf16⟩ : BufTy).Contents (Elt Ideal)) (p4 : Ex2 (n0 := 8192) (n1 := 768) x4 (fun l r => D l (0 + r))) (p5 : Ex2 (n0 := 8192) (n1 := 768) x5 (fun l r => D l (768 + r))) (p6 : Ex2 (n0 := 8192) (n1 := 512) x6 (fun l r => D l (1536 + r))) (p7 : Ex2 (n0 := 8192) (n1 := 256) x7 (fun l r => D l (2048 + r))) (p8 : Ex2 (n0 := 8192) (n1 := 768) x8 (fun l r => D l (2304 + r))) (p9 : Ex2 (n0 := 8192) (n1 := 128) x9 (fun l r => D l (3072 + r))) :
    Ex2 (n0 := 8192) (n1 := 3200) (val_main_v23 (F := Ideal) x4 x5 x6 x7 x8 x9) D := fun a b => by
  unfold val_main_v23
  refine concat_eq _ _ _ _ _ fun k hk hr i e eo => ?_
  have e0 : (i (Fin.cast hr.symm 0)).val = a.val := eo (Fin.cast hr.symm 0) (by show (0 : Fin 2) ≠ 1; decide)
  match k, hk with
  | 0, _ => exact p4.part i _ _ e0 e
  | 1, _ => exact p5.part i _ _ e0 e
  | 2, _ => exact p6.part i _ _ e0 e
  | 3, _ => exact p7.part i _ _ e0 e
  | 4, _ => exact p8.part i _ _ e0 e
  | 5, _ => exact p9.part i _ _ e0 e
  | k + 6, hk => exact absurd hk (by simp)

section
variable (x0 : (⟨S8192x1024, .f32⟩ : BufTy).Contents (Elt Ideal)) (p0 : Ex2 (n0 := 8192) (n1 := 1024) x0 x)
include p0

theorem ref_ms (i : S8192x1.Idx) : val_main_v6 (F := Ideal) x0 i = ms x (i 0).val := by
  rw [val_main_v6_apply, val_main_v4_apply, val_main_v2_apply, val_main_v1_apply, val_main_v3_apply, val_main_v5_apply]
  have e := sum_from_zero (n := 1024) (fun k => x (i 0).val k * x (i 0).val k) (fun k => val_main_v0 (F := Ideal) x0 (idx_main_v1 (idx_main_v2 i) k)) _ Ideal.ofBits_zero_f32 fun k => by
    dsimp only
    rw [val_main_v0_apply, p0.at _ (i 0).val k.val rfl rfl]
    rfl
  refine (congrArg (fun y => Ideal.div y (Ideal.ofBits .f32 0x44800000#32) + Ideal.ofBits .f32 0x358637BD#32) e).trans ?_
  show Ideal.div _ (Ideal.ofBits .f32 0x44800000#32) + Ideal.ofBits .f32 0x358637BD#32 = _
  rw [bits_1024, bits_eps, Ideal.div_coe (by norm_num)]
  rfl

theorem ref_rms (i : S8192x1.Idx) : val_main_v7 (F := Ideal) x0 i = rms x (i 0).val := by
  rw [val_main_v7_apply, ref_ms x0 p0]
  rfl

theorem ref_over (i : S8192x1.Idx) : val_main_v10 (F := Ideal) x0 i = ((-1 / 2 : ℝ) : EReal) * Ideal.div (rms x (i 0).val) (ms x (i 0).val) := by
  rw [val_main_v10_apply, val_main_v8_apply, val_main_v9_apply, ref_rms x0 p0, ref_ms x0 p0]
  show Ideal.ofBits .f32 0xBF000000#32 * Ideal.div _ _ = _
  rw [bits_half]

theorem ref_xn (i : S8192x1024.Idx) : val_main_v12 (F := Ideal) x0 i = xn x (i 0).val (i 1).val := by
  rw [val_main_v12_apply, val_main_v11_apply, ref_rms x0 p0, p0.at i _ _ rfl rfl]
  rfl

section
variable (x1 : (⟨S1x1024, .f32⟩ : BufTy).Contents (Elt Ideal)) (p1 : Ex2 (n0 := 1) (n1 := 1024) x1 g)
include p1

/-- The transposed normed rows, scaled. -/
theorem ref_h : Ex2 (n0 := 1024) (n1 := 8192) (val_main_v58 (F := Ideal) x0 x1) (fun d r => xn x r d * g 0 d) := fun a b => by
  rw [val_main_v58_apply]
  show val_main_v57 (F := Ideal) x0 x1 _ = _
  rw [val_main_v57_apply, val_main_v56_apply, val_main_v55_apply, val_main_v54_apply, val_main_v53_apply, show val_main_v52 (F := Ideal) x0 = val_main_v7 (F := Ideal) x0 from rfl,
    ref_rms x0 p0, p0.at _ b.val a.val rfl rfl, p1.at _ 0 a.val rfl rfl]
  rfl

end
end

section
variable (x2 : (⟨S1024x3200, .bf16⟩ : BufTy).Contents (Elt Ideal)) (p2 : Ex2 (n0 := 1024) (n1 := 3200) x2 w) (x4 : (⟨S8192x768, .bf16⟩ : BufTy).Contents (Elt Ideal)) (x5 : (⟨S8192x768, .bf16⟩ : BufTy).Contents (Elt Ideal)) (x6 : (⟨S8192x512, .bf16⟩ : BufTy).Contents (Elt Ideal)) (x7 : (⟨S8192x256, .bf16⟩ : BufTy).Contents (Elt Ideal)) (x8 : (⟨S8192x768, .bf16⟩ : BufTy).Contents (Elt Ideal)) (x9 : (⟨S8192x128, .bf16⟩ : BufTy).Contents (Elt Ideal)) (p4 : Ex2 (n0 := 8192) (n1 := 768) x4 (fun l r => D l (0 + r))) (p5 : Ex2 (n0 := 8192) (n1 := 768) x5 (fun l r => D l (768 + r))) (p6 : Ex2 (n0 := 8192) (n1 := 512) x6 (fun l r => D l (1536 + r))) (p7 : Ex2 (n0 := 8192) (n1 := 256) x7 (fun l r => D l (2048 + r))) (p8 : Ex2 (n0 := 8192) (n1 := 768) x8 (fun l r => D l (2304 + r))) (p9 : Ex2 (n0 := 8192) (n1 := 128) x9 (fun l r => D l (3072 + r)))
include p2 p4 p5 p6 p7 p8 p9

theorem ref_dh (i : S8192x1024.Idx) : val_main_v24 (F := Ideal) x2 x4 x5 x6 x7 x8 x9 i = dh D w (i 0).val (i 1).val := by
  rw [val_main_v24_apply]
  refine Eq.trans ?_ (Finset.sum_range (n := 3200) fun l => D (i 0).val l * w (i 1).val l).symm
  refine Finset.sum_congr rfl fun k _ => ?_
  rw [val_main_v15_apply, (ex_joined x4 x5 x6 x7 x8 x9 p4 p5 p6 p7 p8 p9).at _ (i 0).val k.val rfl rfl]
  refine congrArg (_ * ·) ?_
  exact p2.at _ (i 1).val k.val rfl rfl

variable (x0 : (⟨S8192x1024, .f32⟩ : BufTy).Contents (Elt Ideal)) (p0 : Ex2 (n0 := 8192) (n1 := 1024) x0 x)
include p0

/-- The gradient of the norm's scale. -/
theorem ref_g : Ex2 (n0 := 1) (n1 := 1024) (val_main_v27 (F := Ideal) x0 x2 x4 x5 x6 x7 x8 x9) (fun _ d => ∑ r ∈ range 8192, dh D w r d * xn x r d) := fun a b => by
  rw [val_main_v27_apply, val_main_v26_apply]
  refine sum_from_zero (fun r => dh D w r b.val * xn x r b.val) _ _ Ideal.ofBits_zero_f32 fun k => ?_
  rw [val_main_v25_apply, ref_xn x0 p0, ref_dh x2 p2 x4 x5 x6 x7 x8 x9 p4 p5 p6 p7 p8 p9]
  have e : (idx_main_v26 (idx_main_v27 (ValueIdx.ix2 a b)) k 1).val = b.val := by
    show a.val * 1024 + b.val = b.val
    have := a.isLt
    omega
  rw [e]
  exact mul_comm _ _

variable (x1 : (⟨S1x1024, .f32⟩ : BufTy).Contents (Elt Ideal)) (p1 : Ex2 (n0 := 1) (n1 := 1024) x1 g)
include p1

theorem ref_scaled (i : S8192x1024.Idx) : val_main_v29 (F := Ideal) x1 x2 x4 x5 x6 x7 x8 x9 i = dh D w (i 0).val (i 1).val * g 0 (i 1).val := by
  rw [val_main_v29_apply, val_main_v28_apply, ref_dh x2 p2 x4 x5 x6 x7 x8 x9 p4 p5 p6 p7 p8 p9, p1.at _ 0 (i 1).val rfl rfl]
  rfl

theorem ref_rowdot (i : S8192x1.Idx) : val_main_v32 (F := Ideal) x0 x1 x2 x4 x5 x6 x7 x8 x9 i = ∑ k ∈ range 1024, x (i 0).val k * (dh D w (i 0).val k * g 0 k) := by
  rw [val_main_v32_apply, val_main_v31_apply]
  refine sum_from_zero (fun k => x (i 0).val k * (dh D w (i 0).val k * g 0 k)) _ _ Ideal.ofBits_zero_f32 fun k => ?_
  have e : (idx_main_v31 (idx_main_v32 i) k 0).val = (i 0).val := by
    show (i 0).val * 1 + (i 1).val = (i 0).val
    have h : (i 1).val < 1 := (i 1).isLt
    omega
  rw [val_main_v30_apply, ref_scaled x2 p2 x4 x5 x6 x7 x8 x9 p4 p5 p6 p7 p8 p9 x0 p0 x1 p1, p0.at _ (i 0).val k.val e rfl, e]
  rfl

theorem ref_mean (i : S8192.Idx) : val_main_v39 (F := Ideal) x0 x1 x2 x4 x5 x6 x7 x8 x9 i
    = (∑ k ∈ range 1024, x (i 0).val k * (dh D w (i 0).val k * g 0 k)) * (((-1 / 2 : ℝ) : EReal) * Ideal.div (rms x (i 0).val) (ms x (i 0).val)) * ((1 / 1024 : ℝ) : EReal) := by
  rw [val_main_v39_apply, Fin.sum_univ_one, val_main_v38_apply, val_main_v37_apply, val_main_v36_apply, ref_over x0 p0,
    ref_rowdot x2 p2 x4 x5 x6 x7 x8 x9 p4 p5 p6 p7 p8 p9 x0 p0 x1 p1]
  show Ideal.ofBits .f32 0x00000000#32 + Ideal.div (_ * _) (Ideal.ofBits .f32 0x44800000#32) = _
  rw [Ideal.ofBits_zero_f32, zero_add, bits_1024, Ideal.div_coe (by norm_num)]

variable (x3 : (⟨S8192x1024, .f32⟩ : BufTy).Contents (Elt Ideal)) (p3 : Ex2 (n0 := 8192) (n1 := 1024) x3 O)
include p3

/-- The gradient of the layer's input. -/
theorem ref_x : Ex2 (n0 := 8192) (n1 := 1024) (val_main_v44 (F := Ideal) x0 x1 x2 x3 x4 x5 x6 x7 x8 x9) (gx x g w O D) := fun a b => by
  rw [val_main_v44_apply, val_main_v42_apply, val_main_v35_apply, val_main_v34_apply, val_main_v33_apply, val_main_v41_apply, val_main_v43_apply, val_main_v40_apply,
    ref_mean x2 p2 x4 x5 x6 x7 x8 x9 p4 p5 p6 p7 p8 p9 x0 p0 x1 p1, ref_scaled x2 p2 x4 x5 x6 x7 x8 x9 p4 p5 p6 p7 p8 p9 x0 p0 x1 p1, ref_rms x0 p0, p0.at _ a.val b.val rfl rfl, p3.at _ a.val b.val rfl rfl]
  exact parts x g w O D a.val b.val b.isLt

end

end Cert.Proof.ProjGrad
end
-- ==== Proof.ProjGradClaim.lean ====
module

public import proofs.«01_k».proof.Proof.ProjGradRef
public import proofs.«01_k».proof.Proof.Gen.Kernel2.Frame
public import proofs.«01_k».proof.Proof.Gen.Kernel2Ideal.Frame
public import proofs.«01_k».proof.Proof.Gen.Reference2Ideal.Run

/-! The gradient of a layer's input: the frames and the claim of equal results. -/

@[expose] public section

set_option maxRecDepth 16384

noncomputable section

namespace Cert.Proof.ProjGrad

open Idealize.ShloMosaic Idealize.ShloMosaic.TcCoe Idealize.SL.Sem
open Cert.Proof.Blocks Cert.Proof.Rows

theorem frame_kernel : Cert.quiescent_Kernel2 := fun m ρ _ => Cert.Kernel2.Gen.frame (F := Bits) m ρ
theorem frame_ideal : Cert.quiescent_Kernel2Ideal := fun m ρ _ => Cert.Kernel2Ideal.Gen.frame (F := Ideal) m ρ
theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

set_option maxHeartbeats 2000000 in
/-- Both programs end with equal gradients of the input and of the scale and equal normed rows, their arguments as launched. -/
theorem algebraic : Cert.algebraic_Kernel2Ideal_Reference2Ideal := fun m ρ m' ρ' _ hargs => by
  refine ⟨_, _, _, Cert.Kernel2Ideal.Value.run_blocks m ρ, ?_⟩
  refine (θ_run Cert.Reference2Ideal.defs _ _).mono (fun _ h c => ?_) (Cert.Reference2Ideal.Value.run (F := Ideal) m' ρ')
  obtain ⟨a0, a1, a2, a3, a4, a5, a6, a7, a8, a9⟩ := hargs c
  have q0 := ex_natF (n0 := 8192) (n1 := 1024) (m ((c.tc : Thread Cert.Kernel2Ideal.nD Cert.Kernel2Ideal.τ).loc Cert.Kernel2Ideal.main_arg0))
  have q1 := ex_natF (n0 := 1) (n1 := 1024) (m ((c.tc : Thread Cert.Kernel2Ideal.nD Cert.Kernel2Ideal.τ).loc Cert.Kernel2Ideal.main_arg1))
  have q2 := ex_natF (n0 := 1024) (n1 := 3200) (m ((c.tc : Thread Cert.Kernel2Ideal.nD Cert.Kernel2Ideal.τ).loc Cert.Kernel2Ideal.main_arg2))
  have q3 := ex_natF (n0 := 8192) (n1 := 1024) (m ((c.tc : Thread Cert.Kernel2Ideal.nD Cert.Kernel2Ideal.τ).loc Cert.Kernel2Ideal.main_arg3))
  have q4 := ex_cols1 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  have q5 := ex_cols2 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  have q6 := ex_cols3 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  have q7 := ex_cols4 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  have q8 := ex_cols5 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  have q9 := ex_cols6 (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
  refine ⟨?_, ?_, ?_, (h c).2.2.2⟩
  · refine (h c).1.trans ?_
    rw [Cert.Reference2Ideal.Read.val_main_v44_eq, a0, a1, a2, a3, a4, a5, a6, a7, a8, a9]
    have k := final_10 m c q0 q1 q2 q3 q4 q5 q6 q7 q8 q9
    have r := ref_x _ q2 _ _ _ _ _ _ q4 q5 q6 q7 q8 q9 _ q0 _ q1 _ q3
    funext i
    exact (r.at i _ _ rfl rfl).trans (k.at i _ _ rfl rfl).symm
  · refine (h c).2.1.trans ?_
    rw [Cert.Reference2Ideal.Read.val_main_v58_eq, a0, a1]
    have k := final_11 m c q0 q1 q2 q3 q4 q5 q6 q7 q8 q9
    have r := ref_h _ q0 _ q1
    funext i
    exact (r.at i _ _ rfl rfl).trans (k.at i _ _ rfl rfl).symm
  · refine (h c).2.2.1.trans ?_
    rw [Cert.Reference2Ideal.Read.val_main_v27_eq, a0, a2, a4, a5, a6, a7, a8, a9]
    have k := final_12 m c q0 q1 q2 q3 q4 q5 q6 q7 q8 q9
    have r := ref_g _ q2 _ _ _ _ _ _ q4 q5 q6 q7 q8 q9 _ q0
    funext i
    exact (r.at i _ _ rfl rfl).trans (k.at i _ _ rfl rfl).symm

end Cert.Proof.ProjGrad
end
-- ==== Proof.WinGrad.lean ====
module

public import proofs.«01_k».proof.Proof.Blocks
public import proofs.«01_k».proof.Proof.Gen.Kernel3Ideal.Value
public import proofs.«01_k».proof.Proof.Gen.Kernel3.Frame

/-! The gradient of the input projection's weights: what a point of the grid leaves in the result's buffer. -/

@[expose] public section

set_option maxRecDepth 16384

noncomputable section

namespace Cert.Proof.WinGrad

open Cert.Kernel3Ideal Cert.Kernel3Ideal.Gen Cert.Proof.Blocks
open Idealize.ShloMosaic Idealize.ShloMosaic.TcCoe Idealize.SL.Sem
open Finset

theorem ex_pay5 {a : Vec Ideal S1024x256 .bf16} {b : Vec Ideal S1024x768 .f32} {d : Vec Ideal S256x768 .bf16} {f g h : ℕ → ℕ → EReal} (ha : Ex2 a f) (hb : Ex2 b g) (hd : Ex2 d h) :
    Ex2 (k0_pay5 (F := Ideal) a b d) (fun r c => g r c + ∑ l ∈ range 256, f r l * h l c) := by
  unfold k0_pay5
  dsimp only
  rw [shapeCast_self]
  exact ex_add hb (ex_mul ha hd)
theorem ex_pay6 {a : Vec Ideal S1024x256 .bf16} {b : Vec Ideal S1024x768 .f32} {d : Vec Ideal S256x768 .bf16} {f g h : ℕ → ℕ → EReal} (ha : Ex2 a f) (hb : Ex2 b g) (hd : Ex2 d h) :
    Ex2 (k0_pay6 (F := Ideal) a b d) (fun r c => g r c + ∑ l ∈ range 256, f r l * h l c) := by
  unfold k0_pay6
  dsimp only
  rw [shapeCast_self]
  exact ex_add hb (ex_mul ha hd)
theorem ex_pay7 {a : Vec Ideal S1024x256 .bf16} {b : Vec Ideal S1024x512 .f32} {d : Vec Ideal S256x512 .bf16} {f g h : ℕ → ℕ → EReal} (ha : Ex2 a f) (hb : Ex2 b g) (hd : Ex2 d h) :
    Ex2 (k0_pay7 (F := Ideal) a b d) (fun r c => g r c + ∑ l ∈ range 256, f r l * h l c) := by
  unfold k0_pay7
  dsimp only
  rw [shapeCast_self]
  exact ex_add hb (ex_mul ha hd)
theorem ex_pay2 {a : Vec Ideal S1024x256 .bf16} {b : Vec Ideal S1024x768 .f32} {d : Vec Ideal S256x768 .bf16} {f g h : ℕ → ℕ → EReal} (ha : Ex2 a f) (hb : Ex2 b g) (hd : Ex2 d h) :
    Ex2 (k0_pay2 (F := Ideal) a b d) (fun r c => g r c + ∑ l ∈ range 256, f r l * h l c) := by
  unfold k0_pay2
  dsimp only
  rw [shapeCast_self]
  exact ex_add hb (ex_mul ha hd)
theorem ex_pay3 {a : Vec Ideal S1024x256 .bf16} {b : Vec Ideal S1024x128 .f32} {d : Vec Ideal S256x128 .bf16} {f g h : ℕ → ℕ → EReal} (ha : Ex2 a f) (hb : Ex2 b g) (hd : Ex2 d h) :
    Ex2 (k0_pay3 (F := Ideal) a b d) (fun r c => g r c + ∑ l ∈ range 256, f r l * h l c) := by
  unfold k0_pay3
  dsimp only
  rw [shapeCast_self]
  exact ex_add hb (ex_mul ha hd)
theorem ex_pay1 {a : Vec Ideal S1024x256 .bf16} {b : Vec Ideal S1024x256 .f32} {d : Vec Ideal S256x256 .bf16} {f g h : ℕ → ℕ → EReal} (ha : Ex2 a f) (hb : Ex2 b g) (hd : Ex2 d h) :
    Ex2 (k0_pay1 (F := Ideal) a (k0_pay8 b) d (constant S1024x256 .f32 0x00000000#32)) (fun r c => g r c + ∑ l ∈ range 256, f r l * h l c) := by
  unfold k0_pay1 k0_pay8
  dsimp only
  rw [shapeCast_self]
  exact ex_add hb (ex_mul ha hd)

/-- A load of a whole buffer. -/
theorem ex_whole {n0 n1 : ℕ} (m : Memref sig .tc .vmem ⟨2, ![n0, n1]⟩ .bf16) (h : m.IsWhole) {x : Vec Ideal ⟨2, ![n0, n1]⟩ .bf16} {f : ℕ → ℕ → EReal} (hx : Ex2 x f)
    (inb : ∀ d, (![0, 0] : Fin 2 → ℕ) d + (![n0, n1] : Fin 2 → ℕ) d ≤ (⟨2, ![n0, n1]⟩ : Shape).size d) :
    Ex2 (n0 := n0) (n1 := n1) (View.readAt (Elt Ideal) m.view (Rect.unit (s := ⟨2, ![n0, n1]⟩) ![0, 0] ![n0, n1] inb).toLoadRect (h.unread x)) f := by
  have e := View.readAt_full (Val := Elt Ideal) m.view (h.unread x) inb
  rw [e, h.read_unread]
  exact hx

section
variable (c : Dev nD) (i : grid0.Coords) (arg1 : Memref sig .tc .vmem S1024x256 .bf16) (harg1 : arg1.IsWhole) (arg2 : Memref sig .tc .vmem S256x768 .bf16) (harg2 : arg2.IsWhole) (arg3 : Memref sig .tc .vmem S256x768 .bf16) (harg3 : arg3.IsWhole) (arg4 : Memref sig .tc .vmem S256x512 .bf16) (harg4 : arg4.IsWhole) (arg5 : Memref sig .tc .vmem S256x256 .bf16) (harg5 : arg5.IsWhole) (arg6 : Memref sig .tc .vmem S256x768 .bf16) (harg6 : arg6.IsWhole) (arg7 : Memref sig .tc .vmem S256x128 .bf16) (harg7 : arg7.IsWhole) (arg8 : Memref sig .tc .vmem S1024x3200 .f32) (harg8 : arg8.IsWhole) (x0 : Vec Ideal S1024x256 .bf16) (x1 : Vec Ideal S256x768 .bf16) (x2 : Vec Ideal S256x768 .bf16) (x3 : Vec Ideal S256x512 .bf16) (x4 : Vec Ideal S256x256 .bf16) (x5 : Vec Ideal S256x768 .bf16) (x6 : Vec Ideal S256x128 .bf16) {H D z : ℕ → ℕ → EReal} (hh : Ex2 x0 H) (h1 : Ex2 x1 (fun l c => D l (0 + c))) (h2 : Ex2 x2 (fun l c => D l (768 + c))) (h3 : Ex2 x3 (fun l c => D l (1536 + c))) (h4 : Ex2 x4 (fun l c => D l (2048 + c))) (h5 : Ex2 x5 (fun l c => D l (2304 + c))) (h6 : Ex2 x6 (fun l c => D l (3072 + c)))
include hh h1 h2 h3 h4 h5 h6

theorem out_B (hc0 : ¬cond0_0 i) (xo7 : Vec Ideal S1024x3200 .f32) (ho : Ex2 xo7 z) :
    Ex2 (out0_B_7 c i arg1 harg1 arg2 harg2 arg3 harg3 arg4 harg4 arg5 harg5 arg6 harg6 arg7 harg7 arg8 harg8 hc0 x0 x1 x2 x3 x4 x5 x6 xo7) (fun r c => z r c + ∑ l ∈ range 256, H r l * D l c) := by
  have hl : ∀ (n : ℕ) {w : ℕ} (inb : ∀ d, (![0, n] : Fin 2 → ℕ) d + (![1024, w] : Fin 2 → ℕ) d ≤ (⟨2, ![1024, 3200]⟩ : Shape).size d),
      Ex2 (n0 := 1024) (n1 := w) (View.readAt (Elt Ideal) arg8.view (Rect.unit (s := ⟨2, ![1024, 3200]⟩) ![0, n] ![1024, w] inb).toLoadRect (harg8.unread xo7)) (fun r c => z r (n + c)) := fun n w inb => by
    refine ex_load (P := z) (z := z) arg8.view (harg8.unread xo7) [] ?_ inb
    rw [View.writes_nil, harg8.read_unread]
    exact ho.congr fun a _ b _ => by split <;> rfl
  unfold out0_B_7 kernelRun0_B
  dsimp only
  sl_unfold_words
  refine Ex2.congr (ex_step (n := 3072) _ _ _ (ex_step (n := 2304) _ _ _ (ex_step (n := 2048) _ _ _ (ex_step (n := 1536) _ _ _ (ex_step (n := 768) _ _ _ (ex_step (n := 0)
    (P := fun r c => z r c + ∑ l ∈ range 256, H r l * D l c) (z := natF (View.read (Elt Ideal) VO0_7 VO0_7.junk)) _ _ [] ?_ _ _ ?_) _ _ ?_) _ _ ?_) _ _ ?_) _ _ ?_) _ _ ?_) ?_
  · rw [View.writes_nil]
    exact (ex_natF _).congr fun a _ b _ => by rw [if_neg (Nat.not_lt_zero _)]
  · exact ex_pay5 (ex_whole arg1 harg1 hh _) (hl 0 _) (ex_whole arg2 harg2 h1 _)
  · exact ex_pay6 (ex_whole arg1 harg1 hh _) (hl 768 _) (ex_whole arg3 harg3 h2 _)
  · exact ex_pay7 (ex_whole arg1 harg1 hh _) (hl 1536 _) (ex_whole arg4 harg4 h3 _)
  · exact ex_pay1 (ex_whole arg1 harg1 hh _) (hl 2048 _) (ex_whole arg5 harg5 h4 _)
  · exact ex_pay2 (ex_whole arg1 harg1 hh _) (hl 2304 _) (ex_whole arg6 harg6 h5 _)
  · exact ex_pay3 (ex_whole arg1 harg1 hh _) (hl 3072 _) (ex_whole arg7 harg7 h6 _)
  · intro a _ b hb
    rw [if_pos (by omega)]

theorem out_A (hc0 : cond0_0 i) :
    Ex2 (out0_A_7 c i arg1 harg1 arg2 harg2 arg3 harg3 arg4 harg4 arg5 harg5 arg6 harg6 arg7 harg7 arg8 harg8 hc0 x0 x1 x2 x3 x4 x5 x6) (fun r c => ∑ l ∈ range 256, H r l * D l c) := by
  have s0 : St (fun r c => 0 + ∑ l ∈ range 256, H r l * D l c) (fun _ _ => 0) [⟨Rect.unit ![0, 0] S1024x3200.size inb_S1024x3200_S1024x3200_0_0, k0_pay4 (F := Ideal)⟩] 0 := by
    refine St.start ?_ [] _
    intro a b
    show Ideal.ofBits .f32 0x00000000#32 = 0
    exact Ideal.ofBits_zero_f32
  have s1 := s0.step inb_S1024x3200_S1024x768_0_0 (ex_pay5 (ex_whole arg1 harg1 hh inb_S1024x256_S1024x256_0_0) (s0.load arg8.view inb_S1024x3200_S1024x768_0_0) (ex_whole arg2 harg2 h1 inb_S256x768_S256x768_0_0))
  have s2 := s1.step inb_S1024x3200_S1024x768_0_768 (ex_pay6 (ex_whole arg1 harg1 hh inb_S1024x256_S1024x256_0_0) (s1.load arg8.view inb_S1024x3200_S1024x768_0_768) (ex_whole arg3 harg3 h2 inb_S256x768_S256x768_0_0))
  have s3 := s2.step inb_S1024x3200_S1024x512_0_1536 (ex_pay7 (ex_whole arg1 harg1 hh inb_S1024x256_S1024x256_0_0) (s2.load arg8.view inb_S1024x3200_S1024x512_0_1536) (ex_whole arg4 harg4 h3 inb_S256x512_S256x512_0_0))
  have s4 := s3.step inb_S1024x3200_S1024x256_0_2048 (ex_pay1 (ex_whole arg1 harg1 hh inb_S1024x256_S1024x256_0_0) (s3.load arg8.view inb_S1024x3200_S1024x256_0_2048) (ex_whole arg5 harg5 h4 inb_S256x256_S256x256_0_0))
  have s5 := s4.step inb_S1024x3200_S1024x768_0_2304 (ex_pay2 (ex_whole arg1 harg1 hh inb_S1024x256_S1024x256_0_0) (s4.load arg8.view inb_S1024x3200_S1024x768_0_2304) (ex_whole arg6 harg6 h5 inb_S256x768_S256x768_0_0))
  have s6 := s5.step inb_S1024x3200_S1024x128_0_3072 (ex_pay3 (ex_whole arg1 harg1 hh inb_S1024x256_S1024x256_0_0) (s5.load arg8.view inb_S1024x3200_S1024x128_0_3072) (ex_whole arg7 harg7 h6 inb_S256x128_S256x128_0_0))
  unfold out0_A_7 kernelRun0_A
  dsimp only
  sl_unfold_words
  refine Ex2.congr (s6.out VO0_7 VO0_7.junk) ?_
  intro a _ b hb
  rw [if_pos (by omega), zero_add]

end
end Cert.Proof.WinGrad
end
-- ==== Proof.WinGradValue.lean ====
module

public import proofs.«01_k».proof.Defs
public import proofs.«01_k».proof.Proof.WinGrad
public import proofs.«01_k».proof.Proof.Gen.Reference3Ideal.Read
public import Idealize.ShloMosaic.Lib.Pipeline.ValueKit.Geometry

/-! The gradient of the input projection's weights: the call's result array, and the reference's. -/

@[expose] public section

set_option maxRecDepth 16384

noncomputable section

namespace Cert.Proof.WinGrad

open Idealize.ShloMosaic Idealize.ShloMosaic.TcCoe Idealize.SL.Sem
open Cert.Proof.Blocks
open Finset

section
open Cert.Kernel3Ideal Cert.Kernel3Ideal.Gen

theorem ix_0 : ∀ t : Fin cfg0.N, win0_0.index t = ![0, t.val] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![0, 0] := (by decide +kernel : ∀ t : Fin grid0.N, _)

variable (m : (ℓ : Loc nD τ sig) → Buf (Elt Ideal) ℓ) (c : Dev nD) {H D : ℕ → ℕ → EReal}

theorem ex_0 {H : ℕ → ℕ → EReal} (h : Ex2 (n0 := 1024) (n1 := 8192) (V m c main_arg0) H) (t : Fin cfg0.N) : Ex2 (iblk m c 0 t : Vec Ideal S1024x256 .bf16) (fun r l => H r (256 * t.val + l)) := fun a b => by
  blk_simp [iblk]
  refine h.at _ _ _ ?_ ?_
  · blk_simp [ix_0]
  · blk_simp [ix_0]
    simp [Nat.mul_comm]

theorem ex_1 {P : ℕ → ℕ → EReal} (h : Ex2 (n0 := 8192) (n1 := 768) (V m c main_arg1) P) (t : Fin cfg0.N) : Ex2 (iblk m c 1 t : Vec Ideal S256x768 .bf16) (fun l r => P (256 * t.val + l) r) := fun a b => by
  blk_simp [iblk]
  refine h.at _ _ _ ?_ ?_
  · blk_simp [ix_1]
    simp [Nat.mul_comm]
  · blk_simp [ix_1]

theorem ex_2 {P : ℕ → ℕ → EReal} (h : Ex2 (n0 := 8192) (n1 := 768) (V m c main_arg2) P) (t : Fin cfg0.N) : Ex2 (iblk m c 2 t : Vec Ideal S256x768 .bf16) (fun l r => P (256 * t.val + l) r) := fun a b => by
  blk_simp [iblk]
  refine h.at _ _ _ ?_ ?_
  · blk_simp [ix_2]
    simp [Nat.mul_comm]
  · blk_simp [ix_2]

theorem ex_3 {P : ℕ → ℕ → EReal} (h : Ex2 (n0 := 8192) (n1 := 512) (V m c main_arg3) P) (t : Fin cfg0.N) : Ex2 (iblk m c 3 t : Vec Ideal S256x512 .bf16) (fun l r => P (256 * t.val + l) r) := fun a b => by
  blk_simp [iblk]
  refine h.at _ _ _ ?_ ?_
  · blk_simp [ix_3]
    simp [Nat.mul_comm]
  · blk_simp [ix_3]

theorem ex_4 {P : ℕ → ℕ → EReal} (h : Ex2 (n0 := 8192) (n1 := 256) (V m c main_arg4) P) (t : Fin cfg0.N) : Ex2 (iblk m c 4 t : Vec Ideal S256x256 .bf16) (fun l r => P (256 * t.val + l) r) := fun a b => by
  blk_simp [iblk]
  refine h.at _ _ _ ?_ ?_
  · blk_simp [ix_4]
    simp [Nat.mul_comm]
  · blk_simp [ix_4]

theorem ex_5 {P : ℕ → ℕ → EReal} (h : Ex2 (n0 := 8192) (n1 := 768) (V m c main_arg5) P) (t : Fin cfg0.N) : Ex2 (iblk m c 5 t : Vec Ideal S256x768 .bf16) (fun l r => P (256 * t.val + l) r) := fun a b => by
  blk_simp [iblk]
  refine h.at _ _ _ ?_ ?_
  · blk_simp [ix_5]
    simp [Nat.mul_comm]
  · blk_simp [ix_5]

theorem ex_6 {P : ℕ → ℕ → EReal} (h : Ex2 (n0 := 8192) (n1 := 128) (V m c main_arg6) P) (t : Fin cfg0.N) : Ex2 (iblk m c 6 t : Vec Ideal S256x128 .bf16) (fun l r => P (256 * t.val + l) r) := fun a b => by
  blk_simp [iblk]
  refine h.at _ _ _ ?_ ?_
  · blk_simp [ix_6]
    simp [Nat.mul_comm]
  · blk_simp [ix_6]

section
variable (p0 : Ex2 (n0 := 1024) (n1 := 8192) (V m c main_arg0) H) (p1 : Ex2 (n0 := 8192) (n1 := 768) (V m c main_arg1) (fun l r => D l (0 + r))) (p2 : Ex2 (n0 := 8192) (n1 := 768) (V m c main_arg2) (fun l r => D l (768 + r))) (p3 : Ex2 (n0 := 8192) (n1 := 512) (V m c main_arg3) (fun l r => D l (1536 + r))) (p4 : Ex2 (n0 := 8192) (n1 := 256) (V m c main_arg4) (fun l r => D l (2048 + r))) (p5 : Ex2 (n0 := 8192) (n1 := 768) (V m c main_arg5) (fun l r => D l (2304 + r))) (p6 : Ex2 (n0 := 8192) (n1 := 128) (V m c main_arg6) (fun l r => D l (3072 + r)))
include p0 p1 p2 p3 p4 p5 p6

/-- After point `n` the buffer holds the product over the first `256 (n + 1)` rows. -/
theorem outs : ∀ (n : ℕ) (h : n < cfg0.N), Ex2 (n0 := 1024) (n1 := 3200) (outsAt0 m c n h) (fun r k => ∑ l ∈ range (256 * (n + 1)), H r l * D l k)
  | 0, h => by
    rw [outsAt0_A m c ⟨0, h⟩ rfl]
    refine Ex2.congr (out_A _ _ _ _ _ _ _ _ _ _ _ _ _ _ _ _ _ _ _ _ _ _ _ _ _ (H := fun r l => H r (256 * 0 + l)) (D := fun l k => D (256 * 0 + l) k) (ex_0 m c p0 ⟨0, h⟩) (ex_1 m c p1 ⟨0, h⟩) (ex_2 m c p2 ⟨0, h⟩) (ex_3 m c p3 ⟨0, h⟩)
      (ex_4 m c p4 ⟨0, h⟩) (ex_5 m c p5 ⟨0, h⟩) (ex_6 m c p6 ⟨0, h⟩) _) fun a _ b _ => ?_
    simp only [Nat.mul_zero, Nat.zero_add, Nat.mul_one]
  | n + 1, h => by
    have hN : cfg0.N = 32 := N_0
    have hB : ¬(⟨n + 1, h⟩ : Fin cfg0.N).val % 32 = 0 := by dsimp only; omega
    rw [outsAt0_B m c ⟨n + 1, h⟩ hB]
    refine Ex2.congr (out_B _ _ _ _ _ _ _ _ _ _ _ _ _ _ _ _ _ _ _ _ _ _ _ _ _ (H := fun r l => H r (256 * (n + 1) + l)) (D := fun l k => D (256 * (n + 1) + l) k) (ex_0 m c p0 ⟨n + 1, h⟩) (ex_1 m c p1 ⟨n + 1, h⟩) (ex_2 m c p2 ⟨n + 1, h⟩) (ex_3 m c p3 ⟨n + 1, h⟩)
      (ex_4 m c p4 ⟨n + 1, h⟩) (ex_5 m c p5 ⟨n + 1, h⟩) (ex_6 m c p6 ⟨n + 1, h⟩) _ _ (outs n (Nat.lt_of_succ_lt h))) fun a _ b _ => ?_
    rw [show 256 * (n + 1 + 1) = 256 * (n + 1) + 256 by omega, Finset.sum_range_add]

/-- The result array. -/
theorem final : Ex2 (n0 := 1024) (n1 := 3200) ((dats m 0 c).arrAt 7 cfg0.N) (fun r k => ∑ l ∈ range 8192, H r l * D l k) := by
  have e : (dats m 0 c).arrAt 7 cfg0.N = fun i : S1024x3200.Idx => ∑ l ∈ range 8192, H (i 0).val l * D l (i 1).val := by
    refine (dats m 0 c).arrAt_eq_of_covers 7 _ (by decide +kernel) fun t hf y => ?_
    have ht : t.val = 31 := by have := (flush0_7 t).mp hf; have := t.isLt; have hN : cfg0.N = 32 := N_0; omega
    blk_simp
    rw [after0_7]
    refine ((outs m c p0 p1 p2 p3 p4 p5 p6 t.val t.isLt).at _ _ _ rfl rfl).trans ?_
    blk_simp [ix_7]
    rw [ht]
  rw [e]
  exact fun a b => rfl

end
end

section
open Cert.Reference3Ideal Cert.Reference3Ideal.Gen Cert.Reference3Ideal.Read

/-- The pieces joined along the columns. -/
theorem ex_joined {D : ℕ → ℕ → EReal} (x1 : (⟨S8192x768, .bf16⟩ : BufTy).Contents (Elt Ideal)) (x2 : (⟨S8192x768, .bf16⟩ : BufTy).Contents (Elt Ideal)) (x3 : (⟨S8192x512, .bf16⟩ : BufTy).Contents (Elt Ideal)) (x4 : (⟨S8192x256, .bf16⟩ : BufTy).Contents (Elt Ideal)) (x5 : (⟨S8192x768, .bf16⟩ : BufTy).Contents (Elt Ideal)) (x6 : (⟨S8192x128, .bf16⟩ : BufTy).Contents (Elt Ideal)) (p1 : Ex2 (n0 := 8192) (n1 := 768) x1 (fun l r => D l (0 + r))) (p2 : Ex2 (n0 := 8192) (n1 := 768) x2 (fun l r => D l (768 + r))) (p3 : Ex2 (n0 := 8192) (n1 := 512) x3 (fun l r => D l (1536 + r))) (p4 : Ex2 (n0 := 8192) (n1 := 256) x4 (fun l r => D l (2048 + r))) (p5 : Ex2 (n0 := 8192) (n1 := 768) x5 (fun l r => D l (2304 + r))) (p6 : Ex2 (n0 := 8192) (n1 := 128) x6 (fun l r => D l (3072 + r))) :
    Ex2 (n0 := 8192) (n1 := 3200) (val_main_v10 (F := Ideal) x1 x2 x3 x4 x5 x6) D := fun a b => by
  unfold val_main_v10
  refine concat_eq _ _ _ _ _ fun k hk hr i e eo => ?_
  have e0 : (i (Fin.cast hr.symm 0)).val = a.val := eo (Fin.cast hr.symm 0) (by show (0 : Fin 2) ≠ 1; decide)
  match k, hk with
  | 0, _ => exact p1.part i _ _ e0 e
  | 1, _ => exact p2.part i _ _ e0 e
  | 2, _ => exact p3.part i _ _ e0 e
  | 3, _ => exact p4.part i _ _ e0 e
  | 4, _ => exact p5.part i _ _ e0 e
  | 5, _ => exact p6.part i _ _ e0 e
  | k + 6, hk => exact absurd hk (by simp)

/-- The reference's result. -/
theorem ref_value {H D : ℕ → ℕ → EReal} (x0 : (⟨S1024x8192, .bf16⟩ : BufTy).Contents (Elt Ideal)) (x1 : (⟨S8192x768, .bf16⟩ : BufTy).Contents (Elt Ideal)) (x2 : (⟨S8192x768, .bf16⟩ : BufTy).Contents (Elt Ideal)) (x3 : (⟨S8192x512, .bf16⟩ : BufTy).Contents (Elt Ideal)) (x4 : (⟨S8192x256, .bf16⟩ : BufTy).Contents (Elt Ideal)) (x5 : (⟨S8192x768, .bf16⟩ : BufTy).Contents (Elt Ideal)) (x6 : (⟨S8192x128, .bf16⟩ : BufTy).Contents (Elt Ideal)) (p0 : Ex2 (n0 := 1024) (n1 := 8192) x0 H) (p1 : Ex2 (n0 := 8192) (n1 := 768) x1 (fun l r => D l (0 + r))) (p2 : Ex2 (n0 := 8192) (n1 := 768) x2 (fun l r => D l (768 + r))) (p3 : Ex2 (n0 := 8192) (n1 := 512) x3 (fun l r => D l (1536 + r))) (p4 : Ex2 (n0 := 8192) (n1 := 256) x4 (fun l r => D l (2048 + r))) (p5 : Ex2 (n0 := 8192) (n1 := 768) x5 (fun l r => D l (2304 + r))) (p6 : Ex2 (n0 := 8192) (n1 := 128) x6 (fun l r => D l (3072 + r))) :
    Ex2 (n0 := 1024) (n1 := 3200) (val_main_v12 (F := Ideal) x0 x1 x2 x3 x4 x5 x6) (fun r k => ∑ l ∈ range 8192, H r l * D l k) := fun a b => by
  rw [val_main_v12_apply, val_main_v11_apply]
  refine Eq.trans ?_ (Finset.sum_range _).symm
  refine Finset.sum_congr rfl fun k _ => ?_
  rw [val_main_v2_apply, mul_comm]
  refine congrArg₂ (· * ·) ?_ ?_
  · exact p0.at _ _ _ rfl rfl
  · exact (ex_joined x1 x2 x3 x4 x5 x6 p1 p2 p3 p4 p5 p6).at _ _ _ rfl rfl

end

theorem frame_kernel : Cert.quiescent_Kernel3 := fun m ρ _ => Cert.Kernel3.Gen.frame (F := Bits) m ρ
theorem frame_ideal : Cert.quiescent_Kernel3Ideal := fun m ρ _ => Cert.Kernel3Ideal.Gen.frame (F := Ideal) m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

set_option maxHeartbeats 2000000 in
/-- Both programs end with equal gradients of the weights, their arguments as launched. -/
theorem algebraic : Cert.algebraic_Kernel3Ideal_Reference3Ideal := fun m ρ m' ρ' _ hargs => by
  refine ⟨_, Cert.Kernel3Ideal.Value.run_blocks m ρ, ?_⟩
  refine (θ_run Cert.Reference3Ideal.defs _ _).mono (fun _ h c => ?_) (Cert.Reference3Ideal.Value.run (F := Ideal) m' ρ')
  obtain ⟨a0, a1, a2, a3, a4, a5, a6⟩ := hargs c
  refine ⟨?_, (h c).2⟩
  refine (h c).1.trans ?_
  rw [Cert.Reference3Ideal.Read.val_main_v12_eq, a0, a1, a2, a3, a4, a5, a6]
  have k := final m c (H := natF (m ((c.tc : Thread Cert.Kernel3Ideal.nD Cert.Kernel3Ideal.τ).loc Cert.Kernel3Ideal.main_arg0))) (D := cols (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) (ex_natF _) (ex_cols1 _ _ _ _ _ _) (ex_cols2 _ _ _ _ _ _) (ex_cols3 _ _ _ _ _ _) (ex_cols4 _ _ _ _ _ _) (ex_cols5 _ _ _ _ _ _) (ex_cols6 _ _ _ _ _ _)
  have r := ref_value (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (H := natF (m ((c.tc : Thread Cert.Kernel3Ideal.nD Cert.Kernel3Ideal.τ).loc Cert.Kernel3Ideal.main_arg0))) (D := cols (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) (ex_natF _) (ex_cols1 _ _ _ _ _ _) (ex_cols2 _ _ _ _ _ _) (ex_cols3 _ _ _ _ _ _) (ex_cols4 _ _ _ _ _ _) (ex_cols5 _ _ _ _ _ _) (ex_cols6 _ _ _ _ _ _)
  funext i
  exact (r.at i _ _ rfl rfl).trans (k.at i _ _ rfl rfl).symm

end Cert.Proof.WinGrad
end
-- ==== Proof.PostNorm.lean ====
module

public import proofs.«01_k».proof.Proof.Ext

/-! The root-mean-square norm over any width and its gradient, the sigmoid, a head's sum of columns, and products that contract the rows. -/

@[expose] public section

set_option maxRecDepth 16384

noncomputable section

namespace Cert.Proof.Post

open Idealize.ShloMosaic Idealize.ShloMosaic.TcCoe
open Cert.Proof.Blocks Cert.Proof.Rows
open Finset

/-! ## The literals -/

theorem bits_one : Ideal.ofBits .f32 0x3F800000#32 = 1 := by
  simp [Ideal.ofBits, Ideal.ieee]
  norm_num
  rw [← EReal.coe_mul]
  norm_num
theorem bits_inv256 : Ideal.ofBits .f32 0x3B800000#32 = (((1 : ℝ) / 256 : ℝ) : EReal) := by
  simp [Ideal.ofBits, Ideal.ieee]
  norm_num
  rw [← EReal.coe_mul]
  norm_num
theorem bits_inv512 : Ideal.ofBits .f32 0x3B000000#32 = (((1 : ℝ) / 512 : ℝ) : EReal) := by
  simp [Ideal.ofBits, Ideal.ieee]
  norm_num
  rw [← EReal.coe_mul]
  norm_num
theorem bits_256 : Ideal.ofBits .f32 0x43800000#32 = ((256 : ℝ) : EReal) := by
  simp [Ideal.ofBits, Ideal.ieee]
  norm_num
  rw [← EReal.coe_mul]
  norm_num
theorem bits_512 : Ideal.ofBits .f32 0x44000000#32 = ((512 : ℝ) : EReal) := by
  simp [Ideal.ofBits, Ideal.ieee]
  norm_num
  rw [← EReal.coe_mul]
  norm_num

/-! ## The norm and its gradient -/

/-- The mean of a row's squares, with the small number added. -/
def ms (n : ℕ) (c : ℝ) (x : ℕ → ℕ → EReal) (r : ℕ) : EReal := (∑ k ∈ range n, x r k * x r k) * (c : EReal) + ((eps : ℝ) : EReal)
/-- The reciprocal of a row's root mean square. -/
def rms (n : ℕ) (c : ℝ) (x : ℕ → ℕ → EReal) (r : ℕ) : EReal := Ideal.rsqrt (ms n c x r)
/-- The normed row. -/
def xn (n : ℕ) (c : ℝ) (x : ℕ → ℕ → EReal) (r d : ℕ) : EReal := x r d * rms n c x r
/-- The gradient through the norm, of a row whose normed entries have the gradients `A`. -/
def bx (n : ℕ) (c : ℝ) (x A : ℕ → ℕ → EReal) (r d : ℕ) : EReal :=
  rms n c x r * (A r d - xn n c x r d * ((∑ k ∈ range n, A r k * xn n c x r k) * (c : EReal)))
/-- The gradient of the joined branches: the output's gradient through the weights. -/
def dn (D w : ℕ → ℕ → EReal) (r l : ℕ) : EReal := ∑ k ∈ range 1024, D r k * w l k
/-- The sigmoid. -/
def sgm (z : EReal) : EReal := Ideal.div 1 (1 + Ideal.exp (-z))

/-- A row's root mean square is real and so are its entries, or it is infinite. -/
theorem rms_cases (n : ℕ) {c : ℝ} (hc : 0 < c) (x : ℕ → ℕ → EReal) (r : ℕ) :
    (∃ (y : ℕ → ℝ) (s : ℝ), 0 < s ∧ (∀ k ∈ range n, x r k = ((y k : ℝ) : EReal)) ∧ ms n c x r = (s : EReal) ∧ rms n c x r = (((Real.sqrt s)⁻¹ : ℝ) : EReal))
    ∨ (ms n c x r = ⊤ ∧ rms n c x r = 0) := by
  rcases row_cases (x r) n with ⟨y, hy⟩ | h
  · left
    have hs : (∑ k ∈ range n, x r k * x r k) = ((∑ k ∈ range n, y k * y k : ℝ) : EReal) := by
      rw [← sum_coe]
      exact Finset.sum_congr rfl fun k hk => by rw [hy k hk, EReal.coe_mul]
    have hp : 0 < (∑ k ∈ range n, y k * y k) * c + eps :=
      add_pos_of_nonneg_of_pos (mul_nonneg (Finset.sum_nonneg fun _ _ => mul_self_nonneg _) hc.le) eps_pos
    have em : ms n c x r = (((∑ k ∈ range n, y k * y k) * c + eps : ℝ) : EReal) := by
      unfold ms
      rw [hs, ← EReal.coe_mul, ← EReal.coe_add]
    refine ⟨y, _, hp, hy, em, ?_⟩
    unfold rms
    rw [em, rsqrt_pos hp]
  · right
    have em : ms n c x r = ⊤ := by
      unfold ms
      rw [h, EReal.top_mul_coe_of_pos hc]
      rfl
    refine ⟨em, ?_⟩
    unfold rms
    rw [em]
    simp

/-- The two ways of writing a row's gradient, the row's root and its entry being reals. -/
theorem parts_real (c : ℝ) (A S : EReal) (x r s : ℝ) (hr : 0 < r) (hs : r * r = 1 / s) :
    A * (r : EReal) + (x : EReal) * (S * (((-1 / 2 : ℝ) : EReal) * ((r : EReal) * ((1 / s : ℝ) : EReal))) * ((c : ℝ) : EReal))
      + S * (((-1 / 2 : ℝ) : EReal) * ((r : EReal) * ((1 / s : ℝ) : EReal))) * ((c : ℝ) : EReal) * (x : EReal)
    = (r : EReal) * (A - (x : EReal) * (r : EReal) * (S * (r : EReal) * ((c : ℝ) : EReal))) := by
  have e1 : (x : EReal) * (S * (((-1 / 2 : ℝ) : EReal) * ((r : EReal) * ((1 / s : ℝ) : EReal))) * ((c : ℝ) : EReal))
      = ((x * (-1 / 2 * (r * (1 / s)) * c) : ℝ) : EReal) * S := by
    simp only [EReal.coe_mul]
    ac_rfl
  have e2 : S * (((-1 / 2 : ℝ) : EReal) * ((r : EReal) * ((1 / s : ℝ) : EReal))) * ((c : ℝ) : EReal) * (x : EReal)
      = ((x * (-1 / 2 * (r * (1 / s)) * c) : ℝ) : EReal) * S := by
    simp only [EReal.coe_mul]
    ac_rfl
  have e3 : (r : EReal) * -((x : EReal) * (r : EReal) * (S * (r : EReal) * ((c : ℝ) : EReal)))
      = ((-(x * r * r * r * c) : ℝ) : EReal) * S := by
    rw [EReal.coe_neg, EReal.neg_mul, mul_neg]
    simp only [EReal.coe_mul]
    refine congrArg Neg.neg ?_
    ac_rfl
  rw [e1, e2, sub_eq_add_neg, EReal.left_distrib_of_nonneg_of_ne_top (EReal.coe_nonneg.mpr hr.le) (EReal.coe_ne_top r), e3, add_assoc, twice_mul,
    ← hs]
  rw [show x * (-1 / 2 * (r * (r * r)) * c) + x * (-1 / 2 * (r * (r * r)) * c) = -(x * r * r * r * c) by ring,
    mul_comm A]

/-- The reference's sum of the gradient's parts is the kernel's. -/
theorem parts (n : ℕ) {c : ℝ} (hc : 0 < c) (x A : ℕ → ℕ → EReal) (r d : ℕ) (hd : d < n) :
    A r d * rms n c x r + x r d * ((∑ k ∈ range n, x r k * A r k) * (((-1 / 2 : ℝ) : EReal) * Ideal.div (rms n c x r) (ms n c x r)) * ((c : ℝ) : EReal))
      + (∑ k ∈ range n, x r k * A r k) * (((-1 / 2 : ℝ) : EReal) * Ideal.div (rms n c x r) (ms n c x r)) * ((c : ℝ) : EReal) * x r d = bx n c x A r d := by
  rcases rms_cases n hc x r with ⟨y, s, hp, hy, em, er⟩ | ⟨em, er⟩
  · have e : ∑ k ∈ range n, A r k * xn n c x r k = (∑ k ∈ range n, x r k * A r k) * (((Real.sqrt s)⁻¹ : ℝ) : EReal) := by
      rw [← sum_mul_pos (inv_nonneg.mpr (Real.sqrt_nonneg s))]
      refine Finset.sum_congr rfl fun k _ => ?_
      unfold xn
      rw [er]
      ac_rfl
    unfold bx
    rw [e, em, er, Ideal.div_coe hp.ne']
    unfold xn
    rw [er, hy d (Finset.mem_range.mpr hd)]
    exact parts_real _ _ _ _ _ _ (inv_pos.mpr (Real.sqrt_pos.mpr hp)) (by rw [← mul_inv, Real.mul_self_sqrt hp.le, one_div])
  · unfold bx
    rw [em, er, show Ideal.div 0 ⊤ = 0 by simp [Ideal.div]]
    simp

/-! ## The gate's gradient -/

theorem sgm_top : sgm ⊤ = 1 := by
  unfold sgm
  simp [Ideal.div]
theorem sgm_bot : sgm ⊥ = 0 := by
  have e : (1 : EReal) + ⊤ = ⊤ := EReal.coe_add_top 1
  unfold sgm
  rw [show Ideal.exp (-⊥) = ⊤ by simp, e]
  simp [Ideal.div]
theorem sgm_coe (z : ℝ) : sgm (z : EReal) = ((1 / (1 + Real.exp (-z)) : ℝ) : EReal) := by
  unfold sgm
  rw [← EReal.coe_neg, Ideal.exp_coe, ← EReal.coe_one, ← EReal.coe_add, Ideal.div_coe (by positivity), ← EReal.coe_mul, one_mul]

/-- The two ways of writing the gate's gradient. `Y` is the gated entry, a real when the row is, `B` the gradient of it. -/
theorem gate (o z : EReal) (B : EReal) (h : B = 0 ∨ (∃ b : ℝ, B = (b : EReal)) ∧ ∃ y : ℝ, o * (z * sgm z) = (y : EReal)) :
    B * o * (sgm z * (1 + z * (1 - sgm z))) = o * B * sgm z + z * (o * B) * (sgm z * (1 - sgm z)) := by
  rcases h with h | ⟨⟨b, hb⟩, y, hy⟩
  · subst h
    simp
  · induction z with
    | bot => rw [sgm_bot]; simp
    | top =>
      rw [sgm_top, show (1 : EReal) - 1 = 0 by rw [← EReal.coe_one, ← EReal.coe_sub, sub_self]; rfl]
      simp [mul_comm]
    | coe z =>
      rw [sgm_coe] at hy ⊢
      have hs : (0 : ℝ) < 1 / (1 + Real.exp (-z)) := by positivity
      generalize 1 / (1 + Real.exp (-z)) = s at hs hy
      by_cases hz : z = 0
      · subst hz
        simp [mul_comm]
      · rw [← EReal.coe_mul] at hy
        have ho : o = ((o.toReal : ℝ) : EReal) := by
          refine (EReal.coe_toReal (fun e => ?_) (fun e => ?_)).symm
          · rw [e] at hy
            rcases lt_or_gt_of_ne (mul_ne_zero hz hs.ne') with hn | hn
            · rw [EReal.top_mul_coe_of_neg hn] at hy; exact EReal.bot_ne_coe _ hy
            · rw [EReal.top_mul_coe_of_pos hn] at hy; exact EReal.top_ne_coe _ hy
          · rw [e] at hy
            rcases lt_or_gt_of_ne (mul_ne_zero hz hs.ne') with hn | hn
            · rw [EReal.bot_mul_coe_of_neg hn] at hy; exact EReal.top_ne_coe _ hy
            · rw [EReal.bot_mul_coe_of_pos hn] at hy; exact EReal.bot_ne_coe _ hy
        rw [ho, hb]
        norm_cast
        ring

/-! ## A head's sum of columns -/

theorem head_sum (f : ℕ → EReal) (h : ℕ) (hh : h < 8) : (∑ k ∈ range 512, if k / 64 = h then f k else 0) = ∑ k ∈ range 64, f (64 * h + k) := by
  rw [show 512 = 64 * h + 64 + (448 - 64 * h) by omega, Finset.sum_range_add, Finset.sum_range_add,
    Finset.sum_eq_zero (s := range (64 * h)) fun k hk => if_neg (by have := Finset.mem_range.mp hk; omega),
    Finset.sum_eq_zero (s := range (448 - 64 * h)) fun k hk => if_neg (by have := Finset.mem_range.mp hk; omega), zero_add, add_zero]
  exact Finset.sum_congr rfl fun k hk => if_pos (by have := Finset.mem_range.mp hk; omega)

/-! ## Arrays -/

/-- A product that contracts the rows of both arrays. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem ex_tn {M K N : ℕ} {a : FVec Ideal ⟨2, ![K, M]⟩ .bf16} {b : FVec Ideal ⟨2, ![K, N]⟩ .bf16} {f g : ℕ → ℕ → EReal} (ha : Ex2 a f) (hb : Ex2 b g) :
    Ex2 (FloatOps.matmul (F := Ideal) (φ₁ := .bf16) (φ₂ := .bf16) (tn M K N) none a b (constant ⟨2, ![M, N]⟩ .f32 0x00000000#32))
      (fun r c => ∑ l ∈ range K, f l r * g l c) := fun x y => by
  have q1 : (tn M K N).contr.rank = 1 := rfl
  have q2 : (tn M K N).contr.size ⟨0, by rw [q1]; exact Nat.one_pos⟩ = K := rfl
  rw [Ideal.matmul_apply, ← Equiv.sum_comp (ValueIdx.contrEquiv1 _ K q1 q2).symm, ValueIdx.constant_apply, Ideal.ofBits_zero_f32, zero_add]
  refine Eq.trans ?_ (Finset.sum_range _).symm
  refine Finset.sum_congr rfl fun k _ => ?_
  have hk := ValueIdx.contrEquiv1_symm_val _ K q1 q2 k
  rw [ha.at _ k.val x.val hk rfl, hb.at _ k.val y.val hk rfl]

theorem ex_exp {n0 n1 : ℕ} {x : FVec Ideal ⟨2, ![n0, n1]⟩ .f32} {f : ℕ → ℕ → EReal} (hx : Ex2 x f) : Ex2 (exp x) (fun a b => Ideal.exp (f a b)) := fun a b => by
  show Ideal.exp (x _) = _
  rw [hx]

theorem ex_div {n0 n1 : ℕ} {x y : FVec Ideal ⟨2, ![n0, n1]⟩ .f32} {f g : ℕ → ℕ → EReal} (hx : Ex2 x f) (hy : Ex2 y g) : Ex2 (divf x y) (fun a b => Ideal.div (f a b) (g a b)) := fun a b => by
  show Ideal.div (x _) (y _) = _
  rw [hx, hy]

/-- The sigmoid of an array, from the exponential of its negation. -/
theorem ex_sgm {n0 n1 : ℕ} {x : FVec Ideal ⟨2, ![n0, n1]⟩ .f32} {f : ℕ → ℕ → EReal} (hx : Ex2 x f) :
    Ex2 (divf (broadcast ⟨2, ![n0, n1]⟩ (Scalar.ofBits .f32 0x3F800000#32 : Ideal .f32)) (addf (broadcast ⟨2, ![n0, n1]⟩ (Scalar.ofBits .f32 0x3F800000#32 : Ideal .f32))
      (exp (subf (broadcast ⟨2, ![n0, n1]⟩ (Scalar.ofBits .f32 0x00000000#32 : Ideal .f32)) x)))) (fun a b => sgm (f a b)) :=
  (ex_div (ex_const _ 1 bits_one) (ex_add (ex_const _ 1 bits_one) (ex_exp (ex_sub (ex_const _ 0 Ideal.ofBits_zero_f32) hx)))).congr fun a _ b _ => by
    unfold sgm
    rw [zero_sub]

/-- A mask, by the positions it has. -/
def Mk2 {n0 n1 : ℕ} (x : IVec ⟨2, ![n0, n1]⟩ 1) (p : ℕ → ℕ → Prop) : Prop := ∀ (a : Fin n0) (b : Fin n1), x (ValueIdx.ix2 a b) = 1#1 ↔ p a.val b.val

theorem ex_select {n0 n1 : ℕ} {c : IVec ⟨2, ![n0, n1]⟩ 1} {x y : (⟨2, ![n0, n1]⟩ : Shape).Idx → EReal} {p : ℕ → ℕ → Prop} [∀ a b, Decidable (p a b)] {f g : ℕ → ℕ → EReal} (hc : Mk2 c p) (hx : Ex2 x f) (hy : Ex2 y g) :
    Ex2 (select c x y) (fun a b => if p a b then f a b else g a b) := fun a b => by
  show Scalar.select _ _ _ = if p a.val b.val then f a.val b.val else g a.val b.val
  by_cases h : p a.val b.val
  · rw [if_pos h, (hc a b).mpr h]
    exact hx a b
  · rw [if_neg h, ValueIdx.eq_zero_of_ne_one fun e => h ((hc a b).mp e)]
    exact hy a b

end Cert.Proof.Post
end
-- ==== Proof.PostPay.lean ====
module

public import proofs.«01_k».proof.Proof.PostNorm
public import proofs.«01_k».proof.Proof.Gen.Kernel4Ideal.Value
public import proofs.«01_k».proof.Proof.Gen.Kernel4.Frame

/-! The gradient through the joined branches: what the kernel's computations make of described blocks. -/

@[expose] public section

set_option maxRecDepth 16384

noncomputable section

namespace Cert.Proof.Post

open Cert.Kernel4Ideal Cert.Kernel4Ideal.Gen Cert.Proof.Blocks Cert.Proof.Rows
open Idealize.ShloMosaic Idealize.ShloMosaic.TcCoe Idealize.SL.Sem
open Finset

/-- The gated middle branch. -/
def ym (o z : ℕ → ℕ → EReal) (r d : ℕ) : EReal := o r d * (z r d * sgm (z r d))
/-- The gradient of a branch's normed rows, before its columns' scale `g`. -/
def up (D w g : ℕ → ℕ → EReal) (r d : ℕ) : EReal := dn D w r d * g 0 d
/-- The gradient of the gate's argument, from the gradient of the gated branch. -/
def gz (o z B : ℕ → ℕ → EReal) (r d : ℕ) : EReal := B r d * o r d * (sgm (z r d) * (1 + z r d * (1 - sgm (z r d))))
/-- Half a head's lanes keep their value; the others hold the sum over the head's columns. -/
def half (s p : ℕ → ℕ → EReal) (r l : ℕ) : EReal := if l % 64 < 32 then s r l else ∑ k ∈ range 64, p r (64 * (l / 64) + k)

variable {x g w D A z o : ℕ → ℕ → EReal}

section
variable {v15 : Vec Ideal S512x256 .f32} (h : Ex2 v15 x)
include h

theorem ex_pay7 : Ex2 (k0_pay7 (F := Ideal) v15) (fun r _ => rms 256 (1 / 256) x r) := by
  unfold k0_pay7
  dsimp only
  exact ex_rsqrt (ex_add (ex_times (ex_rowSum (ex_times h h) _ _ _ _) (ex_const _ _ bits_inv256)) (ex_const _ _ bits_eps))
theorem ex_pay8 : Ex2 (k0_pay8 (F := Ideal) v15) (xn 256 (1 / 256) x) := by
  unfold k0_pay8
  dsimp only
  exact ex_times h (ex_spreadCol (ex_pay7 h) (by decide) _)
theorem ex_pay9 {v28 : Vec Ideal S1x256 .f32} (hg : Ex2 v28 g) : Ex2 (k0_pay9 (F := Ideal) v15 v28) (fun r d => xn 256 (1 / 256) x r d * g 0 d) := by
  unfold k0_pay9
  dsimp only
  rw [shapeCast_self]
  exact ex_times (ex_pay8 h) (ex_spreadRow hg (by decide) _)
theorem ex_pay19 : Ex2 (k0_pay19 (F := Ideal) v15) (fun r _ => rms 256 (1 / 256) x r) := ex_pay7 h
theorem ex_pay20 : Ex2 (k0_pay20 (F := Ideal) v15) (xn 256 (1 / 256) x) := ex_pay8 h
theorem ex_pay21 {v28 : Vec Ideal S1x256 .f32} (hg : Ex2 v28 g) : Ex2 (k0_pay21 (F := Ideal) v15 v28) (fun r d => xn 256 (1 / 256) x r d * g 0 d) := ex_pay9 h hg
end

section
variable {v16 : FVec Ideal S512x512 .f32} (h : Ex2 v16 x)
include h

theorem ex_pay13 : Ex2 (k0_pay13 (F := Ideal) v16) (fun r _ => rms 512 (1 / 512) x r) := by
  unfold k0_pay13
  dsimp only
  exact ex_rsqrt (ex_add (ex_times (ex_rowSum (ex_times h h) _ _ _ _) (ex_const _ _ bits_inv512)) (ex_const _ _ bits_eps))
theorem ex_pay14 : Ex2 (k0_pay14 (F := Ideal) v16) (xn 512 (1 / 512) x) := by
  unfold k0_pay14
  dsimp only
  exact ex_times h (ex_spreadCol (ex_pay13 h) (by decide) _)
theorem ex_pay15 {v66 : Vec Ideal S1x512 .f32} (hg : Ex2 v66 g) : Ex2 (k0_pay15 (F := Ideal) v16 v66) (fun r d => xn 512 (1 / 512) x r d * g 0 d) := by
  unfold k0_pay15
  dsimp only
  rw [shapeCast_self]
  exact ex_times (ex_pay14 h) (ex_spreadRow hg (by decide) _)
end

section
variable {v4 : FVec Ideal S512x1024 .bf16} (hD : Ex2 v4 D)
include hD

theorem ex_pay10 {v35 : Vec Ideal S256x1024 .bf16} (hw : Ex2 v35 w) : Ex2 (k0_pay10 (F := Ideal) v4 v35) (dn D w) := by
  unfold k0_pay10
  dsimp only
  exact ex_nt2 hD hw
theorem ex_pay22 {v35 : Vec Ideal S256x1024 .bf16} (hw : Ex2 v35 w) : Ex2 (k0_pay22 (F := Ideal) v4 v35) (dn D w) := ex_pay10 hD hw
theorem ex_pay16 {v73 : Vec Ideal S512x1024 .bf16} (hw : Ex2 v73 w) : Ex2 (k0_pay16 (F := Ideal) v4 v73) (dn D w) := by
  unfold k0_pay16
  dsimp only
  exact ex_nt2 hD hw

theorem ex_pay11 {v27 : FVec Ideal S512x256 .f32} {v35 : Vec Ideal S256x1024 .bf16} {v37 : Vec Ideal S1x256 .f32} (hn : Ex2 v27 x) (hw : Ex2 v35 w) (hz : Ex2 v37 z) :
    Ex2 (k0_pay11 (F := Ideal) v4 v27 v35 v37) (fun a d => z a d + ∑ r ∈ range 512, dn D w r d * x r d) := by
  unfold k0_pay11
  dsimp only
  rw [shapeCast_self]
  exact ex_add hz (ex_colSum (ex_times (ex_pay10 hD hw) hn) _ _ _ _)
theorem ex_pay17 {v65 : FVec Ideal S512x512 .f32} {v73 : Vec Ideal S512x1024 .bf16} {v75 : Vec Ideal S1x512 .f32} (hn : Ex2 v65 x) (hw : Ex2 v73 w) (hz : Ex2 v75 z) :
    Ex2 (k0_pay17 (F := Ideal) v4 v65 v73 v75) (fun a d => z a d + ∑ r ∈ range 512, dn D w r d * x r d) := by
  unfold k0_pay17
  dsimp only
  rw [shapeCast_self]
  exact ex_add hz (ex_colSum (ex_times (ex_pay16 hD hw) hn) _ _ _ _)

theorem ex_pay12 {v25 : FVec Ideal S512x1 .f32} {v27 : FVec Ideal S512x256 .f32} {v28 : Vec Ideal S1x256 .f32} {v35 : Vec Ideal S256x1024 .bf16}
    (hr : Ex2 v25 (fun r _ => rms 256 (1 / 256) x r)) (hn : Ex2 v27 (xn 256 (1 / 256) x)) (hg : Ex2 v28 g) (hw : Ex2 v35 w) :
    Ex2 (k0_pay12 (F := Ideal) v4 v25 v27 v28 v35) (bx 256 (1 / 256) x (up D w g)) := by
  unfold k0_pay12
  dsimp only
  have e := ex_times (ex_pay10 hD hw) (ex_spreadRow (n := 512) hg (by decide) broadcasts_S1x256_S512x256)
  exact ex_times (ex_spreadCol hr (by decide) _) (ex_sub e (ex_times hn (ex_spreadCol (ex_times (ex_rowSum (ex_times e hn) _ _ _ _) (ex_const _ _ bits_inv256)) (by decide) _)))
theorem ex_pay18 {v63 : FVec Ideal S512x1 .f32} {v65 : FVec Ideal S512x512 .f32} {v66 : Vec Ideal S1x512 .f32} {v73 : Vec Ideal S512x1024 .bf16}
    (hr : Ex2 v63 (fun r _ => rms 512 (1 / 512) x r)) (hn : Ex2 v65 (xn 512 (1 / 512) x)) (hg : Ex2 v66 g) (hw : Ex2 v73 w) :
    Ex2 (k0_pay18 (F := Ideal) v4 v63 v65 v66 v73) (bx 512 (1 / 512) x (up D w g)) := by
  unfold k0_pay18
  dsimp only
  have e := ex_times (ex_pay16 hD hw) (ex_spreadRow (n := 512) hg (by decide) broadcasts_S1x512_S512x512)
  exact ex_times (ex_spreadCol hr (by decide) _) (ex_sub e (ex_times hn (ex_spreadCol (ex_times (ex_rowSum (ex_times e hn) _ _ _ _) (ex_const _ _ bits_inv512)) (by decide) _)))
end

theorem ex_pay23 {v103 v112 : FVec Ideal S512x256 .f32} {v113 : Vec Ideal S1x256 .f32} (hn : Ex2 v103 x) (hd : Ex2 v112 (dn D w)) (hz : Ex2 v113 z) :
    Ex2 (k0_pay23 (F := Ideal) v103 v112 v113) (fun a d => z a d + ∑ r ∈ range 512, dn D w r d * x r d) := by
  unfold k0_pay23
  dsimp only
  rw [shapeCast_self]
  exact ex_add hz (ex_colSum (ex_times hd hn) _ _ _ _)
theorem ex_pay24 {v101 : FVec Ideal S512x1 .f32} {v103 v112 : FVec Ideal S512x256 .f32} {v104 : Vec Ideal S1x256 .f32}
    (hr : Ex2 v101 (fun r _ => rms 256 (1 / 256) x r)) (hn : Ex2 v103 (xn 256 (1 / 256) x)) (hg : Ex2 v104 g) (hd : Ex2 v112 (dn D w)) :
    Ex2 (k0_pay24 (F := Ideal) v101 v103 v104 v112) (bx 256 (1 / 256) x (up D w g)) := by
  unfold k0_pay24
  dsimp only
  have e := ex_times hd (ex_spreadRow (n := 512) hg (by decide) broadcasts_S1x256_S512x256)
  exact ex_times (ex_spreadCol hr (by decide) _) (ex_sub e (ex_times hn (ex_spreadCol (ex_times (ex_rowSum (ex_times e hn) _ _ _ _) (ex_const _ _ bits_inv256)) (by decide) _)))

theorem ex_pay25 {v4 : FVec Ideal S512x1024 .bf16} {v132 : Vec Ideal S1024x1024 .f32} {v134 : Vec Ideal S512x1024 .bf16} (hD : Ex2 v4 D) (hz : Ex2 v132 z) (hy : Ex2 v134 x) :
    Ex2 (k0_pay25 (F := Ideal) v4 v132 v134) (fun a b => z a b + ∑ l ∈ range 512, x l a * D l b) := by
  unfold k0_pay25
  dsimp only
  rw [shapeCast_self]
  exact ex_add hz (ex_tn hy hD)

section
variable {v5 v6 : Vec Ideal S512x512 .f32} (ho : Ex2 v5 o) (hz : Ex2 v6 z)
include hz

theorem ex_pay5 : Ex2 (k0_pay5 (F := Ideal) v6) (fun r d => z r d * sgm (z r d)) := by
  unfold k0_pay5
  dsimp only
  exact ex_times hz (ex_sgm hz)
include ho
theorem ex_pay6 : Ex2 (k0_pay6 (F := Ideal) v5 v6) (ym o z) := by
  unfold k0_pay6
  dsimp only
  exact ex_times ho (ex_pay5 hz)
theorem ex_pay30 {v93 : FVec Ideal S512x512 .f32} (hB : Ex2 v93 A) : Ex2 (k0_pay30 (F := Ideal) v6 (k0_pay28 (F := Ideal) v5 v93) (k0_pay29 (F := Ideal) v6) (Scalar.ofBits .f32 0x3F800000#32)) (gz o z A) := by
  unfold k0_pay30 k0_pay28 k0_pay29
  dsimp only
  exact ex_times (ex_times hB ho) (ex_times (ex_sgm hz) (ex_add (ex_const _ 1 bits_one) (ex_times hz (ex_sub (ex_const _ 1 bits_one) (ex_sgm hz)))))
end

theorem ex_pay27 {v14 v93 : FVec Ideal S512x512 .f32} (hs : Ex2 v14 x) (hB : Ex2 v93 A) : Ex2 (k0_pay27 (F := Ideal) v14 v93) (fun r d => A r d * x r d) := by
  unfold k0_pay27 k0_pay26
  exact ex_times hB hs
theorem ex_pay31 {v5 v14 v93 : FVec Ideal S512x512 .f32} (ho : Ex2 v5 o) (hs : Ex2 v14 x) (hB : Ex2 v93 A) : Ex2 (k0_pay31 (F := Ideal) v5 (k0_pay26 (F := Ideal) v14 v93)) (fun r d => A r d * x r d * o r d) := by
  unfold k0_pay31 k0_pay26
  exact ex_times (ex_times hB hs) ho

/-! ## The heads' sums -/

theorem heads : ∀ (n : Fin 8) (b : Fin 512), IntOp.cmpi .eq (k0_pay32 (ValueIdx.ix2 (0 : Fin 512) b)) (BitVec.ofNat 32 n.val) = 1#1 ↔ b.val / 64 = n.val := by
  decide +kernel

theorem mk_head (n : Fin 8) (v : BitVec 32) (hv : v = BitVec.ofNat 32 n.val) : Mk2 (cmpi .eq k0_pay32 (broadcast S512x512 v)) (fun _ l => l / 64 = n.val) := fun a b => by
  subst hv
  exact heads n b

/-- The mask of the lanes that keep their value. -/
def laneMask (v275 : IVec S512x512 32) (v277 : BitVec 32) : IVec S512x512 1 :=
  cmpi .slt (select (andi (xori (cmpi .slt (remsi v275 (broadcast S512x512 v277)) (broadcast S512x512 0#32))
      (broadcastTo S512x512 (broadcast S512x512 (Scalar.cmpi .slt v277 0#32)) broadcasts_S512x512_S512x512)) (cmpi .ne (remsi v275 (broadcast S512x512 v277)) (broadcast S512x512 0#32)))
    (addi (remsi v275 (broadcast S512x512 v277)) (broadcast S512x512 v277)) (remsi v275 (broadcast S512x512 v277))) (broadcast S512x512 32#32)

theorem lanes : ∀ b : Fin 512, laneMask (iota .tc S512x512 32 [1] iota_S512x512_d1_w32) (Scalar.select (Scalar.cmpi .eq 64#32 0#32) 1#32 64#32) (ValueIdx.ix2 (0 : Fin 512) b) = 1#1 ↔ b.val % 64 < 32 := by
  decide +kernel

theorem mk_lane : Mk2 (laneMask (iota .tc S512x512 32 [1] iota_S512x512_d1_w32) (Scalar.select (Scalar.cmpi .eq 64#32 0#32) 1#32 64#32)) (fun _ l => l % 64 < 32) := fun a b => lanes b

/-- One head's sum of columns, put in the head's lanes. -/
theorem ex_headStep {m1 m2 : IVec S512x512 1} {x prev : FVec Ideal S512x512 .f32} {n : ℕ} {f P : ℕ → ℕ → EReal} (h1 : Mk2 m1 (fun _ l => l / 64 = n)) (h2 : Mk2 m2 (fun _ l => l / 64 = n)) (hx : Ex2 x f) (hp : Ex2 prev P) :
    Ex2 (select m1 (broadcastTo S512x512 (shapeCast S512x1 (shapeCast S512x1 (multiReduction .add [1] S512 (select m2 x (broadcast S512x512 (Scalar.ofBits .f32 0x00000000#32 : Ideal .f32))) 0x00000000#32 reduces_S512x512_S512 (.inl rfl) rfl) shapeCasts_S512_S512x1) shapeCasts_S512x1_S512x1) broadcasts_S512x1_S512x512) prev)
      (fun r l => if l / 64 = n then ∑ k ∈ range 512, (if k / 64 = n then f r k else 0) else P r l) := by
  rw [shapeCast_self]
  exact ex_select h1 (ex_spreadCol (ex_rowSum (ex_select h2 hx (ex_const _ 0 Ideal.ofBits_zero_f32)) _ _ _ _) (by decide) _) hp

theorem ex_stats {v160 v294 : Vec Ideal S512x512 .f32} {p s : ℕ → ℕ → EReal} (hp : Ex2 v160 p) (hs : Ex2 v294 s) :
    Ex2 (k0_pay1 (F := Ideal) (k0_pay39 (F := Ideal) v160 k0_pay32 (k0_pay36 (F := Ideal) v160 k0_pay32 (k0_pay33 (F := Ideal)) k0_pay34 k0_pay35) (k0_pay37 k0_pay32) (k0_pay38 k0_pay32))
      (iota .tc S512x512 32 [1] iota_S512x512_d1_w32) (Scalar.select (Scalar.cmpi .eq 64#32 0#32) 1#32 64#32) v294) (half s p) := by
  unfold k0_pay1 k0_pay39 k0_pay36 k0_pay33 k0_pay34 k0_pay35 k0_pay37 k0_pay38
  dsimp only
  have e0 := ex_headStep (mk_head 0 _ rfl) (mk_head 0 _ rfl) hp (ex_const (n0 := 512) (n1 := 512) _ 0 Ideal.ofBits_zero_f32)
  have e1 := ex_headStep (mk_head 1 _ rfl) (mk_head 1 _ rfl) hp e0
  have e2 := ex_headStep (mk_head 2 _ rfl) (mk_head 2 _ rfl) hp e1
  have e3 := ex_headStep (mk_head 3 _ rfl) (mk_head 3 _ rfl) hp e2
  have e4 := ex_headStep (mk_head 4 _ rfl) (mk_head 4 _ rfl) hp e3
  have e5 := ex_headStep (mk_head 5 _ rfl) (mk_head 5 _ rfl) hp e4
  have e6 := ex_headStep (mk_head 6 _ rfl) (mk_head 6 _ rfl) hp e5
  have e7 := ex_headStep (mk_head 7 _ rfl) (mk_head 7 _ rfl) hp e6
  refine Ex2.congr (ex_select mk_lane hs e7) fun r _ l hl => ?_
  unfold half
  by_cases hc : l % 64 < 32
  · rw [if_pos hc, if_pos hc]
  · rw [if_neg hc, if_neg hc, ← head_sum _ (l / 64) (by omega)]
    have h8 : l / 64 < 8 := by omega
    generalize l / 64 = q at h8
    interval_cases q <;> simp

end Cert.Proof.Post
end
-- ==== Proof.Post.lean ====
module

public import proofs.«01_k».proof.Proof.PostPay

/-! The gradient through the joined branches: what a point of the grid leaves in the results' buffers. -/

@[expose] public section

set_option maxRecDepth 16384

noncomputable section

namespace Cert.Proof.Post

open Cert.Kernel4Ideal Cert.Kernel4Ideal.Gen Cert.Proof.Blocks Cert.Proof.Rows
open Idealize.ShloMosaic Idealize.ShloMosaic.TcCoe Idealize.SL.Sem
open Finset

/-- Some of the columns, from the `n`-th on. -/
def cs (n : ℕ) (g : ℕ → ℕ → EReal) (a b : ℕ) : EReal := g a (n + b)
/-- Some of the rows, from the `n`-th on. -/
def rs (n : ℕ) (w : ℕ → ℕ → EReal) (a b : ℕ) : EReal := w (n + a) b
/-- The gated gate. -/
def silu (z : ℕ → ℕ → EReal) (r d : ℕ) : EReal := z r d * sgm (z r d)
/-- The gradient of the first branch. -/
def gyc (D yc g w : ℕ → ℕ → EReal) : ℕ → ℕ → EReal := bx 256 (1 / 256) yc (up D (rs 0 w) (cs 0 g))
/-- The gradient of the gated middle branch. -/
def gym (D o z g w : ℕ → ℕ → EReal) : ℕ → ℕ → EReal := bx 512 (1 / 512) (ym o z) (up D (rs 256 w) (cs 256 g))
/-- The gradient of the last branch. -/
def gys (D ys g w : ℕ → ℕ → EReal) : ℕ → ℕ → EReal := bx 256 (1 / 256) ys (up D (rs 768 w) (cs 768 g))
/-- The gradient of the middle branch before its gate. -/
def go (D o z g w : ℕ → ℕ → EReal) (r d : ℕ) : EReal := gym D o z g w r d * silu z r d
/-- The joined branches' normed rows. -/
def xa (yc o z ys : ℕ → ℕ → EReal) (r c : ℕ) : EReal :=
  if c < 256 then xn 256 (1 / 256) yc r c else if c < 768 then xn 512 (1 / 512) (ym o z) r (c - 256) else xn 256 (1 / 256) ys r (c - 768)

section
variable (yc o z ys g : ℕ → ℕ → EReal) (r : ℕ) {d : ℕ}
theorem xa_1 (h : d < 256) : xa yc o z ys r (0 + d) = xn 256 (1 / 256) yc r d := by
  unfold xa
  rw [if_pos (by omega), Nat.zero_add]
theorem xa_2 (h : d < 512) : xa yc o z ys r (256 + d) = xn 512 (1 / 512) (ym o z) r d := by
  unfold xa
  rw [if_neg (by omega), if_pos (by omega), show 256 + d - 256 = d by omega]
theorem xa_3 (h : d < 256) : xa yc o z ys r (768 + d) = xn 256 (1 / 256) ys r d := by
  unfold xa
  rw [if_neg (by omega), if_neg (by omega), show 768 + d - 768 = d by omega]
end

/-! ## Loads -/

theorem ex_whole {n0 n1 : ℕ} (m : Memref sig .tc .vmem ⟨2, ![n0, n1]⟩ .f32) (h : m.IsWhole) {x : Vec Ideal ⟨2, ![n0, n1]⟩ .f32} {f : ℕ → ℕ → EReal} (hx : Ex2 x f)
    (inb : ∀ d, (![0, 0] : Fin 2 → ℕ) d + (![n0, n1] : Fin 2 → ℕ) d ≤ (⟨2, ![n0, n1]⟩ : Shape).size d) :
    Ex2 (n0 := n0) (n1 := n1) (View.readAt (Elt Ideal) m.view (Rect.unit (s := ⟨2, ![n0, n1]⟩) ![0, 0] ![n0, n1] inb).toLoadRect (h.unread x)) f := by
  have e := View.readAt_full (Val := Elt Ideal) m.view (h.unread x) inb
  rw [e, h.read_unread]
  exact hx

/-- A load of some of a buffer's columns. -/
theorem ex_cs {M N n k : ℕ} (m : Memref sig .tc .vmem ⟨2, ![M, N]⟩ .f32) (h : m.IsWhole) {x : Vec Ideal ⟨2, ![M, N]⟩ .f32} {f : ℕ → ℕ → EReal} (hx : Ex2 x f)
    (inb : ∀ d, (![0, n] : Fin 2 → ℕ) d + (![M, k] : Fin 2 → ℕ) d ≤ (⟨2, ![M, N]⟩ : Shape).size d) :
    Ex2 (n0 := M) (n1 := k) (View.readAt (Elt Ideal) m.view (Rect.unit (s := ⟨2, ![M, N]⟩) ![0, n] ![M, k] inb).toLoadRect (h.unread x)) (cs n f) := by
  have e := View.readAt_unit (Val := Elt Ideal) m.view (h.unread x) inb rfl inb
  rw [e, h.read_unread]
  intro a b
  refine (ex_window hx 0 n inb a b).trans ?_
  dsimp only
  rw [Nat.zero_add]
  rfl

/-- A load of some of a buffer's rows. -/
theorem ex_rs {M N n k : ℕ} (m : Memref sig .tc .vmem ⟨2, ![M, N]⟩ .bf16) (h : m.IsWhole) {x : Vec Ideal ⟨2, ![M, N]⟩ .bf16} {f : ℕ → ℕ → EReal} (hx : Ex2 x f)
    (inb : ∀ d, (![n, 0] : Fin 2 → ℕ) d + (![k, N] : Fin 2 → ℕ) d ≤ (⟨2, ![M, N]⟩ : Shape).size d) :
    Ex2 (n0 := k) (n1 := N) (View.readAt (Elt Ideal) m.view (Rect.unit (s := ⟨2, ![M, N]⟩) ![n, 0] ![k, N] inb).toLoadRect (h.unread x)) (rs n f) := by
  have e := View.readAt_unit (Val := Elt Ideal) m.view (h.unread x) inb rfl inb
  rw [e, h.read_unread]
  intro a b
  refine (ex_window hx n 0 inb a b).trans ?_
  dsimp only
  rw [Nat.zero_add]
  rfl

section
variable {M N n w : ℕ} (v : View sig .tc .vmem ⟨2, ![M, N]⟩ .bf16) (f0 : v.ty.Contents (Elt Ideal)) (L : List (View.Piece (Elt Ideal) ⟨2, ![M, N]⟩ .bf16)) {P z : ℕ → ℕ → EReal}
/-- The next columns stored after the first `n`. -/
theorem ex_step16 (hL : Ex2 (v.read (Elt Ideal) (v.writes (Elt Ideal) f0 L)) (fun r c => if c < n then P r c else z r c))
    (inb : ∀ d, (![0, n] : Fin 2 → ℕ) d + (![M, w] : Fin 2 → ℕ) d ≤ (⟨2, ![M, N]⟩ : Shape).size d)
    (p : (⟨2, ![M, w]⟩ : Shape).Idx → EReal) (hp : Ex2 p (fun r c => P r (n + c))) :
    Ex2 (v.read (Elt Ideal) (v.writes (Elt Ideal) f0 (⟨Rect.unit ![0, n] ![M, w] inb, p⟩ :: L))) (fun r c => if c < n + w then P r c else z r c) := by
  have e := View.read_writes_cons_put (Val := Elt Ideal) v f0 inb p L rfl
  rw [e]
  refine (ex_put hL hp 0 n).congr fun a ha b hb => ?_
  by_cases h1 : b < n
  · rw [if_neg (by omega), if_pos h1, if_pos (by omega)]
  · by_cases h2 : b < n + w
    · rw [if_pos (by omega), if_pos h2, show n + (b - n) = b by omega, Nat.sub_zero]
    · rw [if_neg (by omega), if_neg h1, if_neg h2]
end

/-- The joined branches' normed and scaled rows, stored piece by piece and loaded whole. -/
theorem ex_yn (v : View sig .tc .vmem S512x1024 .bf16) {P : ℕ → ℕ → EReal} {p1 : Vec Ideal S512x256 .bf16} {p2 : Vec Ideal S512x512 .bf16} {p3 : Vec Ideal S512x256 .bf16}
    (h1 : Ex2 p1 (fun r c => P r (0 + c))) (h2 : Ex2 p2 (fun r c => P r (256 + c))) (h3 : Ex2 p3 (fun r c => P r (768 + c))) :
    Ex2 (n0 := 512) (n1 := 1024) (View.readCov (Val := Elt Ideal) v [⟨Rect.unit (s := S512x1024) ![0, 768] S512x256.size inb_S512x1024_S512x256_0_768, p3⟩, ⟨Rect.unit (s := S512x1024) ![0, 256] S512x512.size inb_S512x1024_S512x512_0_256, p2⟩,
      ⟨Rect.unit (s := S512x1024) ![0, 0] S512x256.size inb_S512x1024_S512x256_0_0, p1⟩] (Rect.unit (s := S512x1024) ![0, 0] S512x1024.size inb_S512x1024_S512x1024_0_0).toLoadRect) P := by
  have e := View.readAt_full (Val := Elt Ideal) v (v.writes (Elt Ideal) v.junk [⟨Rect.unit (s := S512x1024) ![0, 768] S512x256.size inb_S512x1024_S512x256_0_768, p3⟩, ⟨Rect.unit (s := S512x1024) ![0, 256] S512x512.size inb_S512x1024_S512x512_0_256, p2⟩,
      ⟨Rect.unit (s := S512x1024) ![0, 0] S512x256.size inb_S512x1024_S512x256_0_0, p1⟩]) inb_S512x1024_S512x1024_0_0
  refine Eq.mp (congrArg (fun y => Ex2 y P) e.symm) ?_
  refine Ex2.congr (ex_step16 (n := 768) v _ _ (ex_step16 (n := 256) v _ _ (ex_step16 (n := 0) (z := natF (View.read (Elt Ideal) v v.junk)) v _ [] ?_ _ _ h1) _ _ h2) _ _ h3) ?_
  · rw [View.writes_nil]
    exact (ex_natF _).congr fun a _ b _ => by rw [if_neg (Nat.not_lt_zero _)]
  · intro a _ b hb
    rw [if_pos (by omega)]

section
variable {D yc o z ys g w s : ℕ → ℕ → EReal}

theorem gg_1 {p : FVec Ideal S1x256 .f32} (h : Ex2 p (fun a d => cs 0 s a d + ∑ r ∈ range 512, dn D (rs 0 w) r d * xn 256 (1 / 256) yc r d)) :
    Ex2 p (fun a d => s a (0 + d) + ∑ r ∈ range 512, dn D w r (0 + d) * xa yc o z ys r (0 + d)) := h.congr fun a _ d hd => by
  refine congrArg (_ + ·) (Finset.sum_congr rfl fun r _ => ?_)
  rw [xa_1 _ _ _ _ _ hd]
  rfl
theorem gg_2 {p : FVec Ideal S1x512 .f32} (h : Ex2 p (fun a d => cs 256 s a d + ∑ r ∈ range 512, dn D (rs 256 w) r d * xn 512 (1 / 512) (ym o z) r d)) :
    Ex2 p (fun a d => s a (256 + d) + ∑ r ∈ range 512, dn D w r (256 + d) * xa yc o z ys r (256 + d)) := h.congr fun a _ d hd => by
  refine congrArg (_ + ·) (Finset.sum_congr rfl fun r _ => ?_)
  rw [xa_2 _ _ _ _ _ hd]
  rfl
theorem gg_3 {p : FVec Ideal S1x256 .f32} (h : Ex2 p (fun a d => cs 768 s a d + ∑ r ∈ range 512, dn D (rs 768 w) r d * xn 256 (1 / 256) ys r d)) :
    Ex2 p (fun a d => s a (768 + d) + ∑ r ∈ range 512, dn D w r (768 + d) * xa yc o z ys r (768 + d)) := h.congr fun a _ d hd => by
  refine congrArg (_ + ·) (Finset.sum_congr rfl fun r _ => ?_)
  rw [xa_3 _ _ _ _ _ hd]
  rfl
theorem yn_1 {p : FVec Ideal S512x256 .bf16} (h : Ex2 p (fun r d => xn 256 (1 / 256) yc r d * cs 0 g 0 d)) : Ex2 p (fun r d => xa yc o z ys r (0 + d) * g 0 (0 + d)) := h.congr fun a _ d hd => by
  rw [xa_1 _ _ _ _ _ hd]
  rfl
theorem yn_2 {p : FVec Ideal S512x512 .bf16} (h : Ex2 p (fun r d => xn 512 (1 / 512) (ym o z) r d * cs 256 g 0 d)) : Ex2 p (fun r d => xa yc o z ys r (256 + d) * g 0 (256 + d)) := h.congr fun a _ d hd => by
  rw [xa_2 _ _ _ _ _ hd]
  rfl
theorem yn_3 {p : FVec Ideal S512x256 .bf16} (h : Ex2 p (fun r d => xn 256 (1 / 256) ys r d * cs 768 g 0 d)) : Ex2 p (fun r d => xa yc o z ys r (768 + d) * g 0 (768 + d)) := h.congr fun a _ d hd => by
  rw [xa_3 _ _ _ _ _ hd]
  rfl
end

section
variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S512x256 .f32) (harg9 : arg9.IsWhole) (arg10 : Memref sig .tc .vmem S512x256 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .f32) (harg13 : arg13.IsWhole) (arg14 : Memref sig .tc .vmem S1024x1024 .f32) (harg14 : arg14.IsWhole) (arg15 : Memref sig .tc .vmem S1x1024 .f32) (harg15 : arg15.IsWhole) (arg16 : Memref sig .tc .vmem S512x1024 .bf16) (harg16 : arg16.IsWhole)
    (x0 : Vec Ideal S512x1024 .f32) (x1 : Vec Ideal S512x256 .f32) (x2 : Vec Ideal S512x512 .f32) (x3 : Vec Ideal S512x512 .f32) (x4 : Vec Ideal S512x512 .f32) (x5 : Vec Ideal S512x256 .f32) (x6 : Vec Ideal S1x1024 .f32) (x7 : Vec Ideal S1024x1024 .bf16)
    {D yc o lse z ys g w s u : ℕ → ℕ → EReal} (h0 : Ex2 x0 D) (h1 : Ex2 x1 yc) (h2 : Ex2 x2 o) (h3 : Ex2 x3 lse) (h4 : Ex2 x4 z) (h5 : Ex2 x5 ys) (h6 : Ex2 x6 g) (h7 : Ex2 x7 w)
include h0 h1 h2 h3 h4 h5 h6 h7

theorem out_A_8 (hc0 : cond0_0 i) :
    Ex2 (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (gyc D yc g w) := by
  unfold out0_A_8 kernelRun0_A
  dsimp only
  sl_unfold_words
  have k := (ex_pay12 (ex_whole arg1 harg1 h0 inb_S512x1024_S512x1024_0_0) (ex_pay7 (ex_whole arg2 harg2 h1 inb_S512x256_S512x256_0_0)) (ex_pay8 (ex_whole arg2 harg2 h1 inb_S512x256_S512x256_0_0)) (ex_cs arg7 harg7 h6 inb_S1x1024_S1x256_0_0) (ex_rs arg8 harg8 h7 inb_S1024x1024_S256x1024_0_0))
  refine Eq.mp (congrArg (fun y => Ex2 y _) (View.read_writes_full (Val := Elt Ideal) VO0_8 VO0_8.junk _ _ _).symm) ?_
  exact k

theorem out_A_9 (hc0 : cond0_0 i) :
    Ex2 (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (gys D ys g w) := by
  unfold out0_A_9 kernelRun0_A
  dsimp only
  sl_unfold_words
  have k := (ex_pay24 (ex_pay19 (ex_whole arg6 harg6 h5 inb_S512x256_S512x256_0_0)) (ex_pay20 (ex_whole arg6 harg6 h5 inb_S512x256_S512x256_0_0)) (ex_cs arg7 harg7 h6 inb_S1x1024_S1x256_0_768) (ex_pay22 (ex_whole arg1 harg1 h0 inb_S512x1024_S512x1024_0_0) (ex_rs arg8 harg8 h7 inb_S1024x1024_S256x1024_768_0)))
  refine Eq.mp (congrArg (fun y => Ex2 y _) (View.read_writes_full (Val := Elt Ideal) VO0_9 VO0_9.junk _ _ _).symm) ?_
  exact k

theorem out_A_10 (hc0 : cond0_0 i) :
    Ex2 (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (go D o z g w) := by
  unfold out0_A_10 kernelRun0_A
  dsimp only
  sl_unfold_words
  have k := (ex_pay27 (ex_pay5 (ex_whole arg5 harg5 h4 inb_S512x512_S512x512_0_0)) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0)))
  refine Eq.mp (congrArg (fun y => Ex2 y _) (View.read_writes_full (Val := Elt Ideal) VO0_10 VO0_10.junk _ _ _).symm) ?_
  exact k

theorem out_A_11 (hc0 : cond0_0 i) :
    Ex2 (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (gz o z (gym D o z g w)) := by
  unfold out0_A_11 kernelRun0_A
  dsimp only
  sl_unfold_words
  have k := (ex_pay30 (ex_whole arg3 harg3 h2 inb_S512x512_S512x512_0_0) (ex_whole arg5 harg5 h4 inb_S512x512_S512x512_0_0) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0)))
  refine Eq.mp (congrArg (fun y => Ex2 y _) (View.read_writes_full (Val := Elt Ideal) VO0_11 VO0_11.junk _ _ _).symm) ?_
  exact k

theorem out_A_12 (hc0 : cond0_0 i) :
    Ex2 (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (half lse (fun r d => go D o z g w r d * o r d)) := by
  unfold out0_A_12 kernelRun0_A
  dsimp only
  sl_unfold_words
  have k := (ex_stats (ex_pay31 (ex_whole arg3 harg3 h2 inb_S512x512_S512x512_0_0) (ex_pay5 (ex_whole arg5 harg5 h4 inb_S512x512_S512x512_0_0)) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0))) (ex_whole arg4 harg4 h3 inb_S512x512_S512x512_0_0))
  refine Eq.mp (congrArg (fun y => Ex2 y _) (View.read_writes_full (Val := Elt Ideal) VO0_12 VO0_12.junk _ _ _).symm) ?_
  exact k

theorem out_A_13 (hc0 : cond0_0 i) :
    Ex2 (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (fun a b => 0 + ∑ l ∈ range 512, xa yc o z ys l a * g 0 a * D l b) := by
  unfold out0_A_13 kernelRun0_A
  dsimp only
  sl_unfold_words
  have hz0 : Ex2 (n0 := 1024) (n1 := 1024) (View.readCov (Val := Elt Ideal) arg14.view [⟨Rect.unit (s := S1024x1024) ![0, 0] S1024x1024.size inb_S1024x1024_S1024x1024_0_0, k0_pay2 (F := Ideal)⟩] (Rect.unit (s := S1024x1024) ![0, 0] S1024x1024.size inb_S1024x1024_S1024x1024_0_0).toLoadRect) (fun _ _ => 0) := by
    have e := View.readCov_full (Val := Elt Ideal) arg14.view inb_S1024x1024_S1024x1024_0_0 inb_S1024x1024_S1024x1024_0_0 (k0_pay2 (F := Ideal)) []
    rw [e]
    exact fun _ _ => Ideal.ofBits_zero_f32
  have k := ex_pay25 (ex_whole arg1 harg1 h0 inb_S512x1024_S512x1024_0_0) hz0 (ex_yn arg16.view (P := fun l a => xa yc o z ys l a * g 0 a) (yn_1 (ex_pay9 (ex_whole arg2 harg2 h1 inb_S512x256_S512x256_0_0) (ex_cs arg7 harg7 h6 inb_S1x1024_S1x256_0_0))) (yn_2 (ex_pay15 (ex_pay6 (ex_whole arg3 harg3 h2 inb_S512x512_S512x512_0_0) (ex_whole arg5 harg5 h4 inb_S512x512_S512x512_0_0)) (ex_cs arg7 harg7 h6 inb_S1x1024_S1x512_0_256))) (yn_3 (ex_pay21 (ex_whole arg6 harg6 h5 inb_S512x256_S512x256_0_0) (ex_cs arg7 harg7 h6 inb_S1x1024_S1x256_0_768))))
  refine Eq.mp (congrArg (fun y => Ex2 y _) (View.read_writes_full (Val := Elt Ideal) VO0_13 VO0_13.junk _ _ _).symm) ?_
  exact k

theorem out_A_14 (hc0 : cond0_0 i) :
    Ex2 (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (fun a d => 0 + ∑ r ∈ range 512, dn D w r d * xa yc o z ys r d) := by
  have s0 : St (fun a d => 0 + ∑ r ∈ range 512, dn D w r d * xa yc o z ys r d) (fun _ _ => 0) [⟨Rect.unit (s := S1x1024) ![0, 0] S1x1024.size inb_S1x1024_S1x1024_0_0, k0_pay3 (F := Ideal)⟩] 0 := by
    refine St.start ?_ [] _
    intro a b
    exact Ideal.ofBits_zero_f32
  have s1 := s0.step inb_S1x1024_S1x256_0_0 (gg_1 (s := fun _ _ => 0) (ex_pay11 (ex_whole arg1 harg1 h0 inb_S512x1024_S512x1024_0_0) (ex_pay8 (ex_whole arg2 harg2 h1 inb_S512x256_S512x256_0_0)) (ex_rs arg8 harg8 h7 inb_S1024x1024_S256x1024_0_0) (s0.load arg15.view inb_S1x1024_S1x256_0_0)))
  have s2 := s1.step inb_S1x1024_S1x512_0_256 (gg_2 (s := fun _ _ => 0) (ex_pay17 (ex_whole arg1 harg1 h0 inb_S512x1024_S512x1024_0_0) (ex_pay14 (ex_pay6 (ex_whole arg3 harg3 h2 inb_S512x512_S512x512_0_0) (ex_whole arg5 harg5 h4 inb_S512x512_S512x512_0_0))) (ex_rs arg8 harg8 h7 inb_S1024x1024_S512x1024_256_0) (s1.load arg15.view inb_S1x1024_S1x512_0_256)))
  have s3 := s2.step inb_S1x1024_S1x256_0_768 (gg_3 (s := fun _ _ => 0) (ex_pay23 (ex_pay20 (ex_whole arg6 harg6 h5 inb_S512x256_S512x256_0_0)) (ex_pay22 (ex_whole arg1 harg1 h0 inb_S512x1024_S512x1024_0_0) (ex_rs arg8 harg8 h7 inb_S1024x1024_S256x1024_768_0)) (s2.load arg15.view inb_S1x1024_S1x256_0_768)))
  unfold out0_A_14 kernelRun0_A
  dsimp only
  sl_unfold_words
  refine Ex2.congr (s3.out VO0_14 VO0_14.junk) ?_
  intro a _ b hb
  rw [if_pos (by omega)]

theorem out_B_8 (hc0 : ¬cond0_0 i) (xo13 : Vec Ideal S1024x1024 .f32) (hu : Ex2 xo13 u) (xo14 : Vec Ideal S1x1024 .f32) (hs : Ex2 xo14 s) :
    Ex2 (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (gyc D yc g w) := by
  unfold out0_B_8 kernelRun0_B
  dsimp only
  sl_unfold_words
  have k := (ex_pay12 (ex_whole arg1 harg1 h0 inb_S512x1024_S512x1024_0_0) (ex_pay7 (ex_whole arg2 harg2 h1 inb_S512x256_S512x256_0_0)) (ex_pay8 (ex_whole arg2 harg2 h1 inb_S512x256_S512x256_0_0)) (ex_cs arg7 harg7 h6 inb_S1x1024_S1x256_0_0) (ex_rs arg8 harg8 h7 inb_S1024x1024_S256x1024_0_0))
  refine Eq.mp (congrArg (fun y => Ex2 y _) (View.read_writes_full (Val := Elt Ideal) VO0_8 VO0_8.junk _ _ _).symm) ?_
  exact k

theorem out_B_9 (hc0 : ¬cond0_0 i) (xo13 : Vec Ideal S1024x1024 .f32) (hu : Ex2 xo13 u) (xo14 : Vec Ideal S1x1024 .f32) (hs : Ex2 xo14 s) :
    Ex2 (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (gys D ys g w) := by
  unfold out0_B_9 kernelRun0_B
  dsimp only
  sl_unfold_words
  have k := (ex_pay24 (ex_pay19 (ex_whole arg6 harg6 h5 inb_S512x256_S512x256_0_0)) (ex_pay20 (ex_whole arg6 harg6 h5 inb_S512x256_S512x256_0_0)) (ex_cs arg7 harg7 h6 inb_S1x1024_S1x256_0_768) (ex_pay22 (ex_whole arg1 harg1 h0 inb_S512x1024_S512x1024_0_0) (ex_rs arg8 harg8 h7 inb_S1024x1024_S256x1024_768_0)))
  refine Eq.mp (congrArg (fun y => Ex2 y _) (View.read_writes_full (Val := Elt Ideal) VO0_9 VO0_9.junk _ _ _).symm) ?_
  exact k

theorem out_B_10 (hc0 : ¬cond0_0 i) (xo13 : Vec Ideal S1024x1024 .f32) (hu : Ex2 xo13 u) (xo14 : Vec Ideal S1x1024 .f32) (hs : Ex2 xo14 s) :
    Ex2 (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (go D o z g w) := by
  unfold out0_B_10 kernelRun0_B
  dsimp only
  sl_unfold_words
  have k := (ex_pay27 (ex_pay5 (ex_whole arg5 harg5 h4 inb_S512x512_S512x512_0_0)) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0)))
  refine Eq.mp (congrArg (fun y => Ex2 y _) (View.read_writes_full (Val := Elt Ideal) VO0_10 VO0_10.junk _ _ _).symm) ?_
  exact k

theorem out_B_11 (hc0 : ¬cond0_0 i) (xo13 : Vec Ideal S1024x1024 .f32) (hu : Ex2 xo13 u) (xo14 : Vec Ideal S1x1024 .f32) (hs : Ex2 xo14 s) :
    Ex2 (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (gz o z (gym D o z g w)) := by
  unfold out0_B_11 kernelRun0_B
  dsimp only
  sl_unfold_words
  have k := (ex_pay30 (ex_whole arg3 harg3 h2 inb_S512x512_S512x512_0_0) (ex_whole arg5 harg5 h4 inb_S512x512_S512x512_0_0) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0)))
  refine Eq.mp (congrArg (fun y => Ex2 y _) (View.read_writes_full (Val := Elt Ideal) VO0_11 VO0_11.junk _ _ _).symm) ?_
  exact k

theorem out_B_12 (hc0 : ¬cond0_0 i) (xo13 : Vec Ideal S1024x1024 .f32) (hu : Ex2 xo13 u) (xo14 : Vec Ideal S1x1024 .f32) (hs : Ex2 xo14 s) :
    Ex2 (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (half lse (fun r d => go D o z g w r d * o r d)) := by
  unfold out0_B_12 kernelRun0_B
  dsimp only
  sl_unfold_words
  have k := (ex_stats (ex_pay31 (ex_whole arg3 harg3 h2 inb_S512x512_S512x512_0_0) (ex_pay5 (ex_whole arg5 harg5 h4 inb_S512x512_S512x512_0_0)) (ex_pay18 (ex_whole arg1 harg1 h0 inb_S512x1024_S512x1024_0_0) (ex_pay13 (ex_pay6 (ex_whole arg3 harg3 h2 inb_S512x512_S512x512_0_0) (ex_whole arg5 harg5 h4 inb_S512x512_S512x512_0_0))) (ex_pay14 (ex_pay6 (ex_whole arg3 harg3 h2 inb_S512x512_S512x512_0_0) (ex_whole arg5 harg5 h4 inb_S512x512_S512x512_0_0))) (ex_cs arg7 harg7 h6 inb_S1x1024_S1x512_0_256) (ex_rs arg8 harg8 h7 inb_S1024x1024_S512x1024_256_0))) (ex_whole arg4 harg4 h3 inb_S512x512_S512x512_0_0))
  refine Eq.mp (congrArg (fun y => Ex2 y _) (View.read_writes_full (Val := Elt Ideal) VO0_12 VO0_12.junk _ _ _).symm) ?_
  exact k

theorem out_B_13 (hc0 : ¬cond0_0 i) (xo13 : Vec Ideal S1024x1024 .f32) (hu : Ex2 xo13 u) (xo14 : Vec Ideal S1x1024 .f32) (hs : Ex2 xo14 s) :
    Ex2 (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (fun a b => u a b + ∑ l ∈ range 512, xa yc o z ys l a * g 0 a * D l b) := by
  unfold out0_B_13 kernelRun0_B
  dsimp only
  sl_unfold_words
  have k := ex_pay25 (ex_whole arg1 harg1 h0 inb_S512x1024_S512x1024_0_0) (ex_whole arg14 harg14 hu inb_S1024x1024_S1024x1024_0_0) (ex_yn arg16.view (P := fun l a => xa yc o z ys l a * g 0 a) (yn_1 (ex_pay9 (ex_whole arg2 harg2 h1 inb_S512x256_S512x256_0_0) (ex_cs arg7 harg7 h6 inb_S1x1024_S1x256_0_0))) (yn_2 (ex_pay15 (ex_pay6 (ex_whole arg3 harg3 h2 inb_S512x512_S512x512_0_0) (ex_whole arg5 harg5 h4 inb_S512x512_S512x512_0_0)) (ex_cs arg7 harg7 h6 inb_S1x1024_S1x512_0_256))) (yn_3 (ex_pay21 (ex_whole arg6 harg6 h5 inb_S512x256_S512x256_0_0) (ex_cs arg7 harg7 h6 inb_S1x1024_S1x256_0_768))))
  refine Eq.mp (congrArg (fun y => Ex2 y _) (View.read_writes_full (Val := Elt Ideal) VO0_13 VO0_13.junk _ _ _).symm) ?_
  exact k

theorem out_B_14 (hc0 : ¬cond0_0 i) (xo13 : Vec Ideal S1024x1024 .f32) (hu : Ex2 xo13 u) (xo14 : Vec Ideal S1x1024 .f32) (hs : Ex2 xo14 s) :
    Ex2 (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo13 xo14) (fun a d => s a d + ∑ r ∈ range 512, dn D w r d * xa yc o z ys r d) := by
  unfold out0_B_14 kernelRun0_B
  dsimp only
  sl_unfold_words
  refine Ex2.congr (ex_step (n := 768) _ _ _ (ex_step (n := 256) _ _ _ (ex_step (n := 0)
    (P := fun a d => s a d + ∑ r ∈ range 512, dn D w r d * xa yc o z ys r d) (z := natF (View.read (Elt Ideal) VO0_14 VO0_14.junk)) _ _ [] ?_ _ _ ?_) _ _ ?_) _ _ ?_) ?_
  · rw [View.writes_nil]
    exact (ex_natF _).congr fun a _ b _ => by rw [if_neg (Nat.not_lt_zero _)]
  · exact gg_1 (ex_pay11 (ex_whole arg1 harg1 h0 inb_S512x1024_S512x1024_0_0) (ex_pay8 (ex_whole arg2 harg2 h1 inb_S512x256_S512x256_0_0)) (ex_rs arg8 harg8 h7 inb_S1024x1024_S256x1024_0_0) (ex_cs arg15 harg15 hs inb_S1x1024_S1x256_0_0))
  · exact gg_2 (ex_pay17 (ex_whole arg1 harg1 h0 inb_S512x1024_S512x1024_0_0) (ex_pay14 (ex_pay6 (ex_whole arg3 harg3 h2 inb_S512x512_S512x512_0_0) (ex_whole arg5 harg5 h4 inb_S512x512_S512x512_0_0))) (ex_rs arg8 harg8 h7 inb_S1024x1024_S512x1024_256_0) (ex_cs arg15 harg15 hs inb_S1x1024_S1x512_0_256))
  · exact gg_3 (ex_pay23 (ex_pay20 (ex_whole arg6 harg6 h5 inb_S512x256_S512x256_0_0)) (ex_pay22 (ex_whole arg1 harg1 h0 inb_S512x1024_S512x1024_0_0) (ex_rs arg8 harg8 h7 inb_S1024x1024_S256x1024_768_0)) (ex_cs arg15 harg15 hs inb_S1x1024_S1x256_0_768))
  · intro a _ b hb
    rw [if_pos (by omega)]

end
end Cert.Proof.Post
end
-- ==== Proof.PostValue.lean ====
module

public import proofs.«01_k».proof.Defs
public import proofs.«01_k».proof.Proof.Post
public import Idealize.ShloMosaic.Lib.Pipeline.ValueKit.Geometry

/-! The gradient through the joined branches: the call's result arrays. -/

@[expose] public section

set_option maxRecDepth 16384

noncomputable section

namespace Cert.Proof.Post

open Idealize.ShloMosaic Idealize.ShloMosaic.TcCoe Idealize.SL.Sem
open Cert.Proof.Blocks Cert.Proof.Rows
open Cert.Kernel4Ideal Cert.Kernel4Ideal.Gen
open Finset

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 3] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0] := (by decide +kernel : ∀ t : Fin grid0.N, _)

variable (m : (ℓ : Loc nD τ sig) → Buf (Elt Ideal) ℓ) (c : Dev nD) {D yc o lse z ys g w : ℕ → ℕ → EReal}

theorem blk_0 {P : ℕ → ℕ → EReal} (h : Ex2 (n0 := 8192) (n1 := 1024) (V m c main_arg0) P) (t : Fin cfg0.N) : Ex2 (iblk m c 0 t : Vec Ideal S512x1024 .f32) (fun r l => P (512 * t.val + r) l) := fun a b => by
  blk_simp [iblk]
  refine h.at _ _ _ ?_ ?_
  · blk_simp [ix_0]
    simp [Nat.mul_comm]
  · blk_simp [ix_0]

theorem blk_1 {P : ℕ → ℕ → EReal} (h : Ex2 (n0 := 8192) (n1 := 256) (V m c main_arg1) P) (t : Fin cfg0.N) : Ex2 (iblk m c 1 t : Vec Ideal S512x256 .f32) (fun r l => P (512 * t.val + r) l) := fun a b => by
  blk_simp [iblk]
  refine h.at _ _ _ ?_ ?_
  · blk_simp [ix_1]
    simp [Nat.mul_comm]
  · blk_simp [ix_1]

theorem blk_2 {P : ℕ → ℕ → EReal} (h : Ex2 (n0 := 8192) (n1 := 512) (V m c main_arg2) P) (t : Fin cfg0.N) : Ex2 (iblk m c 2 t : Vec Ideal S512x512 .f32) (fun r l => P (512 * t.val + r) l) := fun a b => by
  blk_simp [iblk]
  refine h.at _ _ _ ?_ ?_
  · blk_simp [ix_2]
    simp [Nat.mul_comm]
  · blk_simp [ix_2]

theorem blk_3 {P : ℕ → ℕ → EReal} (h : Ex2 (n0 := 8192) (n1 := 512) (V m c main_arg3) P) (t : Fin cfg0.N) : Ex2 (iblk m c 3 t : Vec Ideal S512x512 .f32) (fun r l => P (512 * t.val + r) l) := fun a b => by
  blk_simp [iblk]
  refine h.at _ _ _ ?_ ?_
  · blk_simp [ix_3]
    simp [Nat.mul_comm]
  · blk_simp [ix_3]

theorem blk_5 {P : ℕ → ℕ → EReal} (h : Ex2 (n0 := 8192) (n1 := 256) (V m c main_arg5) P) (t : Fin cfg0.N) : Ex2 (iblk m c 5 t : Vec Ideal S512x256 .f32) (fun r l => P (512 * t.val + r) l) := fun a b => by
  blk_simp [iblk]
  refine h.at _ _ _ ?_ ?_
  · blk_simp [ix_5]
    simp [Nat.mul_comm]
  · blk_simp [ix_5]

theorem blk_6 {P : ℕ → ℕ → EReal} (h : Ex2 (n0 := 1) (n1 := 1024) (V m c main_arg6) P) (t : Fin cfg0.N) : Ex2 (iblk m c 6 t : Vec Ideal S1x1024 .f32) P := fun a b => by
  blk_simp [iblk]
  refine h.at _ _ _ ?_ ?_
  · blk_simp [ix_6]
  · blk_simp [ix_6]

theorem blk_7 {P : ℕ → ℕ → EReal} (h : Ex2 (n0 := 1024) (n1 := 1024) (V m c main_arg7) P) (t : Fin cfg0.N) : Ex2 (iblk m c 7 t : Vec Ideal S1024x1024 .bf16) P := fun a b => by
  blk_simp [iblk]
  refine h.at _ _ _ ?_ ?_
  · blk_simp [ix_7]
  · blk_simp [ix_7]

/-- The gate's rows: columns of the saved projection from the 1536-th on. -/
theorem blk_4 {P : ℕ → ℕ → EReal} (h : Ex2 (n0 := 8192) (n1 := 3200) (V m c main_arg4) P) (t : Fin cfg0.N) : Ex2 (X0_4 m c t : Vec Ideal S512x512 .f32) (fun r l => P (512 * t.val + r) (1536 + l)) := fun a b => by
  unfold X0_4 Pipeline.Window.fill
  rw [dif_pos (moved0_4 t _)]
  blk_simp [iblk]
  refine h.at _ _ _ ?_ ?_
  · blk_simp [ix_4]
    simp [Nat.mul_comm]
  · blk_simp [ix_4]

section
variable (p0 : Ex2 (n0 := 8192) (n1 := 1024) (V m c main_arg0) D) (p1 : Ex2 (n0 := 8192) (n1 := 256) (V m c main_arg1) yc) (p2 : Ex2 (n0 := 8192) (n1 := 512) (V m c main_arg2) o) (p3 : Ex2 (n0 := 8192) (n1 := 512) (V m c main_arg3) lse)
  (p4 : Ex2 (n0 := 8192) (n1 := 3200) (V m c main_arg4) z) (p5 : Ex2 (n0 := 8192) (n1 := 256) (V m c main_arg5) ys) (p6 : Ex2 (n0 := 1) (n1 := 1024) (V m c main_arg6) g) (p7 : Ex2 (n0 := 1024) (n1 := 1024) (V m c main_arg7) w)
include p0 p1 p2 p3 p4 p5 p6 p7

/-- After point `n` the buffers of the weights' and the scale's gradients hold the sums over the first `512 (n + 1)` rows. -/
theorem outs_sum : ∀ (n : ℕ) (h : n < cfg0.N), Ex2 (n0 := 1024) (n1 := 1024) (outsAt0 m c n h).2.2.2.2.2.1 (fun a b => ∑ l ∈ range (512 * (n + 1)), xa yc o (fun r l => z r (1536 + l)) ys l a * g 0 a * D l b)
    ∧ Ex2 (n0 := 1) (n1 := 1024) (outsAt0 m c n h).2.2.2.2.2.2 (fun _ d => ∑ r ∈ range (512 * (n + 1)), dn D w r d * xa yc o (fun r l => z r (1536 + l)) ys r d)
  | 0, h => by
    rw [outsAt0_A m c ⟨0, h⟩ rfl]
    dsimp only
    constructor
    · refine Ex2.congr (out_A_13 _ _ _ _ _ _ _ _ _ _ _ _ _ _ _ _ _ _ _ _ _ _ _ _ _ _ _ _ _ _ _ _ _ _ _ _ _ _ _ _ _ _ (D := fun r l => D (512 * 0 + r) l) (yc := fun r l => yc (512 * 0 + r) l) (o := fun r l => o (512 * 0 + r) l) (lse := fun r l => lse (512 * 0 + r) l) (ys := fun r l => ys (512 * 0 + r) l) (z := fun r l => z (512 * 0 + r) (1536 + l)) (g := g) (w := w) (blk_0 m c p0 ⟨0, h⟩) (blk_1 m c p1 ⟨0, h⟩) (blk_2 m c p2 ⟨0, h⟩) (blk_3 m c p3 ⟨0, h⟩) (blk_4 m c p4 ⟨0, h⟩) (blk_5 m c p5 ⟨0, h⟩) (blk_6 m c p6 ⟨0, h⟩) (blk_7 m c p7 ⟨0, h⟩) _) fun a _ b _ => ?_
      simp only [Nat.mul_zero, Nat.zero_add, zero_add, Nat.mul_one]
    · refine Ex2.congr (out_A_14 _ _ _ _ _ _ _ _ _ _ _ _ _ _ _ _ _ _ _ _ _ _ _ _ _ _ _ _ _ _ _ _ _ _ _ _ _ _ _ _ _ _ (D := fun r l => D (512 * 0 + r) l) (yc := fun r l => yc (512 * 0 + r) l) (o := fun r l => o (512 * 0 + r) l) (lse := fun r l => lse (512 * 0 + r) l) (ys := fun r l => ys (512 * 0 + r) l) (z := fun r l => z (512 * 0 + r) (1536 + l)) (g := g) (w := w) (blk_0 m c p0 ⟨0, h⟩) (blk_1 m c p1 ⟨0, h⟩) (blk_2 m c p2 ⟨0, h⟩) (blk_3 m c p3 ⟨0, h⟩) (blk_4 m c p4 ⟨0, h⟩) (blk_5 m c p5 ⟨0, h⟩) (blk_6 m c p6 ⟨0, h⟩) (blk_7 m c p7 ⟨0, h⟩) _) fun a _ b _ => ?_
      simp only [Nat.mul_zero, Nat.zero_add, zero_add, Nat.mul_one]
  | n + 1, h => by
    have hN : cfg0.N = 16 := N_0
    have hB : ¬(⟨n + 1, h⟩ : Fin cfg0.N).val % 16 = 0 := by dsimp only; omega
    have hz := outs_sum n (Nat.lt_of_succ_lt h)
    rw [outsAt0_B m c ⟨n + 1, h⟩ hB]
    dsimp only
    constructor
    · refine Ex2.congr (out_B_13 _ _ _ _ _ _ _ _ _ _ _ _ _ _ _ _ _ _ _ _ _ _ _ _ _ _ _ _ _ _ _ _ _ _ _ _ _ _ _ _ _ _ (D := fun r l => D (512 * (n + 1) + r) l) (yc := fun r l => yc (512 * (n + 1) + r) l) (o := fun r l => o (512 * (n + 1) + r) l) (lse := fun r l => lse (512 * (n + 1) + r) l) (ys := fun r l => ys (512 * (n + 1) + r) l) (z := fun r l => z (512 * (n + 1) + r) (1536 + l)) (g := g) (w := w) (blk_0 m c p0 ⟨n + 1, h⟩) (blk_1 m c p1 ⟨n + 1, h⟩) (blk_2 m c p2 ⟨n + 1, h⟩) (blk_3 m c p3 ⟨n + 1, h⟩) (blk_4 m c p4 ⟨n + 1, h⟩) (blk_5 m c p5 ⟨n + 1, h⟩) (blk_6 m c p6 ⟨n + 1, h⟩) (blk_7 m c p7 ⟨n + 1, h⟩) _ _ hz.1 _ hz.2) fun a _ b _ => ?_
      rw [show 512 * (n + 1 + 1) = 512 * (n + 1) + 512 by omega, Finset.sum_range_add]
      rfl
    · refine Ex2.congr (out_B_14 _ _ _ _ _ _ _ _ _ _ _ _ _ _ _ _ _ _ _ _ _ _ _ _ _ _ _ _ _ _ _ _ _ _ _ _ _ _ _ _ _ _ (D := fun r l => D (512 * (n + 1) + r) l) (yc := fun r l => yc (512 * (n + 1) + r) l) (o := fun r l => o (512 * (n + 1) + r) l) (lse := fun r l => lse (512 * (n + 1) + r) l) (ys := fun r l => ys (512 * (n + 1) + r) l) (z := fun r l => z (512 * (n + 1) + r) (1536 + l)) (g := g) (w := w) (blk_0 m c p0 ⟨n + 1, h⟩) (blk_1 m c p1 ⟨n + 1, h⟩) (blk_2 m c p2 ⟨n + 1, h⟩) (blk_3 m c p3 ⟨n + 1, h⟩) (blk_4 m c p4 ⟨n + 1, h⟩) (blk_5 m c p5 ⟨n + 1, h⟩) (blk_6 m c p6 ⟨n + 1, h⟩) (blk_7 m c p7 ⟨n + 1, h⟩) _ _ hz.1 _ hz.2) fun a _ b _ => ?_
      rw [show 512 * (n + 1 + 1) = 512 * (n + 1) + 512 by omega, Finset.sum_range_add]
      rfl

theorem rows_8 (t : Fin cfg0.N) : Ex2 (n0 := 512) (n1 := 256) (outsAt0 m c t.val t.isLt).1 (fun r d => (gyc D yc g w) (512 * t.val + r) d) := by
  by_cases h0 : t.val % 16 = 0
  · rw [outsAt0_A m c t h0]
    dsimp only
    exact out_A_8 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _
  · rw [outsAt0_B m c t h0]
    dsimp only
    have hz := outs_sum m c p0 p1 p2 p3 p4 p5 p6 p7 (t.val - 1) (Nat.lt_of_le_of_lt (Nat.sub_le _ _) t.isLt)
    exact out_B_8 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ hz.1 _ hz.2

theorem final_8 : Ex2 (n0 := 8192) (n1 := 256) ((dats m 0 c).arrAt 8 cfg0.N) (gyc D yc g w) := by
  have e : (dats m 0 c).arrAt 8 cfg0.N = fun i : S8192x256.Idx => ((gyc D yc g w) : ℕ → ℕ → EReal) (i 0).val (i 1).val := by
    refine (dats m 0 c).arrAt_eq_of_covers 8 _ (by decide +kernel) fun t hf y => ?_
    blk_simp
    rw [after0_8]
    refine ((rows_8 m c p0 p1 p2 p3 p4 p5 p6 p7 t).at _ _ _ rfl rfl).trans ?_
    blk_simp [ix_8]
    simp [Nat.mul_comm]
  rw [e]
  exact fun a b => rfl

theorem rows_9 (t : Fin cfg0.N) : Ex2 (n0 := 512) (n1 := 256) (outsAt0 m c t.val t.isLt).2.1 (fun r d => (gys D ys g w) (512 * t.val + r) d) := by
  by_cases h0 : t.val % 16 = 0
  · rw [outsAt0_A m c t h0]
    dsimp only
    exact out_A_9 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _
  · rw [outsAt0_B m c t h0]
    dsimp only
    have hz := outs_sum m c p0 p1 p2 p3 p4 p5 p6 p7 (t.val - 1) (Nat.lt_of_le_of_lt (Nat.sub_le _ _) t.isLt)
    exact out_B_9 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ hz.1 _ hz.2

theorem final_9 : Ex2 (n0 := 8192) (n1 := 256) ((dats m 0 c).arrAt 9 cfg0.N) (gys D ys g w) := by
  have e : (dats m 0 c).arrAt 9 cfg0.N = fun i : S8192x256.Idx => ((gys D ys g w) : ℕ → ℕ → EReal) (i 0).val (i 1).val := by
    refine (dats m 0 c).arrAt_eq_of_covers 9 _ (by decide +kernel) fun t hf y => ?_
    blk_simp
    rw [after0_9]
    refine ((rows_9 m c p0 p1 p2 p3 p4 p5 p6 p7 t).at _ _ _ rfl rfl).trans ?_
    blk_simp [ix_9]
    simp [Nat.mul_comm]
  rw [e]
  exact fun a b => rfl

theorem rows_10 (t : Fin cfg0.N) : Ex2 (n0 := 512) (n1 := 512) (outsAt0 m c t.val t.isLt).2.2.1 (fun r d => (go D o (fun r l => z r (1536 + l)) g w) (512 * t.val + r) d) := by
  by_cases h0 : t.val % 16 = 0
  · rw [outsAt0_A m c t h0]
    dsimp only
    exact out_A_10 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _
  · rw [outsAt0_B m c t h0]
    dsimp only
    have hz := outs_sum m c p0 p1 p2 p3 p4 p5 p6 p7 (t.val - 1) (Nat.lt_of_le_of_lt (Nat.sub_le _ _) t.isLt)
    exact out_B_10 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ hz.1 _ hz.2

theorem final_10 : Ex2 (n0 := 8192) (n1 := 512) ((dats m 0 c).arrAt 10 cfg0.N) (go D o (fun r l => z r (1536 + l)) g w) := by
  have e : (dats m 0 c).arrAt 10 cfg0.N = fun i : S8192x512.Idx => ((go D o (fun r l => z r (1536 + l)) g w) : ℕ → ℕ → EReal) (i 0).val (i 1).val := by
    refine (dats m 0 c).arrAt_eq_of_covers 10 _ (by decide +kernel) fun t hf y => ?_
    blk_simp
    rw [after0_10]
    refine ((rows_10 m c p0 p1 p2 p3 p4 p5 p6 p7 t).at _ _ _ rfl rfl).trans ?_
    blk_simp [ix_10]
    simp [Nat.mul_comm]
  rw [e]
  exact fun a b => rfl

theorem rows_11 (t : Fin cfg0.N) : Ex2 (n0 := 512) (n1 := 512) (outsAt0 m c t.val t.isLt).2.2.2.1 (fun r d => (gz o (fun r l => z r (1536 + l)) (gym D o (fun r l => z r (1536 + l)) g w)) (512 * t.val + r) d) := by
  by_cases h0 : t.val % 16 = 0
  · rw [outsAt0_A m c t h0]
    dsimp only
    exact out_A_11 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _
  · rw [outsAt0_B m c t h0]
    dsimp only
    have hz := outs_sum m c p0 p1 p2 p3 p4 p5 p6 p7 (t.val - 1) (Nat.lt_of_le_of_lt (Nat.sub_le _ _) t.isLt)
    exact out_B_11 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ hz.1 _ hz.2

theorem final_11 : Ex2 (n0 := 8192) (n1 := 512) ((dats m 0 c).arrAt 11 cfg0.N) (gz o (fun r l => z r (1536 + l)) (gym D o (fun r l => z r (1536 + l)) g w)) := by
  have e : (dats m 0 c).arrAt 11 cfg0.N = fun i : S8192x512.Idx => ((gz o (fun r l => z r (1536 + l)) (gym D o (fun r l => z r (1536 + l)) g w)) : ℕ → ℕ → EReal) (i 0).val (i 1).val := by
    refine (dats m 0 c).arrAt_eq_of_covers 11 _ (by decide +kernel) fun t hf y => ?_
    blk_simp
    rw [after0_11]
    refine ((rows_11 m c p0 p1 p2 p3 p4 p5 p6 p7 t).at _ _ _ rfl rfl).trans ?_
    blk_simp [ix_11]
    simp [Nat.mul_comm]
  rw [e]
  exact fun a b => rfl

theorem rows_12 (t : Fin cfg0.N) : Ex2 (n0 := 512) (n1 := 512) (outsAt0 m c t.val t.isLt).2.2.2.2.1 (fun r d => (half lse (fun r d => go D o (fun r l => z r (1536 + l)) g w r d * o r d)) (512 * t.val + r) d) := by
  by_cases h0 : t.val % 16 = 0
  · rw [outsAt0_A m c t h0]
    dsimp only
    exact out_A_12 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _
  · rw [outsAt0_B m c t h0]
    dsimp only
    have hz := outs_sum m c p0 p1 p2 p3 p4 p5 p6 p7 (t.val - 1) (Nat.lt_of_le_of_lt (Nat.sub_le _ _) t.isLt)
    exact out_B_12 _ _ _ _ _ _ _ _ _ _ _ _ _ _ _ _ _ _ _ _ _ _ _ _ _ _ _ _ _ _ _ _ _ _ _ _ _ _ _ _ _ _ (D := fun r l => D (512 * t.val + r) l) (yc := fun r l => yc (512 * t.val + r) l) (o := fun r l => o (512 * t.val + r) l) (lse := fun r l => lse (512 * t.val + r) l) (ys := fun r l => ys (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ hz.1 _ hz.2

theorem final_12 : Ex2 (n0 := 8192) (n1 := 512) ((dats m 0 c).arrAt 12 cfg0.N) (half lse (fun r d => go D o (fun r l => z r (1536 + l)) g w r d * o r d)) := by
  have e : (dats m 0 c).arrAt 12 cfg0.N = fun i : S8192x512.Idx => ((half lse (fun r d => go D o (fun r l => z r (1536 + l)) g w r d * o r d)) : ℕ → ℕ → EReal) (i 0).val (i 1).val := by
    refine (dats m 0 c).arrAt_eq_of_covers 12 _ (by decide +kernel) fun t hf y => ?_
    blk_simp
    rw [after0_12]
    refine ((rows_12 m c p0 p1 p2 p3 p4 p5 p6 p7 t).at _ _ _ rfl rfl).trans ?_
    blk_simp [ix_12]
    simp [Nat.mul_comm]
  rw [e]
  exact fun a b => rfl

theorem final_13 : Ex2 (n0 := 1024) (n1 := 1024) ((dats m 0 c).arrAt 13 cfg0.N) (fun a b => ∑ l ∈ range 8192, xa yc o (fun r l => z r (1536 + l)) ys l a * g 0 a * D l b) := by
  have e : (dats m 0 c).arrAt 13 cfg0.N = fun i : S1024x1024.Idx => ((fun a b => ∑ l ∈ range 8192, xa yc o (fun r l => z r (1536 + l)) ys l a * g 0 a * D l b) : ℕ → ℕ → EReal) (i 0).val (i 1).val := by
    refine (dats m 0 c).arrAt_eq_of_covers 13 _ (by decide +kernel) fun t hf y => ?_
    blk_simp
    rw [after0_13]
    have ht : t.val = 15 := by have := (flush0_13 t).mp hf; have := t.isLt; have hN : cfg0.N = 16 := N_0; omega
    refine ((outs_sum m c p0 p1 p2 p3 p4 p5 p6 p7 t.val t.isLt).1.at _ _ _ rfl rfl).trans ?_
    blk_simp [ix_13]
    rw [ht]
  rw [e]
  exact fun a b => rfl

theorem final_14 : Ex2 (n0 := 1) (n1 := 1024) ((dats m 0 c).arrAt 14 cfg0.N) (fun _ d => ∑ r ∈ range 8192, dn D w r d * xa yc o (fun r l => z r (1536 + l)) ys r d) := by
  have e : (dats m 0 c).arrAt 14 cfg0.N = fun i : S1x1024.Idx => ((fun _ d => ∑ r ∈ range 8192, dn D w r d * xa yc o (fun r l => z r (1536 + l)) ys r d) : ℕ → ℕ → EReal) (i 0).val (i 1).val := by
    refine (dats m 0 c).arrAt_eq_of_covers 14 _ (by decide +kernel) fun t hf y => ?_
    blk_simp
    rw [after0_14]
    have ht : t.val = 15 := by have := (flush0_14 t).mp hf; have := t.isLt; have hN : cfg0.N = 16 := N_0; omega
    refine ((outs_sum m c p0 p1 p2 p3 p4 p5 p6 p7 t.val t.isLt).2.at _ _ _ rfl rfl).trans ?_
    blk_simp [ix_14]
    rw [ht]
  rw [e]
  exact fun a b => rfl

end
end Cert.Proof.Post
end
-- ==== Proof.PostRef.lean ====
module

public import proofs.«01_k».proof.Proof.PostValue
public import proofs.«01_k».proof.Proof.Gen.Reference4Ideal.Read
public import Idealize.ShloMosaic.Lib.KernelVsHost

/-! The gradient through the joined branches: the reference's results. -/

@[expose] public section

set_option maxRecDepth 16384

noncomputable section

namespace Cert.Proof.Post

open Idealize.ShloMosaic Idealize.ShloMosaic.TcCoe
open Cert.Proof.Blocks Cert.Proof.Rows
open Cert.Reference4Ideal Cert.Reference4Ideal.Gen Cert.Reference4Ideal.Read
open Finset

/-- The columns of the saved projection that gate the middle branch. -/
def zn (z : ℕ → ℕ → EReal) (r l : ℕ) : EReal := z r (1536 + l)

section
variable {D yc o lse z ys g w : ℕ → ℕ → EReal}
  (x0 : (⟨S8192x1024, .f32⟩ : BufTy).Contents (Elt Ideal)) (x1 : (⟨S8192x256, .f32⟩ : BufTy).Contents (Elt Ideal)) (x2 : (⟨S8192x512, .f32⟩ : BufTy).Contents (Elt Ideal)) (x3 : (⟨S8192x512, .f32⟩ : BufTy).Contents (Elt Ideal)) (x4 : (⟨S8192x3200, .f32⟩ : BufTy).Contents (Elt Ideal)) (x5 : (⟨S8192x256, .f32⟩ : BufTy).Contents (Elt Ideal)) (x6 : (⟨S1x1024, .f32⟩ : BufTy).Contents (Elt Ideal)) (x7 : (⟨S1024x1024, .bf16⟩ : BufTy).Contents (Elt Ideal))
  (p0 : Ex2 (n0 := 8192) (n1 := 1024) x0 D) (p1 : Ex2 (n0 := 8192) (n1 := 256) x1 yc) (p2 : Ex2 (n0 := 8192) (n1 := 512) x2 o) (p3 : Ex2 (n0 := 8192) (n1 := 512) x3 lse) (p4 : Ex2 (n0 := 8192) (n1 := 3200) x4 z) (p5 : Ex2 (n0 := 8192) (n1 := 256) x5 ys) (p6 : Ex2 (n0 := 1) (n1 := 1024) x6 g) (p7 : Ex2 (n0 := 1024) (n1 := 1024) x7 w)
include p0 p1 p2 p3 p4 p5 p6 p7

theorem r_z (i : S8192x512.Idx) : val_main_v0 (F := Ideal) x4 i = zn z (i 0).val (i 1).val := by
  rw [val_main_v0_apply]
  exact p4.at _ _ _ rfl rfl

theorem r_sgm (i : S8192x512.Idx) : val_main_v18_2 (F := Ideal) x4 i = sgm (zn z (i 0).val (i 1).val) := by
  have e := r_z x0 x1 x2 x3 x4 x5 x6 x7 p0 p1 p2 p3 p4 p5 p6 p7 i
  rw [val_main_v18_2_apply, val_main_call0_v3_apply, val_main_call0_v1_apply, val_main_call0_v0_apply, val_main_call0_v4_apply, val_main_call0_v2_apply, e]
  show Ideal.div (Ideal.ofBits .f32 0x3F800000#32) (Ideal.ofBits .f32 0x3F800000#32 + Ideal.exp (-(zn z (i 0).val (i 1).val))) = _
  rw [bits_one]
  rfl

theorem r_slope (i : S8192x512.Idx) : val_main_v18_1 (F := Ideal) x4 i = sgm (zn z (i 0).val (i 1).val) * (1 - sgm (zn z (i 0).val (i 1).val)) := by
  rw [val_main_v18_1_apply, val_main_call0_v7_apply, val_main_call0_v6_apply, r_sgm x0 x1 x2 x3 x4 x5 x6 x7 p0 p1 p2 p3 p4 p5 p6 p7]
  show _ * (Ideal.ofBits .f32 0x3F800000#32 - _) = _
  rw [bits_one]

theorem r_silu (i : S8192x512.Idx) : val_main_v18_0 (F := Ideal) x4 i = silu (zn z) (i 0).val (i 1).val := by
  rw [val_main_v18_0_apply, r_sgm x0 x1 x2 x3 x4 x5 x6 x7 p0 p1 p2 p3 p4 p5 p6 p7, r_z x0 x1 x2 x3 x4 x5 x6 x7 p0 p1 p2 p3 p4 p5 p6 p7]
  rfl

theorem r_ym : Ex2 (n0 := 8192) (n1 := 512) (val_main_v19 (F := Ideal) x2 x4) (ym o (zn z)) := fun a b => by
  rw [val_main_v19_apply, r_silu x0 x1 x2 x3 x4 x5 x6 x7 p0 p1 p2 p3 p4 p5 p6 p7, p2.at _ a.val b.val rfl rfl]
  rfl

theorem r_dn (i : S8192x1024.Idx) : val_main_v56 (F := Ideal) x0 x7 i = dn D w (i 0).val (i 1).val := by
  rw [val_main_v56_apply]
  refine Eq.trans ?_ (Finset.sum_range (n := 1024) fun k => D (i 0).val k * w (i 1).val k).symm
  refine Finset.sum_congr rfl fun k _ => ?_
  rw [p0.at (lidx_main_v56 i k) (i 0).val k.val rfl rfl, val_main_v1_apply]
  refine congrArg (_ * ·) ?_
  exact p7.at _ (i 1).val k.val rfl rfl

theorem ms_c (i : S8192x1.Idx) : val_main_v9 (F := Ideal) x1 i = ms 256 (1 / 256) yc (i 0).val := by
  rw [val_main_v9_apply, val_main_v7_apply, val_main_v5_apply, val_main_v4_apply, val_main_v6_apply, val_main_v8_apply]
  have e := sum_from_zero (n := 256) (fun k => yc (i 0).val k * yc (i 0).val k) (fun k => val_main_v3 (F := Ideal) x1 (idx_main_v4 (idx_main_v5 i) k)) _ Ideal.ofBits_zero_f32 fun k => by
    dsimp only
    rw [val_main_v3_apply, p1.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_c (i : S8192x1.Idx) : val_main_v10 (F := Ideal) x1 i = rms 256 (1 / 256) yc (i 0).val := by
  rw [val_main_v10_apply, ms_c x0 x1 x2 x3 x4 x5 x6 x7 p0 p1 p2 p3 p4 p5 p6 p7]
  rfl

theorem over_c (i : S8192x1.Idx) : val_main_v13 (F := Ideal) x1 i = ((-1 / 2 : ℝ) : EReal) * Ideal.div (rms 256 (1 / 256) yc (i 0).val) (ms 256 (1 / 256) yc (i 0).val) := by
  rw [val_main_v13_apply, val_main_v11_apply, val_main_v12_apply, rms_c x0 x1 x2 x3 x4 x5 x6 x7 p0 p1 p2 p3 p4 p5 p6 p7, ms_c x0 x1 x2 x3 x4 x5 x6 x7 p0 p1 p2 p3 p4 p5 p6 p7]
  show Ideal.ofBits .f32 0xBF000000#32 * Ideal.div _ _ = _
  rw [bits_half]

theorem xn_c (i : S8192x256.Idx) : val_main_v15 (F := Ideal) x1 i = xn 256 (1 / 256) yc (i 0).val (i 1).val := by
  rw [val_main_v15_apply, val_main_v14_apply, rms_c x0 x1 x2 x3 x4 x5 x6 x7 p0 p1 p2 p3 p4 p5 p6 p7, p1.at i _ _ rfl rfl]
  rfl

theorem gs_c (i : S1x256.Idx) : val_main_v2 (F := Ideal) x6 i = cs 0 g 0 (i 1).val := by
  have h : (i 0).val < 1 := (i 0).isLt
  rw [val_main_v2_apply]
  exact p6.at _ 0 (0 + (i 1).val) (by show (i 0).val = 0; omega) (Nat.zero_add _).symm

/-- The normed and scaled rows. -/
theorem yn_c : Ex2 (n0 := 8192) (n1 := 256) (val_main_v17 (F := Ideal) x1 x6) (fun r d => xa yc o (zn z) ys r (0 + d) * g 0 (0 + d)) := fun a b => by
  rw [val_main_v17_apply, val_main_v16_apply, xn_c x0 x1 x2 x3 x4 x5 x6 x7 p0 p1 p2 p3 p4 p5 p6 p7, gs_c x0 x1 x2 x3 x4 x5 x6 x7 p0 p1 p2 p3 p4 p5 p6 p7]
  show _ = xa yc o (zn z) ys a.val (0 + b.val) * g 0 (0 + b.val)
  rw [xa_1 _ _ _ _ _ b.isLt]
  rfl

theorem dn_c (i : S8192x256.Idx) : val_main_v57 (F := Ideal) x0 x7 i = dn D w (i 0).val (0 + (i 1).val) := by
  rw [val_main_v57_apply, r_dn x0 x1 x2 x3 x4 x5 x6 x7 p0 p1 p2 p3 p4 p5 p6 p7]
  rw [Nat.zero_add]

theorem A_c (i : S8192x256.Idx) : val_main_v108 (F := Ideal) x0 x6 x7 i = up D (rs 0 w) (cs 0 g) (i 0).val (i 1).val := by
  rw [val_main_v108_apply, val_main_v107_apply, dn_c x0 x1 x2 x3 x4 x5 x6 x7 p0 p1 p2 p3 p4 p5 p6 p7, gs_c x0 x1 x2 x3 x4 x5 x6 x7 p0 p1 p2 p3 p4 p5 p6 p7]
  rfl

theorem rowdot_c (i : S8192x1.Idx) : val_main_v111 (F := Ideal) x0 x1 x6 x7 i = ∑ k ∈ range 256, yc (i 0).val k * up D (rs 0 w) (cs 0 g) (i 0).val k := by
  rw [val_main_v111_apply, val_main_v110_apply]
  refine sum_from_zero (fun k => yc (i 0).val k * up D (rs 0 w) (cs 0 g) (i 0).val k) _ _ Ideal.ofBits_zero_f32 fun k => ?_
  have e : (idx_main_v110 (idx_main_v111 i) k 0).val = (i 0).val := by
    show (i 0).val * 1 + (i 1).val = (i 0).val
    have h : (i 1).val < 1 := (i 1).isLt
    omega
  rw [val_main_v109_apply, A_c x0 x1 x2 x3 x4 x5 x6 x7 p0 p1 p2 p3 p4 p5 p6 p7, p1.at _ (i 0).val k.val e rfl, e]
  rfl

theorem mean_c (i : S8192.Idx) : val_main_v117 (F := Ideal) x0 x1 x6 x7 i
    = (∑ k ∈ range 256, yc (i 0).val k * up D (rs 0 w) (cs 0 g) (i 0).val k) * (((-1 / 2 : ℝ) : EReal) * Ideal.div (rms 256 (1 / 256) yc (i 0).val) (ms 256 (1 / 256) yc (i 0).val)) * ((1 / 256 : ℝ) : EReal) := by
  rw [val_main_v117_apply, Fin.sum_univ_one, val_main_v116_apply, val_main_v115_apply, val_main_v114_apply, over_c x0 x1 x2 x3 x4 x5 x6 x7 p0 p1 p2 p3 p4 p5 p6 p7, rowdot_c x0 x1 x2 x3 x4 x5 x6 x7 p0 p1 p2 p3 p4 p5 p6 p7]
  show Ideal.ofBits .f32 0x00000000#32 + Ideal.div (_ * _) (Ideal.ofBits .f32 0x43800000#32) = _
  rw [Ideal.ofBits_zero_f32, zero_add, bits_256, Ideal.div_coe (by norm_num)]

/-- The gradient of a branch. -/
theorem grad_c : Ex2 (n0 := 8192) (n1 := 256) (val_main_v122 (F := Ideal) x0 x1 x6 x7) (bx 256 (1 / 256) yc (up D (rs 0 w) (cs 0 g))) := fun a b => by
  rw [val_main_v122_apply, val_main_v120_apply, val_main_v113_apply, val_main_v112_apply, val_main_v119_apply, val_main_v121_apply, val_main_v118_apply, mean_c x0 x1 x2 x3 x4 x5 x6 x7 p0 p1 p2 p3 p4 p5 p6 p7, A_c x0 x1 x2 x3 x4 x5 x6 x7 p0 p1 p2 p3 p4 p5 p6 p7, rms_c x0 x1 x2 x3 x4 x5 x6 x7 p0 p1 p2 p3 p4 p5 p6 p7, p1.at _ a.val b.val rfl rfl]
  exact parts 256 (c := 1 / 256) (by norm_num) yc (up D (rs 0 w) (cs 0 g)) a.val b.val b.isLt

/-- A branch's part of the gradient of the scale. -/
theorem gg_c (i : S1x256.Idx) : val_main_v106 (F := Ideal) x0 x1 x7 i = ∑ r ∈ range 8192, dn D w r (0 + (i 1).val) * xa yc o (zn z) ys r (0 + (i 1).val) := by
  have hi : (i 0).val < 1 := (i 0).isLt
  have hb : (i 1).val < 256 := (i 1).isLt
  rw [val_main_v106_apply, val_main_v105_apply]
  refine sum_from_zero (fun r => dn D w r (0 + (i 1).val) * xa yc o (zn z) ys r (0 + (i 1).val)) _ _ Ideal.ofBits_zero_f32 fun k => ?_
  have e : (idx_main_v105 (idx_main_v106 i) k 1).val = (i 1).val := by
    show (i 0).val * 256 + (i 1).val = (i 1).val
    omega
  rw [val_main_v104_apply, xn_c x0 x1 x2 x3 x4 x5 x6 x7 p0 p1 p2 p3 p4 p5 p6 p7, dn_c x0 x1 x2 x3 x4 x5 x6 x7 p0 p1 p2 p3 p4 p5 p6 p7, e, xa_1 _ _ _ _ _ hb]
  exact mul_comm _ _

theorem ms_s (i : S8192x1.Idx) : val_main_v43 (F := Ideal) x5 i = ms 256 (1 / 256) ys (i 0).val := by
  rw [val_main_v43_apply, val_main_v41_apply, val_main_v39_apply, val_main_v38_apply, val_main_v40_apply, val_main_v42_apply]
  have e := sum_from_zero (n := 256) (fun k => ys (i 0).val k * ys (i 0).val k) (fun k => val_main_v37 (F := Ideal) x5 (idx_main_v38 (idx_main_v39 i) k)) _ Ideal.ofBits_zero_f32 fun k => by
    dsimp only
    rw [val_main_v37_apply, p5.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_s (i : S8192x1.Idx) : val_main_v44 (F := Ideal) x5 i = rms 256 (1 / 256) ys (i 0).val := by
  rw [val_main_v44_apply, ms_s x0 x1 x2 x3 x4 x5 x6 x7 p0 p1 p2 p3 p4 p5 p6 p7]
  rfl

theorem over_s (i : S8192x1.Idx) : val_main_v47 (F := Ideal) x5 i = ((-1 / 2 : ℝ) : EReal) * Ideal.div (rms 256 (1 / 256) ys (i 0).val) (ms 256 (1 / 256) ys (i 0).val) := by
  rw [val_main_v47_apply, val_main_v45_apply, val_main_v46_apply, rms_s x0 x1 x2 x3 x4 x5 x6 x7 p0 p1 p2 p3 p4 p5 p6 p7, ms_s x0 x1 x2 x3 x4 x5 x6 x7 p0 p1 p2 p3 p4 p5 p6 p7]
  show Ideal.ofBits .f32 0xBF000000#32 * Ideal.div _ _ = _
  rw [bits_half]

theorem xn_s (i : S8192x256.Idx) : val_main_v49 (F := Ideal) x5 i = xn 256 (1 / 256) ys (i 0).val (i 1).val := by
  rw [val_main_v49_apply, val_main_v48_apply, rms_s x0 x1 x2 x3 x4 x5 x6 x7 p0 p1 p2 p3 p4 p5 p6 p7, p5.at i _ _ rfl rfl]
  rfl

theorem gs_s (i : S1x256.Idx) : val_main_v36 (F := Ideal) x6 i = cs 768 g 0 (i 1).val := by
  have h : (i 0).val < 1 := (i 0).isLt
  rw [val_main_v36_apply]
  exact p6.at _ 0 (768 + (i 1).val) (by show (i 0).val = 0; omega) rfl

/-- The normed and scaled rows. -/
theorem yn_s : Ex2 (n0 := 8192) (n1 := 256) (val_main_v51 (F := Ideal) x5 x6) (fun r d => xa yc o (zn z) ys r (768 + d) * g 0 (768 + d)) := fun a b => by
  rw [val_main_v51_apply, val_main_v50_apply, xn_s x0 x1 x2 x3 x4 x5 x6 x7 p0 p1 p2 p3 p4 p5 p6 p7, gs_s x0 x1 x2 x3 x4 x5 x6 x7 p0 p1 p2 p3 p4 p5 p6 p7]
  show _ = xa yc o (zn z) ys a.val (768 + b.val) * g 0 (768 + b.val)
  rw [xa_3 _ _ _ _ _ b.isLt]
  rfl

theorem dn_s (i : S8192x256.Idx) : val_main_v59 (F := Ideal) x0 x7 i = dn D w (i 0).val (768 + (i 1).val) := by
  rw [val_main_v59_apply, r_dn x0 x1 x2 x3 x4 x5 x6 x7 p0 p1 p2 p3 p4 p5 p6 p7]

theorem A_s (i : S8192x256.Idx) : val_main_v64 (F := Ideal) x0 x6 x7 i = up D (rs 768 w) (cs 768 g) (i 0).val (i 1).val := by
  rw [val_main_v64_apply, val_main_v63_apply, dn_s x0 x1 x2 x3 x4 x5 x6 x7 p0 p1 p2 p3 p4 p5 p6 p7, gs_s x0 x1 x2 x3 x4 x5 x6 x7 p0 p1 p2 p3 p4 p5 p6 p7]
  rfl

theorem rowdot_s (i : S8192x1.Idx) : val_main_v67 (F := Ideal) x0 x5 x6 x7 i = ∑ k ∈ range 256, ys (i 0).val k * up D (rs 768 w) (cs 768 g) (i 0).val k := by
  rw [val_main_v67_apply, val_main_v66_apply]
  refine sum_from_zero (fun k => ys (i 0).val k * up D (rs 768 w) (cs 768 g) (i 0).val k) _ _ Ideal.ofBits_zero_f32 fun k => ?_
  have e : (idx_main_v66 (idx_main_v67 i) k 0).val = (i 0).val := by
    show (i 0).val * 1 + (i 1).val = (i 0).val
    have h : (i 1).val < 1 := (i 1).isLt
    omega
  rw [val_main_v65_apply, A_s x0 x1 x2 x3 x4 x5 x6 x7 p0 p1 p2 p3 p4 p5 p6 p7, p5.at _ (i 0).val k.val e rfl, e]
  rfl

theorem mean_s (i : S8192.Idx) : val_main_v73 (F := Ideal) x0 x5 x6 x7 i
    = (∑ k ∈ range 256, ys (i 0).val k * up D (rs 768 w) (cs 768 g) (i 0).val k) * (((-1 / 2 : ℝ) : EReal) * Ideal.div (rms 256 (1 / 256) ys (i 0).val) (ms 256 (1 / 256) ys (i 0).val)) * ((1 / 256 : ℝ) : EReal) := by
  rw [val_main_v73_apply, Fin.sum_univ_one, val_main_v72_apply, val_main_v71_apply, val_main_v70_apply, over_s x0 x1 x2 x3 x4 x5 x6 x7 p0 p1 p2 p3 p4 p5 p6 p7, rowdot_s x0 x1 x2 x3 x4 x5 x6 x7 p0 p1 p2 p3 p4 p5 p6 p7]
  show Ideal.ofBits .f32 0x00000000#32 + Ideal.div (_ * _) (Ideal.ofBits .f32 0x43800000#32) = _
  rw [Ideal.ofBits_zero_f32, zero_add, bits_256, Ideal.div_coe (by norm_num)]

/-- The gradient of a branch. -/
theorem grad_s : Ex2 (n0 := 8192) (n1 := 256) (val_main_v78 (F := Ideal) x0 x5 x6 x7) (bx 256 (1 / 256) ys (up D (rs 768 w) (cs 768 g))) := fun a b => by
  rw [val_main_v78_apply, val_main_v76_apply, val_main_v69_apply, val_main_v68_apply, val_main_v75_apply, val_main_v77_apply, val_main_v74_apply, mean_s x0 x1 x2 x3 x4 x5 x6 x7 p0 p1 p2 p3 p4 p5 p6 p7, A_s x0 x1 x2 x3 x4 x5 x6 x7 p0 p1 p2 p3 p4 p5 p6 p7, rms_s x0 x1 x2 x3 x4 x5 x6 x7 p0 p1 p2 p3 p4 p5 p6 p7, p5.at _ a.val b.val rfl rfl]
  exact parts 256 (c := 1 / 256) (by norm_num) ys (up D (rs 768 w) (cs 768 g)) a.val b.val b.isLt

/-- A branch's part of the gradient of the scale. -/
theorem gg_s (i : S1x256.Idx) : val_main_v62 (F := Ideal) x0 x5 x7 i = ∑ r ∈ range 8192, dn D w r (768 + (i 1).val) * xa yc o (zn z) ys r (768 + (i 1).val) := by
  have hi : (i 0).val < 1 := (i 0).isLt
  have hb : (i 1).val < 256 := (i 1).isLt
  rw [val_main_v62_apply, val_main_v61_apply]
  refine sum_from_zero (fun r => dn D w r (768 + (i 1).val) * xa yc o (zn z) ys r (768 + (i 1).val)) _ _ Ideal.ofBits_zero_f32 fun k => ?_
  have e : (idx_main_v61 (idx_main_v62 i) k 1).val = (i 1).val := by
    show (i 0).val * 256 + (i 1).val = (i 1).val
    omega
  rw [val_main_v60_apply, xn_s x0 x1 x2 x3 x4 x5 x6 x7 p0 p1 p2 p3 p4 p5 p6 p7, dn_s x0 x1 x2 x3 x4 x5 x6 x7 p0 p1 p2 p3 p4 p5 p6 p7, e, xa_3 _ _ _ _ _ hb]
  exact mul_comm _ _

theorem ms_m (i : S8192x1.Idx) : val_main_v27 (F := Ideal) x2 x4 i = ms 512 (1 / 512) (ym o (zn z)) (i 0).val := by
  rw [val_main_v27_apply, val_main_v25_apply, val_main_v23_apply, val_main_v22_apply, val_main_v24_apply, val_main_v26_apply]
  have e := sum_from_zero (n := 512) (fun k => (ym o (zn z)) (i 0).val k * (ym o (zn z)) (i 0).val k) (fun k => val_main_v21 (F := Ideal) x2 x4 (idx_main_v22 (idx_main_v23 i) k)) _ Ideal.ofBits_zero_f32 fun k => by
    dsimp only
    rw [val_main_v21_apply, (r_ym x0 x1 x2 x3 x4 x5 x6 x7 p0 p1 p2 p3 p4 p5 p6 p7).at _ (i 0).val k.val rfl rfl]
    rfl
  refine (congrArg (fun y => Ideal.div y (Ideal.ofBits .f32 0x44000000#32) + Ideal.ofBits .f32 0x358637BD#32) e).trans ?_
  show Ideal.div _ (Ideal.ofBits .f32 0x44000000#32) + Ideal.ofBits .f32 0x358637BD#32 = _
  rw [bits_512, bits_eps, Ideal.div_coe (by norm_num)]
  rfl

theorem rms_m (i : S8192x1.Idx) : val_main_v28 (F := Ideal) x2 x4 i = rms 512 (1 / 512) (ym o (zn z)) (i 0).val := by
  rw [val_main_v28_apply, ms_m x0 x1 x2 x3 x4 x5 x6 x7 p0 p1 p2 p3 p4 p5 p6 p7]
  rfl

theorem over_m (i : S8192x1.Idx) : val_main_v31 (F := Ideal) x2 x4 i = ((-1 / 2 : ℝ) : EReal) * Ideal.div (rms 512 (1 / 512) (ym o (zn z)) (i 0).val) (ms 512 (1 / 512) (ym o (zn z)) (i 0).val) := by
  rw [val_main_v31_apply, val_main_v29_apply, val_main_v30_apply, rms_m x0 x1 x2 x3 x4 x5 x6 x7 p0 p1 p2 p3 p4 p5 p6 p7, ms_m x0 x1 x2 x3 x4 x5 x6 x7 p0 p1 p2 p3 p4 p5 p6 p7]
  show Ideal.ofBits .f32 0xBF000000#32 * Ideal.div _ _ = _
  rw [bits_half]

theorem xn_m (i : S8192x512.Idx) : val_main_v33 (F := Ideal) x2 x4 i = xn 512 (1 / 512) (ym o (zn z)) (i 0).val (i 1).val := by
  rw [val_main_v33_apply, val_main_v32_apply, rms_m x0 x1 x2 x3 x4 x5 x6 x7 p0 p1 p2 p3 p4 p5 p6 p7, (r_ym x0 x1 x2 x3 x4 x5 x6 x7 p0 p1 p2 p3 p4 p5 p6 p7).at i _ _ rfl rfl]
  rfl

theorem gs_m (i : S1x512.Idx) : val_main_v20 (F := Ideal) x6 i = cs 256 g 0 (i 1).val := by
  have h : (i 0).val < 1 := (i 0).isLt
  rw [val_main_v20_apply]
  exact p6.at _ 0 (256 + (i 1).val) (by show (i 0).val = 0; omega) rfl

/-- The normed and scaled rows. -/
theorem yn_m : Ex2 (n0 := 8192) (n1 := 512) (val_main_v35 (F := Ideal) x2 x4 x6) (fun r d => xa yc o (zn z) ys r (256 + d) * g 0 (256 + d)) := fun a b => by
  rw [val_main_v35_apply, val_main_v34_apply, xn_m x0 x1 x2 x3 x4 x5 x6 x7 p0 p1 p2 p3 p4 p5 p6 p7, gs_m x0 x1 x2 x3 x4 x5 x6 x7 p0 p1 p2 p3 p4 p5 p6 p7]
  show _ = xa yc o (zn z) ys a.val (256 + b.val) * g 0 (256 + b.val)
  rw [xa_2 _ _ _ _ _ b.isLt]
  rfl

theorem dn_m (i : S8192x512.Idx) : val_main_v58 (F := Ideal) x0 x7 i = dn D w (i 0).val (256 + (i 1).val) := by
  rw [val_main_v58_apply, r_dn x0 x1 x2 x3 x4 x5 x6 x7 p0 p1 p2 p3 p4 p5 p6 p7]

theorem A_m (i : S8192x512.Idx) : val_main_v84 (F := Ideal) x0 x6 x7 i = up D (rs 256 w) (cs 256 g) (i 0).val (i 1).val := by
  rw [val_main_v84_apply, val_main_v83_apply, dn_m x0 x1 x2 x3 x4 x5 x6 x7 p0 p1 p2 p3 p4 p5 p6 p7, gs_m x0 x1 x2 x3 x4 x5 x6 x7 p0 p1 p2 p3 p4 p5 p6 p7]
  rfl

theorem rowdot_m (i : S8192x1.Idx) : val_main_v87 (F := Ideal) x0 x2 x4 x6 x7 i = ∑ k ∈ range 512, (ym o (zn z)) (i 0).val k * up D (rs 256 w) (cs 256 g) (i 0).val k := by
  rw [val_main_v87_apply, val_main_v86_apply]
  refine sum_from_zero (fun k => (ym o (zn z)) (i 0).val k * up D (rs 256 w) (cs 256 g) (i 0).val k) _ _ Ideal.ofBits_zero_f32 fun k => ?_
  have e : (idx_main_v86 (idx_main_v87 i) k 0).val = (i 0).val := by
    show (i 0).val * 1 + (i 1).val = (i 0).val
    have h : (i 1).val < 1 := (i 1).isLt
    omega
  rw [val_main_v85_apply, A_m x0 x1 x2 x3 x4 x5 x6 x7 p0 p1 p2 p3 p4 p5 p6 p7, (r_ym x0 x1 x2 x3 x4 x5 x6 x7 p0 p1 p2 p3 p4 p5 p6 p7).at _ (i 0).val k.val e rfl, e]
  rfl

theorem mean_m (i : S8192.Idx) : val_main_v93 (F := Ideal) x0 x2 x4 x6 x7 i
    = (∑ k ∈ range 512, (ym o (zn z)) (i 0).val k * up D (rs 256 w) (cs 256 g) (i 0).val k) * (((-1 / 2 : ℝ) : EReal) * Ideal.div (rms 512 (1 / 512) (ym o (zn z)) (i 0).val) (ms 512 (1 / 512) (ym o (zn z)) (i 0).val)) * ((1 / 512 : ℝ) : EReal) := by
  rw [val_main_v93_apply, Fin.sum_univ_one, val_main_v92_apply, val_main_v91_apply, val_main_v90_apply, over_m x0 x1 x2 x3 x4 x5 x6 x7 p0 p1 p2 p3 p4 p5 p6 p7, rowdot_m x0 x1 x2 x3 x4 x5 x6 x7 p0 p1 p2 p3 p4 p5 p6 p7]
  show Ideal.ofBits .f32 0x00000000#32 + Ideal.div (_ * _) (Ideal.ofBits .f32 0x44000000#32) = _
  rw [Ideal.ofBits_zero_f32, zero_add, bits_512, Ideal.div_coe (by norm_num)]

/-- The gradient of a branch. -/
theorem grad_m : Ex2 (n0 := 8192) (n1 := 512) (val_main_v98 (F := Ideal) x0 x2 x4 x6 x7) (bx 512 (1 / 512) (ym o (zn z)) (up D (rs 256 w) (cs 256 g))) := fun a b => by
  rw [val_main_v98_apply, val_main_v96_apply, val_main_v89_apply, val_main_v88_apply, val_main_v95_apply, val_main_v97_apply, val_main_v94_apply, mean_m x0 x1 x2 x3 x4 x5 x6 x7 p0 p1 p2 p3 p4 p5 p6 p7, A_m x0 x1 x2 x3 x4 x5 x6 x7 p0 p1 p2 p3 p4 p5 p6 p7, rms_m x0 x1 x2 x3 x4 x5 x6 x7 p0 p1 p2 p3 p4 p5 p6 p7, (r_ym x0 x1 x2 x3 x4 x5 x6 x7 p0 p1 p2 p3 p4 p5 p6 p7).at _ a.val b.val rfl rfl]
  exact parts 512 (c := 1 / 512) (by norm_num) (ym o (zn z)) (up D (rs 256 w) (cs 256 g)) a.val b.val b.isLt

/-- A branch's part of the gradient of the scale. -/
theorem gg_m (i : S1x512.Idx) : val_main_v82 (F := Ideal) x0 x2 x4 x7 i = ∑ r ∈ range 8192, dn D w r (256 + (i 1).val) * xa yc o (zn z) ys r (256 + (i 1).val) := by
  have hi : (i 0).val < 1 := (i 0).isLt
  have hb : (i 1).val < 512 := (i 1).isLt
  rw [val_main_v82_apply, val_main_v81_apply]
  refine sum_from_zero (fun r => dn D w r (256 + (i 1).val) * xa yc o (zn z) ys r (256 + (i 1).val)) _ _ Ideal.ofBits_zero_f32 fun k => ?_
  have e : (idx_main_v81 (idx_main_v82 i) k 1).val = (i 1).val := by
    show (i 0).val * 512 + (i 1).val = (i 1).val
    omega
  rw [val_main_v80_apply, xn_m x0 x1 x2 x3 x4 x5 x6 x7 p0 p1 p2 p3 p4 p5 p6 p7, dn_m x0 x1 x2 x3 x4 x5 x6 x7 p0 p1 p2 p3 p4 p5 p6 p7, e, xa_2 _ _ _ _ _ hb]
  exact mul_comm _ _

/-- The joined branches' normed and scaled rows. -/
theorem r_yn : Ex2 (n0 := 8192) (n1 := 1024) (val_main_v52 (F := Ideal) x1 x2 x4 x5 x6) (fun l a => xa yc o (zn z) ys l a * g 0 a) := fun a b => by
  unfold val_main_v52
  refine concat_eq _ _ _ _ _ fun k hk hr i e eo => ?_
  have e0 : (i (Fin.cast hr.symm 0)).val = a.val := eo (Fin.cast hr.symm 0) (by show (0 : Fin 2) ≠ 1; decide)
  match k, hk with
  | 0, _ => exact (yn_c x0 x1 x2 x3 x4 x5 x6 x7 p0 p1 p2 p3 p4 p5 p6 p7).part (D := fun l a => xa yc o (zn z) ys l a * g 0 a) i _ _ e0 e
  | 1, _ => exact (yn_m x0 x1 x2 x3 x4 x5 x6 x7 p0 p1 p2 p3 p4 p5 p6 p7).part (D := fun l a => xa yc o (zn z) ys l a * g 0 a) i _ _ e0 e
  | 2, _ => exact (yn_s x0 x1 x2 x3 x4 x5 x6 x7 p0 p1 p2 p3 p4 p5 p6 p7).part (D := fun l a => xa yc o (zn z) ys l a * g 0 a) i _ _ e0 e
  | k + 3, hk => exact absurd hk (by simp)

/-- The gradient of the output's weights. -/
theorem r_w : Ex2 (n0 := 1024) (n1 := 1024) (val_main_v55 (F := Ideal) x0 x1 x2 x4 x5 x6) (fun a b => ∑ l ∈ range 8192, xa yc o (zn z) ys l a * g 0 a * D l b) := fun a b => by
  rw [val_main_v55_apply, val_main_v54_apply]
  refine Eq.trans ?_ (Finset.sum_range (n := 8192) fun l => xa yc o (zn z) ys l a.val * g 0 a.val * D l b.val).symm
  refine Finset.sum_congr rfl fun k _ => ?_
  rw [p0.at _ k.val b.val rfl rfl, (r_yn x0 x1 x2 x3 x4 x5 x6 x7 p0 p1 p2 p3 p4 p5 p6 p7).at _ k.val a.val rfl rfl]
  exact mul_comm _ _

/-- The gradient of the middle branch. -/
theorem r_o (i : S8192x512.Idx) : val_main_v102 (F := Ideal) x0 x2 x4 x6 x7 i = go D o (zn z) g w (i 0).val (i 1).val := by
  rw [val_main_v102_apply, (grad_m x0 x1 x2 x3 x4 x5 x6 x7 p0 p1 p2 p3 p4 p5 p6 p7).at i _ _ rfl rfl, r_silu x0 x1 x2 x3 x4 x5 x6 x7 p0 p1 p2 p3 p4 p5 p6 p7]
  rfl

theorem r_do : Ex2 (n0 := 8192) (n1 := 512) (val_main_v136 (F := Ideal) x0 x2 x4 x6 x7) (go D o (zn z) g w) := fun a b => r_o x0 x1 x2 x3 x4 x5 x6 x7 p0 p1 p2 p3 p4 p5 p6 p7 _

/-- The gradient of the gate. -/
theorem r_dz (hg : ∀ r d, d < 512 → r < 8192 → gym D o (zn z) g w r d * o r d * (sgm (zn z r d) * (1 + zn z r d * (1 - sgm (zn z r d))))
      = o r d * gym D o (zn z) g w r d * sgm (zn z r d) + zn z r d * (o r d * gym D o (zn z) g w r d) * (sgm (zn z r d) * (1 - sgm (zn z r d)))) :
    Ex2 (n0 := 8192) (n1 := 512) (val_main_v137 (F := Ideal) x0 x2 x4 x6 x7) (gz o (zn z) (gym D o (zn z) g w)) := fun a b => by
  rw [val_main_v137_apply]
  show val_main_v103 (F := Ideal) x0 x2 x4 x6 x7 _ = _
  rw [val_main_v103_apply, val_main_call1_v1_apply, val_main_call1_v2_apply, val_main_call1_v0_apply, val_main_v101_apply, (grad_m x0 x1 x2 x3 x4 x5 x6 x7 p0 p1 p2 p3 p4 p5 p6 p7).at _ a.val b.val rfl rfl, r_sgm x0 x1 x2 x3 x4 x5 x6 x7 p0 p1 p2 p3 p4 p5 p6 p7, r_slope x0 x1 x2 x3 x4 x5 x6 x7 p0 p1 p2 p3 p4 p5 p6 p7, r_z x0 x1 x2 x3 x4 x5 x6 x7 p0 p1 p2 p3 p4 p5 p6 p7, p2.at _ a.val b.val rfl rfl]
  exact (hg a.val b.val b.isLt a.isLt).symm

theorem in_s (a : Fin 1) (b : Fin 1024) (hl : 768 ≤ b.val) (hh : b.val < 1024) : val_main_v79 (F := Ideal) x0 x5 x7 (ValueIdx.ix2 a b) = ∑ r ∈ range 8192, dn D w r b.val * xa yc o (zn z) ys r b.val := by
  have hb : 768 + (b.val - 768) = b.val := by omega
  unfold val_main_v79
  refine (pad_apply_of_inside _ _ _ _ _ _ _ _ (ValueIdx.ix2 a ⟨b.val - 768, by omega⟩ : S1x256.Idx) fun c => ?_).trans ?_
  · match c with
    | ⟨0, _⟩ => show a.val = 0 + a.val * 1; omega
    | ⟨1, _⟩ => show b.val = 768 + (b.val - 768) * 1; omega
  · rw [gg_s x0 x1 x2 x3 x4 x5 x6 x7 p0 p1 p2 p3 p4 p5 p6 p7]
    show ∑ r ∈ range 8192, dn D w r (768 + (b.val - 768)) * xa yc o (zn z) ys r (768 + (b.val - 768)) = _
    rw [hb]

omit p0 p1 p2 p3 p4 p5 p6 p7 in
theorem off_s (a : Fin 1) (b : Fin 1024) (h : b.val < 768 ∨ 1024 ≤ b.val) : val_main_v79 (F := Ideal) x0 x5 x7 (ValueIdx.ix2 a b) = 0 := by
  unfold val_main_v79
  refine (pad_apply_of_not_inside _ _ _ _ _ _ _ _ 1 ?_).trans Ideal.ofBits_zero_f32
  show ¬(768 ≤ b.val ∧ (b.val - 768) % 1 = 0 ∧ (b.val - 768) / 1 < 256)
  omega

theorem in_m (a : Fin 1) (b : Fin 1024) (hl : 256 ≤ b.val) (hh : b.val < 768) : val_main_v99 (F := Ideal) x0 x2 x4 x7 (ValueIdx.ix2 a b) = ∑ r ∈ range 8192, dn D w r b.val * xa yc o (zn z) ys r b.val := by
  have hb : 256 + (b.val - 256) = b.val := by omega
  unfold val_main_v99
  refine (pad_apply_of_inside _ _ _ _ _ _ _ _ (ValueIdx.ix2 a ⟨b.val - 256, by omega⟩ : S1x512.Idx) fun c => ?_).trans ?_
  · match c with
    | ⟨0, _⟩ => show a.val = 0 + a.val * 1; omega
    | ⟨1, _⟩ => show b.val = 256 + (b.val - 256) * 1; omega
  · rw [gg_m x0 x1 x2 x3 x4 x5 x6 x7 p0 p1 p2 p3 p4 p5 p6 p7]
    show ∑ r ∈ range 8192, dn D w r (256 + (b.val - 256)) * xa yc o (zn z) ys r (256 + (b.val - 256)) = _
    rw [hb]

omit p0 p1 p2 p3 p4 p5 p6 p7 in
theorem off_m (a : Fin 1) (b : Fin 1024) (h : b.val < 256 ∨ 768 ≤ b.val) : val_main_v99 (F := Ideal) x0 x2 x4 x7 (ValueIdx.ix2 a b) = 0 := by
  unfold val_main_v99
  refine (pad_apply_of_not_inside _ _ _ _ _ _ _ _ 1 ?_).trans Ideal.ofBits_zero_f32
  show ¬(256 ≤ b.val ∧ (b.val - 256) % 1 = 0 ∧ (b.val - 256) / 1 < 512)
  omega

theorem in_c (a : Fin 1) (b : Fin 1024) (hl : 0 ≤ b.val) (hh : b.val < 256) : val_main_v123 (F := Ideal) x0 x1 x7 (ValueIdx.ix2 a b) = ∑ r ∈ range 8192, dn D w r b.val * xa yc o (zn z) ys r b.val := by
  have hb : 0 + (b.val - 0) = b.val := by omega
  unfold val_main_v123
  refine (pad_apply_of_inside _ _ _ _ _ _ _ _ (ValueIdx.ix2 a ⟨b.val - 0, by omega⟩ : S1x256.Idx) fun c => ?_).trans ?_
  · match c with
    | ⟨0, _⟩ => show a.val = 0 + a.val * 1; omega
    | ⟨1, _⟩ => show b.val = 0 + (b.val - 0) * 1; omega
  · rw [gg_c x0 x1 x2 x3 x4 x5 x6 x7 p0 p1 p2 p3 p4 p5 p6 p7]
    show ∑ r ∈ range 8192, dn D w r (0 + (b.val - 0)) * xa yc o (zn z) ys r (0 + (b.val - 0)) = _
    rw [hb]

omit p0 p1 p2 p3 p4 p5 p6 p7 in
theorem off_c (a : Fin 1) (b : Fin 1024) (h : b.val < 0 ∨ 256 ≤ b.val) : val_main_v123 (F := Ideal) x0 x1 x7 (ValueIdx.ix2 a b) = 0 := by
  unfold val_main_v123
  refine (pad_apply_of_not_inside _ _ _ _ _ _ _ _ 1 ?_).trans Ideal.ofBits_zero_f32
  show ¬(0 ≤ b.val ∧ (b.val - 0) % 1 = 0 ∧ (b.val - 0) / 1 < 256)
  omega

/-- The gradient of the scale. -/
theorem r_g : Ex2 (n0 := 1) (n1 := 1024) (val_main_v124 (F := Ideal) x0 x1 x2 x4 x5 x7) (fun _ d => ∑ r ∈ range 8192, dn D w r d * xa yc o (zn z) ys r d) := fun a b => by
  have hb := b.isLt
  rw [val_main_v124_apply, val_main_v100_apply]
  by_cases h1 : b.val < 256
  · rw [off_s x0 x5 x7 a b (by omega), off_m x0 x2 x4 x7 a b (by omega), in_c x0 x1 x2 x3 x4 x5 x6 x7 p0 p1 p2 p3 p4 p5 p6 p7 a b (by omega) (by omega)]
    show (0 + 0 : EReal) + _ = _
    rw [zero_add, zero_add]
  · by_cases h2 : b.val < 768
    · rw [off_s x0 x5 x7 a b (by omega), in_m x0 x1 x2 x3 x4 x5 x6 x7 p0 p1 p2 p3 p4 p5 p6 p7 a b (by omega) (by omega), off_c x0 x1 x7 a b (by omega)]
      show ((0 : EReal) + _) + 0 = _
      rw [zero_add, add_zero]
    · rw [in_s x0 x1 x2 x3 x4 x5 x6 x7 p0 p1 p2 p3 p4 p5 p6 p7 a b (by omega) (by omega), off_m x0 x2 x4 x7 a b (by omega), off_c x0 x1 x7 a b (by omega)]
      show ((_ : EReal) + 0) + 0 = _
      rw [add_zero, add_zero]

omit p0 p1 p2 p3 p4 p5 p6 p7 in
theorem lane (k : Fin 64) : IntOp.cmpi .slt (BitVec.ofNat 32 k.val) 32#32 = if k.val < 32 then 1#1 else 0#1 := by
  revert k
  decide +kernel

/-- The statistics: the first half of a head's columns the forward pass's, the second half the row's sum. -/
theorem r_stats : Ex2 (n0 := 8192) (n1 := 512) (val_main_v138 (F := Ideal) x0 x2 x3 x4 x6 x7) (half lse (fun r d => go D o (zn z) g w r d * o r d)) := fun a b => by
  have ha := a.isLt
  have hb := b.isLt
  have e0 : (a.val * 512 + b.val) / 512 = a.val := by omega
  have e1 : (a.val * 512 + b.val) / 64 % 8 = b.val / 64 := by omega
  have e2 : (a.val * 512 + b.val) % 64 = b.val % 64 := by omega
  have hm : val_main_call2_v0 (F := Ideal) (idx_main_v138 (ValueIdx.ix2 a b)) = if b.val % 64 < 32 then 1#1 else 0#1 := by
    rw [val_main_call2_v0_apply, val_main_v132_apply, val_main_v130_apply, val_main_v129_apply, val_main_v131_apply]
    refine Eq.trans ?_ (lane ⟨b.val % 64, Nat.mod_lt _ (by omega)⟩)
    show IntOp.cmpi .slt (BitVec.ofNat 32 ((a.val * 512 + b.val) % 64)) 32#32 = _
    rw [e2]
  have hs : val_main_v133 (F := Ideal) x3 (idx_main_v138 (ValueIdx.ix2 a b)) = lse a.val b.val := by
    rw [val_main_v133_apply]
    refine p3.at _ _ _ ?_ ?_
    · show (((a.val * 512 + b.val) / 512 * 8 + (a.val * 512 + b.val) / 64 % 8) * 64 + (a.val * 512 + b.val) % 64) / 512 = a.val
      omega
    · show (((a.val * 512 + b.val) / 512 * 8 + (a.val * 512 + b.val) / 64 % 8) * 64 + (a.val * 512 + b.val) % 64) % 512 = b.val
      omega
  have hp : val_main_call2_v1 (F := Ideal) x0 x2 x4 x6 x7 (idx_main_v138 (ValueIdx.ix2 a b)) = ∑ k ∈ range 64, go D o (zn z) g w a.val (64 * (b.val / 64) + k) * o a.val (64 * (b.val / 64) + k) := by
    rw [val_main_call2_v1_apply, val_main_v134_apply, val_main_v128_apply]
    refine sum_from_zero (fun k => go D o (zn z) g w a.val (64 * (b.val / 64) + k) * o a.val (64 * (b.val / 64) + k)) _ _ Ideal.ofBits_zero_f32 fun k => ?_
    have hk := k.isLt
    have f0 : (((a.val * 512 + b.val) / 512 * 8 + (a.val * 512 + b.val) / 64 % 8) * 64 + k.val) / 512 = a.val := by omega
    have f1 : (((a.val * 512 + b.val) / 512 * 8 + (a.val * 512 + b.val) / 64 % 8) * 64 + k.val) % 512 = 64 * (b.val / 64) + k.val := by omega
    rw [val_main_v127_apply, val_main_v125_apply, val_main_v126_apply, r_o x0 x1 x2 x3 x4 x5 x6 x7 p0 p1 p2 p3 p4 p5 p6 p7, p2.at _ a.val (64 * (b.val / 64) + k.val) f0 f1]
    show go D o (zn z) g w ((((a.val * 512 + b.val) / 512 * 8 + (a.val * 512 + b.val) / 64 % 8) * 64 + k.val) / 512) ((((a.val * 512 + b.val) / 512 * 8 + (a.val * 512 + b.val) / 64 % 8) * 64 + k.val) % 512) * _ = _
    rw [f0, f1]
  rw [val_main_v138_apply, val_main_v135_apply, hm, hs, hp]
  unfold half
  by_cases h : b.val % 64 < 32
  · rw [if_pos h, if_pos h]
    rfl
  · rw [if_neg h, if_neg h]
    rfl

end
end Cert.Proof.Post
end
-- ==== Proof.PostClaim.lean ====
module

public import proofs.«01_k».proof.Proof.PostRef
public import proofs.«01_k».proof.Proof.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run

/-! The gradient through the joined branches: the frames and the claim of equal results. -/

@[expose] public section

set_option maxRecDepth 16384

noncomputable section

namespace Cert.Proof.Post

open Idealize.ShloMosaic Idealize.ShloMosaic.TcCoe Idealize.SL.Sem
open Cert.Proof.Blocks Cert.Proof.Rows
open Finset

theorem preFacts : Cert.Pre_finite4.Facts where
  bcast_S_S8192x1024 := by decide
  bcast_S_S1x1024 := by decide
  bitsLt_bf16_f32 := by decide
  bcast_S_S1024x1024 := by decide

theorem frame_kernel : Cert.quiescent_Kernel4 := fun m ρ _ => Cert.Kernel4.Gen.frame (F := Bits) m ρ
theorem frame_ideal : Cert.quiescent_Kernel4Ideal := fun m ρ _ => Cert.Kernel4Ideal.Gen.frame (F := Ideal) m ρ
theorem frame_ideal_pre : Cert.quiescent_Kernel4Ideal_pre_finite4 (hPre_finite4 := preFacts) := fun m ρ _ => Cert.Kernel4Ideal.Gen.frame (F := Ideal) m ρ
theorem frame_reference : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)
theorem frame_reference_pre : Cert.quiescent_Reference4Ideal_pre_finite4 (hPre_finite4 := preFacts) := fun m ρ _ => frame_reference m ρ trivial

/-- An array of reals is described by reals. -/
theorem real_natF {n0 n1 : ℕ} (x : (⟨2, ![n0, n1]⟩ : Shape).Idx → EReal) (h : ∀ i, ((x i).toReal : EReal) = x i) (a b : ℕ) : ∃ y : ℝ, natF x a b = (y : EReal) := by
  unfold natF
  split
  · exact ⟨_, (h _).symm⟩
  · exact ⟨0, rfl⟩

/-- With a real gradient of the output, scale and weights the two forms of the gate's gradient are equal. -/
theorem gated {D g w : ℕ → ℕ → EReal} (o z : ℕ → ℕ → EReal) (hD : ∀ a b, ∃ y : ℝ, D a b = (y : EReal)) (hg : ∀ a b, ∃ y : ℝ, g a b = (y : EReal)) (hw : ∀ a b, ∃ y : ℝ, w a b = (y : EReal)) (r d : ℕ) (hd : d < 512) :
    gym D o z g w r d * o r d * (sgm (z r d) * (1 + z r d * (1 - sgm (z r d))))
      = o r d * gym D o z g w r d * sgm (z r d) + z r d * (o r d * gym D o z g w r d) * (sgm (z r d) * (1 - sgm (z r d))) := by
  rcases rms_cases 512 (c := 1 / 512) (by norm_num) (ym o z) r with ⟨y, s, hp, hy, em, er⟩ | ⟨em, er⟩
  · choose D' eD using hD
    choose g' eg using hg
    choose w' ew using hw
    have eA : ∀ k, up D (rs 256 w) (cs 256 g) r k = (((∑ l ∈ range 1024, D' r l * w' (256 + k) l) * g' 0 (256 + k) : ℝ) : EReal) := fun k => by
      unfold up dn rs cs
      rw [eg, EReal.coe_mul, ← sum_coe]
      exact congrArg (· * _) (Finset.sum_congr rfl fun l _ => by rw [eD, ew, EReal.coe_mul])
    have ex : ∀ k ∈ range 512, xn 512 (1 / 512) (ym o z) r k = ((y k * (Real.sqrt s)⁻¹ : ℝ) : EReal) := fun k hk => by
      unfold xn
      rw [hy k hk, er, EReal.coe_mul]
    have eS : ∑ k ∈ range 512, up D (rs 256 w) (cs 256 g) r k * xn 512 (1 / 512) (ym o z) r k
        = ((∑ k ∈ range 512, (∑ l ∈ range 1024, D' r l * w' (256 + k) l) * g' 0 (256 + k) * (y k * (Real.sqrt s)⁻¹) : ℝ) : EReal) := by
      rw [← sum_coe]
      exact Finset.sum_congr rfl fun k hk => by rw [eA, ex k hk, ← EReal.coe_mul]
    refine gate _ _ _ (Or.inr ⟨⟨?_, ?_⟩, ⟨y d, hy d (Finset.mem_range.mpr hd)⟩⟩)
    · exact (Real.sqrt s)⁻¹ * ((∑ l ∈ range 1024, D' r l * w' (256 + d) l) * g' 0 (256 + d) - y d * (Real.sqrt s)⁻¹ * ((∑ k ∈ range 512, (∑ l ∈ range 1024, D' r l * w' (256 + k) l) * g' 0 (256 + k) * (y k * (Real.sqrt s)⁻¹)) * (1 / 512)))
    · unfold gym bx
      rw [eS, eA, ex d (Finset.mem_range.mpr hd), er, ← EReal.coe_mul, ← EReal.coe_mul, ← EReal.coe_sub, ← EReal.coe_mul]
  · refine gate _ _ _ (Or.inl ?_)
    unfold gym bx
    rw [er, zero_mul]

theorem args_real (m : (ℓ : Loc Cert.Kernel4Ideal.nD Cert.Kernel4Ideal.τ Cert.Kernel4Ideal.sig) → Buf (Elt Ideal) ℓ)
    (h : Cert.Pre_Kernel4Ideal_finite4 (hPre_finite4 := preFacts) m) (c : Dev Cert.Kernel4Ideal.nD) :
    (∀ i : (⟨2, ![8192, 1024]⟩ : Shape).Idx, ((EReal.toReal ((m ((c.tc : Thread Cert.Kernel4Ideal.nD Cert.Kernel4Ideal.τ).loc Cert.Kernel4Ideal.main_arg0)) i) : ℝ) : EReal) = (m ((c.tc : Thread Cert.Kernel4Ideal.nD Cert.Kernel4Ideal.τ).loc Cert.Kernel4Ideal.main_arg0)) i)
    ∧ (∀ i : (⟨2, ![1, 1024]⟩ : Shape).Idx, ((EReal.toReal ((m ((c.tc : Thread Cert.Kernel4Ideal.nD Cert.Kernel4Ideal.τ).loc Cert.Kernel4Ideal.main_arg6)) i) : ℝ) : EReal) = (m ((c.tc : Thread Cert.Kernel4Ideal.nD Cert.Kernel4Ideal.τ).loc Cert.Kernel4Ideal.main_arg6)) i)
    ∧ (∀ i : (⟨2, ![1024, 1024]⟩ : Shape).Idx, ((EReal.toReal ((m ((c.tc : Thread Cert.Kernel4Ideal.nD Cert.Kernel4Ideal.τ).loc Cert.Kernel4Ideal.main_arg7)) i) : ℝ) : EReal) = (m ((c.tc : Thread Cert.Kernel4Ideal.nD Cert.Kernel4Ideal.τ).loc Cert.Kernel4Ideal.main_arg7)) i) := by
  obtain ⟨e0, e1, e2⟩ := h c
  exact ⟨fun i => real_of_olt _ (congrFun e0 i), fun i => real_of_olt _ (congrFun e1 i), fun i => real_of_olt _ (congrFun e2 i)⟩

set_option maxHeartbeats 2000000 in
/-- Both programs end with equal gradients of the branches, of the gate, of the weights and of the scale and equal statistics, their arguments as launched. -/
theorem algebraic : Cert.algebraic_Kernel4Ideal_Reference4Ideal_pre_finite4 (hPre_finite4 := preFacts) := fun m ρ m' ρ' hpre hargs => by
  refine ⟨_, _, _, _, _, _, _, Cert.Kernel4Ideal.Value.run_blocks m ρ, ?_⟩
  refine (θ_run Cert.Reference4Ideal.defs _ _).mono (fun _ h c => ?_) (Cert.Reference4Ideal.Value.run (F := Ideal) m' ρ')
  obtain ⟨a0, a1, a2, a3, a4, a5, a6, a7⟩ := hargs c
  obtain ⟨r0, r6, r7⟩ := args_real m hpre c
  replace a0 : StableHlo.launchContents m' c (Proc.devRef .tc Cert.Reference4Ideal.main_arg0) = (m ((c.tc : Thread Cert.Kernel4Ideal.nD Cert.Kernel4Ideal.τ).loc Cert.Kernel4Ideal.main_arg0)) := a0
  replace a1 : StableHlo.launchContents m' c (Proc.devRef .tc Cert.Reference4Ideal.main_arg1) = (m ((c.tc : Thread Cert.Kernel4Ideal.nD Cert.Kernel4Ideal.τ).loc Cert.Kernel4Ideal.main_arg1)) := a1
  replace a2 : StableHlo.launchContents m' c (Proc.devRef .tc Cert.Reference4Ideal.main_arg2) = (m ((c.tc : Thread Cert.Kernel4Ideal.nD Cert.Kernel4Ideal.τ).loc Cert.Kernel4Ideal.main_arg2)) := a2
  replace a3 : StableHlo.launchContents m' c (Proc.devRef .tc Cert.Reference4Ideal.main_arg3) = (m ((c.tc : Thread Cert.Kernel4Ideal.nD Cert.Kernel4Ideal.τ).loc Cert.Kernel4Ideal.main_arg3)) := a3
  replace a4 : StableHlo.launchContents m' c (Proc.devRef .tc Cert.Reference4Ideal.main_arg4) = (m ((c.tc : Thread Cert.Kernel4Ideal.nD Cert.Kernel4Ideal.τ).loc Cert.Kernel4Ideal.main_arg4)) := a4
  replace a5 : StableHlo.launchContents m' c (Proc.devRef .tc Cert.Reference4Ideal.main_arg5) = (m ((c.tc : Thread Cert.Kernel4Ideal.nD Cert.Kernel4Ideal.τ).loc Cert.Kernel4Ideal.main_arg5)) := a5
  replace a6 : StableHlo.launchContents m' c (Proc.devRef .tc Cert.Reference4Ideal.main_arg6) = (m ((c.tc : Thread Cert.Kernel4Ideal.nD Cert.Kernel4Ideal.τ).loc Cert.Kernel4Ideal.main_arg6)) := a6
  replace a7 : StableHlo.launchContents m' c (Proc.devRef .tc Cert.Reference4Ideal.main_arg7) = (m ((c.tc : Thread Cert.Kernel4Ideal.nD Cert.Kernel4Ideal.τ).loc Cert.Kernel4Ideal.main_arg7)) := a7
  have q0 := ex_natF (n0 := 8192) (n1 := 1024) (m ((c.tc : Thread Cert.Kernel4Ideal.nD Cert.Kernel4Ideal.τ).loc Cert.Kernel4Ideal.main_arg0))
  have q1 := ex_natF (n0 := 8192) (n1 := 256) (m ((c.tc : Thread Cert.Kernel4Ideal.nD Cert.Kernel4Ideal.τ).loc Cert.Kernel4Ideal.main_arg1))
  have q2 := ex_natF (n0 := 8192) (n1 := 512) (m ((c.tc : Thread Cert.Kernel4Ideal.nD Cert.Kernel4Ideal.τ).loc Cert.Kernel4Ideal.main_arg2))
  have q3 := ex_natF (n0 := 8192) (n1 := 512) (m ((c.tc : Thread Cert.Kernel4Ideal.nD Cert.Kernel4Ideal.τ).loc Cert.Kernel4Ideal.main_arg3))
  have q4 := ex_natF (n0 := 8192) (n1 := 3200) (m ((c.tc : Thread Cert.Kernel4Ideal.nD Cert.Kernel4Ideal.τ).loc Cert.Kernel4Ideal.main_arg4))
  have q5 := ex_natF (n0 := 8192) (n1 := 256) (m ((c.tc : Thread Cert.Kernel4Ideal.nD Cert.Kernel4Ideal.τ).loc Cert.Kernel4Ideal.main_arg5))
  have q6 := ex_natF (n0 := 1) (n1 := 1024) (m ((c.tc : Thread Cert.Kernel4Ideal.nD Cert.Kernel4Ideal.τ).loc Cert.Kernel4Ideal.main_arg6))
  have q7 := ex_natF (n0 := 1024) (n1 := 1024) (m ((c.tc : Thread Cert.Kernel4Ideal.nD Cert.Kernel4Ideal.τ).loc Cert.Kernel4Ideal.main_arg7))
  refine ⟨?_, ?_, ?_, ?_, ?_, ?_, ?_, (h c).2.2.2.2.2.2.2⟩
  · refine (h c).1.trans ?_
    rw [Cert.Reference4Ideal.Read.val_main_v122_eq, a0, a1, a6, a7]
    have k := final_8 m c q0 q1 q2 q3 q4 q5 q6 q7
    have r := grad_c _ _ _ _ _ _ _ _ q0 q1 q2 q3 q4 q5 q6 q7
    funext i
    exact (r.at i _ _ rfl rfl).trans (k.at i _ _ rfl rfl).symm
  · refine (h c).2.1.trans ?_
    rw [Cert.Reference4Ideal.Read.val_main_v78_eq, a0, a5, a6, a7]
    have k := final_9 m c q0 q1 q2 q3 q4 q5 q6 q7
    have r := grad_s _ _ _ _ _ _ _ _ q0 q1 q2 q3 q4 q5 q6 q7
    funext i
    exact (r.at i _ _ rfl rfl).trans (k.at i _ _ rfl rfl).symm
  · refine (h c).2.2.1.trans ?_
    rw [Cert.Reference4Ideal.Read.val_main_v136_eq, a0, a2, a4, a6, a7]
    have k := final_10 m c q0 q1 q2 q3 q4 q5 q6 q7
    have r := r_do _ _ _ _ _ _ _ _ q0 q1 q2 q3 q4 q5 q6 q7
    funext i
    exact (r.at i _ _ rfl rfl).trans (k.at i _ _ rfl rfl).symm
  · refine (h c).2.2.2.1.trans ?_
    rw [Cert.Reference4Ideal.Read.val_main_v137_eq, a0, a2, a4, a6, a7]
    have k := final_11 m c q0 q1 q2 q3 q4 q5 q6 q7
    have r := r_dz _ _ _ _ _ _ _ _ q0 q1 q2 q3 q4 q5 q6 q7 (fun r d hd _ => gated _ _ (real_natF _ r0) (real_natF _ r6) (real_natF _ r7) r d hd)
    funext i
    exact (r.at i _ _ rfl rfl).trans (k.at i _ _ rfl rfl).symm
  · refine (h c).2.2.2.2.1.trans ?_
    rw [Cert.Reference4Ideal.Read.val_main_v138_eq, a0, a2, a3, a4, a6, a7]
    have k := final_12 m c q0 q1 q2 q3 q4 q5 q6 q7
    have r := r_stats _ _ _ _ _ _ _ _ q0 q1 q2 q3 q4 q5 q6 q7
    funext i
    exact (r.at i _ _ rfl rfl).trans (k.at i _ _ rfl rfl).symm
  · refine (h c).2.2.2.2.2.1.trans ?_
    rw [Cert.Reference4Ideal.Read.val_main_v55_eq, a0, a1, a2, a4, a5, a6]
    have k := final_13 m c q0 q1 q2 q3 q4 q5 q6 q7
    have r := r_w _ _ _ _ _ _ _ _ q0 q1 q2 q3 q4 q5 q6 q7
    funext i
    exact (r.at i _ _ rfl rfl).trans (k.at i _ _ rfl rfl).symm
  · refine (h c).2.2.2.2.2.2.1.trans ?_
    rw [Cert.Reference4Ideal.Read.val_main_v124_eq, a0, a1, a2, a4, a5, a7]
    have k := final_14 m c q0 q1 q2 q3 q4 q5 q6 q7
    have r := r_g _ _ _ _ _ _ _ _ q0 q1 q2 q3 q4 q5 q6 q7
    funext i
    exact (r.at i _ _ rfl rfl).trans (k.at i _ _ rfl rfl).symm

end Cert.Proof.Post
end
-- ==== Proof.ProjFwd.lean ====
module

public import proofs.«01_k».proof.Defs
public import proofs.«01_k».proof.Proof.ProjGrad
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pipeline.ValueKit.Tiles
public import Idealize.ShloMosaic.Lib.KernelVsHost

/-! The input projection of a layer: the call's result is the reference's. -/

@[expose] public section

set_option maxRecDepth 16384

noncomputable section

namespace Cert.Proof.ProjFwd

open Idealize.ShloMosaic Idealize.ShloMosaic.TcCoe Idealize.SL.Sem
open Cert.Proof.Blocks Cert.Proof.Rows
open Cert.Proof.ProjGrad (ms rms xn)
open Finset

/-- The normed and scaled rows of `x` times the columns of `w`. -/
def proj (x g w : ℕ → ℕ → EReal) (r l : ℕ) : EReal := ∑ k ∈ range 1024, xn x r k * g 0 k * w k l

variable {x g w : ℕ → ℕ → EReal}

namespace Call
open Cert.Kernel5Ideal Cert.Kernel5Ideal.Gen

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)

/-- The normed and scaled rows. -/
theorem ex_rows {v0 : Vec Ideal S512x1024 .f32} {v11 : Vec Ideal S1x1024 .f32} (h : Ex2 v0 x) (hg : Ex2 v11 g) :
    Ex2 (k0_pay2 (F := Ideal) v0 v11) (fun r k => xn x r k * g 0 k) := by
  unfold k0_pay2
  dsimp only
  exact ex_times (ex_times h (ex_spreadCol (ex_rsqrt (ex_add (ex_times (ex_rowSum (ex_times h h) _ _ _ _) (ex_const _ _ bits_inv)) (ex_const _ _ bits_eps))) (by decide) _)) (ex_spreadRow hg (by decide) _)

section
variable {a : Vec Ideal S512x1024 .f32} {b : Vec Ideal S1x1024 .f32} {v : Vec Ideal S1024x640 .bf16} {f : ℕ → ℕ → EReal}
  (h : Ex2 a x) (hg : Ex2 b g) (hv : Ex2 v f)
include h hg hv

theorem ex_pay1 : Ex2 (k0_pay1 (F := Ideal) (k0_pay2 a b) v) (proj x g f) := ex_mul (ex_rows h hg) hv
theorem ex_pay3 : Ex2 (k0_pay3 (F := Ideal) a b v) (proj x g f) := ex_mul (ex_rows h hg) hv
theorem ex_pay4 : Ex2 (k0_pay4 (F := Ideal) a b v) (proj x g f) := ex_mul (ex_rows h hg) hv
theorem ex_pay5 : Ex2 (k0_pay5 (F := Ideal) a b v) (proj x g f) := ex_mul (ex_rows h hg) hv
theorem ex_pay6 : Ex2 (k0_pay6 (F := Ideal) a b v) (proj x g f) := ex_mul (ex_rows h hg) hv

end

/-- A slice of the weight's columns. -/
theorem ex_slice {v : Vec Ideal S1024x3200 .bf16} (h : Ex2 v w) (n : ℕ) (inb : ∀ d, (![0, n] : Fin 2 → ℕ) d + S1024x640.size d ≤ S1024x3200.size d) :
    Ex2 (n0 := 1024) (n1 := 640) (View.ld v (Rect.unit (s := S1024x3200) ![0, n] S1024x640.size inb)) (fun k l => w k (n + l)) := fun a b => by
  refine h.at _ _ _ ?_ ?_
  · exact (Rect.idx_unit_val _ _ _ _ 0).trans (Nat.zero_add _)
  · exact Rect.idx_unit_val _ _ _ _ 1

/-- A stored slice holds the columns from `n` on. -/
theorem at_piece {n : ℕ} (inb : ∀ d, (![0, n] : Fin 2 → ℕ) d + S512x640.size d ≤ S512x3200.size d) {p : Vec Ideal S512x640 .f32}
    (hp : Ex2 p (proj x g fun k l => w k (n + l))) (y : S512x640.Idx) :
    p y = proj x g w ((Rect.unit (s := S512x3200) ![0, n] S512x640.size inb).idx y 0).val ((Rect.unit (s := S512x3200) ![0, n] S512x640.size inb).idx y 1).val := by
  refine (hp.at y _ _ rfl rfl).trans ?_
  exact congrArg₂ (proj x g w) (by show (y 0).val = 0 + 1 * (y 0).val; omega) (by show n + (y 1).val = n + 1 * (y 1).val; omega)

/-- One grid point's block of the result. -/
theorem ex_out {a : Vec Ideal S512x1024 .f32} {b : Vec Ideal S1x1024 .f32} {v : Vec Ideal S1024x3200 .bf16} (h : Ex2 a x) (hg : Ex2 b g) (hv : Ex2 v w) :
    Ex2 (n0 := 512) (n1 := 3200) (out0_3 (F := Ideal) a b v) (proj x g w) := fun i j => by
  have la : View.ld a r0_0 = a := View.ld_unit_lit (Val := Elt Ideal) _ a (by decide)
  have lb : View.ld b r0_1 = b := View.ld_unit_lit (Val := Elt Ideal) _ b (by decide)
  unfold out0_3
  rw [la, lb]
  refine View.canon_apply_of_pieces (Val := Elt Ideal) (S := S512x3200) (e := .f32) (fun y => (proj x g w (y 0).val (y 1).val : EReal)) _ ?_ _ (cover0_3 _ _ _ _ _ _)
  intro pc hpc y
  rcases List.mem_cons.mp hpc with rfl | hpc
  · exact at_piece inb_S512x3200_S512x640_0_2560 (ex_pay1 h hg (ex_slice hv 2560 inb_S1024x3200_S1024x640_0_2560)) y
  rcases List.mem_cons.mp hpc with rfl | hpc
  · exact at_piece inb_S512x3200_S512x640_0_1920 (ex_pay6 h hg (ex_slice hv 1920 inb_S1024x3200_S1024x640_0_1920)) y
  rcases List.mem_cons.mp hpc with rfl | hpc
  · exact at_piece inb_S512x3200_S512x640_0_1280 (ex_pay5 h hg (ex_slice hv 1280 inb_S1024x3200_S1024x640_0_1280)) y
  rcases List.mem_cons.mp hpc with rfl | hpc
  · exact at_piece inb_S512x3200_S512x640_0_640 (ex_pay4 h hg (ex_slice hv 640 inb_S1024x3200_S1024x640_0_640)) y
  rcases List.mem_cons.mp hpc with rfl | hpc
  · exact at_piece inb_S512x3200_S512x640_0_0 (ex_pay3 h hg (ex_slice hv 0 inb_S1024x3200_S1024x640_0_0)) y
  nomatch hpc

variable (m : (ℓ : Loc nD τ sig) → Buf (Elt Ideal) ℓ) (c : Dev nD)

theorem blk_0 (h : Ex2 (n0 := 8192) (n1 := 1024) (V m c main_arg0) x) (t : Fin cfg0.N) : Ex2 (iblk m c 0 t : Vec Ideal S512x1024 .f32) (fun r l => x (512 * t.val + r) l) := fun a b => by
  blk_simp [iblk]
  refine h.at _ _ _ ?_ ?_
  · blk_simp [ix_0]
    simp [Nat.mul_comm]
  · blk_simp [ix_0]

theorem blk_1 (h : Ex2 (n0 := 1) (n1 := 1024) (V m c main_arg1) g) (t : Fin cfg0.N) : Ex2 (iblk m c 1 t : Vec Ideal S1x1024 .f32) g := fun a b => by
  blk_simp [iblk]
  refine h.at _ _ _ ?_ ?_
  · blk_simp [ix_1]
  · blk_simp [ix_1]

theorem blk_2 (h : Ex2 (n0 := 1024) (n1 := 3200) (V m c main_arg2) w) (t : Fin cfg0.N) : Ex2 (iblk m c 2 t : Vec Ideal S1024x3200 .bf16) w := fun a b => by
  blk_simp [iblk]
  refine h.at _ _ _ ?_ ?_
  · blk_simp [ix_2]
  · blk_simp [ix_2]

/-- The call's result. -/
theorem final (p0 : Ex2 (n0 := 8192) (n1 := 1024) (V m c main_arg0) x) (p1 : Ex2 (n0 := 1) (n1 := 1024) (V m c main_arg1) g) (p2 : Ex2 (n0 := 1024) (n1 := 3200) (V m c main_arg2) w) :
    Ex2 (n0 := 8192) (n1 := 3200) ((dats m 0 c).arrAt 3 cfg0.N) (proj x g w) := by
  have e : (dats m 0 c).arrAt 3 cfg0.N = fun i : S8192x3200.Idx => (proj x g w : ℕ → ℕ → EReal) (i 0).val (i 1).val := by
    refine (dats m 0 c).arrAt_eq_of_covers 3 _ (by decide +kernel) fun t hf y => ?_
    blk_simp
    rw [after0_3]
    refine ((ex_out (x := fun r l => x (512 * t.val + r) l) (blk_0 m c p0 t) (blk_1 m c p1 t) (blk_2 m c p2 t)).at _ _ _ rfl rfl).trans ?_
    blk_simp [ix_3]
    simp [Nat.mul_comm]
    rfl
  rw [e]
  exact fun a b => rfl

end Call

namespace Plain
open Cert.Reference5Ideal Cert.Reference5Ideal.Gen Cert.Reference5Ideal.Read

section
variable (x0 : (⟨S8192x1024, .f32⟩ : BufTy).Contents (Elt Ideal)) (x1 : (⟨S1x1024, .f32⟩ : BufTy).Contents (Elt Ideal)) (x2 : (⟨S1024x3200, .bf16⟩ : BufTy).Contents (Elt Ideal))
  (p0 : Ex2 (n0 := 8192) (n1 := 1024) x0 x) (p1 : Ex2 (n0 := 1) (n1 := 1024) x1 g) (p2 : Ex2 (n0 := 1024) (n1 := 3200) x2 w)
include p0

theorem ref_rms (i : S8192x1.Idx) : val_main_v7 (F := Ideal) x0 i = rms x (i 0).val := by
  rw [val_main_v7_apply, val_main_v6_apply, val_main_v4_apply, val_main_v2_apply, val_main_v1_apply, val_main_v3_apply, val_main_v5_apply]
  have e := sum_from_zero (n := 1024) (fun k => x (i 0).val k * x (i 0).val k) (fun k => val_main_v0 (F := Ideal) x0 (idx_main_v1 (idx_main_v2 i) k)) _ Ideal.ofBits_zero_f32 fun k => by
    dsimp only
    rw [val_main_v0_apply, p0.at _ (i 0).val k.val rfl rfl]
    rfl
  refine (congrArg (fun y => Ideal.rsqrt (Ideal.div y (Ideal.ofBits .f32 0x44800000#32) + Ideal.ofBits .f32 0x358637BD#32)) e).trans ?_
  show Ideal.rsqrt (Ideal.div _ (Ideal.ofBits .f32 0x44800000#32) + Ideal.ofBits .f32 0x358637BD#32) = _
  rw [bits_1024, bits_eps, Ideal.div_coe (by norm_num)]
  rfl

include p1 p2

/-- The reference's result. -/
theorem value : Ex2 (n0 := 8192) (n1 := 3200) (val_main_v13 (F := Ideal) x0 x1 x2) (proj x g w) := fun a b => by
  rw [val_main_v13_apply]
  refine Eq.trans ?_ (Finset.sum_range (n := 1024) fun k => xn x a.val k * g 0 k * w k b.val).symm
  refine Finset.sum_congr rfl fun k _ => ?_
  rw [val_main_v11_apply, val_main_v9_apply, val_main_v8_apply, val_main_v10_apply, ref_rms x0 p0, val_main_v12_apply, p0.at _ a.val k.val rfl rfl, p1.at _ 0 k.val rfl rfl]
  exact congrArg (_ * ·) (p2.at _ k.val b.val rfl rfl)

end
end Plain

theorem frame_kernel : Cert.quiescent_Kernel5 := fun m ρ _ => Cert.Kernel5.Gen.frame (F := Bits) m ρ
theorem frame_ideal : Cert.quiescent_Kernel5Ideal := fun m ρ _ => Cert.Kernel5Ideal.Gen.frame (F := Ideal) m ρ
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call's result is the reference's. -/
theorem algebraic : Cert.algebraic_Kernel5Ideal_Reference5Ideal := fun m ρ m' ρ' _ hargs => by
  refine ⟨_, Cert.Kernel5Ideal.Value.run_blocks m ρ, ?_⟩
  refine (θ_run Cert.Reference5Ideal.defs _ _).mono (fun _ h c => ?_) (Cert.Reference5Ideal.Value.run (F := Ideal) m' ρ')
  obtain ⟨a0, a1, a2⟩ := hargs c
  refine ⟨?_, (h c).2⟩
  refine (h c).1.trans ?_
  rw [Cert.Reference5Ideal.Read.val_main_v13_eq, a0, a1, a2]
  have q0 := ex_natF (n0 := 8192) (n1 := 1024) (m ((c.tc : Thread Cert.Kernel5Ideal.nD Cert.Kernel5Ideal.τ).loc Cert.Kernel5Ideal.main_arg0))
  have q1 := ex_natF (n0 := 1) (n1 := 1024) (m ((c.tc : Thread Cert.Kernel5Ideal.nD Cert.Kernel5Ideal.τ).loc Cert.Kernel5Ideal.main_arg1))
  have q2 := ex_natF (n0 := 1024) (n1 := 3200) (m ((c.tc : Thread Cert.Kernel5Ideal.nD Cert.Kernel5Ideal.τ).loc Cert.Kernel5Ideal.main_arg2))
  have k := Call.final m c q0 q1 q2
  have r := Plain.value _ _ _ q0 q1 q2
  funext i
  exact (r.at i _ _ rfl rfl).trans (k.at i _ _ rfl rfl).symm

end Cert.Proof.ProjFwd
end
-- ==== Proof.PostFwdMath.lean ====
module

public import proofs.«01_k».proof.Proof.PostRef

/-! The forward output projection: its entries, and loads of a part of a buffer. -/

@[expose] public section

set_option maxRecDepth 16384

noncomputable section

namespace Cert.Proof.PostFwd

open Idealize.ShloMosaic Idealize.ShloMosaic.TcCoe
open Cert.Proof.Blocks Cert.Proof.Rows
open Cert.Proof.Post (ms rms xn sgm ym cs rs silu xa xa_1 xa_2 xa_3)
open Finset

/-- The residual and the product of the joined branches' normed and scaled rows with the weights. -/
def yo (x yc o z ys g w : ℕ → ℕ → EReal) (r l : ℕ) : EReal := x r l + ∑ k ∈ range 1024, xa yc o z ys r k * g 0 k * w k l

/-- The three branches' products added one after the other. -/
theorem yo_parts (x yc o z ys g w : ℕ → ℕ → EReal) (r l : ℕ) :
    x r l + (∑ k ∈ range 256, xn 256 (1 / 256) yc r k * cs 0 g 0 k * rs 0 w k l) + (∑ k ∈ range 512, xn 512 (1 / 512) (ym o z) r k * cs 256 g 0 k * rs 256 w k l)
      + (∑ k ∈ range 256, xn 256 (1 / 256) ys r k * cs 768 g 0 k * rs 768 w k l) = yo x yc o z ys g w r l := by
  have e1 : (∑ k ∈ range 256, xn 256 (1 / 256) yc r k * cs 0 g 0 k * rs 0 w k l) = ∑ k ∈ range 256, xa yc o z ys r k * g 0 k * w k l :=
    Finset.sum_congr rfl fun k hk => by
      have e := xa_1 yc o z ys r (Finset.mem_range.mp hk)
      rw [Nat.zero_add] at e
      rw [e]
      unfold cs rs
      rw [Nat.zero_add]
  have e2 : (∑ k ∈ range 512, xn 512 (1 / 512) (ym o z) r k * cs 256 g 0 k * rs 256 w k l) = ∑ k ∈ range 512, xa yc o z ys r (256 + k) * g 0 (256 + k) * w (256 + k) l :=
    Finset.sum_congr rfl fun k hk => by
      rw [xa_2 yc o z ys r (Finset.mem_range.mp hk)]
      rfl
  have e3 : (∑ k ∈ range 256, xn 256 (1 / 256) ys r k * cs 768 g 0 k * rs 768 w k l) = ∑ k ∈ range 256, xa yc o z ys r (256 + 512 + k) * g 0 (256 + 512 + k) * w (256 + 512 + k) l :=
    Finset.sum_congr rfl fun k hk => by
      rw [show 256 + 512 + k = 768 + k by omega, xa_3 yc o z ys r (Finset.mem_range.mp hk)]
      rfl
  rw [e1, e2, e3]
  unfold yo
  rw [show (1024 : ℕ) = 256 + 512 + 256 from rfl, Finset.sum_range_add, Finset.sum_range_add, add_assoc, add_assoc, add_assoc]

/-! ## Loads -/

variable {sig : RefSig}

theorem ex_whole {n0 n1 : ℕ} (m : Memref sig .tc .vmem ⟨2, ![n0, n1]⟩ .f32) (h : m.IsWhole) {x : Vec Ideal ⟨2, ![n0, n1]⟩ .f32} {f : ℕ → ℕ → EReal} (hx : Ex2 x f)
    (inb : ∀ d, (![0, 0] : Fin 2 → ℕ) d + (![n0, n1] : Fin 2 → ℕ) d ≤ (⟨2, ![n0, n1]⟩ : Shape).size d) :
    Ex2 (n0 := n0) (n1 := n1) (View.readAt (Elt Ideal) m.view (Rect.unit (s := ⟨2, ![n0, n1]⟩) ![0, 0] ![n0, n1] inb).toLoadRect (h.unread x)) f := by
  have e := View.readAt_full (Val := Elt Ideal) m.view (h.unread x) inb
  rw [e, h.read_unread]
  exact hx

/-- A load of some of a buffer's columns. -/
theorem ex_cs {M N n k : ℕ} (m : Memref sig .tc .vmem ⟨2, ![M, N]⟩ .f32) (h : m.IsWhole) {x : Vec Ideal ⟨2, ![M, N]⟩ .f32} {f : ℕ → ℕ → EReal} (hx : Ex2 x f)
    (inb : ∀ d, (![0, n] : Fin 2 → ℕ) d + (![M, k] : Fin 2 → ℕ) d ≤ (⟨2, ![M, N]⟩ : Shape).size d) :
    Ex2 (n0 := M) (n1 := k) (View.readAt (Elt Ideal) m.view (Rect.unit (s := ⟨2, ![M, N]⟩) ![0, n] ![M, k] inb).toLoadRect (h.unread x)) (cs n f) := by
  have e := View.readAt_unit (Val := Elt Ideal) m.view (h.unread x) inb rfl inb
  rw [e, h.read_unread]
  intro a b
  refine (ex_window hx 0 n inb a b).trans ?_
  dsimp only
  rw [Nat.zero_add]
  rfl

/-- A load of some of a buffer's rows. -/
theorem ex_rs {M N n k : ℕ} (m : Memref sig .tc .vmem ⟨2, ![M, N]⟩ .bf16) (h : m.IsWhole) {x : Vec Ideal ⟨2, ![M, N]⟩ .bf16} {f : ℕ → ℕ → EReal} (hx : Ex2 x f)
    (inb : ∀ d, (![n, 0] : Fin 2 → ℕ) d + (![k, N] : Fin 2 → ℕ) d ≤ (⟨2, ![M, N]⟩ : Shape).size d) :
    Ex2 (n0 := k) (n1 := N) (View.readAt (Elt Ideal) m.view (Rect.unit (s := ⟨2, ![M, N]⟩) ![n, 0] ![k, N] inb).toLoadRect (h.unread x)) (rs n f) := by
  have e := View.readAt_unit (Val := Elt Ideal) m.view (h.unread x) inb rfl inb
  rw [e, h.read_unread]
  intro a b
  refine (ex_window hx n 0 inb a b).trans ?_
  dsimp only
  rw [Nat.zero_add]
  rfl

end Cert.Proof.PostFwd
end
-- ==== Proof.PostFwd.lean ====
module

public import proofs.«01_k».proof.Defs
public import proofs.«01_k».proof.Proof.PostFwdMath
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pipeline.ValueKit.Tiles
public import Idealize.ShloMosaic.Lib.KernelVsHost

/-! The forward output projection of a layer: the call's result is the reference's. -/

@[expose] public section

set_option maxRecDepth 16384

noncomputable section

namespace Cert.Proof.PostFwd

open Idealize.ShloMosaic Idealize.ShloMosaic.TcCoe Idealize.SL.Sem
open Cert.Proof.Blocks Cert.Proof.Rows
open Cert.Proof.Post (ms rms xn sgm ex_sgm ym cs rs silu xa xa_1 xa_2 xa_3 zn bits_one bits_inv256 bits_inv512 bits_256 bits_512)
open Finset

namespace Call
open Cert.Kernel6Ideal Cert.Kernel6Ideal.Gen

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 3] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)

section
variable {x yc o z ys g w : ℕ → ℕ → EReal}
theorem ex_ym {a z' : Vec Ideal S512x512 .f32} (ho : Ex2 a o) (hz : Ex2 z' z) : Ex2 (k0_pay2 (F := Ideal) a z') (ym o z) := ex_times ho (ex_times hz (ex_sgm hz))
theorem ex_first {a : Vec Ideal S512x256 .f32} {b : Vec Ideal S512x1024 .f32} {s : Vec Ideal S1x256 .f32} {v : Vec Ideal S256x1024 .bf16} (h : Ex2 a yc) (hx : Ex2 b x) (hs : Ex2 s g) (hv : Ex2 v w) :
    Ex2 (k0_pay3 (F := Ideal) a b s v) (fun r l => x r l + ∑ k ∈ range 256, xn 256 (1 / 256) yc r k * g 0 k * w k l) :=
  ex_add hx (ex_mul (ex_times (ex_times h (ex_spreadCol (ex_rsqrt (ex_add (ex_times (ex_rowSum (ex_times h h) _ _ _ _) (ex_const _ _ bits_inv256)) (ex_const _ _ bits_eps))) (by decide) _)) (ex_spreadRow hs (by decide) _)) hv)
theorem ex_msq {a z' : Vec Ideal S512x512 .f32} (ho : Ex2 a o) (hz : Ex2 z' z) : Ex2 (k0_pay4 (F := Ideal) a z') (fun r _ => (∑ k ∈ range 512, ym o z r k * ym o z r k) * (((1 : ℝ) / 512 : ℝ) : EReal)) :=
  ex_times (ex_rowSum (ex_times (ex_ym ho hz) (ex_ym ho hz)) _ _ _ _) (ex_const _ _ bits_inv512)
theorem ex_rest {p : FVec Ideal S512x512 .f32} {a : Vec Ideal S512x256 .f32} {y : FVec Ideal S512x1024 .f32} {q : FVec Ideal S512x1 .f32} {s1 : Vec Ideal S1x512 .f32} {v1 : Vec Ideal S512x1024 .bf16} {s2 : Vec Ideal S1x256 .f32} {v2 : Vec Ideal S256x1024 .bf16}
    {u Y g1 w1 g2 w2 : ℕ → ℕ → EReal} (hp : Ex2 p u) (ha : Ex2 a ys) (hy : Ex2 y Y) (hq : Ex2 q (fun r _ => (∑ k ∈ range 512, u r k * u r k) * (((1 : ℝ) / 512 : ℝ) : EReal))) (hs1 : Ex2 s1 g1) (hv1 : Ex2 v1 w1) (hs2 : Ex2 s2 g2) (hv2 : Ex2 v2 w2) :
    Ex2 (k0_pay1 (F := Ideal) p a y q s1 v1 s2 v2) (fun r l => Y r l + (∑ k ∈ range 512, xn 512 (1 / 512) u r k * g1 0 k * w1 k l) + ∑ k ∈ range 256, xn 256 (1 / 256) ys r k * g2 0 k * w2 k l) :=
  ex_add (ex_add hy (ex_mul (ex_times (ex_times hp (ex_spreadCol (ex_rsqrt (ex_add hq (ex_const _ _ bits_eps))) (by decide) _)) (ex_spreadRow hs1 (by decide) _)) hv1))
    (ex_mul (ex_times (ex_times ha (ex_spreadCol (ex_rsqrt (ex_add (ex_times (ex_rowSum (ex_times ha ha) _ _ _ _) (ex_const _ _ bits_inv256)) (ex_const _ _ bits_eps))) (by decide) _)) (ex_spreadRow hs2 (by decide) _)) hv2)
end

section
variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S512x1024 .f32) (harg8 : arg8.IsWhole)
    (x0 : Vec Ideal S512x1024 .f32) (x1 : Vec Ideal S512x256 .f32) (x2 : Vec Ideal S512x512 .f32) (x3 : Vec Ideal S512x512 .f32) (x4 : Vec Ideal S512x256 .f32) (x5 : Vec Ideal S1x1024 .f32) (x6 : Vec Ideal S1024x1024 .bf16)
    {x yc o z ys g w : ℕ → ℕ → EReal} (h0 : Ex2 x0 x) (h1 : Ex2 x1 yc) (h2 : Ex2 x2 o) (h3 : Ex2 x3 z) (h4 : Ex2 x4 ys) (h5 : Ex2 x5 g) (h6 : Ex2 x6 w)
include h0 h1 h2 h3 h4 h5 h6

/-- What a point of the grid leaves in the result's buffer. -/
theorem out_A_7 : Ex2 (out0_A_7 c i arg1 harg1 arg2 harg2 arg3 harg3 arg4 harg4 arg5 harg5 arg6 harg6 arg7 harg7 arg8 harg8 x0 x1 x2 x3 x4 x5 x6) (yo x yc o z ys g w) := by
  unfold out0_A_7 kernelRun0_A
  dsimp only
  sl_unfold_words
  have k := ex_rest (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_msq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0)
  refine Eq.mp (congrArg (fun y => Ex2 y _) (View.read_writes_full (Val := Elt Ideal) VO0_7 VO0_7.junk _ _ _).symm) ?_
  exact Ex2.congr k fun r _ l _ => yo_parts x yc o z ys g w r l
end

variable (m : (ℓ : Loc nD τ sig) → Buf (Elt Ideal) ℓ) (c : Dev nD) {x yc o z ys g w : ℕ → ℕ → EReal}

theorem blk_0 {P : ℕ → ℕ → EReal} (h : Ex2 (n0 := 8192) (n1 := 1024) (V m c main_arg0) P) (t : Fin cfg0.N) : Ex2 (iblk m c 0 t : Vec Ideal S512x1024 .f32) (fun r l => P (512 * t.val + r) l) := fun a b => by
  blk_simp [iblk]
  refine h.at _ _ _ ?_ ?_
  · blk_simp [ix_0]
    simp [Nat.mul_comm]
  · blk_simp [ix_0]

theorem blk_1 {P : ℕ → ℕ → EReal} (h : Ex2 (n0 := 8192) (n1 := 256) (V m c main_arg1) P) (t : Fin cfg0.N) : Ex2 (iblk m c 1 t : Vec Ideal S512x256 .f32) (fun r l => P (512 * t.val + r) l) := fun a b => by
  blk_simp [iblk]
  refine h.at _ _ _ ?_ ?_
  · blk_simp [ix_1]
    simp [Nat.mul_comm]
  · blk_simp [ix_1]

theorem blk_2 {P : ℕ → ℕ → EReal} (h : Ex2 (n0 := 8192) (n1 := 512) (V m c main_arg2) P) (t : Fin cfg0.N) : Ex2 (iblk m c 2 t : Vec Ideal S512x512 .f32) (fun r l => P (512 * t.val + r) l) := fun a b => by
  blk_simp [iblk]
  refine h.at _ _ _ ?_ ?_
  · blk_simp [ix_2]
    simp [Nat.mul_comm]
  · blk_simp [ix_2]

theorem blk_3 {P : ℕ → ℕ → EReal} (h : Ex2 (n0 := 8192) (n1 := 3200) (V m c main_arg3) P) (t : Fin cfg0.N) : Ex2 (X0_3 m c t : Vec Ideal S512x512 .f32) (fun r l => P (512 * t.val + r) (1536 + l)) := fun a b => by
  unfold X0_3 Pipeline.Window.fill
  rw [dif_pos (moved0_3 t _)]
  blk_simp [iblk]
  refine h.at _ _ _ ?_ ?_
  · blk_simp [ix_3]
    simp [Nat.mul_comm]
  · blk_simp [ix_3]

theorem blk_4 {P : ℕ → ℕ → EReal} (h : Ex2 (n0 := 8192) (n1 := 256) (V m c main_arg4) P) (t : Fin cfg0.N) : Ex2 (iblk m c 4 t : Vec Ideal S512x256 .f32) (fun r l => P (512 * t.val + r) l) := fun a b => by
  blk_simp [iblk]
  refine h.at _ _ _ ?_ ?_
  · blk_simp [ix_4]
    simp [Nat.mul_comm]
  · blk_simp [ix_4]

theorem blk_5 {P : ℕ → ℕ → EReal} (h : Ex2 (n0 := 1) (n1 := 1024) (V m c main_arg5) P) (t : Fin cfg0.N) : Ex2 (iblk m c 5 t : Vec Ideal S1x1024 .f32) P := fun a b => by
  blk_simp [iblk]
  refine h.at _ _ _ ?_ ?_
  · blk_simp [ix_5]
  · blk_simp [ix_5]

theorem blk_6 {P : ℕ → ℕ → EReal} (h : Ex2 (n0 := 1024) (n1 := 1024) (V m c main_arg6) P) (t : Fin cfg0.N) : Ex2 (iblk m c 6 t : Vec Ideal S1024x1024 .bf16) P := fun a b => by
  blk_simp [iblk]
  refine h.at _ _ _ ?_ ?_
  · blk_simp [ix_6]
  · blk_simp [ix_6]

/-- The call's result. -/
theorem final (p0 : Ex2 (n0 := 8192) (n1 := 1024) (V m c main_arg0) x) (p1 : Ex2 (n0 := 8192) (n1 := 256) (V m c main_arg1) yc) (p2 : Ex2 (n0 := 8192) (n1 := 512) (V m c main_arg2) o)
    (p3 : Ex2 (n0 := 8192) (n1 := 3200) (V m c main_arg3) z) (p4 : Ex2 (n0 := 8192) (n1 := 256) (V m c main_arg4) ys) (p5 : Ex2 (n0 := 1) (n1 := 1024) (V m c main_arg5) g) (p6 : Ex2 (n0 := 1024) (n1 := 1024) (V m c main_arg6) w) :
    Ex2 (n0 := 8192) (n1 := 1024) ((dats m 0 c).arrAt 7 cfg0.N) (yo x yc o (zn z) ys g w) := by
  have e : (dats m 0 c).arrAt 7 cfg0.N = fun i : S8192x1024.Idx => (yo x yc o (zn z) ys g w : ℕ → ℕ → EReal) (i 0).val (i 1).val := by
    refine (dats m 0 c).arrAt_eq_of_covers 7 _ (by decide +kernel) fun t hf y => ?_
    blk_simp
    rw [after0_7]
    refine ((out_A_7 c _ _ _ _ _ _ _ _ _ _ _ _ _ _ _ _ _ _ _ _ _ _ _ _ (x := fun r l => x (512 * t.val + r) l) (yc := fun r l => yc (512 * t.val + r) l) (o := fun r l => o (512 * t.val + r) l) (z := fun r l => z (512 * t.val + r) (1536 + l)) (ys := fun r l => ys (512 * t.val + r) l)
      (blk_0 m c p0 t) (blk_1 m c p1 t) (blk_2 m c p2 t) (blk_3 m c p3 t) (blk_4 m c p4 t) (blk_5 m c p5 t) (blk_6 m c p6 t)).at _ _ _ rfl rfl).trans ?_
    blk_simp [ix_7]
    simp [Nat.mul_comm]
    rfl
  rw [e]
  exact fun a b => rfl

end Call

namespace Plain
open Cert.Reference6Ideal Cert.Reference6Ideal.Gen Cert.Reference6Ideal.Read

section
variable {x yc o z ys g w : ℕ → ℕ → EReal} (x0 : (⟨S8192x1024, .f32⟩ : BufTy).Contents (Elt Ideal)) (x1 : (⟨S8192x256, .f32⟩ : BufTy).Contents (Elt Ideal)) (x2 : (⟨S8192x512, .f32⟩ : BufTy).Contents (Elt Ideal)) (x3 : (⟨S8192x3200, .f32⟩ : BufTy).Contents (Elt Ideal)) (x4 : (⟨S8192x256, .f32⟩ : BufTy).Contents (Elt Ideal)) (x5 : (⟨S1x1024, .f32⟩ : BufTy).Contents (Elt Ideal)) (x6 : (⟨S1024x1024, .bf16⟩ : BufTy).Contents (Elt Ideal))
  (p0 : Ex2 (n0 := 8192) (n1 := 1024) x0 x) (p1 : Ex2 (n0 := 8192) (n1 := 256) x1 yc) (p2 : Ex2 (n0 := 8192) (n1 := 512) x2 o) (p3 : Ex2 (n0 := 8192) (n1 := 3200) x3 z) (p4 : Ex2 (n0 := 8192) (n1 := 256) x4 ys) (p5 : Ex2 (n0 := 1) (n1 := 1024) x5 g) (p6 : Ex2 (n0 := 1024) (n1 := 1024) x6 w)
include p0 p1 p2 p3 p4 p5 p6

theorem r_z (i : S8192x512.Idx) : val_main_v0 (F := Ideal) x3 i = zn z (i 0).val (i 1).val := by
  rw [val_main_v0_apply]
  exact p3.at _ _ _ rfl rfl

theorem r_sgm (i : S8192x512.Idx) : val_main_call0_v5 (F := Ideal) x3 i = sgm (zn z (i 0).val (i 1).val) := by
  have e := r_z x0 x1 x2 x3 x4 x5 x6 p0 p1 p2 p3 p4 p5 p6 i
  rw [val_main_call0_v5_apply, val_main_call0_v3_apply, val_main_call0_v1_apply, val_main_call0_v0_apply, val_main_call0_v4_apply, val_main_call0_v2_apply, e]
  show Ideal.div (Ideal.ofBits .f32 0x3F800000#32) (Ideal.ofBits .f32 0x3F800000#32 + Ideal.exp (-(zn z (i 0).val (i 1).val))) = _
  rw [bits_one]
  rfl

theorem r_ym : Ex2 (n0 := 8192) (n1 := 512) (val_main_v16 (F := Ideal) x2 x3) (ym o (zn z)) := fun a b => by
  rw [val_main_v16_apply, val_main_v15_apply, r_sgm x0 x1 x2 x3 x4 x5 x6 p0 p1 p2 p3 p4 p5 p6, r_z x0 x1 x2 x3 x4 x5 x6 p0 p1 p2 p3 p4 p5 p6, p2.at _ a.val b.val rfl rfl]
  rfl

theorem ms_c (i : S8192x1.Idx) : val_main_v9 (F := Ideal) x1 i = ms 256 (1 / 256) yc (i 0).val := by
  rw [val_main_v9_apply, val_main_v7_apply, val_main_v5_apply, val_main_v4_apply, val_main_v6_apply, val_main_v8_apply]
  have e := sum_from_zero (n := 256) (fun k => yc (i 0).val k * yc (i 0).val k) (fun k => val_main_v3 (F := Ideal) x1 (idx_main_v4 (idx_main_v5 i) k)) _ Ideal.ofBits_zero_f32 fun k => by
    dsimp only
    rw [val_main_v3_apply, p1.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_c (i : S8192x1.Idx) : val_main_v10 (F := Ideal) x1 i = rms 256 (1 / 256) yc (i 0).val := by
  rw [val_main_v10_apply, ms_c x0 x1 x2 x3 x4 x5 x6 p0 p1 p2 p3 p4 p5 p6]
  rfl

theorem xn_c (i : S8192x256.Idx) : val_main_v12 (F := Ideal) x1 i = xn 256 (1 / 256) yc (i 0).val (i 1).val := by
  rw [val_main_v12_apply, val_main_v11_apply, rms_c x0 x1 x2 x3 x4 x5 x6 p0 p1 p2 p3 p4 p5 p6, p1.at i _ _ rfl rfl]
  rfl

theorem gs_c (i : S1x256.Idx) : val_main_v2 (F := Ideal) x5 i = cs 0 g 0 (i 1).val := by
  have h : (i 0).val < 1 := (i 0).isLt
  rw [val_main_v2_apply]
  exact p5.at _ 0 (0 + (i 1).val) (by show (i 0).val = 0; omega) (Nat.zero_add _).symm

/-- The normed and scaled rows. -/
theorem yn_c : Ex2 (n0 := 8192) (n1 := 256) (val_main_v14 (F := Ideal) x1 x5) (fun r d => xa yc o (zn z) ys r (0 + d) * g 0 (0 + d)) := fun a b => by
  rw [val_main_v14_apply, val_main_v13_apply, xn_c x0 x1 x2 x3 x4 x5 x6 p0 p1 p2 p3 p4 p5 p6, gs_c x0 x1 x2 x3 x4 x5 x6 p0 p1 p2 p3 p4 p5 p6]
  show _ = xa yc o (zn z) ys a.val (0 + b.val) * g 0 (0 + b.val)
  rw [xa_1 _ _ _ _ _ b.isLt]
  rfl

theorem ms_m (i : S8192x1.Idx) : val_main_v24 (F := Ideal) x2 x3 i = ms 512 (1 / 512) (ym o (zn z)) (i 0).val := by
  rw [val_main_v24_apply, val_main_v22_apply, val_main_v20_apply, val_main_v19_apply, val_main_v21_apply, val_main_v23_apply]
  have e := sum_from_zero (n := 512) (fun k => (ym o (zn z)) (i 0).val k * (ym o (zn z)) (i 0).val k) (fun k => val_main_v18 (F := Ideal) x2 x3 (idx_main_v19 (idx_main_v20 i) k)) _ Ideal.ofBits_zero_f32 fun k => by
    dsimp only
    rw [val_main_v18_apply, (r_ym x0 x1 x2 x3 x4 x5 x6 p0 p1 p2 p3 p4 p5 p6).at _ (i 0).val k.val rfl rfl]
    rfl
  refine (congrArg (fun y => Ideal.div y (Ideal.ofBits .f32 0x44000000#32) + Ideal.ofBits .f32 0x358637BD#32) e).trans ?_
  show Ideal.div _ (Ideal.ofBits .f32 0x44000000#32) + Ideal.ofBits .f32 0x358637BD#32 = _
  rw [bits_512, bits_eps, Ideal.div_coe (by norm_num)]
  rfl

theorem rms_m (i : S8192x1.Idx) : val_main_v25 (F := Ideal) x2 x3 i = rms 512 (1 / 512) (ym o (zn z)) (i 0).val := by
  rw [val_main_v25_apply, ms_m x0 x1 x2 x3 x4 x5 x6 p0 p1 p2 p3 p4 p5 p6]
  rfl

theorem xn_m (i : S8192x512.Idx) : val_main_v27 (F := Ideal) x2 x3 i = xn 512 (1 / 512) (ym o (zn z)) (i 0).val (i 1).val := by
  rw [val_main_v27_apply, val_main_v26_apply, rms_m x0 x1 x2 x3 x4 x5 x6 p0 p1 p2 p3 p4 p5 p6, (r_ym x0 x1 x2 x3 x4 x5 x6 p0 p1 p2 p3 p4 p5 p6).at i _ _ rfl rfl]
  rfl

theorem gs_m (i : S1x512.Idx) : val_main_v17 (F := Ideal) x5 i = cs 256 g 0 (i 1).val := by
  have h : (i 0).val < 1 := (i 0).isLt
  rw [val_main_v17_apply]
  exact p5.at _ 0 (256 + (i 1).val) (by show (i 0).val = 0; omega) rfl

/-- The normed and scaled rows. -/
theorem yn_m : Ex2 (n0 := 8192) (n1 := 512) (val_main_v29 (F := Ideal) x2 x3 x5) (fun r d => xa yc o (zn z) ys r (256 + d) * g 0 (256 + d)) := fun a b => by
  rw [val_main_v29_apply, val_main_v28_apply, xn_m x0 x1 x2 x3 x4 x5 x6 p0 p1 p2 p3 p4 p5 p6, gs_m x0 x1 x2 x3 x4 x5 x6 p0 p1 p2 p3 p4 p5 p6]
  show _ = xa yc o (zn z) ys a.val (256 + b.val) * g 0 (256 + b.val)
  rw [xa_2 _ _ _ _ _ b.isLt]
  rfl

theorem ms_s (i : S8192x1.Idx) : val_main_v37 (F := Ideal) x4 i = ms 256 (1 / 256) ys (i 0).val := by
  rw [val_main_v37_apply, val_main_v35_apply, val_main_v33_apply, val_main_v32_apply, val_main_v34_apply, val_main_v36_apply]
  have e := sum_from_zero (n := 256) (fun k => ys (i 0).val k * ys (i 0).val k) (fun k => val_main_v31 (F := Ideal) x4 (idx_main_v32 (idx_main_v33 i) k)) _ Ideal.ofBits_zero_f32 fun k => by
    dsimp only
    rw [val_main_v31_apply, p4.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_s (i : S8192x1.Idx) : val_main_v38 (F := Ideal) x4 i = rms 256 (1 / 256) ys (i 0).val := by
  rw [val_main_v38_apply, ms_s x0 x1 x2 x3 x4 x5 x6 p0 p1 p2 p3 p4 p5 p6]
  rfl

theorem xn_s (i : S8192x256.Idx) : val_main_v40 (F := Ideal) x4 i = xn 256 (1 / 256) ys (i 0).val (i 1).val := by
  rw [val_main_v40_apply, val_main_v39_apply, rms_s x0 x1 x2 x3 x4 x5 x6 p0 p1 p2 p3 p4 p5 p6, p4.at i _ _ rfl rfl]
  rfl

theorem gs_s (i : S1x256.Idx) : val_main_v30 (F := Ideal) x5 i = cs 768 g 0 (i 1).val := by
  have h : (i 0).val < 1 := (i 0).isLt
  rw [val_main_v30_apply]
  exact p5.at _ 0 (768 + (i 1).val) (by show (i 0).val = 0; omega) rfl

/-- The normed and scaled rows. -/
theorem yn_s : Ex2 (n0 := 8192) (n1 := 256) (val_main_v42 (F := Ideal) x4 x5) (fun r d => xa yc o (zn z) ys r (768 + d) * g 0 (768 + d)) := fun a b => by
  rw [val_main_v42_apply, val_main_v41_apply, xn_s x0 x1 x2 x3 x4 x5 x6 p0 p1 p2 p3 p4 p5 p6, gs_s x0 x1 x2 x3 x4 x5 x6 p0 p1 p2 p3 p4 p5 p6]
  show _ = xa yc o (zn z) ys a.val (768 + b.val) * g 0 (768 + b.val)
  rw [xa_3 _ _ _ _ _ b.isLt]
  rfl

/-- The joined rows. -/
theorem r_yn : Ex2 (n0 := 8192) (n1 := 1024) (val_main_v43 (F := Ideal) x1 x2 x3 x4 x5) (fun r d => xa yc o (zn z) ys r d * g 0 d) := fun a b => by
  unfold val_main_v43
  refine concat_eq _ _ _ _ _ fun k hk hr i e eo => ?_
  have e0 : (i (Fin.cast hr.symm 0)).val = a.val := eo (Fin.cast hr.symm 0) (by show (0 : Fin 2) ≠ 1; decide)
  match k, hk with
  | 0, _ => exact (yn_c x0 x1 x2 x3 x4 x5 x6 p0 p1 p2 p3 p4 p5 p6).part (D := fun l a => xa yc o (zn z) ys l a * g 0 a) i _ _ e0 e
  | 1, _ => exact (yn_m x0 x1 x2 x3 x4 x5 x6 p0 p1 p2 p3 p4 p5 p6).part (D := fun l a => xa yc o (zn z) ys l a * g 0 a) i _ _ e0 e
  | 2, _ => exact (yn_s x0 x1 x2 x3 x4 x5 x6 p0 p1 p2 p3 p4 p5 p6).part (D := fun l a => xa yc o (zn z) ys l a * g 0 a) i _ _ e0 e
  | k + 3, hk => exact absurd hk (by simp)

/-- The reference's result before the loss. -/
theorem r_y : Ex2 (n0 := 8192) (n1 := 1024) (val_main_v45 (F := Ideal) x0 x1 x2 x3 x4 x5 x6) (yo x yc o (zn z) ys g w) := fun a b => by
  rw [val_main_v45_apply, val_main_v44_apply, p0.at _ a.val b.val rfl rfl]
  refine congrArg (_ + ·) ?_
  refine Eq.trans ?_ (Finset.sum_range (n := 1024) fun k => xa yc o (zn z) ys a.val k * g 0 k * w k b.val).symm
  refine Finset.sum_congr rfl fun k _ => ?_
  refine congrArg₂ (· * ·) ((r_yn x0 x1 x2 x3 x4 x5 x6 p0 p1 p2 p3 p4 p5 p6).at _ a.val k.val rfl rfl) ?_
  rw [val_main_v1_apply]
  exact p6.at _ k.val b.val rfl rfl

end
end Plain

theorem frame_kernel : Cert.quiescent_Kernel6 := fun m ρ _ => Cert.Kernel6.Gen.frame (F := Bits) m ρ
theorem frame_ideal : Cert.quiescent_Kernel6Ideal := fun m ρ _ => Cert.Kernel6Ideal.Gen.frame (F := Ideal) m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

set_option maxHeartbeats 2000000 in
/-- The call's result is the reference's. -/
theorem algebraic : Cert.algebraic_Kernel6Ideal_Reference6Ideal := fun m ρ m' ρ' _ hargs => by
  refine ⟨_, Cert.Kernel6Ideal.Value.run_blocks m ρ, ?_⟩
  refine (θ_run Cert.Reference6Ideal.defs _ _).mono (fun _ h c => ?_) (Cert.Reference6Ideal.Value.run (F := Ideal) m' ρ')
  obtain ⟨a0, a1, a2, a3, a4, a5, a6⟩ := hargs c
  refine ⟨?_, (h c).2⟩
  refine (h c).1.trans ?_
  rw [Cert.Reference6Ideal.Read.val_main_v45_eq, a0, a1, a2, a3, a4, a5, a6]
  have q0 := ex_natF (n0 := 8192) (n1 := 1024) (m ((c.tc : Thread Cert.Kernel6Ideal.nD Cert.Kernel6Ideal.τ).loc Cert.Kernel6Ideal.main_arg0))
  have q1 := ex_natF (n0 := 8192) (n1 := 256) (m ((c.tc : Thread Cert.Kernel6Ideal.nD Cert.Kernel6Ideal.τ).loc Cert.Kernel6Ideal.main_arg1))
  have q2 := ex_natF (n0 := 8192) (n1 := 512) (m ((c.tc : Thread Cert.Kernel6Ideal.nD Cert.Kernel6Ideal.τ).loc Cert.Kernel6Ideal.main_arg2))
  have q3 := ex_natF (n0 := 8192) (n1 := 3200) (m ((c.tc : Thread Cert.Kernel6Ideal.nD Cert.Kernel6Ideal.τ).loc Cert.Kernel6Ideal.main_arg3))
  have q4 := ex_natF (n0 := 8192) (n1 := 256) (m ((c.tc : Thread Cert.Kernel6Ideal.nD Cert.Kernel6Ideal.τ).loc Cert.Kernel6Ideal.main_arg4))
  have q5 := ex_natF (n0 := 1) (n1 := 1024) (m ((c.tc : Thread Cert.Kernel6Ideal.nD Cert.Kernel6Ideal.τ).loc Cert.Kernel6Ideal.main_arg5))
  have q6 := ex_natF (n0 := 1024) (n1 := 1024) (m ((c.tc : Thread Cert.Kernel6Ideal.nD Cert.Kernel6Ideal.τ).loc Cert.Kernel6Ideal.main_arg6))
  have k := Call.final m c q0 q1 q2 q3 q4 q5 q6
  have r := Plain.r_y _ _ _ _ _ _ _ q0 q1 q2 q3 q4 q5 q6
  funext i
  exact (r.at i _ _ rfl rfl).trans (k.at i _ _ rfl rfl).symm

end Cert.Proof.PostFwd
end
-- ==== Proof.PostLossMath.lean ====
module

public import proofs.«01_k».proof.Proof.PostFwdMath

/-! The loss: constants and the order of its sums. -/

@[expose] public section

set_option maxRecDepth 16384

noncomputable section

namespace Cert.Proof.PostLoss

open Idealize.ShloMosaic Idealize.ShloMosaic.TcCoe
open Cert.Proof.Blocks Cert.Proof.Rows
open Finset

theorem bits_2048 : Ideal.ofBits .f32 0x3A000000#32 = (((1 : ℝ) / 2048 : ℝ) : EReal) := by
  simp [Ideal.ofBits, Ideal.ieee]
  norm_num
  rw [← EReal.coe_mul]
  norm_num
theorem bits_two : Ideal.ofBits .f32 0x40000000#32 = ((2 : ℝ) : EReal) := by
  simp [Ideal.ofBits, Ideal.ieee]
  norm_num
  rw [← EReal.coe_mul]
  norm_num
theorem bits_onehalf : Ideal.ofBits .f32 0x3F000000#32 = (((1 : ℝ) / 2 : ℝ) : EReal) := by
  simp [Ideal.ofBits, Ideal.ieee]
  norm_num
  rw [← EReal.coe_mul]
  norm_num

/-- A sum taken in `n` groups of `m`. -/
theorem sum_groups (m : ℕ) (f : ℕ → EReal) : ∀ n : ℕ, ∑ r ∈ range (n * m), f r = ∑ s ∈ range n, ∑ j ∈ range m, f (m * s + j)
  | 0 => by simp
  | n + 1 => by
    rw [Nat.succ_mul, Finset.sum_range_add, sum_groups m f n, Finset.sum_range_succ, Nat.mul_comm n m]

/-- What a point of the grid adds to an entry of the 8×128 sums. -/
def part (e : ℕ → ℕ → EReal) (a b : ℕ) : EReal := ∑ q ∈ range 8, ∑ j ∈ range 64, e (8 * j + a) (128 * q + b)

/-- The sums' entries added up are all the rows' sums added up. -/
theorem all_parts (E : ℕ → ℕ → EReal) :
    (∑ a ∈ range 8, ∑ b ∈ range 128, ∑ t ∈ range 16, part (fun r l => E (512 * t + r) l) a b) = ∑ r ∈ range 8192, ∑ l ∈ range 1024, E r l := by
  have h1 : ∀ r, ∑ l ∈ range 1024, E r l = ∑ q ∈ range 8, ∑ b ∈ range 128, E r (128 * q + b) := fun r => sum_groups 128 (E r) 8
  have h2 : ∀ t, ∑ i ∈ range 512, ∑ l ∈ range 1024, E (512 * t + i) l = ∑ j ∈ range 64, ∑ a ∈ range 8, ∑ l ∈ range 1024, E (512 * t + (8 * j + a)) l := fun t =>
    sum_groups 8 (fun i => ∑ l ∈ range 1024, E (512 * t + i) l) 64
  have h3 : ∑ r ∈ range 8192, ∑ l ∈ range 1024, E r l = ∑ t ∈ range 16, ∑ i ∈ range 512, ∑ l ∈ range 1024, E (512 * t + i) l :=
    sum_groups 512 (fun r => ∑ l ∈ range 1024, E r l) 16
  rw [h3]
  have h4 : ∀ a, (∑ b ∈ range 128, ∑ t ∈ range 16, part (fun r l => E (512 * t + r) l) a b) = ∑ t ∈ range 16, ∑ j ∈ range 64, ∑ l ∈ range 1024, E (512 * t + (8 * j + a)) l := fun a => by
    rw [Finset.sum_comm]
    refine Finset.sum_congr rfl fun t _ => ?_
    unfold part
    rw [Finset.sum_comm]
    refine Eq.trans (Finset.sum_congr rfl fun q _ => Finset.sum_comm) ?_
    rw [Finset.sum_comm]
    exact Finset.sum_congr rfl fun j _ => (h1 _).symm
  refine (Finset.sum_congr rfl fun a _ => h4 a).trans ?_
  rw [Finset.sum_comm]
  refine Finset.sum_congr rfl fun t _ => ?_
  rw [Finset.sum_comm]
  exact (h2 t).symm

/-- Half the sum of the rows' means is the whole sum's part. -/
theorem half_means (n : ℕ) (f : ℕ → EReal) :
    (((1 : ℝ) / 2 : ℝ) : EReal) * (∑ r ∈ range n, f r * (((1 : ℝ) / 1024 : ℝ) : EReal)) = (∑ r ∈ range n, f r) * (((1 : ℝ) / 2048 : ℝ) : EReal) := by
  rw [sum_mul_pos (by norm_num), mul_comm, mul_assoc, ← EReal.coe_mul]
  norm_num

/-- The gradient's factor. -/
theorem grad_factor (e : EReal) :
    ((((1 : ℝ) / 2 : ℝ) : EReal) * ((1 : ℝ) : EReal)) * (((1 : ℝ) / 1024 : ℝ) : EReal) * (((2 : ℝ) : EReal) * e) = e * (((1 : ℝ) / 1024 : ℝ) : EReal) := by
  rw [← mul_assoc, ← EReal.coe_mul, ← EReal.coe_mul, ← EReal.coe_mul, mul_comm]
  norm_num

/-- A sum over the indices of a one-axis array. -/
theorem sum_idx {n : ℕ} (f : (⟨1, ![n]⟩ : Shape).Idx → EReal) : ∑ j, f j = ∑ k : Fin n, f (ValueIdx.ix1 k) :=
  (Fintype.sum_bijective (fun k : Fin n => (ValueIdx.ix1 k : (⟨1, ![n]⟩ : Shape).Idx)) ⟨fun a b h => congrFun h 0, fun j => ⟨j 0, funext fun d => by
    match d with
    | ⟨0, _⟩ => rfl⟩⟩ _ _ fun _ => rfl).symm

/-! ## Arrays -/

theorem ex_self {n0 n1 : ℕ} {x : (⟨2, ![n0, n1]⟩ : Shape).Idx → EReal} {f : ℕ → ℕ → EReal} (h : Ex2 x f) (hs : Shape.ShapeCasts ⟨2, ![n0, n1]⟩ ⟨2, ![n0, n1]⟩) :
    Ex2 (shapeCast ⟨2, ![n0, n1]⟩ x hs) f := by
  rw [shapeCast_self]
  exact h

theorem ex_cut {m n p w b : ℕ} {x : (⟨2, ![m, n]⟩ : Shape).Idx → EReal} {f : ℕ → ℕ → EReal} (h : Ex2 x f) (hs : Shape.Slices ⟨2, ![m, n]⟩ ![0, b] ⟨2, ![p, w]⟩) :
    Ex2 (extractStridedSlice ⟨2, ![p, w]⟩ ![0, b] x hs) (fun y l => f y (b + l)) := fun y l => by
  have hy : y.val < m := by
    have := hs.2 0
    have h1 := y.isLt
    have h2 : (![0, b] : Fin 2 → ℕ) 0 + p ≤ m := this
    simp at h2
    omega
  have hl : b + l.val < n := by
    have := hs.2 1
    have h1 := l.isLt
    have h2 : (![0, b] : Fin 2 → ℕ) 1 + w ≤ n := this
    simp at h2
    omega
  rw [extractStridedSlice_apply _ _ hs _ (ValueIdx.ix2 ⟨y.val, hy⟩ ⟨b + l.val, hl⟩) (fun d => by
    match d with
    | ⟨0, _⟩ => exact (Nat.zero_add _).symm
    | ⟨1, _⟩ => rfl)]
  exact h _ _

theorem ex_spread1 {n m : ℕ} {x : (⟨2, ![1, 1]⟩ : Shape).Idx → EReal} {f : ℕ → ℕ → EReal} (h : Ex2 x f) (hb : Shape.Broadcasts ⟨2, ![1, 1]⟩ ⟨2, ![n, m]⟩) :
    Ex2 (broadcastTo ⟨2, ![n, m]⟩ x hb) (fun _ _ => f 0 0) := fun a b => by
  rw [broadcastTo_apply _ _ _ (ValueIdx.ix2 (0 : Fin 1) (0 : Fin 1)) (fun d => by
    match d with
    | ⟨0, _⟩ => exact (if_pos rfl).symm
    | ⟨1, _⟩ => exact (if_pos rfl).symm)]
  exact h 0 0

/-- The sums over the rows of one residue, of an array seen as groups of rows. -/
theorem ex_groups {G R C : ℕ} {x : FVec Ideal ⟨2, ![G * R, C]⟩ .f32} {f : ℕ → ℕ → EReal} (h : Ex2 x f) (hs : Shape.ShapeCasts ⟨2, ![G * R, C]⟩ ⟨3, ![G, R, C]⟩)
    (hr : Shape.Reduces ⟨3, ![G, R, C]⟩ [0] ⟨2, ![R, C]⟩) (hφ : FKind.Formats .f32) (hacc : (0x00000000#32 : BitVec 32) = FKind.add.neutral .f32 hφ) :
    Ex2 (n0 := R) (n1 := C) (multiReduction .add [0] ⟨2, ![R, C]⟩ (shapeCast ⟨3, ![G, R, C]⟩ x hs) 0x00000000#32 hr hφ hacc) (fun a c => ∑ j ∈ range G, f (R * j + a) c) := fun a c => by
  rw [Ideal.multiReduction_add_single]
  refine Eq.trans ?_ (Finset.sum_range _).symm
  refine Finset.sum_congr rfl fun k _ => ?_
  have hk : k.val < G := k.isLt
  have hi : R * k.val + a.val < G * R := by
    have := a.isLt
    calc R * k.val + a.val < R * k.val + R := by omega
      _ = R * (k.val + 1) := by ring
      _ ≤ R * G := Nat.mul_le_mul_left R hk
      _ = G * R := Nat.mul_comm _ _
  rw [shapeCast_apply _ hs _ (ValueIdx.ix2 ⟨R * k.val + a.val, hi⟩ c) (by
    rw [Shape.rowMajor_val_two, Shape.rowMajor_val_three]
    show (R * k.val + a.val) * C + c.val = (k.val * R + a.val) * C + c.val
    rw [Nat.mul_comm R])]
  exact h _ _

end Cert.Proof.PostLoss
end
-- ==== Proof.PostLoss.lean ====
module

public import proofs.«01_k».proof.Defs
public import proofs.«01_k».proof.Proof.PostLossMath
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pipeline.ValueKit.Tiles
public import Idealize.ShloMosaic.Lib.KernelVsHost

/-! The forward output projection of the last layer with the loss: the call's results. -/

@[expose] public section

set_option maxRecDepth 16384

noncomputable section

namespace Cert.Proof.PostLoss

open Idealize.ShloMosaic Idealize.ShloMosaic.TcCoe Idealize.SL.Sem
open Cert.Proof.Blocks Cert.Proof.Rows
open Cert.Proof.Post (ms rms xn sgm ex_sgm ym cs rs silu xa xa_1 xa_2 xa_3 zn bits_one bits_inv256 bits_inv512 bits_256 bits_512)
open Finset
open Cert.Proof.PostFwd (yo yo_parts ex_whole ex_cs ex_rs)

/-- The output's distance from the target. -/
def off (x yc o z ys g w tgt : ℕ → ℕ → EReal) (r l : ℕ) : EReal := yo x yc o z ys g w r l - tgt r l

/-- The loss: a part of the sum of the squares. -/
def loss (x yc o z ys g w tgt : ℕ → ℕ → EReal) : EReal :=
  (∑ r ∈ range 8192, ∑ l ∈ range 1024, off x yc o z ys g w tgt r l * off x yc o z ys g w tgt r l) * (((1 : ℝ) / 2048 : ℝ) : EReal)

namespace Call
open Cert.Kernel7Ideal Cert.Kernel7Ideal.Gen

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 3] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![0, 0] := (by decide +kernel : ∀ t : Fin grid0.N, _)

section
variable {x yc o z ys g w : ℕ → ℕ → EReal}
theorem ex_ym {a z' : Vec Ideal S512x512 .f32} (ho : Ex2 a o) (hz : Ex2 z' z) : Ex2 (k0_pay4 (F := Ideal) a z') (ym o z) := ex_times ho (ex_times hz (ex_sgm hz))
theorem ex_first {a : Vec Ideal S512x256 .f32} {b : Vec Ideal S512x1024 .f32} {s : Vec Ideal S1x256 .f32} {v : Vec Ideal S256x1024 .bf16} (h : Ex2 a yc) (hx : Ex2 b x) (hs : Ex2 s g) (hv : Ex2 v w) :
    Ex2 (k0_pay5 (F := Ideal) a b s v) (fun r l => x r l + ∑ k ∈ range 256, xn 256 (1 / 256) yc r k * g 0 k * w k l) :=
  ex_add hx (ex_mul (ex_times (ex_times h (ex_spreadCol (ex_rsqrt (ex_add (ex_times (ex_rowSum (ex_times h h) _ _ _ _) (ex_const _ _ bits_inv256)) (ex_const _ _ bits_eps))) (by decide) _)) (ex_spreadRow hs (by decide) _)) hv)
theorem ex_sq {a z' : Vec Ideal S512x512 .f32} (ho : Ex2 a o) (hz : Ex2 z' z) : Ex2 (k0_pay6 (F := Ideal) a z') (fun r k => ym o z r k * ym o z r k) :=
  ex_times (ex_ym ho hz) (ex_ym ho hz)

section
variable {p : FVec Ideal S512x512 .f32} {a : Vec Ideal S512x256 .f32} {y : FVec Ideal S512x1024 .f32} {q : FVec Ideal S512x512 .f32} {s1 : Vec Ideal S1x512 .f32} {v1 : Vec Ideal S512x1024 .bf16} {s2 : Vec Ideal S1x256 .f32} {v2 : Vec Ideal S256x1024 .bf16} {t : Vec Ideal S512x1024 .f32}
    {tgt : ℕ → ℕ → EReal} (hp : Ex2 p (ym o z)) (ha : Ex2 a ys) (hy : Ex2 y (fun r l => x r l + ∑ k ∈ range 256, xn 256 (1 / 256) yc r k * cs 0 g 0 k * rs 0 w k l)) (hq : Ex2 q (fun r k => ym o z r k * ym o z r k))
    (hs1 : Ex2 s1 (cs 256 g)) (hv1 : Ex2 v1 (rs 256 w)) (hs2 : Ex2 s2 (cs 768 g)) (hv2 : Ex2 v2 (rs 768 w)) (ht : Ex2 t tgt)
include hp ha hy hq hs1 hv1 hs2 hv2 ht
theorem ex_off : Ex2 (k0_pay7 (F := Ideal) p a y q s1 v1 s2 v2 t) (off x yc o z ys g w tgt) := by
  have k : Ex2 (k0_pay7 (F := Ideal) p a y q s1 v1 s2 v2 t) (fun r l => (x r l + (∑ k ∈ range 256, xn 256 (1 / 256) yc r k * cs 0 g 0 k * rs 0 w k l) + (∑ k ∈ range 512, xn 512 (1 / 512) (ym o z) r k * cs 256 g 0 k * rs 256 w k l)
      + (∑ k ∈ range 256, xn 256 (1 / 256) ys r k * cs 768 g 0 k * rs 768 w k l)) - tgt r l) :=
    ex_sub (ex_add (ex_add hy (ex_mul (ex_times (ex_times hp (ex_spreadCol (ex_rsqrt (ex_add (ex_times (ex_rowSum hq _ _ _ _) (ex_const _ _ bits_inv512)) (ex_const _ _ bits_eps))) (by decide) _)) (ex_spreadRow hs1 (by decide) _)) hv1))
      (ex_mul (ex_times (ex_times ha (ex_spreadCol (ex_rsqrt (ex_add (ex_times (ex_rowSum (ex_times ha ha) _ _ _ _) (ex_const _ _ bits_inv256)) (ex_const _ _ bits_eps))) (by decide) _)) (ex_spreadRow hs2 (by decide) _)) hv2)) ht
  refine k.congr fun r _ l _ => ?_
  rw [yo_parts]
  rfl
theorem ex_grad : Ex2 (k0_pay8 (F := Ideal) p a y q s1 v1 s2 v2 t) (fun r l => off x yc o z ys g w tgt r l * (((1 : ℝ) / 1024 : ℝ) : EReal)) :=
  ex_times (ex_off hp ha hy hq hs1 hv1 hs2 hv2 ht) (ex_const _ _ bits_inv)
end

theorem ex_fold {d : FVec Ideal S512x1024 .f32} {v : Vec Ideal S8x128 .f32} {e s : ℕ → ℕ → EReal} (h : Ex2 d e) (hv : Ex2 v s) :
    Ex2 (k0_pay1 (F := Ideal) d v) (fun a b => s a b + part (fun r l => e r l * e r l) a b) := by
  have g := ex_groups (G := 64) (R := 8) (C := 1024) (ex_times h h) shapeCasts_S512x1024_S64x8x1024 reduces_S64x8x1024_S8x1024 (.inl rfl) rfl
  have k : Ex2 (k0_pay1 (F := Ideal) d v) _ :=
    ex_self (ex_add hv (ex_add (ex_add (ex_add (ex_add (ex_add (ex_add (ex_add (ex_cut (b := 0) g _) (ex_cut (b := 128) g _)) (ex_cut (b := 256) g _)) (ex_cut (b := 384) g _)) (ex_cut (b := 512) g _)) (ex_cut (b := 640) g _)) (ex_cut (b := 768) g _)) (ex_cut (b := 896) g _))) _
  refine k.congr fun a _ b _ => ?_
  unfold part
  simp only [Finset.sum_range_succ (n := 7), Finset.sum_range_succ (n := 6), Finset.sum_range_succ (n := 5), Finset.sum_range_succ (n := 4), Finset.sum_range_succ (n := 3), Finset.sum_range_succ (n := 2), Finset.sum_range_succ (n := 1), Finset.sum_range_one]

theorem ex_loss {v : Vec Ideal S8x128 .f32} {s : ℕ → ℕ → EReal} (hv : Ex2 v s) :
    Ex2 (k0_pay2 (F := Ideal) v) (fun _ _ => (∑ a ∈ range 8, ∑ b ∈ range 128, s a b) * (((1 : ℝ) / 2048 : ℝ) : EReal)) :=
  ex_spread1 (ex_self (ex_times (ex_colSum (ex_rowSum hv _ _ _ _) _ _ _ _) (ex_const _ _ bits_2048)) _) broadcasts_S1x1_S8x128

/-- What was stored whole, loaded. -/
theorem ex_reload (v : View sig .tc .vmem S8x128 .f32) {p : Vec Ideal S8x128 .f32} {s : ℕ → ℕ → EReal} (h : Ex2 p s) :
    Ex2 (n0 := 8) (n1 := 128) (View.readCov (Val := Elt Ideal) v [⟨Rect.unit (s := S8x128) ![0, 0] S8x128.size inb_S8x128_S8x128_0_0, p⟩] (Rect.unit (s := S8x128) ![0, 0] S8x128.size inb_S8x128_S8x128_0_0).toLoadRect) s := by
  have e := View.readCov_full (Val := Elt Ideal) v inb_S8x128_S8x128_0_0 inb_S8x128_S8x128_0_0 p []
  rw [e]
  exact h
end

section
variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x128 .f32) (harg10 : arg10.IsWhole) (arg11 : Memref sig .tc .vmem S8x128 .f32) (harg11 : arg11.IsWhole)
    (x0 : Vec Ideal S512x1024 .f32) (x1 : Vec Ideal S512x256 .f32) (x2 : Vec Ideal S512x512 .f32) (x3 : Vec Ideal S512x512 .f32) (x4 : Vec Ideal S512x256 .f32) (x5 : Vec Ideal S1x1024 .f32) (x6 : Vec Ideal S1024x1024 .bf16) (x7 : Vec Ideal S512x1024 .f32)
    {x yc o z ys g w tgt s : ℕ → ℕ → EReal} (h0 : Ex2 x0 x) (h1 : Ex2 x1 yc) (h2 : Ex2 x2 o) (h3 : Ex2 x3 z) (h4 : Ex2 x4 ys) (h5 : Ex2 x5 g) (h6 : Ex2 x6 w) (h7 : Ex2 x7 tgt)
include h0 h1 h2 h3 h4 h5 h6 h7

theorem out_A_8 (hc0 : cond0_0 i) (hc1 : ¬cond0_1 i) :
    Ex2 (out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7) (fun r l => off x yc o z ys g w tgt r l * (((1 : ℝ) / 1024 : ℝ) : EReal)) := by
  unfold out0_A_8 kernelRun0_A
  dsimp only
  sl_unfold_words
  have k := ex_grad (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)
  refine Eq.mp (congrArg (fun y => Ex2 y _) (View.read_writes_full (Val := Elt Ideal) VO0_8 VO0_8.junk _ _ _).symm) ?_
  exact k

theorem sum_A (hc0 : cond0_0 i) (hc1 : ¬cond0_1 i) :
    Ex2 (sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7) (fun a b => 0 + part (fun r l => off x yc o z ys g w tgt r l * off x yc o z ys g w tgt r l) a b) := by
  unfold sout0_A_0 kernelRun0_A
  dsimp only
  sl_unfold_words
  have hz0 : Ex2 (n0 := 8) (n1 := 128) (View.readCov (Val := Elt Ideal) arg11.view [⟨Rect.unit (s := S8x128) ![0, 0] S8x128.size inb_S8x128_S8x128_0_0, k0_pay3 (F := Ideal)⟩] (Rect.unit (s := S8x128) ![0, 0] S8x128.size inb_S8x128_S8x128_0_0).toLoadRect) (fun _ _ => 0) := by
    have e := View.readCov_full (Val := Elt Ideal) arg11.view inb_S8x128_S8x128_0_0 inb_S8x128_S8x128_0_0 (k0_pay3 (F := Ideal)) []
    rw [e]
    exact ex_self (fun _ _ => Ideal.ofBits_zero_f32) _
  have k := ex_fold (ex_off (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)) hz0
  refine Eq.mp (congrArg (fun y => Ex2 y _) (View.read_writes_full (Val := Elt Ideal) VS0_0 VS0_0.junk _ _ _).symm) ?_
  exact k

theorem out_B_8 (hc0 : ¬cond0_0 i) (hc1 : ¬cond0_1 i) (xs0 : Vec Ideal S8x128 .f32) (hs : Ex2 xs0 s) :
    Ex2 (out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0) (fun r l => off x yc o z ys g w tgt r l * (((1 : ℝ) / 1024 : ℝ) : EReal)) := by
  unfold out0_B_8 kernelRun0_B
  dsimp only
  sl_unfold_words
  have k := ex_grad (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)
  refine Eq.mp (congrArg (fun y => Ex2 y _) (View.read_writes_full (Val := Elt Ideal) VO0_8 VO0_8.junk _ _ _).symm) ?_
  exact k

theorem sum_B (hc0 : ¬cond0_0 i) (hc1 : ¬cond0_1 i) (xs0 : Vec Ideal S8x128 .f32) (hs : Ex2 xs0 s) :
    Ex2 (sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0) (fun a b => s a b + part (fun r l => off x yc o z ys g w tgt r l * off x yc o z ys g w tgt r l) a b) := by
  unfold sout0_B_0 kernelRun0_B
  dsimp only
  sl_unfold_words
  have k := ex_fold (ex_off (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)) (ex_whole arg11 harg11 hs inb_S8x128_S8x128_0_0)
  refine Eq.mp (congrArg (fun y => Ex2 y _) (View.read_writes_full (Val := Elt Ideal) VS0_0 VS0_0.junk _ _ _).symm) ?_
  exact k

theorem out_C_8 (hc0 : ¬cond0_0 i) (hc1 : cond0_1 i) (xs0 : Vec Ideal S8x128 .f32) (hs : Ex2 xs0 s) :
    Ex2 (out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0) (fun r l => off x yc o z ys g w tgt r l * (((1 : ℝ) / 1024 : ℝ) : EReal)) := by
  unfold out0_C_8 kernelRun0_C
  dsimp only
  sl_unfold_words
  have k := ex_grad (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)
  refine Eq.mp (congrArg (fun y => Ex2 y _) (View.read_writes_full (Val := Elt Ideal) VO0_8 VO0_8.junk _ _ _).symm) ?_
  exact k

theorem sum_C (hc0 : ¬cond0_0 i) (hc1 : cond0_1 i) (xs0 : Vec Ideal S8x128 .f32) (hs : Ex2 xs0 s) :
    Ex2 (sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0) (fun a b => s a b + part (fun r l => off x yc o z ys g w tgt r l * off x yc o z ys g w tgt r l) a b) := by
  unfold sout0_C_0 kernelRun0_C
  dsimp only
  sl_unfold_words
  have k := ex_fold (ex_off (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)) (ex_whole arg11 harg11 hs inb_S8x128_S8x128_0_0)
  refine Eq.mp (congrArg (fun y => Ex2 y _) (View.read_writes_full (Val := Elt Ideal) VS0_0 VS0_0.junk _ _ _).symm) ?_
  exact k

theorem out_C_9 (hc0 : ¬cond0_0 i) (hc1 : cond0_1 i) (xs0 : Vec Ideal S8x128 .f32) (hs : Ex2 xs0 s) :
    Ex2 (out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0) (fun _ _ => (∑ a ∈ range 8, ∑ b ∈ range 128, (s a b + part (fun r l => off x yc o z ys g w tgt r l * off x yc o z ys g w tgt r l) a b)) * (((1 : ℝ) / 2048 : ℝ) : EReal)) := by
  unfold out0_C_9 kernelRun0_C
  dsimp only
  sl_unfold_words
  have k := ex_fold (ex_off (ex_ym (ex_whole arg3 harg3 h2 inb_S512x512_S512x512_0_0) (ex_whole arg4 harg4 h3 inb_S512x512_S512x512_0_0)) (ex_whole arg5 harg5 h4 inb_S512x256_S512x256_0_0)
    (ex_first (ex_whole arg2 harg2 h1 inb_S512x256_S512x256_0_0) (ex_whole arg1 harg1 h0 inb_S512x1024_S512x1024_0_0) (ex_cs arg6 harg6 h5 inb_S1x1024_S1x256_0_0) (ex_rs arg7 harg7 h6 inb_S1024x1024_S256x1024_0_0))
    (ex_sq (ex_whole arg3 harg3 h2 inb_S512x512_S512x512_0_0) (ex_whole arg4 harg4 h3 inb_S512x512_S512x512_0_0))
    (ex_cs arg6 harg6 h5 inb_S1x1024_S1x512_0_256) (ex_rs arg7 harg7 h6 inb_S1024x1024_S512x1024_256_0) (ex_cs arg6 harg6 h5 inb_S1x1024_S1x256_0_768) (ex_rs arg7 harg7 h6 inb_S1024x1024_S256x1024_768_0) (ex_whole arg8 harg8 h7 inb_S512x1024_S512x1024_0_0)) (ex_whole arg11 harg11 hs inb_S8x128_S8x128_0_0)
  have k2 := ex_loss (ex_reload arg11.view k)
  refine Eq.mp (congrArg (fun y => Ex2 y _) (View.read_writes_full (Val := Elt Ideal) VO0_9 VO0_9.junk _ _ _).symm) ?_
  exact k2

end

variable (m : (ℓ : Loc nD τ sig) → Buf (Elt Ideal) ℓ) (c : Dev nD) {x yc o z ys g w tgt : ℕ → ℕ → EReal}

theorem blk_0 {P : ℕ → ℕ → EReal} (h : Ex2 (n0 := 8192) (n1 := 1024) (V m c main_arg0) P) (t : Fin cfg0.N) : Ex2 (iblk m c 0 t : Vec Ideal S512x1024 .f32) (fun r l => P (512 * t.val + r) l) := fun a b => by
  blk_simp [iblk]
  refine h.at _ _ _ ?_ ?_
  · blk_simp [ix_0]
    simp [Nat.mul_comm]
  · blk_simp [ix_0]

theorem blk_1 {P : ℕ → ℕ → EReal} (h : Ex2 (n0 := 8192) (n1 := 256) (V m c main_arg1) P) (t : Fin cfg0.N) : Ex2 (iblk m c 1 t : Vec Ideal S512x256 .f32) (fun r l => P (512 * t.val + r) l) := fun a b => by
  blk_simp [iblk]
  refine h.at _ _ _ ?_ ?_
  · blk_simp [ix_1]
    simp [Nat.mul_comm]
  · blk_simp [ix_1]

theorem blk_2 {P : ℕ → ℕ → EReal} (h : Ex2 (n0 := 8192) (n1 := 512) (V m c main_arg2) P) (t : Fin cfg0.N) : Ex2 (iblk m c 2 t : Vec Ideal S512x512 .f32) (fun r l => P (512 * t.val + r) l) := fun a b => by
  blk_simp [iblk]
  refine h.at _ _ _ ?_ ?_
  · blk_simp [ix_2]
    simp [Nat.mul_comm]
  · blk_simp [ix_2]

theorem blk_3 {P : ℕ → ℕ → EReal} (h : Ex2 (n0 := 8192) (n1 := 3200) (V m c main_arg3) P) (t : Fin cfg0.N) : Ex2 (X0_3 m c t : Vec Ideal S512x512 .f32) (fun r l => P (512 * t.val + r) (1536 + l)) := fun a b => by
  unfold X0_3 Pipeline.Window.fill
  rw [dif_pos (moved0_3 t _)]
  blk_simp [iblk]
  refine h.at _ _ _ ?_ ?_
  · blk_simp [ix_3]
    simp [Nat.mul_comm]
  · blk_simp [ix_3]

theorem blk_4 {P : ℕ → ℕ → EReal} (h : Ex2 (n0 := 8192) (n1 := 256) (V m c main_arg4) P) (t : Fin cfg0.N) : Ex2 (iblk m c 4 t : Vec Ideal S512x256 .f32) (fun r l => P (512 * t.val + r) l) := fun a b => by
  blk_simp [iblk]
  refine h.at _ _ _ ?_ ?_
  · blk_simp [ix_4]
    simp [Nat.mul_comm]
  · blk_simp [ix_4]

theorem blk_5 {P : ℕ → ℕ → EReal} (h : Ex2 (n0 := 1) (n1 := 1024) (V m c main_arg5) P) (t : Fin cfg0.N) : Ex2 (iblk m c 5 t : Vec Ideal S1x1024 .f32) P := fun a b => by
  blk_simp [iblk]
  refine h.at _ _ _ ?_ ?_
  · blk_simp [ix_5]
  · blk_simp [ix_5]

theorem blk_6 {P : ℕ → ℕ → EReal} (h : Ex2 (n0 := 1024) (n1 := 1024) (V m c main_arg6) P) (t : Fin cfg0.N) : Ex2 (iblk m c 6 t : Vec Ideal S1024x1024 .bf16) P := fun a b => by
  blk_simp [iblk]
  refine h.at _ _ _ ?_ ?_
  · blk_simp [ix_6]
  · blk_simp [ix_6]

theorem blk_7 {P : ℕ → ℕ → EReal} (h : Ex2 (n0 := 8192) (n1 := 1024) (V m c main_arg7) P) (t : Fin cfg0.N) : Ex2 (iblk m c 7 t : Vec Ideal S512x1024 .f32) (fun r l => P (512 * t.val + r) l) := fun a b => by
  blk_simp [iblk]
  refine h.at _ _ _ ?_ ?_
  · blk_simp [ix_7]
    simp [Nat.mul_comm]
  · blk_simp [ix_7]

section
variable (p0 : Ex2 (n0 := 8192) (n1 := 1024) (V m c main_arg0) x) (p1 : Ex2 (n0 := 8192) (n1 := 256) (V m c main_arg1) yc) (p2 : Ex2 (n0 := 8192) (n1 := 512) (V m c main_arg2) o) (p3 : Ex2 (n0 := 8192) (n1 := 3200) (V m c main_arg3) z) (p4 : Ex2 (n0 := 8192) (n1 := 256) (V m c main_arg4) ys) (p5 : Ex2 (n0 := 1) (n1 := 1024) (V m c main_arg5) g) (p6 : Ex2 (n0 := 1024) (n1 := 1024) (V m c main_arg6) w) (p7 : Ex2 (n0 := 8192) (n1 := 1024) (V m c main_arg7) tgt)
include p0 p1 p2 p3 p4 p5 p6 p7

/-- The 8×128 sums after a point. -/
theorem sums : ∀ (n : ℕ) (h : n < cfg0.N), Ex2 (n0 := 8) (n1 := 128) (outsAt0 m c n h).2.2 (fun a b => ∑ t ∈ range (n + 1), part (fun r l => (fun r l => off x yc o (zn z) ys g w tgt r l * off x yc o (zn z) ys g w tgt r l) (512 * t + r) l) a b)
  | 0, h => by
    rw [outsAt0_A m c ⟨0, h⟩ rfl (by dsimp only; omega)]
    dsimp only
    refine Ex2.congr (sum_A _ _ _ _ _ _ _ _ _ _ _ _ _ _ _ _ _ _ _ _ _ _ _ _ _ _ _ _ _ _ _ _ (x := fun r l => x (512 * 0 + r) l) (yc := fun r l => yc (512 * 0 + r) l) (o := fun r l => o (512 * 0 + r) l) (ys := fun r l => ys (512 * 0 + r) l) (tgt := fun r l => tgt (512 * 0 + r) l) (z := fun r l => z (512 * 0 + r) (1536 + l)) (g := g) (w := w) (blk_0 m c p0 ⟨0, h⟩) (blk_1 m c p1 ⟨0, h⟩) (blk_2 m c p2 ⟨0, h⟩) (blk_3 m c p3 ⟨0, h⟩) (blk_4 m c p4 ⟨0, h⟩) (blk_5 m c p5 ⟨0, h⟩) (blk_6 m c p6 ⟨0, h⟩) (blk_7 m c p7 ⟨0, h⟩) _ _) fun a _ b _ => ?_
    rw [Finset.sum_range_one, zero_add]
    rfl
  | n + 1, h => by
    have hN : cfg0.N = 16 := N_0
    have h0 : ¬(⟨n + 1, h⟩ : Fin cfg0.N).val % 16 = 0 := by dsimp only; omega
    have hz := sums n (Nat.lt_of_succ_lt h)
    by_cases h1 : (⟨n + 1, h⟩ : Fin cfg0.N).val % 16 = 15
    · rw [outsAt0_C m c ⟨n + 1, h⟩ h0 h1]
      dsimp only
      refine Ex2.congr (sum_C _ _ _ _ _ _ _ _ _ _ _ _ _ _ _ _ _ _ _ _ _ _ _ _ _ _ _ _ _ _ _ _ (x := fun r l => x (512 * (n + 1) + r) l) (yc := fun r l => yc (512 * (n + 1) + r) l) (o := fun r l => o (512 * (n + 1) + r) l) (ys := fun r l => ys (512 * (n + 1) + r) l) (tgt := fun r l => tgt (512 * (n + 1) + r) l) (z := fun r l => z (512 * (n + 1) + r) (1536 + l)) (g := g) (w := w) (blk_0 m c p0 ⟨n + 1, h⟩) (blk_1 m c p1 ⟨n + 1, h⟩) (blk_2 m c p2 ⟨n + 1, h⟩) (blk_3 m c p3 ⟨n + 1, h⟩) (blk_4 m c p4 ⟨n + 1, h⟩) (blk_5 m c p5 ⟨n + 1, h⟩) (blk_6 m c p6 ⟨n + 1, h⟩) (blk_7 m c p7 ⟨n + 1, h⟩) _ _ _ hz) fun a _ b _ => ?_
      rw [Finset.sum_range_succ _ (n + 1)]
      rfl
    · rw [outsAt0_B m c ⟨n + 1, h⟩ h0 h1]
      dsimp only
      refine Ex2.congr (sum_B _ _ _ _ _ _ _ _ _ _ _ _ _ _ _ _ _ _ _ _ _ _ _ _ _ _ _ _ _ _ _ _ (x := fun r l => x (512 * (n + 1) + r) l) (yc := fun r l => yc (512 * (n + 1) + r) l) (o := fun r l => o (512 * (n + 1) + r) l) (ys := fun r l => ys (512 * (n + 1) + r) l) (tgt := fun r l => tgt (512 * (n + 1) + r) l) (z := fun r l => z (512 * (n + 1) + r) (1536 + l)) (g := g) (w := w) (blk_0 m c p0 ⟨n + 1, h⟩) (blk_1 m c p1 ⟨n + 1, h⟩) (blk_2 m c p2 ⟨n + 1, h⟩) (blk_3 m c p3 ⟨n + 1, h⟩) (blk_4 m c p4 ⟨n + 1, h⟩) (blk_5 m c p5 ⟨n + 1, h⟩) (blk_6 m c p6 ⟨n + 1, h⟩) (blk_7 m c p7 ⟨n + 1, h⟩) _ _ _ hz) fun a _ b _ => ?_
      rw [Finset.sum_range_succ _ (n + 1)]
      rfl

theorem rows_8 (t : Fin cfg0.N) : Ex2 (n0 := 512) (n1 := 1024) (outsAt0 m c t.val t.isLt).1 (fun r l => off x yc o (zn z) ys g w tgt (512 * t.val + r) l * (((1 : ℝ) / 1024 : ℝ) : EReal)) := by
  by_cases h0 : t.val % 16 = 0
  · rw [outsAt0_A m c t h0 (by omega)]
    dsimp only
    exact out_A_8 _ _ _ _ _ _ _ _ _ _ _ _ _ _ _ _ _ _ _ _ _ _ _ _ _ _ _ _ _ _ _ _ (x := fun r l => x (512 * t.val + r) l) (yc := fun r l => yc (512 * t.val + r) l) (o := fun r l => o (512 * t.val + r) l) (ys := fun r l => ys (512 * t.val + r) l) (tgt := fun r l => tgt (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _
  · have hz := sums m c p0 p1 p2 p3 p4 p5 p6 p7 (t.val - 1) (Nat.lt_of_le_of_lt (Nat.sub_le _ _) t.isLt)
    by_cases h1 : t.val % 16 = 15
    · rw [outsAt0_C m c t h0 h1]
      dsimp only
      exact out_C_8 _ _ _ _ _ _ _ _ _ _ _ _ _ _ _ _ _ _ _ _ _ _ _ _ _ _ _ _ _ _ _ _ (x := fun r l => x (512 * t.val + r) l) (yc := fun r l => yc (512 * t.val + r) l) (o := fun r l => o (512 * t.val + r) l) (ys := fun r l => ys (512 * t.val + r) l) (tgt := fun r l => tgt (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ _ hz
    · rw [outsAt0_B m c t h0 h1]
      dsimp only
      exact out_B_8 _ _ _ _ _ _ _ _ _ _ _ _ _ _ _ _ _ _ _ _ _ _ _ _ _ _ _ _ _ _ _ _ (x := fun r l => x (512 * t.val + r) l) (yc := fun r l => yc (512 * t.val + r) l) (o := fun r l => o (512 * t.val + r) l) (ys := fun r l => ys (512 * t.val + r) l) (tgt := fun r l => tgt (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ _ hz

theorem last_9 (t : Fin cfg0.N) (ht : t.val = 15) : Ex2 (n0 := 8) (n1 := 128) (outsAt0 m c t.val t.isLt).2.1 (fun _ _ => loss x yc o (zn z) ys g w tgt) := by
  have hz := sums m c p0 p1 p2 p3 p4 p5 p6 p7 (t.val - 1) (Nat.lt_of_le_of_lt (Nat.sub_le _ _) t.isLt)
  rw [outsAt0_C m c t (by omega) (by omega)]
  dsimp only
  refine Ex2.congr (out_C_9 _ _ _ _ _ _ _ _ _ _ _ _ _ _ _ _ _ _ _ _ _ _ _ _ _ _ _ _ _ _ _ _ (x := fun r l => x (512 * t.val + r) l) (yc := fun r l => yc (512 * t.val + r) l) (o := fun r l => o (512 * t.val + r) l) (ys := fun r l => ys (512 * t.val + r) l) (tgt := fun r l => tgt (512 * t.val + r) l) (z := fun r l => z (512 * t.val + r) (1536 + l)) (g := g) (w := w) (blk_0 m c p0 t) (blk_1 m c p1 t) (blk_2 m c p2 t) (blk_3 m c p3 t) (blk_4 m c p4 t) (blk_5 m c p5 t) (blk_6 m c p6 t) (blk_7 m c p7 t) _ _ _ hz) fun a _ b _ => ?_
  unfold loss
  rw [← all_parts]
  refine congrArg (· * _) (Finset.sum_congr rfl fun a _ => Finset.sum_congr rfl fun b _ => ?_)
  rw [Finset.sum_range_succ _ 15]
  rw [ht]
  rfl

/-- The gradient of the output. -/
theorem final_8 : Ex2 (n0 := 8192) (n1 := 1024) ((dats m 0 c).arrAt 8 cfg0.N) (fun r l => off x yc o (zn z) ys g w tgt r l * (((1 : ℝ) / 1024 : ℝ) : EReal)) := by
  have e : (dats m 0 c).arrAt 8 cfg0.N = fun i : S8192x1024.Idx => ((fun r l => off x yc o (zn z) ys g w tgt r l * (((1 : ℝ) / 1024 : ℝ) : EReal)) : ℕ → ℕ → EReal) (i 0).val (i 1).val := by
    refine (dats m 0 c).arrAt_eq_of_covers 8 _ (by decide +kernel) fun t hf y => ?_
    blk_simp
    rw [after0_8]
    refine ((rows_8 m c p0 p1 p2 p3 p4 p5 p6 p7 t).at _ _ _ rfl rfl).trans ?_
    blk_simp [ix_8]
    simp [Nat.mul_comm]
  rw [e]
  exact fun a b => rfl

/-- The loss, spread over the array in which the call returns it. -/
theorem final_9 : Ex2 (n0 := 8) (n1 := 128) ((dats m 0 c).arrAt 9 cfg0.N) (fun _ _ => loss x yc o (zn z) ys g w tgt) := by
  have e : (dats m 0 c).arrAt 9 cfg0.N = fun i : S8x128.Idx => ((fun _ _ => loss x yc o (zn z) ys g w tgt) : ℕ → ℕ → EReal) (i 0).val (i 1).val := by
    refine (dats m 0 c).arrAt_eq_of_covers 9 _ (by decide +kernel) fun t hf y => ?_
    blk_simp
    rw [after0_9]
    have ht : t.val = 15 := by have := (flush0_9 t).mp hf; have := t.isLt; have hN : cfg0.N = 16 := N_0; omega
    exact (last_9 m c p0 p1 p2 p3 p4 p5 p6 p7 t ht).at _ _ _ rfl rfl
  rw [e]
  exact fun a b => rfl

end
end Call

end Cert.Proof.PostLoss
end
-- ==== Proof.PostLossRef.lean ====
module

public import proofs.«01_k».proof.Defs
public import proofs.«01_k».proof.Proof.PostLoss
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read

/-! The forward output projection of the last layer with the loss: the reference's results, which are the call's. -/

@[expose] public section

set_option maxRecDepth 16384

noncomputable section

namespace Cert.Proof.PostLoss

open Idealize.ShloMosaic Idealize.ShloMosaic.TcCoe Idealize.SL.Sem
open Cert.Proof.Blocks Cert.Proof.Rows
open Cert.Proof.Post (ms rms xn sgm ex_sgm ym cs rs silu xa xa_1 xa_2 xa_3 zn bits_one bits_inv256 bits_inv512 bits_256 bits_512)
open Finset
open Cert.Proof.PostFwd (yo)

namespace Plain
open Cert.Reference7Ideal Cert.Reference7Ideal.Gen Cert.Reference7Ideal.Read

section
variable {x yc o z ys g w tgt : ℕ → ℕ → EReal} (x0 : (⟨S8192x1024, .f32⟩ : BufTy).Contents (Elt Ideal)) (x1 : (⟨S8192x256, .f32⟩ : BufTy).Contents (Elt Ideal)) (x2 : (⟨S8192x512, .f32⟩ : BufTy).Contents (Elt Ideal)) (x3 : (⟨S8192x3200, .f32⟩ : BufTy).Contents (Elt Ideal)) (x4 : (⟨S8192x256, .f32⟩ : BufTy).Contents (Elt Ideal)) (x5 : (⟨S1x1024, .f32⟩ : BufTy).Contents (Elt Ideal)) (x6 : (⟨S1024x1024, .bf16⟩ : BufTy).Contents (Elt Ideal)) (x7 : (⟨S8192x1024, .f32⟩ : BufTy).Contents (Elt Ideal))
  (p0 : Ex2 (n0 := 8192) (n1 := 1024) x0 x) (p1 : Ex2 (n0 := 8192) (n1 := 256) x1 yc) (p2 : Ex2 (n0 := 8192) (n1 := 512) x2 o) (p3 : Ex2 (n0 := 8192) (n1 := 3200) x3 z) (p4 : Ex2 (n0 := 8192) (n1 := 256) x4 ys) (p5 : Ex2 (n0 := 1) (n1 := 1024) x5 g) (p6 : Ex2 (n0 := 1024) (n1 := 1024) x6 w) (p7 : Ex2 (n0 := 8192) (n1 := 1024) x7 tgt)
include p0 p1 p2 p3 p4 p5 p6 p7

theorem r_z (i : S8192x512.Idx) : val_main_v0 (F := Ideal) x3 i = zn z (i 0).val (i 1).val := by
  rw [val_main_v0_apply]
  exact p3.at _ _ _ rfl rfl

theorem r_sgm (i : S8192x512.Idx) : val_main_call0_v5 (F := Ideal) x3 i = sgm (zn z (i 0).val (i 1).val) := by
  have e := r_z x0 x1 x2 x3 x4 x5 x6 x7 p0 p1 p2 p3 p4 p5 p6 p7 i
  rw [val_main_call0_v5_apply, val_main_call0_v3_apply, val_main_call0_v1_apply, val_main_call0_v0_apply, val_main_call0_v4_apply, val_main_call0_v2_apply, e]
  show Ideal.div (Ideal.ofBits .f32 0x3F800000#32) (Ideal.ofBits .f32 0x3F800000#32 + Ideal.exp (-(zn z (i 0).val (i 1).val))) = _
  rw [bits_one]
  rfl

theorem r_ym : Ex2 (n0 := 8192) (n1 := 512) (val_main_v16 (F := Ideal) x2 x3) (ym o (zn z)) := fun a b => by
  rw [val_main_v16_apply, val_main_v15_apply, r_sgm x0 x1 x2 x3 x4 x5 x6 x7 p0 p1 p2 p3 p4 p5 p6 p7, r_z x0 x1 x2 x3 x4 x5 x6 x7 p0 p1 p2 p3 p4 p5 p6 p7, p2.at _ a.val b.val rfl rfl]
  rfl

theorem ms_c (i : S8192x1.Idx) : val_main_v9 (F := Ideal) x1 i = ms 256 (1 / 256) yc (i 0).val := by
  rw [val_main_v9_apply, val_main_v7_apply, val_main_v5_apply, val_main_v4_apply, val_main_v6_apply, val_main_v8_apply]
  have e := sum_from_zero (n := 256) (fun k => yc (i 0).val k * yc (i 0).val k) (fun k => val_main_v3 (F := Ideal) x1 (idx_main_v4 (idx_main_v5 i) k)) _ Ideal.ofBits_zero_f32 fun k => by
    dsimp only
    rw [val_main_v3_apply, p1.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_c (i : S8192x1.Idx) : val_main_v10 (F := Ideal) x1 i = rms 256 (1 / 256) yc (i 0).val := by
  rw [val_main_v10_apply, ms_c x0 x1 x2 x3 x4 x5 x6 x7 p0 p1 p2 p3 p4 p5 p6 p7]
  rfl

theorem xn_c (i : S8192x256.Idx) : val_main_v12 (F := Ideal) x1 i = xn 256 (1 / 256) yc (i 0).val (i 1).val := by
  rw [val_main_v12_apply, val_main_v11_apply, rms_c x0 x1 x2 x3 x4 x5 x6 x7 p0 p1 p2 p3 p4 p5 p6 p7, p1.at i _ _ rfl rfl]
  rfl

theorem gs_c (i : S1x256.Idx) : val_main_v2 (F := Ideal) x5 i = cs 0 g 0 (i 1).val := by
  have h : (i 0).val < 1 := (i 0).isLt
  rw [val_main_v2_apply]
  exact p5.at _ 0 (0 + (i 1).val) (by show (i 0).val = 0; omega) (Nat.zero_add _).symm

/-- The normed and scaled rows. -/
theorem yn_c : Ex2 (n0 := 8192) (n1 := 256) (val_main_v14 (F := Ideal) x1 x5) (fun r d => xa yc o (zn z) ys r (0 + d) * g 0 (0 + d)) := fun a b => by
  rw [val_main_v14_apply, val_main_v13_apply, xn_c x0 x1 x2 x3 x4 x5 x6 x7 p0 p1 p2 p3 p4 p5 p6 p7, gs_c x0 x1 x2 x3 x4 x5 x6 x7 p0 p1 p2 p3 p4 p5 p6 p7]
  show _ = xa yc o (zn z) ys a.val (0 + b.val) * g 0 (0 + b.val)
  rw [xa_1 _ _ _ _ _ b.isLt]
  rfl

theorem ms_m (i : S8192x1.Idx) : val_main_v24 (F := Ideal) x2 x3 i = ms 512 (1 / 512) (ym o (zn z)) (i 0).val := by
  rw [val_main_v24_apply, val_main_v22_apply, val_main_v20_apply, val_main_v19_apply, val_main_v21_apply, val_main_v23_apply]
  have e := sum_from_zero (n := 512) (fun k => (ym o (zn z)) (i 0).val k * (ym o (zn z)) (i 0).val k) (fun k => val_main_v18 (F := Ideal) x2 x3 (idx_main_v19 (idx_main_v20 i) k)) _ Ideal.ofBits_zero_f32 fun k => by
    dsimp only
    rw [val_main_v18_apply, (r_ym x0 x1 x2 x3 x4 x5 x6 x7 p0 p1 p2 p3 p4 p5 p6 p7).at _ (i 0).val k.val rfl rfl]
    rfl
  refine (congrArg (fun y => Ideal.div y (Ideal.ofBits .f32 0x44000000#32) + Ideal.ofBits .f32 0x358637BD#32) e).trans ?_
  show Ideal.div _ (Ideal.ofBits .f32 0x44000000#32) + Ideal.ofBits .f32 0x358637BD#32 = _
  rw [bits_512, bits_eps, Ideal.div_coe (by norm_num)]
  rfl

theorem rms_m (i : S8192x1.Idx) : val_main_v25 (F := Ideal) x2 x3 i = rms 512 (1 / 512) (ym o (zn z)) (i 0).val := by
  rw [val_main_v25_apply, ms_m x0 x1 x2 x3 x4 x5 x6 x7 p0 p1 p2 p3 p4 p5 p6 p7]
  rfl

theorem xn_m (i : S8192x512.Idx) : val_main_v27 (F := Ideal) x2 x3 i = xn 512 (1 / 512) (ym o (zn z)) (i 0).val (i 1).val := by
  rw [val_main_v27_apply, val_main_v26_apply, rms_m x0 x1 x2 x3 x4 x5 x6 x7 p0 p1 p2 p3 p4 p5 p6 p7, (r_ym x0 x1 x2 x3 x4 x5 x6 x7 p0 p1 p2 p3 p4 p5 p6 p7).at i _ _ rfl rfl]
  rfl

theorem gs_m (i : S1x512.Idx) : val_main_v17 (F := Ideal) x5 i = cs 256 g 0 (i 1).val := by
  have h : (i 0).val < 1 := (i 0).isLt
  rw [val_main_v17_apply]
  exact p5.at _ 0 (256 + (i 1).val) (by show (i 0).val = 0; omega) rfl

/-- The normed and scaled rows. -/
theorem yn_m : Ex2 (n0 := 8192) (n1 := 512) (val_main_v29 (F := Ideal) x2 x3 x5) (fun r d => xa yc o (zn z) ys r (256 + d) * g 0 (256 + d)) := fun a b => by
  rw [val_main_v29_apply, val_main_v28_apply, xn_m x0 x1 x2 x3 x4 x5 x6 x7 p0 p1 p2 p3 p4 p5 p6 p7, gs_m x0 x1 x2 x3 x4 x5 x6 x7 p0 p1 p2 p3 p4 p5 p6 p7]
  show _ = xa yc o (zn z) ys a.val (256 + b.val) * g 0 (256 + b.val)
  rw [xa_2 _ _ _ _ _ b.isLt]
  rfl

theorem ms_s (i : S8192x1.Idx) : val_main_v37 (F := Ideal) x4 i = ms 256 (1 / 256) ys (i 0).val := by
  rw [val_main_v37_apply, val_main_v35_apply, val_main_v33_apply, val_main_v32_apply, val_main_v34_apply, val_main_v36_apply]
  have e := sum_from_zero (n := 256) (fun k => ys (i 0).val k * ys (i 0).val k) (fun k => val_main_v31 (F := Ideal) x4 (idx_main_v32 (idx_main_v33 i) k)) _ Ideal.ofBits_zero_f32 fun k => by
    dsimp only
    rw [val_main_v31_apply, p4.at _ (i 0).val k.val rfl rfl]
    rfl
  refine (congrArg (fun y => Ideal.div y (Ideal.ofBits .f32 0x43800000#32) + Ideal.ofBits .f32 0x358637BD#32) e).trans ?_
  show Ideal.div _ (Ideal.ofBits .f32 0x43800000#32) + Ideal.ofBits .f32 0x358637BD#32 = _
  rw [bits_256, bits_eps, Ideal.div_coe (by norm_num)]
  rfl

theorem rms_s (i : S8192x1.Idx) : val_main_v38 (F := Ideal) x4 i = rms 256 (1 / 256) ys (i 0).val := by
  rw [val_main_v38_apply, ms_s x0 x1 x2 x3 x4 x5 x6 x7 p0 p1 p2 p3 p4 p5 p6 p7]
  rfl

theorem xn_s (i : S8192x256.Idx) : val_main_v40 (F := Ideal) x4 i = xn 256 (1 / 256) ys (i 0).val (i 1).val := by
  rw [val_main_v40_apply, val_main_v39_apply, rms_s x0 x1 x2 x3 x4 x5 x6 x7 p0 p1 p2 p3 p4 p5 p6 p7, p4.at i _ _ rfl rfl]
  rfl

theorem gs_s (i : S1x256.Idx) : val_main_v30 (F := Ideal) x5 i = cs 768 g 0 (i 1).val := by
  have h : (i 0).val < 1 := (i 0).isLt
  rw [val_main_v30_apply]
  exact p5.at _ 0 (768 + (i 1).val) (by show (i 0).val = 0; omega) rfl

/-- The normed and scaled rows. -/
theorem yn_s : Ex2 (n0 := 8192) (n1 := 256) (val_main_v42 (F := Ideal) x4 x5) (fun r d => xa yc o (zn z) ys r (768 + d) * g 0 (768 + d)) := fun a b => by
  rw [val_main_v42_apply, val_main_v41_apply, xn_s x0 x1 x2 x3 x4 x5 x6 x7 p0 p1 p2 p3 p4 p5 p6 p7, gs_s x0 x1 x2 x3 x4 x5 x6 x7 p0 p1 p2 p3 p4 p5 p6 p7]
  show _ = xa yc o (zn z) ys a.val (768 + b.val) * g 0 (768 + b.val)
  rw [xa_3 _ _ _ _ _ b.isLt]
  rfl

/-- The joined rows. -/
theorem r_yn : Ex2 (n0 := 8192) (n1 := 1024) (val_main_v43 (F := Ideal) x1 x2 x3 x4 x5) (fun r d => xa yc o (zn z) ys r d * g 0 d) := fun a b => by
  unfold val_main_v43
  refine concat_eq _ _ _ _ _ fun k hk hr i e eo => ?_
  have e0 : (i (Fin.cast hr.symm 0)).val = a.val := eo (Fin.cast hr.symm 0) (by show (0 : Fin 2) ≠ 1; decide)
  match k, hk with
  | 0, _ => exact (yn_c x0 x1 x2 x3 x4 x5 x6 x7 p0 p1 p2 p3 p4 p5 p6 p7).part (D := fun l a => xa yc o (zn z) ys l a * g 0 a) i _ _ e0 e
  | 1, _ => exact (yn_m x0 x1 x2 x3 x4 x5 x6 x7 p0 p1 p2 p3 p4 p5 p6 p7).part (D := fun l a => xa yc o (zn z) ys l a * g 0 a) i _ _ e0 e
  | 2, _ => exact (yn_s x0 x1 x2 x3 x4 x5 x6 x7 p0 p1 p2 p3 p4 p5 p6 p7).part (D := fun l a => xa yc o (zn z) ys l a * g 0 a) i _ _ e0 e
  | k + 3, hk => exact absurd hk (by simp)

/-- The reference's result before the loss. -/
theorem r_y : Ex2 (n0 := 8192) (n1 := 1024) (val_main_v45 (F := Ideal) x0 x1 x2 x3 x4 x5 x6) (yo x yc o (zn z) ys g w) := fun a b => by
  rw [val_main_v45_apply, val_main_v44_apply, p0.at _ a.val b.val rfl rfl]
  refine congrArg (_ + ·) ?_
  refine Eq.trans ?_ (Finset.sum_range (n := 1024) fun k => xa yc o (zn z) ys a.val k * g 0 k * w k b.val).symm
  refine Finset.sum_congr rfl fun k _ => ?_
  refine congrArg₂ (· * ·) ((r_yn x0 x1 x2 x3 x4 x5 x6 x7 p0 p1 p2 p3 p4 p5 p6 p7).at _ a.val k.val rfl rfl) ?_
  rw [val_main_v1_apply]
  exact p6.at _ k.val b.val rfl rfl

theorem r_off : Ex2 (n0 := 8192) (n1 := 1024) (val_main_v46 (F := Ideal) x0 x1 x2 x3 x4 x5 x6 x7) (off x yc o (zn z) ys g w tgt) := fun a b => by
  rw [val_main_v46_apply, r_y x0 x1 x2 x3 x4 x5 x6 x7 p0 p1 p2 p3 p4 p5 p6 p7 a b, p7 a b]
  rfl

/-- The gradient of the output. -/
theorem r_grad : Ex2 (n0 := 8192) (n1 := 1024) (val_main_v60 (F := Ideal) x0 x1 x2 x3 x4 x5 x6 x7) (fun r l => off x yc o (zn z) ys g w tgt r l * (((1 : ℝ) / 1024 : ℝ) : EReal)) := fun a b => by
  rw [val_main_v60_apply, val_main_v59_apply, val_main_v58_apply, val_main_v56_apply, val_main_v57_apply, val_main_v55_apply, val_main_v49_apply, val_main_v48_apply, r_off x0 x1 x2 x3 x4 x5 x6 x7 p0 p1 p2 p3 p4 p5 p6 p7 a b]
  show Ideal.div (Ideal.ofBits .f32 0x3F000000#32 * Ideal.ofBits .f32 0x3F800000#32) (Ideal.ofBits .f32 0x44800000#32) * (Ideal.ofBits .f32 0x40000000#32 * _) = _
  rw [bits_onehalf, bits_one, bits_1024, bits_two, Ideal.div_coe (by norm_num)]
  exact grad_factor _

theorem r_row (i : S8192.Idx) : val_main_v52 (F := Ideal) x0 x1 x2 x3 x4 x5 x6 x7 i = (∑ l ∈ range 1024, off x yc o (zn z) ys g w tgt (i 0).val l * off x yc o (zn z) ys g w tgt (i 0).val l) * (((1 : ℝ) / 1024 : ℝ) : EReal) := by
  rw [val_main_v52_apply, val_main_v50_apply, val_main_v51_apply]
  have e := sum_from_zero (n := 1024) (fun k => off x yc o (zn z) ys g w tgt (i 0).val k * off x yc o (zn z) ys g w tgt (i 0).val k) (fun k => val_main_v47 (F := Ideal) x0 x1 x2 x3 x4 x5 x6 x7 (idx_main_v50 i k)) _ Ideal.ofBits_zero_f32 fun k => by
    dsimp only
    rw [val_main_v47_apply, (r_off x0 x1 x2 x3 x4 x5 x6 x7 p0 p1 p2 p3 p4 p5 p6 p7).at _ (i 0).val k.val rfl rfl]
    rfl
  refine (congrArg (fun y => Ideal.div y (Ideal.ofBits .f32 0x44800000#32)) e).trans ?_
  show Ideal.div _ (Ideal.ofBits .f32 0x44800000#32) = _
  rw [bits_1024, Ideal.div_coe (by norm_num)]

/-- The loss. -/
theorem r_loss : Ex2 (n0 := 8) (n1 := 128) (val_main_v61 (F := Ideal) x0 x1 x2 x3 x4 x5 x6 x7) (fun _ _ => loss x yc o (zn z) ys g w tgt) := fun a b => by
  rw [val_main_v61_apply, val_main_v54_apply, val_main_v53_apply, sum_idx]
  have e := sum_from_zero (n := 8192) (fun r => (∑ l ∈ range 1024, off x yc o (zn z) ys g w tgt r l * off x yc o (zn z) ys g w tgt r l) * (((1 : ℝ) / 1024 : ℝ) : EReal)) (fun k => val_main_v52 (F := Ideal) x0 x1 x2 x3 x4 x5 x6 x7 (ValueIdx.ix1 k)) _ Ideal.ofBits_zero_f32 fun k => by
    rw [r_row x0 x1 x2 x3 x4 x5 x6 x7 p0 p1 p2 p3 p4 p5 p6 p7]
  refine (congrArg (fun y => Ideal.ofBits .f32 0x3F000000#32 * y) e).trans ?_
  dsimp only
  rw [bits_onehalf, half_means]
  rfl

end
end Plain

theorem frame_kernel : Cert.quiescent_Kernel7 := fun m ρ _ => Cert.Kernel7.Gen.frame (F := Bits) m ρ
theorem frame_ideal : Cert.quiescent_Kernel7Ideal := fun m ρ _ => Cert.Kernel7Ideal.Gen.frame (F := Ideal) m ρ
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

set_option maxHeartbeats 2000000 in
/-- The call's results are the reference's. -/
theorem algebraic : Cert.algebraic_Kernel7Ideal_Reference7Ideal := fun m ρ m' ρ' _ hargs => by
  refine ⟨_, _, Cert.Kernel7Ideal.Value.run_blocks m ρ, ?_⟩
  refine (θ_run Cert.Reference7Ideal.defs _ _).mono (fun _ h c => ?_) (Cert.Reference7Ideal.Value.run (F := Ideal) m' ρ')
  obtain ⟨a0, a1, a2, a3, a4, a5, a6, a7⟩ := hargs c
  have q0 := ex_natF (n0 := 8192) (n1 := 1024) (m ((c.tc : Thread Cert.Kernel7Ideal.nD Cert.Kernel7Ideal.τ).loc Cert.Kernel7Ideal.main_arg0))
  have q1 := ex_natF (n0 := 8192) (n1 := 256) (m ((c.tc : Thread Cert.Kernel7Ideal.nD Cert.Kernel7Ideal.τ).loc Cert.Kernel7Ideal.main_arg1))
  have q2 := ex_natF (n0 := 8192) (n1 := 512) (m ((c.tc : Thread Cert.Kernel7Ideal.nD Cert.Kernel7Ideal.τ).loc Cert.Kernel7Ideal.main_arg2))
  have q3 := ex_natF (n0 := 8192) (n1 := 3200) (m ((c.tc : Thread Cert.Kernel7Ideal.nD Cert.Kernel7Ideal.τ).loc Cert.Kernel7Ideal.main_arg3))
  have q4 := ex_natF (n0 := 8192) (n1 := 256) (m ((c.tc : Thread Cert.Kernel7Ideal.nD Cert.Kernel7Ideal.τ).loc Cert.Kernel7Ideal.main_arg4))
  have q5 := ex_natF (n0 := 1) (n1 := 1024) (m ((c.tc : Thread Cert.Kernel7Ideal.nD Cert.Kernel7Ideal.τ).loc Cert.Kernel7Ideal.main_arg5))
  have q6 := ex_natF (n0 := 1024) (n1 := 1024) (m ((c.tc : Thread Cert.Kernel7Ideal.nD Cert.Kernel7Ideal.τ).loc Cert.Kernel7Ideal.main_arg6))
  have q7 := ex_natF (n0 := 8192) (n1 := 1024) (m ((c.tc : Thread Cert.Kernel7Ideal.nD Cert.Kernel7Ideal.τ).loc Cert.Kernel7Ideal.main_arg7))
  refine ⟨(h c).1.trans ?_, (h c).2.1.trans ?_, (h c).2.2⟩
  · rw [Cert.Reference7Ideal.Read.val_main_v60_eq, a0, a1, a2, a3, a4, a5, a6, a7]
    have k := Call.final_8 m c q0 q1 q2 q3 q4 q5 q6 q7
    have r := Plain.r_grad _ _ _ _ _ _ _ _ q0 q1 q2 q3 q4 q5 q6 q7
    funext i
    exact (r.at i _ _ rfl rfl).trans (k.at i _ _ rfl rfl).symm
  · rw [Cert.Reference7Ideal.Read.val_main_v61_eq, a0, a1, a2, a3, a4, a5, a6, a7]
    have k := Call.final_9 m c q0 q1 q2 q3 q4 q5 q6 q7
    have r := Plain.r_loss _ _ _ _ _ _ _ _ q0 q1 q2 q3 q4 q5 q6 q7
    funext i
    exact (r.at i _ _ rfl rfl).trans (k.at i _ _ rfl rfl).symm

end Cert.Proof.PostLoss
end
-- ==== Proof.Adam.lean ====
module

public import proofs.«01_k».proof.Proof.Rows
public import proofs.«01_k».proof.Proof.PostNorm
public import Idealize.ShloMosaic.Lib.Pipeline.ValueKit.Tiles

/-! The optimiser's step on one entry, and the vector operations of the call and of the reference that compute it, for arrays of any
    two sizes: the gradient is the sum of four parts, the two moments move towards it and its square, and the weight's change
    is minus the rate times the quotient of the corrected moments plus the decayed weight. -/

@[expose] public section

set_option maxRecDepth 16384

noncomputable section

namespace Cert.Proof.Adam

open Idealize.ShloMosaic Idealize.ShloMosaic.TcCoe Idealize.ShloMosaic.StableHlo
open Cert.Proof.Blocks Cert.Proof.Rows
open Finset

/-- The sum of the four parts. -/
def grad (p : ℕ → ℕ → ℕ → EReal) (r l : ℕ) : EReal := p 0 r l + p 1 r l + p 2 r l + p 3 r l

/-- The new first moment. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The weight's change from the new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The array's entry at `(k, a, b)` is `f k a b`. -/
def Ex3 {n n0 n1 : ℕ} (x : (⟨3, ![n, n0, n1]⟩ : Shape).Idx → EReal) (f : ℕ → ℕ → ℕ → EReal) : Prop :=
  ∀ i, x i = f (i 0).val (i 1).val (i 2).val

/-- A function that describes a given array. -/
def natF3 {n n0 n1 : ℕ} (x : (⟨3, ![n, n0, n1]⟩ : Shape).Idx → EReal) (k a b : ℕ) : EReal :=
  if h : k < n ∧ a < n0 ∧ b < n1 then x (ValueIdx.ix3 ⟨k, h.1⟩ ⟨a, h.2.1⟩ ⟨b, h.2.2⟩) else 0

theorem ex_natF3 {n n0 n1 : ℕ} (x : (⟨3, ![n, n0, n1]⟩ : Shape).Idx → EReal) : Ex3 x (natF3 x) := fun i => by
  unfold natF3
  rw [dif_pos ⟨(i 0).isLt, (i 1).isLt, (i 2).isLt⟩]
  exact congrArg x (ValueIdx.eq_ix3 i)

variable {n0 n1 : ℕ}

/-- One of the four planes of a block. -/
theorem ex_plane {x : Vec Ideal ⟨3, ![4, n0, n1]⟩ .bf16} {p : ℕ → ℕ → ℕ → EReal} (h : Ex3 (n := 4) (n0 := n0) (n1 := n1) x p) (k : ℕ)
    (inb : ∀ d, (![k, 0, 0] : Fin 3 → ℕ) d + (![1, n0, n1] : Fin 3 → ℕ) d ≤ (⟨3, ![4, n0, n1]⟩ : Shape).size d) :
    Ex3 (n := 1) (n0 := n0) (n1 := n1) (View.ld x (Rect.unit (s := ⟨3, ![4, n0, n1]⟩) ![k, 0, 0] ![1, n0, n1] inb)) (fun _ r l => p k r l) := fun i => by
  refine (h _).trans ?_
  rw [show ((Rect.unit (s := ⟨3, ![4, n0, n1]⟩) ![k, 0, 0] ![1, n0, n1] inb).idx i 0).val = k by
      refine (Rect.idx_unit_val _ _ _ _ 0).trans ?_
      have h0 : (i 0).val < 1 := (i 0).isLt
      show k + (i 0).val = k
      omega,
    show ((Rect.unit (s := ⟨3, ![4, n0, n1]⟩) ![k, 0, 0] ![1, n0, n1] inb).idx i 1).val = (i 1).val from (Rect.idx_unit_val _ _ _ _ 1).trans (Nat.zero_add _),
    show ((Rect.unit (s := ⟨3, ![4, n0, n1]⟩) ![k, 0, 0] ![1, n0, n1] inb).idx i 2).val = (i 2).val from (Rect.idx_unit_val _ _ _ _ 2).trans (Nat.zero_add _)]

/-- A plane read as an array of two coordinates. -/
theorem ex_flat {x : Vec Ideal ⟨3, ![1, n0, n1]⟩ .bf16} {p : ℕ → ℕ → ℕ → EReal} (h : Ex3 (n := 1) (n0 := n0) (n1 := n1) x p) (hs : Shape.ShapeCasts ⟨3, ![1, n0, n1]⟩ ⟨2, ![n0, n1]⟩) (hl) :
    Ex2 (n0 := n0) (n1 := n1) (extf (F := Ideal) .f32 (shapeCast ⟨2, ![n0, n1]⟩ x hs : FVec Ideal ⟨2, ![n0, n1]⟩ .bf16) hl) (p 0) := fun a b => by
  show shapeCast ⟨2, ![n0, n1]⟩ x hs _ = _
  rw [shapeCast_apply _ hs _ (ValueIdx.ix3 (0 : Fin 1) a b) (by
    rw [Shape.rowMajor_val_three, Shape.rowMajor_val_two]
    show (0 * n0 + a.val) * n1 + b.val = a.val * n1 + b.val
    rw [Nat.zero_mul, Nat.zero_add])]
  exact h _

section
variable {v0 v1 v2 v3 : Vec Ideal ⟨3, ![1, n0, n1]⟩ .bf16} {p : ℕ → ℕ → ℕ → EReal}

/-- The call's sum of the four planes. -/
theorem ex_grad (h0 : Ex3 (n := 1) (n0 := n0) (n1 := n1) v0 fun _ => p 0) (h1 : Ex3 (n := 1) (n0 := n0) (n1 := n1) v1 fun _ => p 1)
    (h2 : Ex3 (n := 1) (n0 := n0) (n1 := n1) v2 fun _ => p 2) (h3 : Ex3 (n := 1) (n0 := n0) (n1 := n1) v3 fun _ => p 3) (hs : Shape.ShapeCasts ⟨3, ![1, n0, n1]⟩ ⟨2, ![n0, n1]⟩) (hl) :
    Ex2 (n0 := n0) (n1 := n1) (addf (addf (addf (extf (F := Ideal) .f32 (shapeCast ⟨2, ![n0, n1]⟩ v0 hs : FVec Ideal ⟨2, ![n0, n1]⟩ .bf16) hl) (extf (F := Ideal) .f32 (shapeCast ⟨2, ![n0, n1]⟩ v1 hs : FVec Ideal ⟨2, ![n0, n1]⟩ .bf16) hl))
      (extf (F := Ideal) .f32 (shapeCast ⟨2, ![n0, n1]⟩ v2 hs : FVec Ideal ⟨2, ![n0, n1]⟩ .bf16) hl)) (extf (F := Ideal) .f32 (shapeCast ⟨2, ![n0, n1]⟩ v3 hs : FVec Ideal ⟨2, ![n0, n1]⟩ .bf16) hl)) (grad p) :=
  ex_add (ex_add (ex_add (ex_flat h0 hs hl) (ex_flat h1 hs hl)) (ex_flat h2 hs hl)) (ex_flat h3 hs hl)
end

section
variable {g m v w : FVec Ideal ⟨2, ![n0, n1]⟩ .f32} {G M V W : ℕ → ℕ → EReal} (hg : Ex2 g G) (hm : Ex2 m M) (hv : Ex2 v V) (hw : Ex2 w W)

include hg hm in
theorem ex_first : Ex2 (addf (mulf (broadcast ⟨2, ![n0, n1]⟩ (Scalar.ofBits .f32 0x3F666666#32 : Ideal .f32)) m) (mulf (broadcast ⟨2, ![n0, n1]⟩ (Scalar.ofBits .f32 0x3DCCCCCD#32 : Ideal .f32)) g))
    (fun a b => first (M a b) (G a b)) := ex_add (ex_times (ex_const _ _ rfl) hm) (ex_times (ex_const _ _ rfl) hg)

include hg hv in
theorem ex_second : Ex2 (addf (mulf (broadcast ⟨2, ![n0, n1]⟩ (Scalar.ofBits .f32 0x3F7FBE77#32 : Ideal .f32)) v) (mulf (broadcast ⟨2, ![n0, n1]⟩ (Scalar.ofBits .f32 0x3A83126F#32 : Ideal .f32)) (mulf g g)))
    (fun a b => second (V a b) (G a b)) := ex_add (ex_times (ex_const _ _ rfl) hv) (ex_times (ex_const _ _ rfl) (ex_times hg hg))

theorem ex_root {x : FVec Ideal ⟨2, ![n0, n1]⟩ .f32} {f : ℕ → ℕ → EReal} (h : Ex2 x f) : Ex2 (sqrt x) (fun a b => Ideal.sqrt (f a b)) := fun a b => congrArg Ideal.sqrt (h a b)

include hm hv hw in
theorem ex_change : Ex2 (mulf (broadcast ⟨2, ![n0, n1]⟩ (Scalar.ofBits .f32 0xBA83126F#32 : Ideal .f32)) (addf (divf (divf m (broadcast ⟨2, ![n0, n1]⟩ (Scalar.ofBits .f32 0x3F26BD02#32 : Ideal .f32)))
      (addf (sqrt (divf v (broadcast ⟨2, ![n0, n1]⟩ (Scalar.ofBits .f32 0x3C231ACC#32 : Ideal .f32)))) (broadcast ⟨2, ![n0, n1]⟩ (Scalar.ofBits .f32 0x322BCC77#32 : Ideal .f32))))
      (mulf (broadcast ⟨2, ![n0, n1]⟩ (Scalar.ofBits .f32 0x3C23D70A#32 : Ideal .f32)) w)))
    (fun a b => change (W a b) (M a b) (V a b)) :=
  ex_times (ex_const _ _ rfl) (ex_add (Post.ex_div (Post.ex_div hm (ex_const _ _ rfl)) (ex_add (ex_root (Post.ex_div hv (ex_const _ _ rfl))) (ex_const _ _ rfl))) (ex_times (ex_const _ _ rfl) hw))

/-- A literal spread over an array on the host. -/
theorem ex_spread (bits : BitVec 32) (hb) : Ex2 (n0 := n0) (n1 := n1) (broadcastInDim ⟨2, ![n0, n1]⟩ ![] hb (constant (F := Ideal) ⟨0, ![]⟩ .f32 bits)) (fun _ _ => Ideal.ofBits .f32 bits) := fun a b =>
  broadcastInDim_apply _ hb _ _ (fun a => a.elim0) (fun a => a.elim0)

include hg hm in
theorem host_first (hb hb') : Ex2 (addf (mulf (broadcastInDim ⟨2, ![n0, n1]⟩ ![] hb (constant (F := Ideal) ⟨0, ![]⟩ .f32 0x3F666666#32)) m) (mulf (broadcastInDim ⟨2, ![n0, n1]⟩ ![] hb' (constant (F := Ideal) ⟨0, ![]⟩ .f32 0x3DCCCCCD#32)) g))
    (fun a b => first (M a b) (G a b)) := ex_add (ex_times (ex_spread _ hb) hm) (ex_times (ex_spread _ hb') hg)

include hg hv in
theorem host_second (hb hb') : Ex2 (addf (mulf (broadcastInDim ⟨2, ![n0, n1]⟩ ![] hb (constant (F := Ideal) ⟨0, ![]⟩ .f32 0x3F7FBE77#32)) v) (mulf (broadcastInDim ⟨2, ![n0, n1]⟩ ![] hb' (constant (F := Ideal) ⟨0, ![]⟩ .f32 0x3A83126F#32)) (mulf g g)))
    (fun a b => second (V a b) (G a b)) := ex_add (ex_times (ex_spread _ hb) hv) (ex_times (ex_spread _ hb') (ex_times hg hg))

theorem host_root {x : FVec Ideal ⟨2, ![n0, n1]⟩ .f32} {f : ℕ → ℕ → EReal} (h : Ex2 x f) : Ex2 (Host.sqrt x) (fun a b => Ideal.sqrt (f a b)) := fun a b => congrArg Ideal.sqrt (h a b)

theorem host_div {x y : FVec Ideal ⟨2, ![n0, n1]⟩ .f32} {f f' : ℕ → ℕ → EReal} (h : Ex2 x f) (h' : Ex2 y f') : Ex2 (Host.divf x y) (fun a b => Ideal.div (f a b) (f' a b)) := fun a b => congrArg₂ Ideal.div (h a b) (h' a b)

include hm hv hw in
theorem host_change (hb) : Ex2 (mulf (broadcastInDim ⟨2, ![n0, n1]⟩ ![] hb (constant (F := Ideal) ⟨0, ![]⟩ .f32 0xBA83126F#32)) (addf (Host.divf (Host.divf m (broadcastInDim ⟨2, ![n0, n1]⟩ ![] hb (constant (F := Ideal) ⟨0, ![]⟩ .f32 0x3F26BD02#32)))
      (addf (Host.sqrt (Host.divf v (broadcastInDim ⟨2, ![n0, n1]⟩ ![] hb (constant (F := Ideal) ⟨0, ![]⟩ .f32 0x3C231ACC#32)))) (broadcastInDim ⟨2, ![n0, n1]⟩ ![] hb (constant (F := Ideal) ⟨0, ![]⟩ .f32 0x322BCC77#32))))
      (mulf (broadcastInDim ⟨2, ![n0, n1]⟩ ![] hb (constant (F := Ideal) ⟨0, ![]⟩ .f32 0x3C23D70A#32)) w)))
    (fun a b => change (W a b) (M a b) (V a b)) :=
  ex_times (ex_spread _ hb) (ex_add (host_div (host_div hm (ex_spread _ hb)) (ex_add (host_root (host_div hv (ex_spread _ hb))) (ex_spread _ hb))) (ex_times (ex_spread _ hb) hw))

end

/-- The host's sum over the parts. -/
theorem sum_four (p : ℕ → ℕ → ℕ → EReal) (r l : ℕ) (z : EReal) (hz : z = 0) (f : Fin 4 → EReal) (hf : ∀ k, f k = p k.val r l) : z + ∑ k : Fin 4, f k = grad p r l := by
  rw [hz, zero_add, Fin.sum_univ_four, hf, hf, hf, hf]
  rfl

/-! ## The four results of a call -/

section
variable {R : ℕ} (A0 : (⟨3, ![4, R, n1]⟩ : Shape).Idx → EReal) (A1 A2 A3 : (⟨2, ![R, n1]⟩ : Shape).Idx → EReal)

def newGrad : (⟨2, ![R, n1]⟩ : Shape).Idx → EReal := fun i => grad (natF3 A0) (i 0).val (i 1).val
def newFirst : (⟨2, ![R, n1]⟩ : Shape).Idx → EReal := fun i => first (natF A2 (i 0).val (i 1).val) (grad (natF3 A0) (i 0).val (i 1).val)
def newSecond : (⟨2, ![R, n1]⟩ : Shape).Idx → EReal := fun i => second (natF A3 (i 0).val (i 1).val) (grad (natF3 A0) (i 0).val (i 1).val)
def newChange : (⟨2, ![R, n1]⟩ : Shape).Idx → EReal := fun i =>
  change (natF A1 (i 0).val (i 1).val) (first (natF A2 (i 0).val (i 1).val) (grad (natF3 A0) (i 0).val (i 1).val)) (second (natF A3 (i 0).val (i 1).val) (grad (natF3 A0) (i 0).val (i 1).val))

/-- The arrays' blocks of `n0` rows at a point `t` of the grid. -/
structure Block (t : ℕ) (x0 : Vec Ideal ⟨3, ![4, n0, n1]⟩ .bf16) (x1 x2 x3 : Vec Ideal ⟨2, ![n0, n1]⟩ .f32) : Prop where
  parts : ∀ i, x0 i = natF3 A0 (i 0).val (n0 * t + (i 1).val) (i 2).val
  weight : ∀ i, x1 i = natF A1 (n0 * t + (i 0).val) (i 1).val
  mean : ∀ i, x2 i = natF A2 (n0 * t + (i 0).val) (i 1).val
  square : ∀ i, x3 i = natF A3 (n0 * t + (i 0).val) (i 1).val
end

/-- An array's entry where a block's index map puts it. -/
theorem natF_at {R : ℕ} (A : (⟨2, ![R, n1]⟩ : Shape).Idx → EReal) (i : (⟨2, ![R, n1]⟩ : Shape).Idx) (a b : ℕ) (ha : (i 0).val = a) (hb : (i 1).val = b) : A i = natF A a b :=
  (ex_natF A).at i a b ha hb

theorem natF3_at {R : ℕ} (A : (⟨3, ![4, R, n1]⟩ : Shape).Idx → EReal) (i : (⟨3, ![4, R, n1]⟩ : Shape).Idx) (k a b : ℕ) (hk : (i 0).val = k) (ha : (i 1).val = a) (hb : (i 2).val = b) :
    A i = natF3 A k a b := by
  subst hk ha hb
  exact ex_natF3 A i

section
variable {x0 : Vec Ideal ⟨3, ![4, n0, n1]⟩ .bf16} {x x1 x2 x3 : Vec Ideal ⟨2, ![n0, n1]⟩ .f32}
  (inb0 : ∀ d, (![0, 0, 0] : Fin 3 → ℕ) d + (![1, n0, n1] : Fin 3 → ℕ) d ≤ (⟨3, ![4, n0, n1]⟩ : Shape).size d)
  (inb1 : ∀ d, (![1, 0, 0] : Fin 3 → ℕ) d + (![1, n0, n1] : Fin 3 → ℕ) d ≤ (⟨3, ![4, n0, n1]⟩ : Shape).size d)
  (inb2 : ∀ d, (![2, 0, 0] : Fin 3 → ℕ) d + (![1, n0, n1] : Fin 3 → ℕ) d ≤ (⟨3, ![4, n0, n1]⟩ : Shape).size d)
  (inb3 : ∀ d, (![3, 0, 0] : Fin 3 → ℕ) d + (![1, n0, n1] : Fin 3 → ℕ) d ≤ (⟨3, ![4, n0, n1]⟩ : Shape).size d)
  (inb : ∀ d, (![0, 0] : Fin 2 → ℕ) d + (![n0, n1] : Fin 2 → ℕ) d ≤ (⟨2, ![n0, n1]⟩ : Shape).size d)
  (hs : Shape.ShapeCasts ⟨3, ![1, n0, n1]⟩ ⟨2, ![n0, n1]⟩) (hl : FTy.bits .bf16 < FTy.bits .f32)

theorem corner : (![0, 0] : Fin 2 → ℕ) = fun _ => 0 := by decide

/-- A load of the whole block. -/
def whole (x : Vec Ideal ⟨2, ![n0, n1]⟩ .f32) : Vec Ideal ⟨2, ![n0, n1]⟩ .f32 := View.ld x (Rect.unit (s := ⟨2, ![n0, n1]⟩) ![0, 0] ![n0, n1] inb)

/-- What one store of the whole block leaves. -/
def stored (x : Vec Ideal ⟨2, ![n0, n1]⟩ .f32) : Vec Ideal ⟨2, ![n0, n1]⟩ .f32 :=
  View.canon (Val := Elt Ideal) (s := ⟨2, ![n0, n1]⟩) (e := .f32) [⟨Rect.unit (s := ⟨2, ![n0, n1]⟩) ![0, 0] ![n0, n1] inb, x⟩]

theorem whole_eq : whole inb x = x := View.ld_unit_zero (Val := Elt Ideal) (S := ⟨2, ![n0, n1]⟩) corner inb x
theorem stored_eq : stored inb x = x := View.canon_unit_zero (Val := Elt Ideal) (S := ⟨2, ![n0, n1]⟩) corner inb x

/-- The body's sum of the four planes, its two moments and the change, in the body's order of operations. -/
def sumV (x0 : Vec Ideal ⟨3, ![4, n0, n1]⟩ .bf16) : FVec Ideal ⟨2, ![n0, n1]⟩ .f32 :=
  addf (addf (addf (extf (F := Ideal) .f32 (shapeCast ⟨2, ![n0, n1]⟩ (View.ld x0 (Rect.unit (s := ⟨3, ![4, n0, n1]⟩) ![0, 0, 0] ![1, n0, n1] inb0)) hs : FVec Ideal ⟨2, ![n0, n1]⟩ .bf16) hl)
    (extf (F := Ideal) .f32 (shapeCast ⟨2, ![n0, n1]⟩ (View.ld x0 (Rect.unit (s := ⟨3, ![4, n0, n1]⟩) ![1, 0, 0] ![1, n0, n1] inb1)) hs : FVec Ideal ⟨2, ![n0, n1]⟩ .bf16) hl))
    (extf (F := Ideal) .f32 (shapeCast ⟨2, ![n0, n1]⟩ (View.ld x0 (Rect.unit (s := ⟨3, ![4, n0, n1]⟩) ![2, 0, 0] ![1, n0, n1] inb2)) hs : FVec Ideal ⟨2, ![n0, n1]⟩ .bf16) hl))
    (extf (F := Ideal) .f32 (shapeCast ⟨2, ![n0, n1]⟩ (View.ld x0 (Rect.unit (s := ⟨3, ![4, n0, n1]⟩) ![3, 0, 0] ![1, n0, n1] inb3)) hs : FVec Ideal ⟨2, ![n0, n1]⟩ .bf16) hl)

def firstV (g m : FVec Ideal ⟨2, ![n0, n1]⟩ .f32) : FVec Ideal ⟨2, ![n0, n1]⟩ .f32 :=
  addf (mulf (broadcast ⟨2, ![n0, n1]⟩ (Scalar.ofBits .f32 0x3F666666#32 : Ideal .f32)) m) (mulf (broadcast ⟨2, ![n0, n1]⟩ (Scalar.ofBits .f32 0x3DCCCCCD#32 : Ideal .f32)) g)

def secondV (g v : FVec Ideal ⟨2, ![n0, n1]⟩ .f32) : FVec Ideal ⟨2, ![n0, n1]⟩ .f32 :=
  addf (mulf (broadcast ⟨2, ![n0, n1]⟩ (Scalar.ofBits .f32 0x3F7FBE77#32 : Ideal .f32)) v) (mulf (broadcast ⟨2, ![n0, n1]⟩ (Scalar.ofBits .f32 0x3A83126F#32 : Ideal .f32)) (mulf g g))

def changeV (w m v : FVec Ideal ⟨2, ![n0, n1]⟩ .f32) : FVec Ideal ⟨2, ![n0, n1]⟩ .f32 :=
  mulf (broadcast ⟨2, ![n0, n1]⟩ (Scalar.ofBits .f32 0xBA83126F#32 : Ideal .f32)) (addf (divf (divf m (broadcast ⟨2, ![n0, n1]⟩ (Scalar.ofBits .f32 0x3F26BD02#32 : Ideal .f32)))
    (addf (sqrt (divf v (broadcast ⟨2, ![n0, n1]⟩ (Scalar.ofBits .f32 0x3C231ACC#32 : Ideal .f32)))) (broadcast ⟨2, ![n0, n1]⟩ (Scalar.ofBits .f32 0x322BCC77#32 : Ideal .f32))))
    (mulf (broadcast ⟨2, ![n0, n1]⟩ (Scalar.ofBits .f32 0x3C23D70A#32 : Ideal .f32)) w))

variable {R t : ℕ} {A0 : (⟨3, ![4, R, n1]⟩ : Shape).Idx → EReal} {A1 A2 A3 : (⟨2, ![R, n1]⟩ : Shape).Idx → EReal}
  (h : Block A0 A1 A2 A3 t x0 x1 x2 x3) (y : (⟨2, ![n0, n1]⟩ : Shape).Idx) (i : (⟨2, ![R, n1]⟩ : Shape).Idx) (hr : (i 0).val = n0 * t + (y 0).val) (hc : (i 1).val = (y 1).val)

include h in
theorem Block.sum : Ex2 (n0 := n0) (n1 := n1) (sumV inb0 inb1 inb2 inb3 hs hl x0) (fun r l => grad (natF3 A0) (n0 * t + r) l) := by
  have h0 : Ex3 (n := 4) (n0 := n0) (n1 := n1) x0 (fun k r l => natF3 A0 k (n0 * t + r) l) := h.parts
  exact ex_grad (p := fun k r l => natF3 A0 k (n0 * t + r) l) (ex_plane h0 0 inb0) (ex_plane h0 1 inb1) (ex_plane h0 2 inb2) (ex_plane h0 3 inb3) hs hl

include h in
theorem Block.first : Ex2 (n0 := n0) (n1 := n1) (firstV (sumV inb0 inb1 inb2 inb3 hs hl x0) (whole inb x2)) (fun r l => Adam.first (natF A2 (n0 * t + r) l) (grad (natF3 A0) (n0 * t + r) l)) := by
  rw [whole_eq]
  exact ex_first (h.sum inb0 inb1 inb2 inb3 hs hl) fun a b => h.mean _

include h in
theorem Block.second : Ex2 (n0 := n0) (n1 := n1) (secondV (sumV inb0 inb1 inb2 inb3 hs hl x0) (whole inb x3)) (fun r l => Adam.second (natF A3 (n0 * t + r) l) (grad (natF3 A0) (n0 * t + r) l)) := by
  rw [whole_eq]
  exact ex_second (h.sum inb0 inb1 inb2 inb3 hs hl) fun a b => h.square _

include h hr hc

/-- What the body leaves in each result's block is that block of the whole result. -/
theorem Block.newGrad : stored inb (sumV inb0 inb1 inb2 inb3 hs hl x0) y = Adam.newGrad A0 i := by
  rw [stored_eq]
  unfold Adam.newGrad
  rw [hr, hc]
  exact (h.sum inb0 inb1 inb2 inb3 hs hl).at y _ _ rfl rfl

theorem Block.newFirst : stored inb (firstV (sumV inb0 inb1 inb2 inb3 hs hl x0) (whole inb x2)) y = Adam.newFirst A0 A2 i := by
  rw [stored_eq]
  unfold Adam.newFirst
  rw [hr, hc]
  exact (h.first inb0 inb1 inb2 inb3 inb hs hl).at y _ _ rfl rfl

theorem Block.newSecond : stored inb (secondV (sumV inb0 inb1 inb2 inb3 hs hl x0) (whole inb x3)) y = Adam.newSecond A0 A3 i := by
  rw [stored_eq]
  unfold Adam.newSecond
  rw [hr, hc]
  exact (h.second inb0 inb1 inb2 inb3 inb hs hl).at y _ _ rfl rfl

theorem Block.newChange : stored inb (changeV (whole inb x1) (firstV (sumV inb0 inb1 inb2 inb3 hs hl x0) (whole inb x2)) (secondV (sumV inb0 inb1 inb2 inb3 hs hl x0) (whole inb x3))) y = Adam.newChange A0 A1 A2 A3 i := by
  rw [stored_eq, whole_eq inb (x := x1)]
  unfold Adam.newChange
  rw [hr, hc]
  have hw : Ex2 (n0 := n0) (n1 := n1) x1 (fun r l => natF A1 (n0 * t + r) l) := fun a b => h.weight _
  exact (ex_change (h.first inb0 inb1 inb2 inb3 inb hs hl) (h.second inb0 inb1 inb2 inb3 inb hs hl) hw).at y _ _ rfl rfl
end

/-! ## The reference's results -/

section
variable {R : ℕ} {g : FVec Ideal ⟨2, ![R, n1]⟩ .f32} {A0 : (⟨3, ![4, R, n1]⟩ : Shape).Idx → EReal} {A1 A2 A3 : FVec Ideal ⟨2, ![R, n1]⟩ .f32} (hg : g = newGrad A0) (hb : Shape.BroadcastsInDim ⟨0, ![]⟩ ⟨2, ![R, n1]⟩ (![] : Fin 0 → Fin 2))

/-- The reference's two moments and its change, in its own order of operations. -/
def firstH (g m : FVec Ideal ⟨2, ![R, n1]⟩ .f32) : FVec Ideal ⟨2, ![R, n1]⟩ .f32 :=
  addf (mulf (broadcastInDim ⟨2, ![R, n1]⟩ ![] hb (constant (F := Ideal) ⟨0, ![]⟩ .f32 0x3F666666#32)) m) (mulf (broadcastInDim ⟨2, ![R, n1]⟩ ![] hb (constant (F := Ideal) ⟨0, ![]⟩ .f32 0x3DCCCCCD#32)) g)

def secondH (g v : FVec Ideal ⟨2, ![R, n1]⟩ .f32) : FVec Ideal ⟨2, ![R, n1]⟩ .f32 :=
  addf (mulf (broadcastInDim ⟨2, ![R, n1]⟩ ![] hb (constant (F := Ideal) ⟨0, ![]⟩ .f32 0x3F7FBE77#32)) v) (mulf (broadcastInDim ⟨2, ![R, n1]⟩ ![] hb (constant (F := Ideal) ⟨0, ![]⟩ .f32 0x3A83126F#32)) (mulf g g))

include hg in
theorem sum_ex : Ex2 g (grad (natF3 A0)) := fun a b => by rw [hg]; rfl

include hg in
theorem firstH_ex : Ex2 (firstH hb g A2) (fun a b => first (natF A2 a b) (grad (natF3 A0) a b)) := host_first (sum_ex hg) (ex_natF A2) hb hb

include hg in
theorem secondH_ex : Ex2 (secondH hb g A3) (fun a b => second (natF A3 a b) (grad (natF3 A0) a b)) := host_second (sum_ex hg) (ex_natF A3) hb hb

include hg in
theorem firstH_eq : firstH hb g A2 = newFirst A0 A2 := funext fun i => (firstH_ex hg hb).at i _ _ rfl rfl

include hg in
theorem secondH_eq : secondH hb g A3 = newSecond A0 A3 := funext fun i => (secondH_ex hg hb).at i _ _ rfl rfl

include hg in
theorem changeH_eq : mulf (broadcastInDim ⟨2, ![R, n1]⟩ ![] hb (constant (F := Ideal) ⟨0, ![]⟩ .f32 0xBA83126F#32)) (addf (Host.divf (Host.divf (firstH hb g A2) (broadcastInDim ⟨2, ![R, n1]⟩ ![] hb (constant (F := Ideal) ⟨0, ![]⟩ .f32 0x3F26BD02#32)))
      (addf (Host.sqrt (Host.divf (secondH hb g A3) (broadcastInDim ⟨2, ![R, n1]⟩ ![] hb (constant (F := Ideal) ⟨0, ![]⟩ .f32 0x3C231ACC#32)))) (broadcastInDim ⟨2, ![R, n1]⟩ ![] hb (constant (F := Ideal) ⟨0, ![]⟩ .f32 0x322BCC77#32))))
      (mulf (broadcastInDim ⟨2, ![R, n1]⟩ ![] hb (constant (F := Ideal) ⟨0, ![]⟩ .f32 0x3C23D70A#32)) A1)) = newChange A0 A1 A2 A3 :=
  funext fun i => (host_change (firstH_ex hg hb) (secondH_ex hg hb) (ex_natF A1) hb).at i _ _ rfl rfl
end

end Cert.Proof.Adam
end
-- ==== Proof.AdamIn.lean ====
module

public import proofs.«01_k».proof.Defs
public import proofs.«01_k».proof.Proof.Adam
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Geometry
public import Idealize.ShloMosaic.Lib.KernelVsHost

/-! The optimiser's step on the input projection's weights: the call's results are the reference's. -/

@[expose] public section

set_option maxRecDepth 16384

noncomputable section

namespace Cert.Proof.AdamIn

open Idealize.ShloMosaic Idealize.ShloMosaic.TcCoe Idealize.SL.Sem
open Cert.Proof.Adam

namespace Call
open Cert.Kernel8Ideal Cert.Kernel8Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 128) (n1 := 388) (R := 2048) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 388) (R := 2048) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 388) (R := 2048) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 388) (R := 2048) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 388) (R := 2048) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference8Ideal Cert.Reference8Ideal.Gen Cert.Reference8Ideal.Read

theorem r_grad (x0 : (⟨S4x2048x388, .bf16⟩ : BufTy).Contents (Elt Ideal)) : val_main_v1 (F := Ideal) x0 = newGrad (n1 := 388) (R := 2048) x0 := funext fun i => by
  rw [val_main_v1_apply]
  exact sum_four (natF3 (n := 4) (n0 := 2048) (n1 := 388) x0) _ _ _ Ideal.ofBits_zero_f32 _ fun k => ex_natF3 (n := 4) (n0 := 2048) (n1 := 388) x0 _

end Plain

theorem frame_kernel : Cert.quiescent_Kernel8 := fun m ρ _ => Cert.Kernel8.Gen.frame (F := Bits) m ρ
theorem frame_ideal : Cert.quiescent_Kernel8Ideal := fun m ρ _ => Cert.Kernel8Ideal.Gen.frame (F := Ideal) m ρ
theorem frame_reference : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

open Cert.Reference8Ideal.Gen Cert.Reference8Ideal.Read in
/-- The call's four results are the reference's. -/
theorem algebraic : Cert.algebraic_Kernel8Ideal_Reference8Ideal := fun m ρ m' ρ' _ hargs => by
  refine ⟨_, _, _, _, Cert.Kernel8Ideal.Value.run_blocks m ρ, ?_⟩
  refine (θ_run Cert.Reference8Ideal.defs _ _).mono (fun _ h c => ?_) (Cert.Reference8Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S2048x388).trans (Call.final_5 m c).symm
  · rw [val_main_v6_eq, a0, a2]
    exact (firstH_eq (Plain.r_grad _) bcast_S_S2048x388).trans (Call.final_6 m c).symm
  · rw [val_main_v12_eq, a0, a3]
    exact (secondH_eq (Plain.r_grad _) bcast_S_S2048x388).trans (Call.final_7 m c).symm

end Cert.Proof.AdamIn
end
-- ==== Proof.AdamShared.lean ====
module

public import proofs.«01_k».proof.Defs
public import proofs.«01_k».proof.Proof.Adam
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry
public import Idealize.ShloMosaic.Lib.KernelVsHost

/-! The optimiser's step on the weights that every device holds whole, packed in one array: the call's results are the reference's. -/

@[expose] public section

set_option maxRecDepth 16384

noncomputable section

namespace Cert.Proof.AdamShared

open Idealize.ShloMosaic Idealize.ShloMosaic.TcCoe Idealize.SL.Sem
open Cert.Proof.Adam

namespace Call
open Cert.Kernel9Ideal Cert.Kernel9Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 144) (n1 := 1024) (R := 144) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 1024) (R := 144) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 1024) (R := 144) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 1024) (R := 144) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 1024) (R := 144) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference9Ideal Cert.Reference9Ideal.Gen Cert.Reference9Ideal.Read

theorem r_grad (x0 : (⟨S4x144x1024, .bf16⟩ : BufTy).Contents (Elt Ideal)) : val_main_v1 (F := Ideal) x0 = newGrad (n1 := 1024) (R := 144) x0 := funext fun i => by
  rw [val_main_v1_apply]
  exact sum_four (natF3 (n := 4) (n0 := 144) (n1 := 1024) x0) _ _ _ Ideal.ofBits_zero_f32 _ fun k => ex_natF3 (n := 4) (n0 := 144) (n1 := 1024) x0 _

end Plain

theorem frame_kernel : Cert.quiescent_Kernel9 := fun m ρ _ => Cert.Kernel9.Gen.frame (F := Bits) m ρ
theorem frame_ideal : Cert.quiescent_Kernel9Ideal := fun m ρ _ => Cert.Kernel9Ideal.Gen.frame (F := Ideal) m ρ
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

open Cert.Reference9Ideal.Gen Cert.Reference9Ideal.Read in
/-- The call's four results are the reference's. -/
theorem algebraic : Cert.algebraic_Kernel9Ideal_Reference9Ideal := fun m ρ m' ρ' _ hargs => by
  refine ⟨_, _, _, _, Cert.Kernel9Ideal.Value.run_blocks m ρ, ?_⟩
  refine (θ_run Cert.Reference9Ideal.defs _ _).mono (fun _ h c => ?_) (Cert.Reference9Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S144x1024).trans (Call.final_5 m c).symm
  · rw [val_main_v6_eq, a0, a2]
    exact (firstH_eq (Plain.r_grad _) bcast_S_S144x1024).trans (Call.final_6 m c).symm
  · rw [val_main_v12_eq, a0, a3]
    exact (secondH_eq (Plain.r_grad _) bcast_S_S144x1024).trans (Call.final_7 m c).symm

end Cert.Proof.AdamShared
end
-- ==== Proof.AdamOut.lean ====
module

public import proofs.«01_k».proof.Defs
public import proofs.«01_k».proof.Proof.Adam
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Geometry
public import Idealize.ShloMosaic.Lib.KernelVsHost

/-! The optimiser's step on the output projection's weights: the call's results are the reference's. -/

@[expose] public section

set_option maxRecDepth 16384

noncomputable section

namespace Cert.Proof.AdamOut

open Idealize.ShloMosaic Idealize.ShloMosaic.TcCoe Idealize.SL.Sem
open Cert.Proof.Adam

namespace Call
open Cert.Kernel10Ideal Cert.Kernel10Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 128) (n1 := 1024) (R := 256) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 1024) (R := 256) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 1024) (R := 256) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 1024) (R := 256) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 1024) (R := 256) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference10Ideal Cert.Reference10Ideal.Gen Cert.Reference10Ideal.Read

theorem r_grad (x0 : (⟨S4x256x1024, .bf16⟩ : BufTy).Contents (Elt Ideal)) : val_main_v1 (F := Ideal) x0 = newGrad (n1 := 1024) (R := 256) x0 := funext fun i => by
  rw [val_main_v1_apply]
  exact sum_four (natF3 (n := 4) (n0 := 256) (n1 := 1024) x0) _ _ _ Ideal.ofBits_zero_f32 _ fun k => ex_natF3 (n := 4) (n0 := 256) (n1 := 1024) x0 _

end Plain

theorem frame_kernel : Cert.quiescent_Kernel10 := fun m ρ _ => Cert.Kernel10.Gen.frame (F := Bits) m ρ
theorem frame_ideal : Cert.quiescent_Kernel10Ideal := fun m ρ _ => Cert.Kernel10Ideal.Gen.frame (F := Ideal) m ρ
theorem frame_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

open Cert.Reference10Ideal.Gen Cert.Reference10Ideal.Read in
/-- The call's four results are the reference's. -/
theorem algebraic : Cert.algebraic_Kernel10Ideal_Reference10Ideal := fun m ρ m' ρ' _ hargs => by
  refine ⟨_, _, _, _, Cert.Kernel10Ideal.Value.run_blocks m ρ, ?_⟩
  refine (θ_run Cert.Reference10Ideal.defs _ _).mono (fun _ h c => ?_) (Cert.Reference10Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S256x1024).trans (Call.final_5 m c).symm
  · rw [val_main_v6_eq, a0, a2]
    exact (firstH_eq (Plain.r_grad _) bcast_S_S256x1024).trans (Call.final_6 m c).symm
  · rw [val_main_v12_eq, a0, a3]
    exact (secondH_eq (Plain.r_grad _) bcast_S_S256x1024).trans (Call.final_7 m c).symm

end Cert.Proof.AdamOut
end
-- ==== Proof.AdamQ.lean ====
module

public import proofs.«01_k».proof.Defs
public import proofs.«01_k».proof.Proof.Adam
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Geometry
public import Idealize.ShloMosaic.Lib.KernelVsHost

/-! The optimiser's step on the weights of the latent projection of q: the call's results are the reference's. -/

@[expose] public section

set_option maxRecDepth 16384

noncomputable section

namespace Cert.Proof.AdamQ

open Idealize.ShloMosaic Idealize.ShloMosaic.TcCoe Idealize.SL.Sem
open Cert.Proof.Adam

namespace Call
open Cert.Kernel11Ideal Cert.Kernel11Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 192) (n1 := 768) (R := 192) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 768) (R := 192) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 768) (R := 192) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 768) (R := 192) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 768) (R := 192) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference11Ideal Cert.Reference11Ideal.Gen Cert.Reference11Ideal.Read

theorem r_grad (x0 : (⟨S4x192x768, .bf16⟩ : BufTy).Contents (Elt Ideal)) : val_main_v1 (F := Ideal) x0 = newGrad (n1 := 768) (R := 192) x0 := funext fun i => by
  rw [val_main_v1_apply]
  exact sum_four (natF3 (n := 4) (n0 := 192) (n1 := 768) x0) _ _ _ Ideal.ofBits_zero_f32 _ fun k => ex_natF3 (n := 4) (n0 := 192) (n1 := 768) x0 _

end Plain

theorem frame_kernel : Cert.quiescent_Kernel11 := fun m ρ _ => Cert.Kernel11.Gen.frame (F := Bits) m ρ
theorem frame_ideal : Cert.quiescent_Kernel11Ideal := fun m ρ _ => Cert.Kernel11Ideal.Gen.frame (F := Ideal) m ρ
theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

open Cert.Reference11Ideal.Gen Cert.Reference11Ideal.Read in
/-- The call's four results are the reference's. -/
theorem algebraic : Cert.algebraic_Kernel11Ideal_Reference11Ideal := fun m ρ m' ρ' _ hargs => by
  refine ⟨_, _, _, _, Cert.Kernel11Ideal.Value.run_blocks m ρ, ?_⟩
  refine (θ_run Cert.Reference11Ideal.defs _ _).mono (fun _ h c => ?_) (Cert.Reference11Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S192x768).trans (Call.final_5 m c).symm
  · rw [val_main_v6_eq, a0, a2]
    exact (firstH_eq (Plain.r_grad _) bcast_S_S192x768).trans (Call.final_6 m c).symm
  · rw [val_main_v12_eq, a0, a3]
    exact (secondH_eq (Plain.r_grad _) bcast_S_S192x768).trans (Call.final_7 m c).symm

end Cert.Proof.AdamQ
end
-- ==== Proof.AdamKv.lean ====
module

public import proofs.«01_k».proof.Defs
public import proofs.«01_k».proof.Proof.Adam
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Geometry
public import Idealize.ShloMosaic.Lib.KernelVsHost

/-! The optimiser's step on the weights of the latent projection of k and v: the call's results are the reference's. -/

@[expose] public section

set_option maxRecDepth 16384

noncomputable section

namespace Cert.Proof.AdamKv

open Idealize.ShloMosaic Idealize.ShloMosaic.TcCoe Idealize.SL.Sem
open Cert.Proof.Adam

namespace Call
open Cert.Kernel12Ideal Cert.Kernel12Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 128) (n1 := 128) (R := 512) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 128) (R := 512) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 128) (R := 512) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 128) (R := 512) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 128) (R := 512) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference12Ideal Cert.Reference12Ideal.Gen Cert.Reference12Ideal.Read

theorem r_grad (x0 : (⟨S4x512x128, .bf16⟩ : BufTy).Contents (Elt Ideal)) : val_main_v1 (F := Ideal) x0 = newGrad (n1 := 128) (R := 512) x0 := funext fun i => by
  rw [val_main_v1_apply]
  exact sum_four (natF3 (n := 4) (n0 := 512) (n1 := 128) x0) _ _ _ Ideal.ofBits_zero_f32 _ fun k => ex_natF3 (n := 4) (n0 := 512) (n1 := 128) x0 _

end Plain

theorem frame_kernel : Cert.quiescent_Kernel12 := fun m ρ _ => Cert.Kernel12.Gen.frame (F := Bits) m ρ
theorem frame_ideal : Cert.quiescent_Kernel12Ideal := fun m ρ _ => Cert.Kernel12Ideal.Gen.frame (F := Ideal) m ρ
theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

open Cert.Reference12Ideal.Gen Cert.Reference12Ideal.Read in
/-- The call's four results are the reference's. -/
theorem algebraic : Cert.algebraic_Kernel12Ideal_Reference12Ideal := fun m ρ m' ρ' _ hargs => by
  refine ⟨_, _, _, _, Cert.Kernel12Ideal.Value.run_blocks m ρ, ?_⟩
  refine (θ_run Cert.Reference12Ideal.defs _ _).mono (fun _ h c => ?_) (Cert.Reference12Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S512x128).trans (Call.final_5 m c).symm
  · rw [val_main_v6_eq, a0, a2]
    exact (firstH_eq (Plain.r_grad _) bcast_S_S512x128).trans (Call.final_6 m c).symm
  · rw [val_main_v12_eq, a0, a3]
    exact (secondH_eq (Plain.r_grad _) bcast_S_S512x128).trans (Call.final_7 m c).symm

end Cert.Proof.AdamKv
end
-- ==== Proof.AdamMix.lean ====
module

public import proofs.«01_k».proof.Defs
public import proofs.«01_k».proof.Proof.Adam
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Geometry
public import Idealize.ShloMosaic.Lib.KernelVsHost

/-! The optimiser's step on the weights of the convolution's pointwise product: the call's results are the reference's. -/

@[expose] public section

set_option maxRecDepth 16384

noncomputable section

namespace Cert.Proof.AdamMix

open Idealize.ShloMosaic Idealize.ShloMosaic.TcCoe Idealize.SL.Sem
open Cert.Proof.Adam

namespace Call
open Cert.Kernel13Ideal Cert.Kernel13Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 64) (n1 := 256) (R := 64) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 256) (R := 64) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 256) (R := 64) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 256) (R := 64) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 256) (R := 64) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference13Ideal Cert.Reference13Ideal.Gen Cert.Reference13Ideal.Read

theorem r_grad (x0 : (⟨S4x64x256, .bf16⟩ : BufTy).Contents (Elt Ideal)) : val_main_v1 (F := Ideal) x0 = newGrad (n1 := 256) (R := 64) x0 := funext fun i => by
  rw [val_main_v1_apply]
  exact sum_four (natF3 (n := 4) (n0 := 64) (n1 := 256) x0) _ _ _ Ideal.ofBits_zero_f32 _ fun k => ex_natF3 (n := 4) (n0 := 64) (n1 := 256) x0 _

end Plain

theorem frame_kernel : Cert.quiescent_Kernel13 := fun m ρ _ => Cert.Kernel13.Gen.frame (F := Bits) m ρ
theorem frame_ideal : Cert.quiescent_Kernel13Ideal := fun m ρ _ => Cert.Kernel13Ideal.Gen.frame (F := Ideal) m ρ
theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

open Cert.Reference13Ideal.Gen Cert.Reference13Ideal.Read in
/-- The call's four results are the reference's. -/
theorem algebraic : Cert.algebraic_Kernel13Ideal_Reference13Ideal := fun m ρ m' ρ' _ hargs => by
  refine ⟨_, _, _, _, Cert.Kernel13Ideal.Value.run_blocks m ρ, ?_⟩
  refine (θ_run Cert.Reference13Ideal.defs _ _).mono (fun _ h c => ?_) (Cert.Reference13Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S64x256).trans (Call.final_5 m c).symm
  · rw [val_main_v6_eq, a0, a2]
    exact (firstH_eq (Plain.r_grad _) bcast_S_S64x256).trans (Call.final_6 m c).symm
  · rw [val_main_v12_eq, a0, a3]
    exact (secondH_eq (Plain.r_grad _) bcast_S_S64x256).trans (Call.final_7 m c).symm

end Cert.Proof.AdamMix
end
-- ==== Proof.AdamConv.lean ====
module

public import proofs.«01_k».proof.Defs
public import proofs.«01_k».proof.Proof.Adam
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Geometry
public import Idealize.ShloMosaic.Lib.KernelVsHost

/-! The optimiser's step on the weights of the convolution: the call's results are the reference's. -/

@[expose] public section

set_option maxRecDepth 16384

noncomputable section

namespace Cert.Proof.AdamConv

open Idealize.ShloMosaic Idealize.ShloMosaic.TcCoe Idealize.SL.Sem
open Cert.Proof.Adam

namespace Call
open Cert.Kernel14Ideal Cert.Kernel14Ideal.Gen

theorem ix_0 : ∀ t : Fin cfg0.N, win0_0.index t = ![0, t.val, 0] := (by decide +kernel : ∀ t : Fin grid0.N, _)
theorem ix : ∀ t : Fin cfg0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem blk (t : Fin cfg0.N) : Block (n0 := 62) (n1 := 32) (R := 62) (V m c main_arg0) (V m c main_arg1) (V m c main_arg2) (V m c main_arg3) t.val (iblk m c 0 t) (iblk m c 1 t) (iblk m c 2 t) (iblk m c 3 t) where
  parts i := by
    blk_simp [iblk]
    refine natF3_at _ _ _ _ _ ?_ ?_ ?_ <;> blk_simp [ix_0] <;> simp [Nat.mul_comm]
  weight i := by
    blk_simp [iblk]
    refine natF_at _ _ _ _ ?_ ?_ <;> blk_simp [(ix t).1] <;> simp [Nat.mul_comm]
  mean i := by
    blk_simp [iblk]
    refine natF_at _ _ _ _ ?_ ?_ <;> blk_simp [(ix t).2.1] <;> simp [Nat.mul_comm]
  square i := by
    blk_simp [iblk]
    refine natF_at _ _ _ _ ?_ ?_ <;> blk_simp [(ix t).2.2.1] <;> simp [Nat.mul_comm]

theorem final_4 : (dats m 0 c).arrAt 4 cfg0.N = newGrad (n1 := 32) (R := 62) (V m c main_arg0) :=
  (dats m 0 c).arrAt_eq_of_covers 4 _ (by decide +kernel) fun t _ y => by
    blk_simp
    rw [after0_4]
    refine (blk m c t).newGrad _ _ _ _ _ _ _ y _ ?_ ?_ <;> blk_simp [(ix t).2.2.2.1] <;> simp [Nat.mul_comm]

theorem final_5 : (dats m 0 c).arrAt 5 cfg0.N = newChange (n1 := 32) (R := 62) (V m c main_arg0) (V m c main_arg1) (V m c main_arg2) (V m c main_arg3) :=
  (dats m 0 c).arrAt_eq_of_covers 5 _ (by decide +kernel) fun t _ y => by
    blk_simp
    rw [after0_5]
    refine (blk m c t).newChange _ _ _ _ _ _ _ y _ ?_ ?_ <;> blk_simp [(ix t).2.2.2.2.1] <;> simp [Nat.mul_comm]

theorem final_6 : (dats m 0 c).arrAt 6 cfg0.N = newFirst (n1 := 32) (R := 62) (V m c main_arg0) (V m c main_arg2) :=
  (dats m 0 c).arrAt_eq_of_covers 6 _ (by decide +kernel) fun t _ y => by
    blk_simp
    rw [after0_6]
    refine (blk m c t).newFirst _ _ _ _ _ _ _ y _ ?_ ?_ <;> blk_simp [(ix t).2.2.2.2.2.1] <;> simp [Nat.mul_comm]

theorem final_7 : (dats m 0 c).arrAt 7 cfg0.N = newSecond (n1 := 32) (R := 62) (V m c main_arg0) (V m c main_arg3) :=
  (dats m 0 c).arrAt_eq_of_covers 7 _ (by decide +kernel) fun t _ y => by
    blk_simp
    rw [after0_7]
    refine (blk m c t).newSecond _ _ _ _ _ _ _ y _ ?_ ?_ <;> blk_simp [(ix t).2.2.2.2.2.2] <;> simp [Nat.mul_comm]

end Call

namespace Plain
open Cert.Reference14Ideal Cert.Reference14Ideal.Gen Cert.Reference14Ideal.Read

theorem r_grad (x0 : (⟨S4x62x32, .bf16⟩ : BufTy).Contents (Elt Ideal)) : val_main_v1 (F := Ideal) x0 = newGrad (n1 := 32) (R := 62) x0 := funext fun i => by
  rw [val_main_v1_apply]
  exact sum_four (natF3 (n := 4) (n0 := 62) (n1 := 32) x0) _ _ _ Ideal.ofBits_zero_f32 _ fun k => ex_natF3 (n := 4) (n0 := 62) (n1 := 32) x0 _

end Plain

theorem frame_kernel : Cert.quiescent_Kernel14 := fun m ρ _ => Cert.Kernel14.Gen.frame (F := Bits) m ρ
theorem frame_ideal : Cert.quiescent_Kernel14Ideal := fun m ρ _ => Cert.Kernel14Ideal.Gen.frame (F := Ideal) m ρ
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

open Cert.Reference14Ideal.Gen Cert.Reference14Ideal.Read in
/-- The call's four results are the reference's. -/
theorem algebraic : Cert.algebraic_Kernel14Ideal_Reference14Ideal := fun m ρ m' ρ' _ hargs => by
  refine ⟨_, _, _, _, Cert.Kernel14Ideal.Value.run_blocks m ρ, ?_⟩
  refine (θ_run Cert.Reference14Ideal.defs _ _).mono (fun _ h c => ?_) (Cert.Reference14Ideal.Value.run (F := Ideal) m' ρ')
  obtain ⟨a0, a1, a2, a3⟩ := hargs c
  refine ⟨(h c).1.trans ?_, (h c).2.1.trans ?_, (h c).2.2.1.trans ?_, (h c).2.2.2.1.trans ?_, (h c).2.2.2.2⟩
  · rw [val_main_v1_eq, a0]
    exact (Plain.r_grad _).trans (Call.final_4 m c).symm
  · rw [val_main_v25_eq, a0, a1, a2, a3]
    exact (changeH_eq (Plain.r_grad _) bcast_S_S62x32).trans (Call.final_5 m c).symm
  · rw [val_main_v6_eq, a0, a2]
    exact (firstH_eq (Plain.r_grad _) bcast_S_S62x32).trans (Call.final_6 m c).symm
  · rw [val_main_v12_eq, a0, a3]
    exact (secondH_eq (Plain.r_grad _) bcast_S_S62x32).trans (Call.final_7 m c).symm

end Cert.Proof.AdamConv
end
-- ==== Proof.ChipSum.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15.Run
public import Idealize.ShloMosaic.Lib.Pipeline.ValueKit.Geometry
public import Idealize.ShloMosaic.Lib.Pipeline.ValueKit.Tiles
public import Idealize.ShloMosaic.Lib.KernelVsHost

/-! The sum of the two devices' gradients on a chip: each of the call's seven arrays is the reference's, entry by entry. -/

@[expose] public section

set_option maxRecDepth 16384

noncomputable section

namespace Cert.Proof.ChipSum

open Idealize.ShloMosaic Idealize.ShloMosaic.TcCoe Idealize.SL.Sem

variable {F : FTy → Type} [FloatOps F]

/-- The sum of two arrays, taken in f32 and rounded. -/
def both {s : Shape} (hl : FTy.bits .bf16 < FTy.bits .f32) (x x' : Vec F s .bf16) : FVec F s .bf16 :=
  truncf .bf16 (addf (extf .f32 x hl) (extf .f32 x' hl)) hl

/-- What the body leaves of two blocks is, where they hold the entries of two arrays, the entry of the arrays' sum. -/
theorem block_at {s S : Shape} {off : Fin s.rank → ℕ} (h : off = fun _ => 0) (inb : ∀ a, off a + s.size a ≤ s.size a) (hl : FTy.bits .bf16 < FTy.bits .f32)
    {x x' : Vec F s .bf16} {A A' : Vec F S .bf16} (y : s.Idx) (i : S.Idx) (hx : x y = A i) (hx' : x' y = A' i) :
    View.canon (Val := Elt F) (s := s) (e := .bf16) [⟨Rect.unit off s.size inb, both hl (View.ld x (Rect.unit off s.size inb)) (View.ld x' (Rect.unit off s.size inb))⟩] y = both hl A A' i := by
  rw [View.canon_unit_zero (Val := Elt F) h, View.ld_unit_zero (Val := Elt F) h, View.ld_unit_zero (Val := Elt F) h]
  show FloatOps.truncf .bf16 hl (FloatOps.addf (FloatOps.extf .f32 hl (x y)) (FloatOps.extf .f32 hl (x' y))) = FloatOps.truncf .bf16 hl (FloatOps.addf (FloatOps.extf .f32 hl (A i)) (FloatOps.extf .f32 hl (A' i)))
  rw [hx, hx']

theorem zero3 : (![0, 0, 0] : Fin 3 → ℕ) = fun _ => 0 := by decide
theorem zero2 : (![0, 0] : Fin 2 → ℕ) = fun _ => 0 := by decide

open Cert.Kernel15Ideal Cert.Kernel15Ideal.Gen

variable (m : (ℓ : Loc nD τ sig) → Buf (Elt F) ℓ) (c : Dev nD)

theorem final_14 : (dats m 0 c).arrAt 14 cfg0.N = both (s := S4x2048x388) bitsLt_bf16_f32 (V m c main_arg0) (V m c main_arg7) :=
  (dats m 0 c).arrAt_eq_of_covers 14 _ (by decide +kernel) fun t _ y => by
    blk_simp
    rw [after0_14]
    exact block_at zero3 _ _ y _ rfl rfl

theorem final_15 : (dats m 0 c).arrAt 15 cfg0.N = both (s := S4x62x32) bitsLt_bf16_f32 (V m c main_arg1) (V m c main_arg8) :=
  (dats m 0 c).arrAt_eq_of_covers 15 _ (by decide +kernel) fun t _ y => by
    blk_simp
    rw [after0_15]
    exact block_at zero3 _ _ y _ rfl rfl

theorem final_16 : (dats m 0 c).arrAt 16 cfg0.N = both (s := S4x64x256) bitsLt_bf16_f32 (V m c main_arg2) (V m c main_arg9) :=
  (dats m 0 c).arrAt_eq_of_covers 16 _ (by decide +kernel) fun t _ y => by
    blk_simp
    rw [after0_16]
    exact block_at zero3 _ _ y _ rfl rfl

theorem final_17 : (dats m 0 c).arrAt 17 cfg0.N = both (s := S4x192x768) bitsLt_bf16_f32 (V m c main_arg3) (V m c main_arg10) :=
  (dats m 0 c).arrAt_eq_of_covers 17 _ (by decide +kernel) fun t _ y => by
    blk_simp
    rw [after0_17]
    exact block_at zero3 _ _ y _ rfl rfl

theorem final_18 : (dats m 0 c).arrAt 18 cfg0.N = both (s := S4x512x128) bitsLt_bf16_f32 (V m c main_arg4) (V m c main_arg11) :=
  (dats m 0 c).arrAt_eq_of_covers 18 _ (by decide +kernel) fun t _ y => by
    blk_simp
    rw [after0_18]
    exact block_at zero3 _ _ y _ rfl rfl

theorem final_19 : (dats m 0 c).arrAt 19 cfg0.N = both (s := S4x256x1024) bitsLt_bf16_f32 (V m c main_arg5) (V m c main_arg12) :=
  (dats m 0 c).arrAt_eq_of_covers 19 _ (by decide +kernel) fun t _ y => by
    blk_simp
    rw [after0_19]
    exact block_at zero3 _ _ y _ rfl rfl

theorem final_20 : (dats m 0 c).arrAt 20 cfg0.N = both (s := S144x1024) bitsLt_bf16_f32 (V m c main_arg6) (V m c main_arg13) :=
  (dats m 0 c).arrAt_eq_of_covers 20 _ (by decide +kernel) fun t _ y => by
    blk_simp
    rw [after0_20]
    exact block_at zero2 _ _ y _ rfl rfl

variable (ρ : Dev nD → PrngReg)

/-- The run, at any floats: each result is the sum of its two arrays. -/
theorem run_sums : θ_run defs (onTc (τ := τ) (main (F := F))) ⟨m, fun _ => 0, ρ⟩ fun r => ∀ c : Dev nD,
    r.2.mem ((c : Thread nD τ).loc main_v0_0) = both (s := S4x2048x388) bitsLt_bf16_f32 (m ((c : Thread nD τ).loc main_arg0)) (m ((c : Thread nD τ).loc main_arg7))
    ∧ r.2.mem ((c : Thread nD τ).loc main_v0_1) = both (s := S4x62x32) bitsLt_bf16_f32 (m ((c : Thread nD τ).loc main_arg1)) (m ((c : Thread nD τ).loc main_arg8))
    ∧ r.2.mem ((c : Thread nD τ).loc main_v0_2) = both (s := S4x64x256) bitsLt_bf16_f32 (m ((c : Thread nD τ).loc main_arg2)) (m ((c : Thread nD τ).loc main_arg9))
    ∧ r.2.mem ((c : Thread nD τ).loc main_v0_3) = both (s := S4x192x768) bitsLt_bf16_f32 (m ((c : Thread nD τ).loc main_arg3)) (m ((c : Thread nD τ).loc main_arg10))
    ∧ r.2.mem ((c : Thread nD τ).loc main_v0_4) = both (s := S4x512x128) bitsLt_bf16_f32 (m ((c : Thread nD τ).loc main_arg4)) (m ((c : Thread nD τ).loc main_arg11))
    ∧ r.2.mem ((c : Thread nD τ).loc main_v0_5) = both (s := S4x256x1024) bitsLt_bf16_f32 (m ((c : Thread nD τ).loc main_arg5)) (m ((c : Thread nD τ).loc main_arg12))
    ∧ r.2.mem ((c : Thread nD τ).loc main_v0_6) = both (s := S144x1024) bitsLt_bf16_f32 (m ((c : Thread nD τ).loc main_arg6)) (m ((c : Thread nD τ).loc main_arg13))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13) :=
  (θ_run defs _ _).mono (fun _ h c => ⟨(h c).1.trans (final_14 m c), (h c).2.1.trans (final_15 m c), (h c).2.2.1.trans (final_16 m c), (h c).2.2.2.1.trans (final_17 m c), (h c).2.2.2.2.1.trans (final_18 m c), (h c).2.2.2.2.2.1.trans (final_19 m c), (h c).2.2.2.2.2.2.1.trans (final_20 m c), (h c).2.2.2.2.2.2.2⟩) (Cert.Kernel15Ideal.Value.run_blocks m ρ)

theorem frame_kernel : Cert.quiescent_Kernel15 := fun m ρ _ => Cert.Kernel15.Gen.frame (F := Bits) m ρ
theorem frame_ideal : Cert.quiescent_Kernel15Ideal := fun m ρ _ => Cert.Kernel15Ideal.Gen.frame (F := Ideal) m ρ
theorem frame_reference : Cert.quiescent_Reference15Ideal := fun m ρ _ =>
  (θ_run Cert.Reference15Ideal.defs _ _).mono (fun r h => ⟨fun c => (h c).2.2.2.2.2.2.2, sem_eq_zero_of_no_sems (by decide) r.2⟩)
    (Cert.Reference15Ideal.Value.run (F := Ideal) m ρ)
theorem frame_reference_bits : Cert.quiescent_Reference15 := fun m ρ _ =>
  (θ_run Cert.Reference15.defs _ _).mono (fun r h => ⟨fun c => (h c).2.2.2.2.2.2.2, sem_eq_zero_of_no_sems (by decide) r.2⟩)
    (Cert.Reference15.Value.run (F := Bits) m ρ)

/-! The call as printed and the call read at the extended reals are one text. -/

set_option maxHeartbeats 4000000 in
theorem body_same : (Cert.Kernel15.cc0_chip_sum (F := F)) = Cert.Kernel15Ideal.cc0_chip_sum := rfl
set_option maxHeartbeats 2000000 in
theorem defs0_same : (Cert.Kernel15.defs₀ (F := F)) = Cert.Kernel15Ideal.defs₀ := by
  unfold Cert.Kernel15.defs₀ Cert.Kernel15Ideal.defs₀
  refine congrArg Defs.onTc ?_
  rw [body_same]
  funext l a
  obtain ⟨l, hl⟩ := l
  cases l with
  | zero =>
    obtain ⟨t, s⟩ := a
    rfl
  | succ l => exact absurd hl (Nat.not_lt.2 (Nat.le_add_left _ _))
theorem defs_same : (Cert.Kernel15.defs (F := F)) = Cert.Kernel15Ideal.defs := congrArg (Pipeline.defs Cert.Kernel15Ideal.pcfgs) defs0_same
theorem main_same : (Cert.Kernel15.main (F := F)) = Cert.Kernel15Ideal.main := rfl

/-- The call's seven results are the reference's. -/
theorem algebraic : Cert.algebraic_Kernel15Ideal_Reference15Ideal := fun m ρ m' ρ' _ hargs => by
  refine ⟨fun c => both (s := S4x2048x388) bitsLt_bf16_f32 (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg7)), fun c => both (s := S4x62x32) bitsLt_bf16_f32 (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg8)), fun c => both (s := S4x64x256) bitsLt_bf16_f32 (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg9)), fun c => both (s := S4x192x768) bitsLt_bf16_f32 (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg10)), fun c => both (s := S4x512x128) bitsLt_bf16_f32 (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg11)), fun c => both (s := S4x256x1024) bitsLt_bf16_f32 (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg12)), fun c => both (s := S144x1024) bitsLt_bf16_f32 (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg13)),
    (θ_run Cert.Kernel15Ideal.defs _ _).mono (fun _ h => h) (run_sums (F := Ideal) m ρ), ?_⟩
  refine (θ_run Cert.Reference15Ideal.defs _ _).mono (fun _ h c => ?_) (Cert.Reference15Ideal.Value.run (F := Ideal) m' ρ')
  obtain ⟨a0, a1, a2, a3, a4, a5, a6, a7, a8, a9, a10, a11, a12, a13⟩ := hargs c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [a0, a7]
    rfl
  · rw [a1, a8]
    rfl
  · rw [a2, a9]
    rfl
  · rw [a3, a10]
    rfl
  · rw [a4, a11]
    rfl
  · rw [a5, a12]
    rfl
  · rw [a6, a13]
    rfl

set_option maxHeartbeats 2000000 in
/-- So they are at the floats themselves, bit for bit: the sum and its rounding are the same operations on both sides. -/
theorem bitexact : Cert.bitexact_Kernel15_Reference15 := fun m ρ m' ρ' _ hargs => by
  have r := run_sums (F := Bits) m ρ
  rw [← main_same, ← defs_same] at r
  refine ⟨fun c => both (s := S4x2048x388) bitsLt_bf16_f32 (m ((c.tc : Thread Cert.Kernel15.nD Cert.Kernel15.τ).loc Cert.Kernel15.main_arg0)) (m ((c.tc : Thread Cert.Kernel15.nD Cert.Kernel15.τ).loc Cert.Kernel15.main_arg7)), fun c => both (s := S4x62x32) bitsLt_bf16_f32 (m ((c.tc : Thread Cert.Kernel15.nD Cert.Kernel15.τ).loc Cert.Kernel15.main_arg1)) (m ((c.tc : Thread Cert.Kernel15.nD Cert.Kernel15.τ).loc Cert.Kernel15.main_arg8)), fun c => both (s := S4x64x256) bitsLt_bf16_f32 (m ((c.tc : Thread Cert.Kernel15.nD Cert.Kernel15.τ).loc Cert.Kernel15.main_arg2)) (m ((c.tc : Thread Cert.Kernel15.nD Cert.Kernel15.τ).loc Cert.Kernel15.main_arg9)), fun c => both (s := S4x192x768) bitsLt_bf16_f32 (m ((c.tc : Thread Cert.Kernel15.nD Cert.Kernel15.τ).loc Cert.Kernel15.main_arg3)) (m ((c.tc : Thread Cert.Kernel15.nD Cert.Kernel15.τ).loc Cert.Kernel15.main_arg10)), fun c => both (s := S4x512x128) bitsLt_bf16_f32 (m ((c.tc : Thread Cert.Kernel15.nD Cert.Kernel15.τ).loc Cert.Kernel15.main_arg4)) (m ((c.tc : Thread Cert.Kernel15.nD Cert.Kernel15.τ).loc Cert.Kernel15.main_arg11)), fun c => both (s := S4x256x1024) bitsLt_bf16_f32 (m ((c.tc : Thread Cert.Kernel15.nD Cert.Kernel15.τ).loc Cert.Kernel15.main_arg5)) (m ((c.tc : Thread Cert.Kernel15.nD Cert.Kernel15.τ).loc Cert.Kernel15.main_arg12)), fun c => both (s := S144x1024) bitsLt_bf16_f32 (m ((c.tc : Thread Cert.Kernel15.nD Cert.Kernel15.τ).loc Cert.Kernel15.main_arg6)) (m ((c.tc : Thread Cert.Kernel15.nD Cert.Kernel15.τ).loc Cert.Kernel15.main_arg13)),
    r, ?_⟩
  refine (θ_run Cert.Reference15.defs _ _).mono (fun _ h c => ?_) (Cert.Reference15.Value.run (F := Bits) m' ρ')
  obtain ⟨a0, a1, a2, a3, a4, a5, a6, a7, a8, a9, a10, a11, a12, a13⟩ := hargs c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [a0, a7]
    rfl
  · rw [a1, a8]
    rfl
  · rw [a2, a9]
    rfl
  · rw [a3, a10]
    rfl
  · rw [a4, a11]
    rfl
  · rw [a5, a12]
    rfl
  · rw [a6, a13]
    rfl

end Cert.Proof.ChipSum
end
-- ==== Proof.lean ====
module

public import proofs.«01_k».proof.Defs
public import proofs.«01_k».proof.Proof.Claims
public import proofs.«01_k».proof.Proof.Value
public import proofs.«01_k».proof.Proof.ProjGradClaim
public import proofs.«01_k».proof.Proof.WinGradValue
public import proofs.«01_k».proof.Proof.PostClaim
public import proofs.«01_k».proof.Proof.ProjFwd
public import proofs.«01_k».proof.Proof.PostFwd
public import proofs.«01_k».proof.Proof.PostLossRef
public import proofs.«01_k».proof.Proof.AdamIn
public import proofs.«01_k».proof.Proof.AdamShared
public import proofs.«01_k».proof.Proof.AdamOut
public import proofs.«01_k».proof.Proof.AdamQ
public import proofs.«01_k».proof.Proof.AdamKv
public import proofs.«01_k».proof.Proof.AdamMix
public import proofs.«01_k».proof.Proof.AdamConv
public import proofs.«01_k».proof.Proof.ChipSum

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts, Cert.Reference15.Gen.facts, preFacts, Post.preFacts,
    frame_kernel, frame_ideal, frame_ideal_pre, frame_reference, frame_reference_pre,
    ProjGrad.frame_kernel, ProjGrad.frame_ideal, ProjGrad.frame_reference,
    WinGrad.frame_kernel, WinGrad.frame_ideal, WinGrad.frame_reference,
    Post.frame_kernel, Post.frame_ideal, Post.frame_ideal_pre, Post.frame_reference, Post.frame_reference_pre,
    ProjFwd.frame_kernel, ProjFwd.frame_ideal, ProjFwd.frame_reference,
    PostFwd.frame_kernel, PostFwd.frame_ideal, PostFwd.frame_reference,
    PostLoss.frame_kernel, PostLoss.frame_ideal, PostLoss.frame_reference,
    AdamIn.frame_kernel, AdamIn.frame_ideal, AdamIn.frame_reference,
    AdamShared.frame_kernel, AdamShared.frame_ideal, AdamShared.frame_reference,
    AdamOut.frame_kernel, AdamOut.frame_ideal, AdamOut.frame_reference,
    AdamQ.frame_kernel, AdamQ.frame_ideal, AdamQ.frame_reference,
    AdamKv.frame_kernel, AdamKv.frame_ideal, AdamKv.frame_reference,
    AdamMix.frame_kernel, AdamMix.frame_ideal, AdamMix.frame_reference,
    AdamConv.frame_kernel, AdamConv.frame_ideal, AdamConv.frame_reference,
    ChipSum.frame_kernel, ChipSum.frame_ideal, ChipSum.frame_reference, ChipSum.frame_reference_bits,
    trivial, algebraic, trivial, ProjGrad.algebraic, trivial, WinGrad.algebraic, trivial, Post.algebraic,
    trivial, ProjFwd.algebraic, trivial, PostFwd.algebraic, trivial, PostLoss.algebraic,
    trivial, AdamIn.algebraic, trivial, AdamShared.algebraic, trivial, AdamOut.algebraic, trivial, AdamQ.algebraic, trivial, AdamKv.algebraic, trivial, AdamMix.algebraic, trivial, AdamConv.algebraic,
    trivial, ChipSum.algebraic, ChipSum.bitexact⟩

end Cert.Proof
end
